-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_v63) = v2 c
          ∧ r.2.mem ((c.tc : Thread Cert.Reference2Ideal.nD Cert.Reference2Ideal.τ).loc Cert.Reference2Ideal.main_v67) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v112) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_v59) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S4x1024x1536 : Shape := ⟨3, ![4, 1024, 1536]⟩
abbrev S4x8x256x64 : Shape := ⟨4, ![4, 8, 256, 64]⟩
abbrev S8x15x31 : Shape := ⟨3, ![8, 15, 31]⟩
abbrev S4x1024x1024 : Shape := ⟨3, ![4, 1024, 1024]⟩
abbrev S_ : Shape := ⟨0, ![]⟩

class Facts : Prop where
  slices_S4x1024x1536_S4x1024x1024_0_0_0 : S4x1024x1536.Slices ![0, 0, 0] S4x1024x1024
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S4x8x256x64 : S_.BroadcastsInDim S4x8x256x64 (![] : Fin 0 → Fin S4x8x256x64.rank)
  reducesTo_S4x8x256x64_S_d0_1_2_3 : S4x8x256x64.ReducesTo [0, 1, 2, 3] S_
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S4x1024x1536 .f32) (main_arg1 : FVec F S4x8x256x64 .f32) (main_arg2 : FVec F S4x8x256x64 .f32) (main_arg3 : FVec F S8x15x31 .f32) : IVec S_ 1 :=
  let main_v0 : FVec F S4x1024x1024 .f32 := (extractStridedSlice S4x1024x1024 ![0, 0, 0] · slices_S4x1024x1536_S4x1024x1024_0_0_0) main_arg0
  let main_v1 : FVec F S4x1024x1024 .f32 := Host.absf main_v0
  let main_cst : FVec F S_ .f32 := constant S_ .f32 0x7F800000#32
  let main_v2 : FVec F S4x1024x1024 .f32 := broadcastInDim S4x1024x1024 ![] bcast_S_S4x1024x1024 main_cst
  let main_v3 : IVec S4x1024x1024 1 := cmpf .olt main_v1 main_v2
  let main_c : IVec S_ 1 := constantI S_ 1 1#1
  let main_v4 : IVec S_ 1 := (fun x v => Host.reduce IntOp.andi x v reducesTo_S4x1024x1024_S_d0_1_2 h_S_) main_v3 main_c
  let main_v5 : FVec F S4x8x256x64 .f32 := Host.absf main_arg1
  let main_cst_0 : FVec F S_ .f32 := constant S_ .f32 0x7F800000#32
  let main_v6 : FVec F S4x8x256x64 .f32 := broadcastInDim S4x8x256x64 ![] bcast_S_S4x8x256x64 main_cst_0
  let main_v7 : IVec S4x8x256x64 1 := cmpf .olt main_v5 main_v6
  let main_c_1 : IVec S_ 1 := constantI S_ 1 1#1
  let main_v8 : IVec S_ 1 := (fun x v => Host.reduce IntOp.andi x v reducesTo_S4x8x256x64_S_d0_1_2_3 h_S_) main_v7 main_c_1
  let main_v9 : IVec S_ 1 := andi main_v4 main_v8
  let main_v10 : FVec F S8x15x31 .f32 := Host.absf main_arg3
  let main_cst_2 : FVec F S_ .f32 := constant S_ .f32 0x7F800000#32
  let main_v11 : FVec F S8x15x31 .f32 := broadcastInDim S8x15x31 ![] bcast_S_S8x15x31 main_cst_2
  let main_v12 : IVec S8x15x31 1 := cmpf .olt main_v10 main_v11
  let main_c_3 : IVec S_ 1 := constantI S_ 1 1#1
  let main_v13 : IVec S_ 1 := (fun x v => Host.reduce IntOp.andi x v reducesTo_S8x15x31_S_d0_1_2 h_S_) main_v12 main_c_3
  let main_v14 : IVec S_ 1 := andi main_v9 main_v13
  main_v14
-- ==== Kernel.lean ====
abbrev S4x1024x1536 : Shape := ⟨3, ![4, 1024, 1536]⟩
abbrev S4x8x256x64 : Shape := ⟨4, ![4, 8, 256, 64]⟩
abbrev S8x15x31 : Shape := ⟨3, ![8, 15, 31]⟩
abbrev S32x128 : Shape := ⟨2, ![32, 128]⟩
abbrev S4x1024x512 : Shape := ⟨3, ![4, 1024, 512]⟩
abbrev S_ : Shape := ⟨0, ![]⟩
abbrev S4x1024x1024 : Shape := ⟨3, ![4, 1024, 1024]⟩
abbrev S4096x1536 : Shape := ⟨2, ![4096, 1536]⟩
abbrev S4x256x8x64 : Shape := ⟨4, ![4, 256, 8, 64]⟩
abbrev S4x256x512 : Shape := ⟨3, ![4, 256, 512]⟩
abbrev S8x16x32 : Shape := ⟨3, ![8, 16, 32]⟩
abbrev S4096x512 : Shape := ⟨2, ![4096, 512]⟩
abbrev S4096x128 : Shape := ⟨2, ![4096, 128]⟩
abbrev S4x256x128 : Shape := ⟨3, ![4, 256, 128]⟩
abbrev S2x16x32 : Shape := ⟨3, ![2, 16, 32]⟩
abbrev S2x4096x128 : Shape := ⟨3, ![2, 4096, 128]⟩
abbrev S2x16x64x128 : Shape := ⟨4, ![2, 16, 64, 128]⟩
abbrev S2x4x256x768 : Shape := ⟨4, ![2, 4, 256, 768]⟩
abbrev S64x128 : Shape := ⟨2, ![64, 128]⟩
abbrev S1x16x32 : Shape := ⟨3, ![1, 16, 32]⟩
abbrev S16x32 : Shape := ⟨2, ![16, 32]⟩
abbrev S16x128 : Shape := ⟨2, ![16, 128]⟩
abbrev S1x128 : Shape := ⟨2, ![1, 128]⟩
abbrev S1x1x64x128 : Shape := ⟨4, ![1, 1, 64, 128]⟩
abbrev S1x4096x128 : Shape := ⟨3, ![1, 4096, 128]⟩
abbrev S1x256x128 : Shape := ⟨3, ![1, 256, 128]⟩
abbrev S256x128 : Shape := ⟨2, ![256, 128]⟩
abbrev S1x768x128 : Shape := ⟨3, ![1, 768, 128]⟩
abbrev S768x128 : Shape := ⟨2, ![768, 128]⟩
abbrev S256x768 : Shape := ⟨2, ![256, 768]⟩
abbrev S1x1x256x768 : Shape := ⟨4, ![1, 1, 256, 768]⟩
abbrev S256x256 : Shape := ⟨2, ![256, 256]⟩
abbrev S256 : Shape := ⟨1, ![256]⟩
abbrev S256x1 : Shape := ⟨2, ![256, 1]⟩

abbrev nBuf : Space → Nat
  | .hbm => 23
  | .vmem => 19
  | .smem => 0
  | _ => 0

abbrev bufTy : (tb : Table) → Fin (tcTables nBuf tb) → BufTy
  | .hbm, ⟨0, _⟩ => ⟨S4x1024x1536, .f32⟩
  | .hbm, ⟨1, _⟩ => ⟨S4x8x256x64, .f32⟩
  | .hbm, ⟨2, _⟩ => ⟨S4x8x256x64, .f32⟩
  | .hbm, ⟨3, _⟩ => ⟨S8x15x31, .f32⟩
  | .hbm, ⟨4, _⟩ => ⟨S32x128, .f32⟩
  | .hbm, ⟨5, _⟩ => ⟨S4x1024x512, .f32⟩
  | .hbm, ⟨6, _⟩ => ⟨S_, .f32⟩
  | .hbm, ⟨7, _⟩ => ⟨S4x1024x512, .f32⟩
  | .hbm, ⟨8, _⟩ => ⟨S4x1024x512, .f32⟩
  | .hbm, ⟨9, _⟩ => ⟨S4x1024x1024, .f32⟩
  | .hbm, ⟨10, _⟩ => ⟨S4x1024x1536, .f32⟩
  | .hbm, ⟨11, _⟩ => ⟨S4096x1536, .f32⟩
  | .hbm, ⟨12, _⟩ => ⟨S4096x1536, .bf16⟩
  | .hbm, ⟨13, _⟩ => ⟨S4x256x8x64, .f32⟩
  | .hbm, ⟨14, _⟩ => ⟨S4x256x512, .f32⟩
  | .hbm, ⟨15, _⟩ => ⟨S4x256x512, .bf16⟩
  | .hbm, ⟨16, _⟩ => ⟨S4x256x8x64, .f32⟩
  | .hbm, ⟨17, _⟩ => ⟨S4x256x512, .f32⟩
  | .hbm, ⟨18, _⟩ => ⟨S4x256x512, .bf16⟩
  | .hbm, ⟨19, _⟩ => ⟨S_, .i32⟩
  | .hbm, ⟨20, _⟩ => ⟨S_, .f32⟩
  | .hbm, ⟨21, _⟩ => ⟨S8x16x32, .f32⟩
  | .hbm, ⟨22, _⟩ => ⟨S4096x512, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4x256x128, .bf16⟩
  | .local _ .vmem, ⟨7, _⟩ => ⟨S4x256x128, .bf16⟩
  | .local _ .vmem, ⟨8, _⟩ => ⟨S4x256x128, .bf16⟩
  | .local _ .vmem, ⟨9, _⟩ => ⟨S4x256x128, .bf16⟩
  | .local _ .vmem, ⟨10, _⟩ => ⟨S2x16x32, .f32⟩
  | .local _ .vmem, ⟨11, _⟩ => ⟨S2x16x32, .f32⟩
  | .local _ .vmem, ⟨12, _⟩ => ⟨S32x128, .f32⟩
  | .local _ .vmem, ⟨13, _⟩ => ⟨S4096x128, .f32⟩
  | .local _ .vmem, ⟨14, _⟩ => ⟨S4096x128, .f32⟩
  | .local _ .vmem, ⟨15, _⟩ => ⟨S2x4096x128, .bf16⟩
  | .local _ .vmem, ⟨16, _⟩ => ⟨S2x4096x128, .bf16⟩
  | .local _ .vmem, ⟨17, _⟩ => ⟨S2x16x64x128, .f32⟩
  | .local _ .vmem, ⟨18, _⟩ => ⟨S2x4x256x768, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x16x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x1024x1536 : Shape := ⟨3, ![4, 1024, 1536]⟩
abbrev S4x8x256x64 : Shape := ⟨4, ![4, 8, 256, 64]⟩
abbrev S8x15x31 : Shape := ⟨3, ![8, 15, 31]⟩
abbrev S4x1024x512 : Shape := ⟨3, ![4, 1024, 512]⟩
abbrev S4x1024x8x64 : Shape := ⟨4, ![4, 1024, 8, 64]⟩
abbrev S4x8x1024x64 : Shape := ⟨4, ![4, 8, 1024, 64]⟩
abbrev S4x8x16x64x64 : Shape := ⟨5, ![4, 8, 16, 64, 64]⟩
abbrev S16 : Shape := ⟨1, ![16]⟩
abbrev S_ : Shape := ⟨0, ![]⟩
abbrev S16x1 : Shape := ⟨2, ![16, 1]⟩
abbrev S8 : Shape := ⟨1, ![8]⟩
abbrev S1x8 : Shape := ⟨2, ![1, 8]⟩
abbrev S16x8 : Shape := ⟨2, ![16, 8]⟩
abbrev S16x8x1 : Shape := ⟨3, ![16, 8, 1]⟩
abbrev S4x8x16x8x64x64 : Shape := ⟨6, ![4, 8, 16, 8, 64, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S16x1x8x1 : Shape := ⟨4, ![16, 1, 8, 1]⟩
abbrev S1x64x1x64 : Shape := ⟨4, ![1, 64, 1, 64]⟩
abbrev S16x64x8x64 : Shape := ⟨4, ![16, 64, 8, 64]⟩
abbrev S16x64x8x64x1 : Shape := ⟨5, ![16, 64, 8, 64, 1]⟩
abbrev S16x64x8x64x2 : Shape := ⟨5, ![16, 64, 8, 64, 2]⟩
abbrev S8x16x64x8x64 : Shape := ⟨5, ![8, 16, 64, 8, 64]⟩
abbrev S4x8x16x64x8x64 : Shape := ⟨6, ![4, 8, 16, 64, 8, 64]⟩
abbrev S1x1x1x64x1x64 : Shape := ⟨6, ![1, 1, 1, 64, 1, 64]⟩
abbrev S1x8x16x64x8x64 : Shape := ⟨6, ![1, 8, 16, 64, 8, 64]⟩
abbrev S4x8x16x64x512 : Shape := ⟨5, ![4, 8, 16, 64, 512]⟩
abbrev S4x8x16x64x256 : Shape := ⟨5, ![4, 8, 16, 64, 256]⟩
abbrev S4x8x16x64x768 : Shape := ⟨5, ![4, 8, 16, 64, 768]⟩
abbrev S4x8x16x64 : Shape := ⟨4, ![4, 8, 16, 64]⟩
abbrev S4x8x16x64x1 : Shape := ⟨5, ![4, 8, 16, 64, 1]⟩
abbrev S4096x512 : Shape := ⟨2, ![4096, 512]⟩

abbrev nBuf : Space → Nat
  | .hbm => 164
  | .vmem => 0
  | .smem => 0
  | _ => 0

abbrev hbmTy0_0 (i : Nat) : BufTy := match i % 128 with
  | 0 => ⟨S4x1024x1536, .f32⟩
  | 1 => ⟨S4x8x256x64, .f32⟩
  | 2 => ⟨S4x8x256x64, .f32⟩
  | 3 => ⟨S8x15x31, .f32⟩
  | 4 => ⟨S4x1024x512, .f32⟩
  | 5 => ⟨S4x1024x8x64, .f32⟩
  | 6 => ⟨S4x8x1024x64, .f32⟩
  | 7 => ⟨S4x1024x512, .f32⟩
  | 8 => ⟨S4x1024x8x64, .f32⟩
  | 9 => ⟨S4x8x1024x64, .f32⟩
  | 10 => ⟨S4x1024x512, .f32⟩
  | 11 => ⟨S4x1024x8x64, .f32⟩
  | 12 => ⟨S4x8x1024x64, .f32⟩
  | 13 => ⟨S4x8x16x64x64, .f32⟩
  | 14 => ⟨S4x8x16x64x64, .f32⟩
  | 15 => ⟨S4x8x16x64x64, .f32⟩
  | 16 => ⟨S16, .i32⟩
  | 17 => ⟨S_, .i32⟩
  | 18 => ⟨S16, .i32⟩
  | 19 => ⟨S16, .i32⟩
  | 20 => ⟨S_, .i32⟩
  | 21 => ⟨S_, .i32⟩
  | 22 => ⟨S_, .i32⟩
  | 23 => ⟨S16, .i32⟩
  | 24 => ⟨S16, .i32⟩
  | 25 => ⟨S_, .i32⟩
  | 26 => ⟨S16, .i32⟩
  | 27 => ⟨S16, .i32⟩
  | 28 => ⟨S16x1, .i32⟩
  | 29 => ⟨S8, .i32⟩
  | 30 => ⟨S1x8, .i32⟩
  | 31 => ⟨S16x8, .i32⟩
  | 32 => ⟨S16x8, .i32⟩
  | 33 => ⟨S16x8, .i32⟩
  | 34 => ⟨S_, .i32⟩
  | 35 => ⟨S16x8, .i32⟩
  | 36 => ⟨S16x8, .i1⟩
  | 37 => ⟨S_, .i32⟩
  | 38 => ⟨S16x8, .i32⟩
  | 39 => ⟨S16x8, .i32⟩
  | 40 => ⟨S16x8, .i32⟩
  | 41 => ⟨S16x8x1, .i32⟩
  | 42 => ⟨S4x8x16x8x64x64, .f32⟩
  | 43 => ⟨S_, .i32⟩
  | 44 => ⟨S16x8, .i32⟩
  | 45 => ⟨S16x8, .i1⟩
  | 46 => ⟨S_, .i32⟩
  | 47 => ⟨S16x8, .i32⟩
  | 48 => ⟨S16x8, .i32⟩
  | 49 => ⟨S16x8, .i32⟩
  | 50 => ⟨S16x8x1, .i32⟩
  | 51 => ⟨S4x8x16x8x64x64, .f32⟩
  | 52 => ⟨S64, .i32⟩
  | 53 => ⟨S_, .i32⟩
  | 54 => ⟨S64, .i32⟩
  | 55 => ⟨S64, .i32⟩
  | 56 => ⟨S_, .i32⟩
  | 57 => ⟨S_, .i32⟩
  | 58 => ⟨S_, .i32⟩
  | 59 => ⟨S64, .i32⟩
  | 60 => ⟨S64, .i32⟩
  | 61 => ⟨S_, .i32⟩
  | 62 => ⟨S64, .i32⟩
  | 63 => ⟨S64, .i32⟩
  | 64 => ⟨S1x64, .i32⟩
  | 65 => ⟨S64x1, .i32⟩
  | 66 => ⟨S64x64, .i32⟩
  | 67 => ⟨S64x64, .i32⟩
  | 68 => ⟨S64x64, .i1⟩
  | 69 => ⟨S1x64, .i32⟩
  | 70 => ⟨S64x1, .i32⟩
  | 71 => ⟨S_, .i32⟩
  | 72 => ⟨S64x1, .i32⟩
  | 73 => ⟨S64x1, .i32⟩
  | 74 => ⟨S64x64, .i32⟩
  | 75 => ⟨S64x64, .i32⟩
  | 76 => ⟨S64x64, .i1⟩
  | 77 => ⟨S64x64, .i1⟩
  | 78 => ⟨S16x1, .i32⟩
  | 79 => ⟨S16x8, .i32⟩
  | 80 => ⟨S16x8, .i32⟩
  | 81 => ⟨S_, .i32⟩
  | 82 => ⟨S16x8, .i32⟩
  | 83 => ⟨S16x8, .i32⟩
  | 84 => ⟨S1x64, .i32⟩
  | 85 => ⟨S64x1, .i32⟩
  | 86 => ⟨S64x64, .i32⟩
  | 87 => ⟨S64x64, .i32⟩
  | 88 => ⟨S64x64, .i32⟩
  | 89 => ⟨S_, .i32⟩
  | 90 => ⟨S_, .i32⟩
  | 91 => ⟨S_, .i32⟩
  | 92 => ⟨S64x64, .i32⟩
  | 93 => ⟨S64x64, .i32⟩
  | 94 => ⟨S_, .i32⟩
  | 95 => ⟨S64x64, .i32⟩
  | 96 => ⟨S64x64, .i32⟩
  | 97 => ⟨S_, .i32⟩
  | 98 => ⟨S64x64, .i32⟩
  | 99 => ⟨S64x64, .i32⟩
  | 100 => ⟨S16x1x8x1, .i32⟩
  | 101 => ⟨S1x64x1x64, .i32⟩
  | 102 => ⟨S_, .i32⟩
  | 103 => ⟨S16x1x8x1, .i32⟩
  | 104 => ⟨S16x1x8x1, .i1⟩
  | 105 => ⟨S_, .i32⟩
  | 106 => ⟨S16x1x8x1, .i32⟩
  | 107 => ⟨S16x1x8x1, .i32⟩
  | 108 => ⟨S16x1x8x1, .i32⟩
  | 109 => ⟨S_, .i32⟩
  | 110 => ⟨S1x64x1x64, .i32⟩
  | 111 => ⟨S1x64x1x64, .i1⟩
  | 112 => ⟨S_, .i32⟩
  | 113 => ⟨S1x64x1x64, .i32⟩
  | 114 => ⟨S1x64x1x64, .i32⟩
  | 115 => ⟨S1x64x1x64, .i32⟩
  | 116 => ⟨S16x64x8x64, .i32⟩
  | 117 => ⟨S16x64x8x64, .i32⟩
  | 118 => ⟨S16x64x8x64x1, .i32⟩
  | 119 => ⟨S16x64x8x64x1, .i32⟩
  | 120 => ⟨S16x64x8x64x2, .i32⟩
  | 121 => ⟨S8x16x64x8x64, .f32⟩
  | 122 => ⟨S4x8x16x64x8x64, .f32⟩
  | 123 => ⟨S_, .f32⟩
  | 124 => ⟨S4x8x16x64x8x64, .f32⟩
  | 125 => ⟨S4x8x16x64x8x64, .f32⟩
  | 126 => ⟨S1x1x1x64x1x64, .i1⟩
  | 127 => ⟨S1x8x16x64x8x64, .f32⟩
  | _ => ⟨S4x1024x1536, .f32⟩

abbrev hbmTy0_1 (i : Nat) : BufTy := match i % 128 with
  | 0 => ⟨S4x8x16x64x8x64, .f32⟩
  | 1 => ⟨S4x8x16x64x8x64, .f32⟩
  | 2 => ⟨S_, .f32⟩
  | 3 => ⟨S_, .f32⟩
  | 4 => ⟨S4x8x16x64x8x64, .i1⟩
  | 5 => ⟨S4x8x16x64x8x64, .f32⟩
  | 6 => ⟨S4x8x16x64x8x64, .f32⟩
  | 7 => ⟨S4x8x16x64x512, .f32⟩
  | 8 => ⟨S4x8x16x64x256, .f32⟩
  | 9 => ⟨S_, .f32⟩
  | 10 => ⟨S4x8x16x64x256, .f32⟩
  | 11 => ⟨S4x8x16x64x256, .f32⟩
  | 12 => ⟨S4x8x16x64x768, .f32⟩
  | 13 => ⟨S_, .f32⟩
  | 14 => ⟨S4x8x16x64, .f32⟩
  | 15 => ⟨S_, .f32⟩
  | 16 => ⟨S4x8x16x64, .f32⟩
  | 17 => ⟨S4x8x16x64, .f32⟩
  | 18 => ⟨S4x8x16x64x1, .f32⟩
  | 19 => ⟨S4x8x16x64x768, .f32⟩
  | 20 => ⟨S4x8x16x64x768, .f32⟩
  | 21 => ⟨S4x8x16x64x768, .f32⟩
  | 22 => ⟨S_, .f32⟩
  | 23 => ⟨S4x8x16x64, .f32⟩
  | 24 => ⟨S4x8x16x64x1, .f32⟩
  | 25 => ⟨S4x8x16x64x768, .f32⟩
  | 26 => ⟨S4x8x16x64x768, .f32⟩
  | 27 => ⟨S4x8x16x64x512, .f32⟩
  | 28 => ⟨S4x8x16x64x8x64, .f32⟩
  | 29 => ⟨S4x8x16x64x256, .f32⟩
  | 30 => ⟨S4x8x16x64x64, .f32⟩
  | 31 => ⟨S4x8x16x64x64, .f32⟩
  | 32 => ⟨S4x8x16x64x64, .f32⟩
  | 33 => ⟨S4x8x1024x64, .f32⟩
  | 34 => ⟨S4x1024x8x64, .f32⟩
  | 35 => ⟨S4096x512, .f32⟩
  | _ => ⟨S4x1024x1536, .f32⟩

abbrev hbmTy (i : Nat) : BufTy := match i / 128 with
  | 0 => hbmTy0_0 i
  | 1 => hbmTy0_1 i
  | _ => ⟨S4x1024x1536, .f32⟩

abbrev bufTy : (tb : Table) → Fin (tcTables nBuf tb) → BufTy
  | .hbm, ⟨i, _⟩ => hbmTy i
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_c_8 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_11 : Ref sig .tc := ⟨.hbm, 89, rfl⟩
abbrev main_c_12 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v63 : Ref sig .tc := ⟨.hbm, 96, rfl⟩
abbrev main_c_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_14 : Ref sig .tc := ⟨.hbm, 102, rfl⟩
abbrev main_v68 : Ref sig .tc := ⟨.hbm, 103, rfl⟩
abbrev main_v69 : Ref sig .tc := ⟨.hbm, 104, rfl⟩
abbrev main_c_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_16 : Ref sig .tc := ⟨.hbm, 109, rfl⟩
abbrev main_v73 : Ref sig .tc := ⟨.hbm, 110, rfl⟩
abbrev main_v74 : Ref sig .tc := ⟨.hbm, 111, rfl⟩
abbrev main_c_17 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_19 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_20 : Ref sig .tc := ⟨.hbm, 141, rfl⟩
abbrev main_v97 : Ref sig .tc := ⟨.hbm, 142, rfl⟩
abbrev main_cst_21 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_22 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩

abbrev nD : Nat := 1
abbrev τ : Topo := Topo.v7x

variable {F : FTy → Type} [FloatOps F]
-- ==== Kernel2.lean ====
abbrev S32x256x1024 : Shape := ⟨3, ![32, 256, 1024]⟩
abbrev S6x8x1024 : Shape := ⟨3, ![6, 8, 1024]⟩
abbrev S1024 : Shape := ⟨1, ![1024]⟩
abbrev S1024x3072 : Shape := ⟨2, ![1024, 3072]⟩
abbrev S3x1536 : Shape := ⟨2, ![3, 1536]⟩
abbrev S1536 : Shape := ⟨1, ![1536]⟩
abbrev S8192x1024 : Shape := ⟨2, ![8192, 1024]⟩
abbrev S1x1024 : Shape := ⟨2, ![1, 1024]⟩
abbrev S1x1536 : Shape := ⟨2, ![1, 1536]⟩
abbrev S8192x1536 : Shape := ⟨2, ![8192, 1536]⟩
abbrev S32x1x8x64x256 : Shape := ⟨5, ![32, 1, 8, 64, 256]⟩
abbrev S1024x1024 : Shape := ⟨2, ![1024, 1024]⟩
abbrev S1024x1536 : Shape := ⟨2, ![1024, 1536]⟩
abbrev S4x1x8x64x256 : Shape := ⟨5, ![4, 1, 8, 64, 256]⟩
abbrev S1x1x1024 : Shape := ⟨3, ![1, 1, 1024]⟩
abbrev S1024x1 : Shape := ⟨2, ![1024, 1]⟩
abbrev S128x8x1536 : Shape := ⟨3, ![128, 8, 1536]⟩
abbrev S1x8x1 : Shape := ⟨3, ![1, 8, 1]⟩
abbrev S1x8x1536 : Shape := ⟨3, ![1, 8, 1536]⟩
abbrev S31x8x1536 : Shape := ⟨3, ![31, 8, 1536]⟩
abbrev S1024x512 : Shape := ⟨2, ![1024, 512]⟩
abbrev S512x1024 : Shape := ⟨2, ![512, 1024]⟩
abbrev S64x256 : Shape := ⟨2, ![64, 256]⟩
abbrev S1x1x1x64x256 : Shape := ⟨5, ![1, 1, 1, 64, 256]⟩

abbrev nBuf : Space → Nat
  | .hbm => 14
  | .vmem => 15
  | .smem => 0
  | _ => 0

abbrev bufTy : (tb : Table) → Fin (tcTables nBuf tb) → BufTy
  | .hbm, ⟨0, _⟩ => ⟨S32x256x1024, .f32⟩
  | .hbm, ⟨1, _⟩ => ⟨S6x8x1024, .f32⟩
  | .hbm, ⟨2, _⟩ => ⟨S1024, .f32⟩
  | .hbm, ⟨3, _⟩ => ⟨S1024x3072, .f32⟩
  | .hbm, ⟨4, _⟩ => ⟨S3x1536, .f32⟩
  | .hbm, ⟨5, _⟩ => ⟨S1536, .f32⟩
  | .hbm, ⟨6, _⟩ => ⟨S8192x1024, .f32⟩
  | .hbm, ⟨7, _⟩ => ⟨S1x1024, .f32⟩
  | .hbm, ⟨8, _⟩ => ⟨S1024x3072, .bf16⟩
  | .hbm, ⟨9, _⟩ => ⟨S1x1536, .f32⟩
  | .hbm, ⟨10, _⟩ => ⟨S8192x1536, .bf16⟩
  | .hbm, ⟨11, _⟩ => ⟨S8192x1536, .f32⟩
  | .hbm, ⟨12, _⟩ => ⟨S32x1x8x64x256, .f32⟩
  | .hbm, ⟨13, _⟩ => ⟨S32x1x8x64x256, .f32⟩
  | .local _ .vmem, ⟨0, _⟩ => ⟨S1024x1024, .f32⟩
  | .local _ .vmem, ⟨1, _⟩ => ⟨S1024x1024, .f32⟩
  | .local _ .vmem, ⟨2, _⟩ => ⟨S6x8x1024, .f32⟩
  | .local _ .vmem, ⟨3, _⟩ => ⟨S1x1024, .f32⟩
  | .local _ .vmem, ⟨4, _⟩ => ⟨S1024x3072, .bf16⟩
  | .local _ .vmem, ⟨5, _⟩ => ⟨S3x1536, .f32⟩
  | .local _ .vmem, ⟨6, _⟩ => ⟨S1x1536, .f32⟩
  | .local _ .vmem, ⟨7, _⟩ => ⟨S1024x1536, .bf16⟩
  | .local _ .vmem, ⟨8, _⟩ => ⟨S1024x1536, .bf16⟩
  | .local _ .vmem, ⟨9, _⟩ => ⟨S1024x1536, .f32⟩
  | .local _ .vmem, ⟨10, _⟩ => ⟨S1024x1536, .f32⟩
  | .local _ .vmem, ⟨11, _⟩ => ⟨S4x1x8x64x256, .f32⟩
  | .local _ .vmem, ⟨12, _⟩ => ⟨S4x1x8x64x256, .f32⟩
  | .local _ .vmem, ⟨13, _⟩ => ⟨S4x1x8x64x256, .f32⟩
  | .local _ .vmem, ⟨14, _⟩ => ⟨S4x1x8x64x256, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let c0 : Index := 0#32
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v17 : BitVec 32 := Scalar.addi c0_i32_4 v16
  let v18 : Index := Scalar.indexCast v17
  let c0_5 : Index := 0#32
  ![0, v18.toNat, 0]
def k0_off2 (i : grid0.Coords) : Fin 3 → Nat :=
  let c1 : Index := 1#32
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v17 : BitVec 32 := Scalar.addi c0_i32_4 v16
  let v21 : Index := Scalar.indexCast v17
  let c0_6 : Index := 0#32
  ![1, v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x8x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x8x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32x256x1024 : Shape := ⟨3, ![32, 256, 1024]⟩
abbrev S6x8x1024 : Shape := ⟨3, ![6, 8, 1024]⟩
abbrev S1024 : Shape := ⟨1, ![1024]⟩
abbrev S1024x3072 : Shape := ⟨2, ![1024, 3072]⟩
abbrev S3x1536 : Shape := ⟨2, ![3, 1536]⟩
abbrev S1536 : Shape := ⟨1, ![1536]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x3072 : Shape := ⟨3, ![32, 256, 3072]⟩
abbrev S32x256x512 : Shape := ⟨3, ![32, 256, 512]⟩
abbrev S32x256x1536 : Shape := ⟨3, ![32, 256, 1536]⟩
abbrev S32x258x1536 : Shape := ⟨3, ![32, 258, 1536]⟩
abbrev S1x1536 : Shape := ⟨2, ![1, 1536]⟩
abbrev S1x1x1536 : Shape := ⟨3, ![1, 1, 1536]⟩
abbrev S8192x1536 : Shape := ⟨2, ![8192, 1536]⟩
abbrev S32x256x8x64 : Shape := ⟨4, ![32, 256, 8, 64]⟩
abbrev S32x8x256x64 : Shape := ⟨4, ![32, 8, 256, 64]⟩
abbrev S32x1x8x256x64 : Shape := ⟨5, ![32, 1, 8, 256, 64]⟩
abbrev S32x1x8x64x256 : Shape := ⟨5, ![32, 1, 8, 64, 256]⟩

abbrev nBuf : Space → Nat
  | .hbm => 81
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S6x8x1024, .f32⟩
  | .hbm, ⟨2, _⟩ => ⟨S1024, .f32⟩
  | .hbm, ⟨3, _⟩ => ⟨S1024x3072, .f32⟩
  | .hbm, ⟨4, _⟩ => ⟨S3x1536, .f32⟩
  | .hbm, ⟨5, _⟩ => ⟨S1536, .f32⟩
  | .hbm, ⟨6, _⟩ => ⟨S1x1x1024, .f32⟩
  | .hbm, ⟨7, _⟩ => ⟨S1024, .f32⟩
  | .hbm, ⟨8, _⟩ => ⟨S1x1x1024, .f32⟩
  | .hbm, ⟨9, _⟩ => ⟨S1024, .f32⟩
  | .hbm, ⟨10, _⟩ => ⟨S32x256x1024, .f32⟩
  | .hbm, ⟨11, _⟩ => ⟨S_, .f32⟩
  | .hbm, ⟨12, _⟩ => ⟨S32x256, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S32x256x1, .f32⟩
  | .hbm, ⟨21, _⟩ => ⟨S32x256x1024, .f32⟩
  | .hbm, ⟨22, _⟩ => ⟨S32x256x1024, .f32⟩
  | .hbm, ⟨23, _⟩ => ⟨S1x1x1024, .f32⟩
  | .hbm, ⟨24, _⟩ => ⟨S32x256x1024, .f32⟩
  | .hbm, ⟨25, _⟩ => ⟨S32x256x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1x1024, .f32⟩
  | .hbm, ⟨30, _⟩ => ⟨S32x256x1024, .f32⟩
  | .hbm, ⟨31, _⟩ => ⟨S32x256x1024, .f32⟩
  | .hbm, ⟨32, _⟩ => ⟨S1x1x1024, .f32⟩
  | .hbm, ⟨33, _⟩ => ⟨S32x256x1024, .f32⟩
  | .hbm, ⟨34, _⟩ => ⟨S32x256x1024, .f32⟩
  | .hbm, ⟨35, _⟩ => ⟨S32x256x3072, .f32⟩
  | .hbm, ⟨36, _⟩ => ⟨S32x256x512, .f32⟩
  | .hbm, ⟨37, _⟩ => ⟨S_, .f32⟩
  | .hbm, ⟨38, _⟩ => ⟨S32x256x512, .f32⟩
  | .hbm, ⟨39, _⟩ => ⟨S32x256x512, .f32⟩
  | .hbm, ⟨40, _⟩ => ⟨S32x256x512, .f32⟩
  | .hbm, ⟨41, _⟩ => ⟨S32x256x512, .f32⟩
  | .hbm, ⟨42, _⟩ => ⟨S32x256x1536, .f32⟩
  | .hbm, ⟨43, _⟩ => ⟨S_, .i32⟩
  | .hbm, ⟨44, _⟩ => ⟨S_, .f32⟩
  | .hbm, ⟨45, _⟩ => ⟨S32x258x1536, .f32⟩
  | .hbm, ⟨46, _⟩ => ⟨S32x256x1536, .f32⟩
  | .hbm, ⟨47, _⟩ => ⟨S1x1536, .f32⟩
  | .hbm, ⟨48, _⟩ => ⟨S1536, .f32⟩
  | .hbm, ⟨49, _⟩ => ⟨S1x1x1536, .f32⟩
  | .hbm, ⟨50, _⟩ => ⟨S32x256x1536, .f32⟩
  | .hbm, ⟨51, _⟩ => ⟨S32x256x1536, .f32⟩
  | .hbm, ⟨52, _⟩ => ⟨S32x256x1536, .f32⟩
  | .hbm, ⟨53, _⟩ => ⟨S1x1536, .f32⟩
  | .hbm, ⟨54, _⟩ => ⟨S1536, .f32⟩
  | .hbm, ⟨55, _⟩ => ⟨S1x1x1536, .f32⟩
  | .hbm, ⟨56, _⟩ => ⟨S32x256x1536, .f32⟩
  | .hbm, ⟨57, _⟩ => ⟨S32x256x1536, .f32⟩
  | .hbm, ⟨58, _⟩ => ⟨S32x256x1536, .f32⟩
  | .hbm, ⟨59, _⟩ => ⟨S32x256x1536, .f32⟩
  | .hbm, ⟨60, _⟩ => ⟨S1x1536, .f32⟩
  | .hbm, ⟨61, _⟩ => ⟨S1536, .f32⟩
  | .hbm, ⟨62, _⟩ => ⟨S1x1x1536, .f32⟩
  | .hbm, ⟨63, _⟩ => ⟨S32x256x1536, .f32⟩
  | .hbm, ⟨64, _⟩ => ⟨S32x256x1536, .f32⟩
  | .hbm, ⟨65, _⟩ => ⟨S32x256x1536, .f32⟩
  | .hbm, ⟨66, _⟩ => ⟨S1x1x1536, .f32⟩
  | .hbm, ⟨67, _⟩ => ⟨S32x256x1536, .f32⟩
  | .hbm, ⟨68, _⟩ => ⟨S32x256x1536, .f32⟩
  | .hbm, ⟨69, _⟩ => ⟨S32x256x1536, .f32⟩
  | .hbm, ⟨70, _⟩ => ⟨S8192x1536, .f32⟩
  | .hbm, ⟨71, _⟩ => ⟨S8192x1536, .bf16⟩
  | .hbm, ⟨72, _⟩ => ⟨S8192x1536, .f32⟩
  | .hbm, ⟨73, _⟩ => ⟨S32x256x8x64, .f32⟩
  | .hbm, ⟨74, _⟩ => ⟨S32x8x256x64, .f32⟩
  | .hbm, ⟨75, _⟩ => ⟨S32x1x8x256x64, .f32⟩
  | .hbm, ⟨76, _⟩ => ⟨S32x1x8x64x256, .f32⟩
  | .hbm, ⟨77, _⟩ => ⟨S32x256x8x64, .f32⟩
  | .hbm, ⟨78, _⟩ => ⟨S32x8x256x64, .f32⟩
  | .hbm, ⟨79, _⟩ => ⟨S32x1x8x256x64, .f32⟩
  | .hbm, ⟨80, _⟩ => ⟨S32x1x8x64x256, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_call0_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩

abbrev nD : Nat := 1
abbrev τ : Topo := Topo.v7x

variable {F : FTy → Type} [FloatOps F]
-- ==== Kernel3.lean ====
abbrev S32x256x1024 : Shape := ⟨3, ![32, 256, 1024]⟩
abbrev S8192x512 : Shape := ⟨2, ![8192, 512]⟩
abbrev S6x8x1024 : Shape := ⟨3, ![6, 8, 1024]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S3x2x11x256 : Shape := ⟨4, ![3, 2, 11, 256]⟩
abbrev S2x11x3x256 : Shape := ⟨4, ![2, 11, 3, 256]⟩
abbrev S2x11x1x256 : Shape := ⟨4, ![2, 11, 1, 256]⟩
abbrev S8192x1024 : Shape := ⟨2, ![8192, 1024]⟩
abbrev S1x1024 : Shape := ⟨2, ![1, 1024]⟩
abbrev S11x256x1024 : Shape := ⟨3, ![11, 256, 1024]⟩
abbrev S512x1024 : Shape := ⟨2, ![512, 1024]⟩
abbrev S512x512 : Shape := ⟨2, ![512, 512]⟩
abbrev S2x528x256 : Shape := ⟨3, ![2, 528, 256]⟩
abbrev S1x8x1 : Shape := ⟨3, ![1, 8, 1]⟩
abbrev S1x8x256 : Shape := ⟨3, ![1, 8, 256]⟩
abbrev S8x256 : Shape := ⟨2, ![8, 256]⟩
abbrev S512 : Shape := ⟨1, ![512]⟩
abbrev S512x1 : Shape := ⟨2, ![512, 1]⟩
abbrev S1x512 : Shape := ⟨2, ![1, 512]⟩
abbrev S1x1x1024 : Shape := ⟨3, ![1, 1, 1024]⟩
abbrev S1024x256 : Shape := ⟨2, ![1024, 256]⟩
abbrev S512x256 : Shape := ⟨2, ![512, 256]⟩
abbrev S1x512x256 : Shape := ⟨3, ![1, 512, 256]⟩
abbrev S1x528x256 : Shape := ⟨3, ![1, 528, 256]⟩
abbrev S528x256 : Shape := ⟨2, ![528, 256]⟩
abbrev S66x8x256 : Shape := ⟨3, ![66, 8, 256]⟩
abbrev S31x8x256 : Shape := ⟨3, ![31, 8, 256]⟩
abbrev S64x8x256 : Shape := ⟨3, ![64, 8, 256]⟩
abbrev S1x1x3x256 : Shape := ⟨4, ![1, 1, 3, 256]⟩
abbrev S3x256 : Shape := ⟨2, ![3, 256]⟩
abbrev S1x256 : Shape := ⟨2, ![1, 256]⟩
abbrev S1x1x256 : Shape := ⟨3, ![1, 1, 256]⟩
abbrev S1x1x1x256 : Shape := ⟨4, ![1, 1, 1, 256]⟩
abbrev S1x256x1024 : Shape := ⟨3, ![1, 256, 1024]⟩
abbrev S256x1024 : Shape := ⟨2, ![256, 1024]⟩

abbrev nBuf : Space → Nat
  | .hbm => 24
  | .vmem => 23
  | .smem => 0
  | _ => 0

abbrev bufTy : (tb : Table) → Fin (tcTables nBuf tb) → BufTy
  | .hbm, ⟨0, _⟩ => ⟨S32x256x1024, .f32⟩
  | .hbm, ⟨1, _⟩ => ⟨S8192x512, .f32⟩
  | .hbm, ⟨2, _⟩ => ⟨S8192x512, .f32⟩
  | .hbm, ⟨3, _⟩ => ⟨S6x8x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S1024, .f32⟩
  | .hbm, ⟨12, _⟩ => ⟨S3x2x11x256, .f32⟩
  | .hbm, ⟨13, _⟩ => ⟨S2x11x3x256, .f32⟩
  | .hbm, ⟨14, _⟩ => ⟨S2x11x1x256, .f32⟩
  | .hbm, ⟨15, _⟩ => ⟨S8192x1024, .f32⟩
  | .hbm, ⟨16, _⟩ => ⟨S1x1024, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1024x5632, .bf16⟩
  | .hbm, ⟨21, _⟩ => ⟨S2816x1024, .bf16⟩
  | .hbm, ⟨22, _⟩ => ⟨S11x256x1024, .bf16⟩
  | .hbm, ⟨23, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S6x8x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x5632, .bf16⟩
  | .local _ .vmem, ⟨12, _⟩ => ⟨S2x11x3x256, .f32⟩
  | .local _ .vmem, ⟨13, _⟩ => ⟨S2x11x1x256, .f32⟩
  | .local _ .vmem, ⟨14, _⟩ => ⟨S11x256x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S2x528x256, .f32⟩
  | .local _ .vmem, ⟨21, _⟩ => ⟨S2x528x256, .f32⟩
  | .local _ .vmem, ⟨22, _⟩ => ⟨S2x528x256, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 3 → Nat :=
  let c2 : Index := 2#32
  let c0_i32_72 : BitVec 32 := 0#32
  let arg0 : BitVec 32 := BitVec.ofNat 32 (i 0).val
  let c0_i32_67 : BitVec 32 := 0#32
  let v99 : BitVec 1 := Scalar.cmpi .sgt arg0 c0_i32_67
  let v100 : BitVec 32 := Scalar.extui v99
  let c0_i32_68 : BitVec 32 := 0#32
  let v101 : BitVec 1 := Scalar.cmpi .slt arg0 c0_i32_68
  let v102 : BitVec 32 := Scalar.extui v101
  let v103 : BitVec 32 := Scalar.subi v100 v102
  let c16_i32_66 : BitVec 32 := 16#32
  let c0_i32_69 : BitVec 32 := 0#32
  let v104 : BitVec 1 := Scalar.cmpi .sgt c16_i32_66 c0_i32_69
  let v105 : BitVec 32 := Scalar.extui v104
  let c0_i32_70 : BitVec 32 := 0#32
  let v106 : BitVec 1 := Scalar.cmpi .slt c16_i32_66 c0_i32_70
  let v107 : BitVec 32 := Scalar.extui v106
  let v108 : BitVec 32 := Scalar.subi v105 v107
  let v109 : BitVec 1 := Scalar.cmpi .ne v103 v108
  let v110 : BitVec 32 := Scalar.remsi arg0 c16_i32_66
  let c0_i32_71 : BitVec 32 := 0#32
  let v111 : BitVec 1 := Scalar.cmpi .ne v110 c0_i32_71
  let v112 : BitVec 1 := Scalar.andi v109 v111
  let v98 : BitVec 32 := Scalar.divsi arg0 c16_i32_66
  let c1_i32 : BitVec 32 := 1#32
  let v113 : BitVec 32 := Scalar.subi v98 c1_i32
  let v114 : BitVec 32 := Scalar.select v112 v113 v98
  let v115 : BitVec 32 := Scalar.addi c0_i32_72 v114
  let v116 : Index := Scalar.indexCast v115
  let c0_73 : Index := 0#32
  ![2, v116.toNat, 0]
def k0_off2 (i : grid0.Coords) : Fin 3 → Nat :=
  let c4 : Index := 4#32
  let c0_i32_89 : BitVec 32 := 0#32
  let arg0 : BitVec 32 := BitVec.ofNat 32 (i 0).val
  let c0_i32_83 : BitVec 32 := 0#32
  let v140 : BitVec 1 := Scalar.cmpi .sgt arg0 c0_i32_83
  let v141 : BitVec 32 := Scalar.extui v140
  let c0_i32_84 : BitVec 32 := 0#32
  let v142 : BitVec 1 := Scalar.cmpi .slt arg0 c0_i32_84
  let v143 : BitVec 32 := Scalar.extui v142
  let v144 : BitVec 32 := Scalar.subi v141 v143
  let c16_i32_82 : BitVec 32 := 16#32
  let c0_i32_85 : BitVec 32 := 0#32
  let v145 : BitVec 1 := Scalar.cmpi .sgt c16_i32_82 c0_i32_85
  let v146 : BitVec 32 := Scalar.extui v145
  let c0_i32_86 : BitVec 32 := 0#32
  let v147 : BitVec 1 := Scalar.cmpi .slt c16_i32_82 c0_i32_86
  let v148 : BitVec 32 := Scalar.extui v147
  let v149 : BitVec 32 := Scalar.subi v146 v148
  let v150 : BitVec 1 := Scalar.cmpi .ne v144 v149
  let v151 : BitVec 32 := Scalar.remsi arg0 c16_i32_82
  let c0_i32_87 : BitVec 32 := 0#32
  let v152 : BitVec 1 := Scalar.cmpi .ne v151 c0_i32_87
  let v153 : BitVec 1 := Scalar.andi v150 v152
  let v139 : BitVec 32 := Scalar.divsi arg0 c16_i32_82
  let c1_i32_88 : BitVec 32 := 1#32
  let v154 : BitVec 32 := Scalar.subi v139 c1_i32_88
  let v155 : BitVec 32 := Scalar.select v153 v154 v139
  let v156 : BitVec 32 := Scalar.addi c0_i32_89 v155
  let v157 : Index := Scalar.indexCast v156
  let c0_90 : Index := 0#32
  ![4, v157.toNat, 0]
def k0_off3 (i : grid0.Coords) : Fin 3 → Nat :=
  let c3 : Index := 3#32
  let c0_i32_99 : BitVec 32 := 0#32
  let arg0 : BitVec 32 := BitVec.ofNat 32 (i 0).val
  let c0_i32_93 : BitVec 32 := 0#32
  let v165 : BitVec 1 := Scalar.cmpi .sgt arg0 c0_i32_93
  let v166 : BitVec 32 := Scalar.extui v165
  let c0_i32_94 : BitVec 32 := 0#32
  let v167 : BitVec 1 := Scalar.cmpi .slt arg0 c0_i32_94
  let v168 : BitVec 32 := Scalar.extui v167
  let v169 : BitVec 32 := Scalar.subi v166 v168
  let c16_i32_92 : BitVec 32 := 16#32
  let c0_i32_95 : BitVec 32 := 0#32
  let v170 : BitVec 1 := Scalar.cmpi .sgt c16_i32_92 c0_i32_95
  let v171 : BitVec 32 := Scalar.extui v170
  let c0_i32_96 : BitVec 32 := 0#32
  let v172 : BitVec 1 := Scalar.cmpi .slt c16_i32_92 c0_i32_96
  let v173 : BitVec 32 := Scalar.extui v172
  let v174 : BitVec 32 := Scalar.subi v171 v173
  let v175 : BitVec 1 := Scalar.cmpi .ne v169 v174
  let v176 : BitVec 32 := Scalar.remsi arg0 c16_i32_92
  let c0_i32_97 : BitVec 32 := 0#32
  let v177 : BitVec 1 := Scalar.cmpi .ne v176 c0_i32_97
  let v178 : BitVec 1 := Scalar.andi v175 v177
  let v164 : BitVec 32 := Scalar.divsi arg0 c16_i32_92
  let c1_i32_98 : BitVec 32 := 1#32
  let v179 : BitVec 32 := Scalar.subi v164 c1_i32_98
  let v180 : BitVec 32 := Scalar.select v178 v179 v164
  let v181 : BitVec 32 := Scalar.addi c0_i32_99 v180
  let v182 : Index := Scalar.indexCast v181
  let c0_100 : Index := 0#32
  ![3, v182.toNat, 0]
def k0_mult1 : BitVec 32 :=
  let c0_i32_105 : BitVec 32 := 0#32
  c0_i32_105
def k0_mult2 : BitVec 32 :=
  let c2816_i32 : BitVec 32 := 2816#32
  c2816_i32
def k0_mult3 : BitVec 32 :=
  let c256_i32 : BitVec 32 := 256#32
  c256_i32
def k0_mult4 : BitVec 32 :=
  let c3072_i32 : BitVec 32 := 3072#32
  c3072_i32
def k0_mult5 : BitVec 32 :=
  let c512_i32 : BitVec 32 := 512#32
  c512_i32
def k0_mult6 : BitVec 32 :=
  let c3328_i32 : BitVec 32 := 3328#32
  c3328_i32
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let c16_i32 : BitVec 32 := 16#32
  let v6 : BitVec 1 := Scalar.cmpi .slt arg0 c16_i32
  let v7 : BitVec 1 := Scalar.andi v5 v6
  let v8 : BitVec 32 := Scalar.extui v7
  let c0_i32_2 : BitVec 32 := 0#32
  let v9 : BitVec 1 := Scalar.cmpi .ne v8 c0_i32_2
  v9

def k0_off4 (i : grid0.Coords) : Fin 3 → Nat :=
  let c5 : Index := 5#32
  let c0_i32_15 : BitVec 32 := 0#32
  let arg0 : BitVec 32 := BitVec.ofNat 32 (i 0).val
  let c1_i32 : BitVec 32 := 1#32
  let v16 : BitVec 32 := Scalar.subi arg0 c1_i32
  let c0_i32_9 : BitVec 32 := 0#32
  let v19 : BitVec 1 := Scalar.cmpi .sgt v16 c0_i32_9
  let v20 : BitVec 32 := Scalar.extui v19
  let c0_i32_10 : BitVec 32 := 0#32
  let v21 : BitVec 1 := Scalar.cmpi .slt v16 c0_i32_10
  let v22 : BitVec 32 := Scalar.extui v21
  let v23 : BitVec 32 := Scalar.subi v20 v22
  let c16_i32_8 : BitVec 32 := 16#32
  let c0_i32_11 : BitVec 32 := 0#32
  let v24 : BitVec 1 := Scalar.cmpi .sgt c16_i32_8 c0_i32_11
  let v25 : BitVec 32 := Scalar.extui v24
  let c0_i32_12 : BitVec 32 := 0#32
  let v26 : BitVec 1 := Scalar.cmpi .slt c16_i32_8 c0_i32_12
  let v27 : BitVec 32 := Scalar.extui v26
  let v28 : BitVec 32 := Scalar.subi v25 v27
  let v29 : BitVec 1 := Scalar.cmpi .ne v23 v28
  let v30 : BitVec 32 := Scalar.remsi v16 c16_i32_8
  let c0_i32_13 : BitVec 32 := 0#32
  let v31 : BitVec 1 := Scalar.cmpi .ne v30 c0_i32_13
  let v32 : BitVec 1 := Scalar.andi v29 v31
  let v18 : BitVec 32 := Scalar.divsi v16 c16_i32_8
  let c1_i32_14 : BitVec 32 := 1#32
  let v33 : BitVec 32 := Scalar.subi v18 c1_i32_14
  let v34 : BitVec 32 := Scalar.select v32 v33 v18
  let v35 : BitVec 32 := Scalar.addi c0_i32_15 v34
  let v36 : Index := Scalar.indexCast v35
  let c0_16 : Index := 0#32
  ![5, v36.toNat, 0]
def k0_off5 (i : grid0.Coords) : Fin 3 → Nat :=
  let c2 : Index := 2#32
  let c0_i32_80 : BitVec 32 := 0#32
  let arg0 : BitVec 32 := BitVec.ofNat 32 (i 0).val
  let c0_i32_74 : BitVec 32 := 0#32
  let v200 : BitVec 1 := Scalar.cmpi .sgt arg0 c0_i32_74
  let v201 : BitVec 32 := Scalar.extui v200
  let c0_i32_75 : BitVec 32 := 0#32
  let v202 : BitVec 1 := Scalar.cmpi .slt arg0 c0_i32_75
  let v203 : BitVec 32 := Scalar.extui v202
  let v204 : BitVec 32 := Scalar.subi v201 v203
  let c16_i32_73 : BitVec 32 := 16#32
  let c0_i32_76 : BitVec 32 := 0#32
  let v205 : BitVec 1 := Scalar.cmpi .sgt c16_i32_73 c0_i32_76
  let v206 : BitVec 32 := Scalar.extui v205
  let c0_i32_77 : BitVec 32 := 0#32
  let v207 : BitVec 1 := Scalar.cmpi .slt c16_i32_73 c0_i32_77
  let v208 : BitVec 32 := Scalar.extui v207
  let v209 : BitVec 32 := Scalar.subi v206 v208
  let v210 : BitVec 1 := Scalar.cmpi .ne v204 v209
  let v211 : BitVec 32 := Scalar.remsi arg0 c16_i32_73
  let c0_i32_78 : BitVec 32 := 0#32
  let v212 : BitVec 1 := Scalar.cmpi .ne v211 c0_i32_78
  let v213 : BitVec 1 := Scalar.andi v210 v212
  let v199 : BitVec 32 := Scalar.divsi arg0 c16_i32_73
  let c1_i32_79 : BitVec 32 := 1#32
  let v214 : BitVec 32 := Scalar.subi v199 c1_i32_79
  let v215 : BitVec 32 := Scalar.select v213 v214 v199
  let v216 : BitVec 32 := Scalar.addi c0_i32_80 v215
  let v217 : Index := Scalar.indexCast v216
  let c0_81 : Index := 0#32
  ![2, v217.toNat, 0]
def k0_off6 (i : grid0.Coords) : Fin 3 → Nat :=
  let c4 : Index := 4#32
  let c0_i32_97 : BitVec 32 := 0#32
  let arg0 : BitVec 32 := BitVec.ofNat 32 (i 0).val
  let c0_i32_91 : BitVec 32 := 0#32
  let v241 : BitVec 1 := Scalar.cmpi .sgt arg0 c0_i32_91
  let v242 : BitVec 32 := Scalar.extui v241
  let c0_i32_92 : BitVec 32 := 0#32
  let v243 : BitVec 1 := Scalar.cmpi .slt arg0 c0_i32_92
  let v244 : BitVec 32 := Scalar.extui v243
  let v245 : BitVec 32 := Scalar.subi v242 v244
  let c16_i32_90 : BitVec 32 := 16#32
  let c0_i32_93 : BitVec 32 := 0#32
  let v246 : BitVec 1 := Scalar.cmpi .sgt c16_i32_90 c0_i32_93
  let v247 : BitVec 32 := Scalar.extui v246
  let c0_i32_94 : BitVec 32 := 0#32
  let v248 : BitVec 1 := Scalar.cmpi .slt c16_i32_90 c0_i32_94
  let v249 : BitVec 32 := Scalar.extui v248
  let v250 : BitVec 32 := Scalar.subi v247 v249
  let v251 : BitVec 1 := Scalar.cmpi .ne v245 v250
  let v252 : BitVec 32 := Scalar.remsi arg0 c16_i32_90
  let c0_i32_95 : BitVec 32 := 0#32
  let v253 : BitVec 1 := Scalar.cmpi .ne v252 c0_i32_95
  let v254 : BitVec 1 := Scalar.andi v251 v253
  let v240 : BitVec 32 := Scalar.divsi arg0 c16_i32_90
  let c1_i32_96 : BitVec 32 := 1#32
  let v255 : BitVec 32 := Scalar.subi v240 c1_i32_96
  let v256 : BitVec 32 := Scalar.select v254 v255 v240
  let v257 : BitVec 32 := Scalar.addi c0_i32_97 v256
  let v258 : Index := Scalar.indexCast v257
  let c0_98 : Index := 0#32
  ![4, v258.toNat, 0]
def k0_off7 (i : grid0.Coords) : Fin 3 → Nat :=
  let c3 : Index := 3#32
  let c0_i32_107 : BitVec 32 := 0#32
  let arg0 : BitVec 32 := BitVec.ofNat 32 (i 0).val
  let c0_i32_101 : BitVec 32 := 0#32
  let v266 : BitVec 1 := Scalar.cmpi .sgt arg0 c0_i32_101
  let v267 : BitVec 32 := Scalar.extui v266
  let c0_i32_102 : BitVec 32 := 0#32
  let v268 : BitVec 1 := Scalar.cmpi .slt arg0 c0_i32_102
  let v269 : BitVec 32 := Scalar.extui v268
  let v270 : BitVec 32 := Scalar.subi v267 v269
  let c16_i32_100 : BitVec 32 := 16#32
  let c0_i32_103 : BitVec 32 := 0#32
  let v271 : BitVec 1 := Scalar.cmpi .sgt c16_i32_100 c0_i32_103
  let v272 : BitVec 32 := Scalar.extui v271
  let c0_i32_104 : BitVec 32 := 0#32
  let v273 : BitVec 1 := Scalar.cmpi .slt c16_i32_100 c0_i32_104
  let v274 : BitVec 32 := Scalar.extui v273
  let v275 : BitVec 32 := Scalar.subi v272 v274
  let v276 : BitVec 1 := Scalar.cmpi .ne v270 v275
  let v277 : BitVec 32 := Scalar.remsi arg0 c16_i32_100
  let c0_i32_105 : BitVec 32 := 0#32
  let v278 : BitVec 1 := Scalar.cmpi .ne v277 c0_i32_105
  let v279 : BitVec 1 := Scalar.andi v276 v278
  let v265 : BitVec 32 := Scalar.divsi arg0 c16_i32_100
  let c1_i32_106 : BitVec 32 := 1#32
  let v280 : BitVec 32 := Scalar.subi v265 c1_i32_106
  let v281 : BitVec 32 := Scalar.select v279 v280 v265
  let v282 : BitVec 32 := Scalar.addi c0_i32_107 v281
  let v283 : Index := Scalar.indexCast v282
  let c0_108 : Index := 0#32
  ![3, v283.toNat, 0]
def k0_mult7 : BitVec 32 :=
  let c0_i32_113 : BitVec 32 := 0#32
  c0_i32_113
def k0_mult8 : BitVec 32 :=
  let c2816_i32 : BitVec 32 := 2816#32
  c2816_i32
def k0_mult9 : BitVec 32 :=
  let c256_i32 : BitVec 32 := 256#32
  c256_i32
def k0_mult10 : BitVec 32 :=
  let c3072_i32 : BitVec 32 := 3072#32
  c3072_i32
def k0_mult11 : BitVec 32 :=
  let c512_i32 : BitVec 32 := 512#32
  c512_i32
def k0_mult12 : BitVec 32 :=
  let c3328_i32 : BitVec 32 := 3328#32
  c3328_i32
def k0_cond3 (i : grid0.Coords) : BitVec 1 :=
  let arg0 : BitVec 32 := BitVec.ofNat 32 (i 0).val
  let c16_i32_3 : BitVec 32 := 16#32
  let v10 : BitVec 1 := Scalar.cmpi .eq arg0 c16_i32_3
  let v11 : BitVec 32 := Scalar.extui v10
  let c0_i32_4 : BitVec 32 := 0#32
  let v12 : BitVec 1 := Scalar.cmpi .ne v11 c0_i32_4
  v12

def k0_off8 (i : grid0.Coords) : Fin 3 → Nat :=
  let c5 : Index := 5#32
  let c0_i32_15 : BitVec 32 := 0#32
  let arg0 : BitVec 32 := BitVec.ofNat 32 (i 0).val
  let c1_i32 : BitVec 32 := 1#32
  let v16 : BitVec 32 := Scalar.subi arg0 c1_i32
  let c0_i32_9 : BitVec 32 := 0#32
  let v19 : BitVec 1 := Scalar.cmpi .sgt v16 c0_i32_9
  let v20 : BitVec 32 := Scalar.extui v19
  let c0_i32_10 : BitVec 32 := 0#32
  let v21 : BitVec 1 := Scalar.cmpi .slt v16 c0_i32_10
  let v22 : BitVec 32 := Scalar.extui v21
  let v23 : BitVec 32 := Scalar.subi v20 v22
  let c16_i32_8 : BitVec 32 := 16#32
  let c0_i32_11 : BitVec 32 := 0#32
  let v24 : BitVec 1 := Scalar.cmpi .sgt c16_i32_8 c0_i32_11
  let v25 : BitVec 32 := Scalar.extui v24
  let c0_i32_12 : BitVec 32 := 0#32
  let v26 : BitVec 1 := Scalar.cmpi .slt c16_i32_8 c0_i32_12
  let v27 : BitVec 32 := Scalar.extui v26
  let v28 : BitVec 32 := Scalar.subi v25 v27
  let v29 : BitVec 1 := Scalar.cmpi .ne v23 v28
  let v30 : BitVec 32 := Scalar.remsi v16 c16_i32_8
  let c0_i32_13 : BitVec 32 := 0#32
  let v31 : BitVec 1 := Scalar.cmpi .ne v30 c0_i32_13
  let v32 : BitVec 1 := Scalar.andi v29 v31
  let v18 : BitVec 32 := Scalar.divsi v16 c16_i32_8
  let c1_i32_14 : BitVec 32 := 1#32
  let v33 : BitVec 32 := Scalar.subi v18 c1_i32_14
  let v34 : BitVec 32 := Scalar.select v32 v33 v18
  let v35 : BitVec 32 := Scalar.addi c0_i32_15 v34
  let v36 : Index := Scalar.indexCast v35
  let c0_16 : Index := 0#32
  ![5, v36.toNat, 0]
def k0_cond4 (i : grid0.Coords) : BitVec 1 :=
  let arg0 : BitVec 32 := BitVec.ofNat 32 (i 0).val
  let c16_i32_5 : BitVec 32 := 16#32
  let v13 : BitVec 1 := Scalar.cmpi .slt arg0 c16_i32_5
  let v14 : BitVec 32 := Scalar.extui v13
  let c0_i32_6 : BitVec 32 := 0#32
  let v15 : BitVec 1 := Scalar.cmpi .ne v14 c0_i32_6
  v15

@[reducible] def k0_t1_loop : Scf.Loop 32 :=
  let c1_i32 : BitVec 32 := 1#32
  let c4_i32 : BitVec 32 := 4#32
  let v16 : BitVec 32 := Scalar.addi c1_i32 c4_i32
  let c1_i32_7 : BitVec 32 := 1#32
  ⟨c1_i32, v16, c1_i32_7⟩
def k0_mult13 (k0_t1 : Fin k0_t1_loop.trips) : BitVec 32 :=
  let c0_i32_10 : BitVec 32 := 0#32
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let c1_i32_9 : BitVec 32 := 1#32
  let v18 : BitVec 32 := Scalar.addi v17 c1_i32_9
  let c256_i32 : BitVec 32 := 256#32
  let v19 : BitVec 32 := Scalar.muli v18 c256_i32
  let v20 : BitVec 32 := Scalar.addi c0_i32_10 v19
  v20
def k0_off9 (k0_t1 : Fin k0_t1_loop.trips) (c0_i32_10 : BitVec 32) (c1_i32_9 : BitVec 32) : Fin 2 → Nat :=
  let c0_12 : Index := 0#32
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let v18 : BitVec 32 := Scalar.addi v17 c1_i32_9
  let c256_i32 : BitVec 32 := 256#32
  let v19 : BitVec 32 := Scalar.muli v18 c256_i32
  let v20 : BitVec 32 := Scalar.addi c0_i32_10 v19
  let v21 : BitVec 32 := v20
  let v23 : Index := Scalar.indexCast v21
  ![0, v23.toNat]
def k0_mult14 (k0_t1 : Fin k0_t1_loop.trips) : BitVec 32 :=
  let c2816_i32 : BitVec 32 := 2816#32
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let c1_i32_9 : BitVec 32 := 1#32
  let v18 : BitVec 32 := Scalar.addi v17 c1_i32_9
  let c256_i32_16 : BitVec 32 := 256#32
  let v30 : BitVec 32 := Scalar.muli v18 c256_i32_16
  let v31 : BitVec 32 := Scalar.addi c2816_i32 v30
  v31
def k0_off10 (k0_t1 : Fin k0_t1_loop.trips) : Fin 4 → Nat :=
  let c0_31 : Index := 0#32
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let v67 : Index := Scalar.indexCast v17
  let c0_32 : Index := 0#32
  let c0_33 : Index := 0#32
  ![0, v67.toNat, 0, 0]
def k0_off11 (k0_t1 : Fin k0_t1_loop.trips) : Fin 4 → Nat :=
  let c0_34 : Index := 0#32
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let v85 : Index := Scalar.indexCast v17
  let c0_35 : Index := 0#32
  let c0_36 : Index := 0#32
  ![0, v85.toNat, 0, 0]
def k0_off12 (k0_t1 : Fin k0_t1_loop.trips) : Fin 4 → Nat :=
  let c1_46 : Index := 1#32
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let v122 : Index := Scalar.indexCast v17
  let c0_47 : Index := 0#32
  let c0_48 : Index := 0#32
  ![1, v122.toNat, 0, 0]
def k0_off13 (k0_t1 : Fin k0_t1_loop.trips) : Fin 4 → Nat :=
  let c1_49 : Index := 1#32
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let v140 : Index := Scalar.indexCast v17
  let c0_50 : Index := 0#32
  let c0_51 : Index := 0#32
  ![1, v140.toNat, 0, 0]
def k0_off14 (k0_t1 : Fin k0_t1_loop.trips) : Fin 3 → Nat :=
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let v149 : Index := Scalar.indexCast v17
  let c0_52 : Index := 0#32
  let c0_53 : Index := 0#32
  ![v149.toNat, 0, 0]
def k0_mult15 (k0_t1 : Fin k0_t1_loop.trips) : BitVec 32 :=
  let c0_i32_59 : BitVec 32 := 0#32
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let c2_i32_57 : BitVec 32 := 2#32
  let v157 : BitVec 32 := Scalar.addi v17 c2_i32_57
  let c256_i32_58 : BitVec 32 := 256#32
  let v158 : BitVec 32 := Scalar.muli v157 c256_i32_58
  let v159 : BitVec 32 := Scalar.addi c0_i32_59 v158
  v159
def k0_mult16 (k0_t1 : Fin k0_t1_loop.trips) : BitVec 32 :=
  let c2816_i32_68 : BitVec 32 := 2816#32
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let c2_i32_57 : BitVec 32 := 2#32
  let v157 : BitVec 32 := Scalar.addi v17 c2_i32_57
  let c256_i32_67 : BitVec 32 := 256#32
  let v169 : BitVec 32 := Scalar.muli v157 c256_i32_67
  let v170 : BitVec 32 := Scalar.addi c2816_i32_68 v169
  v170
def k0_off15 (k0_t1 : Fin k0_t1_loop.trips) : Fin 4 → Nat :=
  let c0_86 : Index := 0#32
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let c1_i32_78 : BitVec 32 := 1#32
  let v181 : BitVec 32 := Scalar.addi v17 c1_i32_78
  let v207 : Index := Scalar.indexCast v181
  let c0_87 : Index := 0#32
  let c0_88 : Index := 0#32
  ![0, v207.toNat, 0, 0]
def k0_off16 (k0_t1 : Fin k0_t1_loop.trips) : Fin 4 → Nat :=
  let c0_89 : Index := 0#32
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let c1_i32_78 : BitVec 32 := 1#32
  let v181 : BitVec 32 := Scalar.addi v17 c1_i32_78
  let v225 : Index := Scalar.indexCast v181
  let c0_90 : Index := 0#32
  let c0_91 : Index := 0#32
  ![0, v225.toNat, 0, 0]
def k0_off17 (k0_t1 : Fin k0_t1_loop.trips) : Fin 4 → Nat :=
  let c1_101 : Index := 1#32
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let c1_i32_78 : BitVec 32 := 1#32
  let v181 : BitVec 32 := Scalar.addi v17 c1_i32_78
  let v262 : Index := Scalar.indexCast v181
  let c0_102 : Index := 0#32
  let c0_103 : Index := 0#32
  ![1, v262.toNat, 0, 0]
def k0_off18 (k0_t1 : Fin k0_t1_loop.trips) : Fin 4 → Nat :=
  let c1_104 : Index := 1#32
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let c1_i32_78 : BitVec 32 := 1#32
  let v181 : BitVec 32 := Scalar.addi v17 c1_i32_78
  let v280 : Index := Scalar.indexCast v181
  let c0_105 : Index := 0#32
  let c0_106 : Index := 0#32
  ![1, v280.toNat, 0, 0]
def k0_off19 (k0_t1 : Fin k0_t1_loop.trips) : Fin 3 → Nat :=
  let c2_i32 : BitVec 32 := 2#32
  let c1_i32 : BitVec 32 := 1#32
  let c1_i32_7 : BitVec 32 := 1#32
  let arg20 : BitVec 32 := Scf.iv c1_i32 c1_i32_7 k0_t1
  let v17 : BitVec 32 := Scalar.muli c2_i32 arg20
  let c1_i32_78 : BitVec 32 := 1#32
  let v181 : BitVec 32 := Scalar.addi v17 c1_i32_78
  let v289 : Index := Scalar.indexCast v181
  let c0_107 : Index := 0#32
  let c0_108 : Index := 0#32
  ![v289.toNat, 0, 0]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x11x3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x11x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S11x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S32x256x1024 : Shape := ⟨3, ![32, 256, 1024]⟩
abbrev S8192x512 : Shape := ⟨2, ![8192, 512]⟩
abbrev S6x8x1024 : Shape := ⟨3, ![6, 8, 1024]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1x1024 : Shape := ⟨3, ![1, 1, 1024]⟩
abbrev S32x256x512 : Shape := ⟨3, ![32, 256, 512]⟩
abbrev S512 : Shape := ⟨1, ![512]⟩
abbrev S_ : Shape := ⟨0, ![]⟩
abbrev S32x256 : Shape := ⟨2, ![32, 256]⟩
abbrev S32x256x1 : Shape := ⟨3, ![32, 256, 1]⟩
abbrev S1x1x512 : Shape := ⟨3, ![1, 1, 512]⟩
abbrev S32x256x5632 : Shape := ⟨3, ![32, 256, 5632]⟩
abbrev S32x258x5632 : Shape := ⟨3, ![32, 258, 5632]⟩
abbrev S1x5632 : Shape := ⟨2, ![1, 5632]⟩
abbrev S1x1x5632 : Shape := ⟨3, ![1, 1, 5632]⟩
abbrev S32x256x2816 : Shape := ⟨3, ![32, 256, 2816]⟩
abbrev S8192x1024 : Shape := ⟨2, ![8192, 1024]⟩

abbrev nBuf : Space → Nat
  | .hbm => 148
  | .vmem => 0
  | .smem => 0
  | _ => 0

abbrev hbmTy0_0 (i : Nat) : BufTy := match i % 128 with
  | 0 => ⟨S32x256x1024, .f32⟩
  | 1 => ⟨S8192x512, .f32⟩
  | 2 => ⟨S8192x512, .f32⟩
  | 3 => ⟨S6x8x1024, .f32⟩
  | 4 => ⟨S1024, .f32⟩
  | 5 => ⟨S1024x1024, .f32⟩
  | 6 => ⟨S1024, .f32⟩
  | 7 => ⟨S1024x5632, .f32⟩
  | 8 => ⟨S3x5632, .f32⟩
  | 9 => ⟨S5632, .f32⟩
  | 10 => ⟨S2816x1024, .f32⟩
  | 11 => ⟨S1024, .f32⟩
  | 12 => ⟨S1x1x1024, .f32⟩
  | 13 => ⟨S1024, .f32⟩
  | 14 => ⟨S1x1x1024, .f32⟩
  | 15 => ⟨S1024, .f32⟩
  | 16 => ⟨S1x1x1024, .f32⟩
  | 17 => ⟨S1024, .f32⟩
  | 18 => ⟨S1x1x1024, .f32⟩
  | 19 => ⟨S1024, .f32⟩
  | 20 => ⟨S32x256x512, .f32⟩
  | 21 => ⟨S32x256x512, .f32⟩
  | 22 => ⟨S512, .f32⟩
  | 23 => ⟨S32x256x512, .f32⟩
  | 24 => ⟨S_, .f32⟩
  | 25 => ⟨S32x256, .f32⟩
  | 26 => ⟨S32x256x1, .f32⟩
  | 27 => ⟨S_, .f32⟩
  | 28 => ⟨S32x256x1, .f32⟩
  | 29 => ⟨S32x256x1, .f32⟩
  | 30 => ⟨S_, .f32⟩
  | 31 => ⟨S32x256x1, .f32⟩
  | 32 => ⟨S32x256x1, .f32⟩
  | 33 => ⟨S32x256x1, .f32⟩
  | 34 => ⟨S32x256x512, .f32⟩
  | 35 => ⟨S32x256x512, .f32⟩
  | 36 => ⟨S1x1x512, .f32⟩
  | 37 => ⟨S32x256x512, .f32⟩
  | 38 => ⟨S32x256x512, .f32⟩
  | 39 => ⟨S512, .f32⟩
  | 40 => ⟨S32x256x512, .f32⟩
  | 41 => ⟨S_, .f32⟩
  | 42 => ⟨S32x256, .f32⟩
  | 43 => ⟨S32x256x1, .f32⟩
  | 44 => ⟨S_, .f32⟩
  | 45 => ⟨S32x256x1, .f32⟩
  | 46 => ⟨S32x256x1, .f32⟩
  | 47 => ⟨S_, .f32⟩
  | 48 => ⟨S32x256x1, .f32⟩
  | 49 => ⟨S32x256x1, .f32⟩
  | 50 => ⟨S32x256x1, .f32⟩
  | 51 => ⟨S32x256x512, .f32⟩
  | 52 => ⟨S32x256x512, .f32⟩
  | 53 => ⟨S1x1x512, .f32⟩
  | 54 => ⟨S32x256x512, .f32⟩
  | 55 => ⟨S32x256x512, .f32⟩
  | 56 => ⟨S32x256x1024, .f32⟩
  | 57 => ⟨S32x256x1024, .f32⟩
  | 58 => ⟨S1x1x1024, .f32⟩
  | 59 => ⟨S32x256x1024, .f32⟩
  | 60 => ⟨S32x256x1024, .f32⟩
  | 61 => ⟨S32x256x1024, .f32⟩
  | 62 => ⟨S32x256x1024, .f32⟩
  | 63 => ⟨S_, .f32⟩
  | 64 => ⟨S32x256, .f32⟩
  | 65 => ⟨S32x256x1, .f32⟩
  | 66 => ⟨S_, .f32⟩
  | 67 => ⟨S32x256x1, .f32⟩
  | 68 => ⟨S32x256x1, .f32⟩
  | 69 => ⟨S_, .f32⟩
  | 70 => ⟨S32x256x1, .f32⟩
  | 71 => ⟨S32x256x1, .f32⟩
  | 72 => ⟨S32x256x1, .f32⟩
  | 73 => ⟨S32x256x1024, .f32⟩
  | 74 => ⟨S32x256x1024, .f32⟩
  | 75 => ⟨S1x1x1024, .f32⟩
  | 76 => ⟨S32x256x1024, .f32⟩
  | 77 => ⟨S32x256x1024, .f32⟩
  | 78 => ⟨S_, .f32⟩
  | 79 => ⟨S1024, .f32⟩
  | 80 => ⟨S1024, .f32⟩
  | 81 => ⟨S1x1x1024, .f32⟩
  | 82 => ⟨S32x256x1024, .f32⟩
  | 83 => ⟨S32x256x1024, .f32⟩
  | 84 => ⟨S1x1x1024, .f32⟩
  | 85 => ⟨S32x256x1024, .f32⟩
  | 86 => ⟨S32x256x1024, .f32⟩
  | 87 => ⟨S32x256x5632, .f32⟩
  | 88 => ⟨S_, .i32⟩
  | 89 => ⟨S_, .f32⟩
  | 90 => ⟨S32x258x5632, .f32⟩
  | 91 => ⟨S32x256x5632, .f32⟩
  | 92 => ⟨S1x5632, .f32⟩
  | 93 => ⟨S5632, .f32⟩
  | 94 => ⟨S1x1x5632, .f32⟩
  | 95 => ⟨S32x256x5632, .f32⟩
  | 96 => ⟨S32x256x5632, .f32⟩
  | 97 => ⟨S32x256x5632, .f32⟩
  | 98 => ⟨S1x5632, .f32⟩
  | 99 => ⟨S5632, .f32⟩
  | 100 => ⟨S1x1x5632, .f32⟩
  | 101 => ⟨S32x256x5632, .f32⟩
  | 102 => ⟨S32x256x5632, .f32⟩
  | 103 => ⟨S32x256x5632, .f32⟩
  | 104 => ⟨S32x256x5632, .f32⟩
  | 105 => ⟨S1x5632, .f32⟩
  | 106 => ⟨S5632, .f32⟩
  | 107 => ⟨S1x1x5632, .f32⟩
  | 108 => ⟨S32x256x5632, .f32⟩
  | 109 => ⟨S32x256x5632, .f32⟩
  | 110 => ⟨S32x256x5632, .f32⟩
  | 111 => ⟨S1x1x5632, .f32⟩
  | 112 => ⟨S32x256x5632, .f32⟩
  | 113 => ⟨S32x256x5632, .f32⟩
  | 114 => ⟨S32x256x2816, .f32⟩
  | 115 => ⟨S32x256x2816, .f32⟩
  | 116 => ⟨S32x256x2816, .f32⟩
  | 117 => ⟨S32x256x2816, .f32⟩
  | 118 => ⟨S_, .f32⟩
  | 119 => ⟨S32x256x2816, .f32⟩
  | 120 => ⟨S32x256x2816, .f32⟩
  | 121 => ⟨S_, .f32⟩
  | 122 => ⟨S32x256x2816, .f32⟩
  | 123 => ⟨S32x256x2816, .f32⟩
  | 124 => ⟨S32x256x2816, .f32⟩
  | 125 => ⟨S32x256x2816, .f32⟩
  | 126 => ⟨S32x256x1024, .f32⟩
  | 127 => ⟨S1x1x1024, .f32⟩
  | _ => ⟨S32x256x1024, .f32⟩

abbrev hbmTy0_1 (i : Nat) : BufTy := match i % 128 with
  | 0 => ⟨S32x256x1024, .f32⟩
  | 1 => ⟨S32x256x1024, .f32⟩
  | 2 => ⟨S32x256x1024, .f32⟩
  | 3 => ⟨S32x256x1024, .f32⟩
  | 4 => ⟨S_, .f32⟩
  | 5 => ⟨S32x256, .f32⟩
  | 6 => ⟨S32x256x1, .f32⟩
  | 7 => ⟨S_, .f32⟩
  | 8 => ⟨S32x256x1, .f32⟩
  | 9 => ⟨S32x256x1, .f32⟩
  | 10 => ⟨S_, .f32⟩
  | 11 => ⟨S32x256x1, .f32⟩
  | 12 => ⟨S32x256x1, .f32⟩
  | 13 => ⟨S32x256x1, .f32⟩
  | 14 => ⟨S32x256x1024, .f32⟩
  | 15 => ⟨S32x256x1024, .f32⟩
  | 16 => ⟨S1x1x1024, .f32⟩
  | 17 => ⟨S32x256x1024, .f32⟩
  | 18 => ⟨S32x256x1024, .f32⟩
  | 19 => ⟨S8192x1024, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c : Ref sig .tc := ⟨.hbm, 88, rfl⟩
abbrev main_call0_v0 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_call1_v0 : Ref sig .tc := ⟨.hbm, 116, rfl⟩
abbrev main_call1_v1 : Ref sig .tc := ⟨.hbm, 117, rfl⟩
abbrev main_call1_cst : Ref sig .tc := ⟨.hbm, 118, rfl⟩
abbrev main_call1_v2 : Ref sig .tc := ⟨.hbm, 119, rfl⟩
abbrev main_call1_v3 : Ref sig .tc := ⟨.hbm, 120, rfl⟩
abbrev main_call1_cst_0 : Ref sig .tc := ⟨.hbm, 121, rfl⟩
abbrev main_call1_v4 : Ref sig .tc := ⟨.hbm, 122, rfl⟩
abbrev main_call1_v5 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_9 : Ref sig .tc := ⟨.hbm, 132, rfl⟩
abbrev main_v100 : Ref sig .tc := ⟨.hbm, 133, rfl⟩
abbrev main_v101 : Ref sig .tc := ⟨.hbm, 134, rfl⟩
abbrev main_cst_10 : Ref sig .tc := ⟨.hbm, 135, rfl⟩
abbrev main_v102 : Ref sig .tc := ⟨.hbm, 136, rfl⟩
abbrev main_v103 : Ref sig .tc := ⟨.hbm, 137, rfl⟩
abbrev main_cst_11 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩

abbrev nD : Nat := 1
abbrev τ : Topo := Topo.v7x

variable {F : FTy → Type} [FloatOps F]
-- ==== Kernel4.lean ====
abbrev S4x1024x1024 : Shape := ⟨3, ![4, 1024, 1024]⟩
abbrev S6x8x1024 : Shape := ⟨3, ![6, 8, 1024]⟩
abbrev S1024 : Shape := ⟨1, ![1024]⟩
abbrev S1024x3072 : Shape := ⟨2, ![1024, 3072]⟩
abbrev S3x1536 : Shape := ⟨2, ![3, 1536]⟩
abbrev S1536 : Shape := ⟨1, ![1536]⟩
abbrev S4096x1024 : Shape := ⟨2, ![4096, 1024]⟩
abbrev S1x1024 : Shape := ⟨2, ![1, 1024]⟩
abbrev S1x1536 : Shape := ⟨2, ![1, 1536]⟩
abbrev S4096x1536 : Shape := ⟨2, ![4096, 1536]⟩
abbrev S1024x1024 : Shape := ⟨2, ![1024, 1024]⟩
abbrev S1024x1536 : Shape := ⟨2, ![1024, 1536]⟩
abbrev S1x1x1024 : Shape := ⟨3, ![1, 1, 1024]⟩
abbrev S1024x1 : Shape := ⟨2, ![1024, 1]⟩
abbrev S128x8x1536 : Shape := ⟨3, ![128, 8, 1536]⟩
abbrev S1x8x1 : Shape := ⟨3, ![1, 8, 1]⟩
abbrev S1x8x1536 : Shape := ⟨3, ![1, 8, 1536]⟩
abbrev S127x8x1536 : Shape := ⟨3, ![127, 8, 1536]⟩
abbrev S1024x512 : Shape := ⟨2, ![1024, 512]⟩

abbrev nBuf : Space → Nat
  | .hbm => 12
  | .vmem => 11
  | .smem => 0
  | _ => 0

abbrev bufTy : (tb : Table) → Fin (tcTables nBuf tb) → BufTy
  | .hbm, ⟨0, _⟩ => ⟨S4x1024x1024, .f32⟩
  | .hbm, ⟨1, _⟩ => ⟨S6x8x1024, .f32⟩
  | .hbm, ⟨2, _⟩ => ⟨S1024, .f32⟩
  | .hbm, ⟨3, _⟩ => ⟨S1024x3072, .f32⟩
  | .hbm, ⟨4, _⟩ => ⟨S3x1536, .f32⟩
  | .hbm, ⟨5, _⟩ => ⟨S1536, .f32⟩
  | .hbm, ⟨6, _⟩ => ⟨S4096x1024, .f32⟩
  | .hbm, ⟨7, _⟩ => ⟨S1x1024, .f32⟩
  | .hbm, ⟨8, _⟩ => ⟨S1024x3072, .bf16⟩
  | .hbm, ⟨9, _⟩ => ⟨S1x1536, .f32⟩
  | .hbm, ⟨10, _⟩ => ⟨S4096x1536, .bf16⟩
  | .hbm, ⟨11, _⟩ => ⟨S4096x1536, .f32⟩
  | .local _ .vmem, ⟨0, _⟩ => ⟨S1024x1024, .f32⟩
  | .local _ .vmem, ⟨1, _⟩ => ⟨S1024x1024, .f32⟩
  | .local _ .vmem, ⟨2, _⟩ => ⟨S6x8x1024, .f32⟩
  | .local _ .vmem, ⟨3, _⟩ => ⟨S1x1024, .f32⟩
  | .local _ .vmem, ⟨4, _⟩ => ⟨S1024x3072, .bf16⟩
  | .local _ .vmem, ⟨5, _⟩ => ⟨S3x1536, .f32⟩
  | .local _ .vmem, ⟨6, _⟩ => ⟨S1x1536, .f32⟩
  | .local _ .vmem, ⟨7, _⟩ => ⟨S1024x1536, .bf16⟩
  | .local _ .vmem, ⟨8, _⟩ => ⟨S1024x1536, .bf16⟩
  | .local _ .vmem, ⟨9, _⟩ => ⟨S1024x1536, .f32⟩
  | .local _ .vmem, ⟨10, _⟩ => ⟨S1024x1536, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

def k0_off1 (i : grid0.Coords) : Fin 3 → Nat :=
  let c0 : Index := 0#32
  let c1_i32_5 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v17 : BitVec 32 := Scalar.addi c1_i32_5 v16
  let v18 : Index := Scalar.indexCast v17
  let c0_6 : Index := 0#32
  ![0, v18.toNat, 0]
def k0_off2 (i : grid0.Coords) : Fin 3 → Nat :=
  let c1 : Index := 1#32
  let c1_i32_5 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v17 : BitVec 32 := Scalar.addi c1_i32_5 v16
  let v21 : Index := Scalar.indexCast v17
  let c0_7 : Index := 0#32
  ![1, v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S4x1024x1024 : Shape := ⟨3, ![4, 1024, 1024]⟩
abbrev S6x8x1024 : Shape := ⟨3, ![6, 8, 1024]⟩
abbrev S1024 : Shape := ⟨1, ![1024]⟩
abbrev S1024x3072 : Shape := ⟨2, ![1024, 3072]⟩
abbrev S3x1536 : Shape := ⟨2, ![3, 1536]⟩
abbrev S1536 : Shape := ⟨1, ![1536]⟩
abbrev S1x4x1024 : Shape := ⟨3, ![1, 4, 1024]⟩
abbrev S4x1024 : Shape := ⟨2, ![4, 1024]⟩
abbrev S4x1x1024 : Shape := ⟨3, ![4, 1, 1024]⟩
abbrev S_ : Shape := ⟨0, ![]⟩
abbrev S4x1024x1 : Shape := ⟨3, ![4, 1024, 1]⟩
abbrev S1x1x1024 : Shape := ⟨3, ![1, 1, 1024]⟩
abbrev S4x1024x3072 : Shape := ⟨3, ![4, 1024, 3072]⟩
abbrev S4x1024x512 : Shape := ⟨3, ![4, 1024, 512]⟩
abbrev S4x1024x1536 : Shape := ⟨3, ![4, 1024, 1536]⟩
abbrev S4x1026x1536 : Shape := ⟨3, ![4, 1026, 1536]⟩
abbrev S1x1536 : Shape := ⟨2, ![1, 1536]⟩
abbrev S1x1x1536 : Shape := ⟨3, ![1, 1, 1536]⟩
abbrev S4096x1536 : Shape := ⟨2, ![4096, 1536]⟩

abbrev nBuf : Space → Nat
  | .hbm => 73
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S6x8x1024, .f32⟩
  | .hbm, ⟨2, _⟩ => ⟨S1024, .f32⟩
  | .hbm, ⟨3, _⟩ => ⟨S1024x3072, .f32⟩
  | .hbm, ⟨4, _⟩ => ⟨S3x1536, .f32⟩
  | .hbm, ⟨5, _⟩ => ⟨S1536, .f32⟩
  | .hbm, ⟨6, _⟩ => ⟨S1x4x1024, .f32⟩
  | .hbm, ⟨7, _⟩ => ⟨S4x1024, .f32⟩
  | .hbm, ⟨8, _⟩ => ⟨S4x1x1024, .f32⟩
  | .hbm, ⟨9, _⟩ => ⟨S1x4x1024, .f32⟩
  | .hbm, ⟨10, _⟩ => ⟨S4x1024, .f32⟩
  | .hbm, ⟨11, _⟩ => ⟨S4x1x1024, .f32⟩
  | .hbm, ⟨12, _⟩ => ⟨S4x1024x1024, .f32⟩
  | .hbm, ⟨13, _⟩ => ⟨S_, .f32⟩
  | .hbm, ⟨14, _⟩ => ⟨S4x1024, .f32⟩
  | .hbm, ⟨15, _⟩ => ⟨S4x1024x1, .f32⟩
  | .hbm, ⟨16, _⟩ => ⟨S_, .f32⟩
  | .hbm, ⟨17, _⟩ => ⟨S4x1024x1, .f32⟩
  | .hbm, ⟨18, _⟩ => ⟨S4x1024x1, .f32⟩
  | .hbm, ⟨19, _⟩ => ⟨S_, .f32⟩
  | .hbm, ⟨20, _⟩ => ⟨S4x1024x1, .f32⟩
  | .hbm, ⟨21, _⟩ => ⟨S4x1024x1, .f32⟩
  | .hbm, ⟨22, _⟩ => ⟨S4x1024x1, .f32⟩
  | .hbm, ⟨23, _⟩ => ⟨S4x1024x1024, .f32⟩
  | .hbm, ⟨24, _⟩ => ⟨S4x1024x1024, .f32⟩
  | .hbm, ⟨25, _⟩ => ⟨S1x1x1024, .f32⟩
  | .hbm, ⟨26, _⟩ => ⟨S4x1024x1024, .f32⟩
  | .hbm, ⟨27, _⟩ => ⟨S4x1024x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S4x1024x1024, .f32⟩
  | .hbm, ⟨35, _⟩ => ⟨S4x1024x3072, .f32⟩
  | .hbm, ⟨36, _⟩ => ⟨S4x1024x512, .f32⟩
  | .hbm, ⟨37, _⟩ => ⟨S_, .f32⟩
  | .hbm, ⟨38, _⟩ => ⟨S4x1024x512, .f32⟩
  | .hbm, ⟨39, _⟩ => ⟨S4x1024x512, .f32⟩
  | .hbm, ⟨40, _⟩ => ⟨S4x1024x512, .f32⟩
  | .hbm, ⟨41, _⟩ => ⟨S4x1024x512, .f32⟩
  | .hbm, ⟨42, _⟩ => ⟨S4x1024x1536, .f32⟩
  | .hbm, ⟨43, _⟩ => ⟨S_, .i32⟩
  | .hbm, ⟨44, _⟩ => ⟨S_, .f32⟩
  | .hbm, ⟨45, _⟩ => ⟨S4x1026x1536, .f32⟩
  | .hbm, ⟨46, _⟩ => ⟨S4x1024x1536, .f32⟩
  | .hbm, ⟨47, _⟩ => ⟨S1x1536, .f32⟩
  | .hbm, ⟨48, _⟩ => ⟨S1536, .f32⟩
  | .hbm, ⟨49, _⟩ => ⟨S1x1x1536, .f32⟩
  | .hbm, ⟨50, _⟩ => ⟨S4x1024x1536, .f32⟩
  | .hbm, ⟨51, _⟩ => ⟨S4x1024x1536, .f32⟩
  | .hbm, ⟨52, _⟩ => ⟨S4x1024x1536, .f32⟩
  | .hbm, ⟨53, _⟩ => ⟨S1x1536, .f32⟩
  | .hbm, ⟨54, _⟩ => ⟨S1536, .f32⟩
  | .hbm, ⟨55, _⟩ => ⟨S1x1x1536, .f32⟩
  | .hbm, ⟨56, _⟩ => ⟨S4x1024x1536, .f32⟩
  | .hbm, ⟨57, _⟩ => ⟨S4x1024x1536, .f32⟩
  | .hbm, ⟨58, _⟩ => ⟨S4x1024x1536, .f32⟩
  | .hbm, ⟨59, _⟩ => ⟨S4x1024x1536, .f32⟩
  | .hbm, ⟨60, _⟩ => ⟨S1x1536, .f32⟩
  | .hbm, ⟨61, _⟩ => ⟨S1536, .f32⟩
  | .hbm, ⟨62, _⟩ => ⟨S1x1x1536, .f32⟩
  | .hbm, ⟨63, _⟩ => ⟨S4x1024x1536, .f32⟩
  | .hbm, ⟨64, _⟩ => ⟨S4x1024x1536, .f32⟩
  | .hbm, ⟨65, _⟩ => ⟨S4x1024x1536, .f32⟩
  | .hbm, ⟨66, _⟩ => ⟨S1x1x1536, .f32⟩
  | .hbm, ⟨67, _⟩ => ⟨S4x1024x1536, .f32⟩
  | .hbm, ⟨68, _⟩ => ⟨S4x1024x1536, .f32⟩
  | .hbm, ⟨69, _⟩ => ⟨S4x1024x1536, .f32⟩
  | .hbm, ⟨70, _⟩ => ⟨S4096x1536, .f32⟩
  | .hbm, ⟨71, _⟩ => ⟨S4096x1536, .bf16⟩
  | .hbm, ⟨72, _⟩ => ⟨S4096x1536, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_call0_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== Proof.Softmax.lean ====
/- One row of softmax attention over the extended reals, in the two orders in which it is computed: the weights
   divided by their sum before they meet the values, and the weighted values divided by the sum at the end. -/
module

public import Idealize.ShloMosaic.PureOps.Ideal

@[expose] public section

noncomputable section

namespace Cert.Attention

open Idealize.ShloMosaic

variable {ι κ : Type} [Fintype ι] [Fintype κ]

/-- The largest score of a row. -/
def top (s : ι → EReal) : EReal := Finset.univ.sup s

/-- The unnormalised weight of key `k`. -/
def weight (s : ι → EReal) (k : ι) : EReal := Ideal.exp (s k - top s)

/-- A row with its weights normalised first. -/
def rowDivided (s v : ι → EReal) : EReal :=
  ∑ k, Ideal.div (weight s k) (∑ j, weight s j) * v k

/-- A row whose weighted sum is normalised at the end. -/
def row (s v : ι → EReal) : EReal :=
  (∑ k, weight s k * v k) * Ideal.div 1 (∑ k, weight s k)

/-- A nonnegative real factor moves out of a sum of extended reals. -/
theorem mul_sum_coe {c : ℝ} (hc : 0 ≤ c) (f : ι → EReal) : (c : EReal) * ∑ k, f k = ∑ k, (c : EReal) * f k := by
  classical
  induction (Finset.univ : Finset ι) using Finset.induction_on with
  | empty => simp
  | insert a t ha ih => rw [Finset.sum_insert ha, Finset.sum_insert ha, EReal.left_distrib_of_nonneg_of_ne_top (by exact_mod_cast hc) (EReal.coe_ne_top c), ih]

/-- A nonnegative real factor on the left operand of an inner product moves out of it. -/
theorem sum_scaled_mul {c : ℝ} (hc : 0 ≤ c) (q k : ι → EReal) :
    ∑ d, (q d * (c : EReal)) * k d = (∑ d, q d * k d) * (c : EReal) := by
  rw [mul_comm _ (c : EReal), mul_sum_coe hc]
  exact Finset.sum_congr rfl fun d _ => by rw [mul_comm (q d), mul_assoc]

/-- The weight of a masked key is zero. -/
theorem weight_bot {s : ι → EReal} {k : ι} (h : s k = ⊥) : weight s k = 0 := by
  unfold weight; rw [h, sub_eq_add_neg, EReal.bot_add]; rfl

/-- Where the largest score is a real number, every weight is a nonnegative real, and their sum is at least one. -/
theorem weight_real {s : ι → EReal} {M : ℝ} (hM : top s = (M : EReal)) :
    ∃ f : ι → ℝ, (∀ k, weight s k = (f k : EReal)) ∧ (∀ k, 0 ≤ f k) ∧ 0 < ∑ k, f k := by
  classical
  have hle : ∀ k, s k ≤ (M : EReal) := fun k => hM ▸ Finset.le_sup (f := s) (Finset.mem_univ k)
  have hw : ∀ k, ∃ r : ℝ, weight s k = (r : EReal) ∧ 0 ≤ r ∧ (s k = (M : EReal) → r = 1) := by
    intro k
    induction hk : s k using EReal.rec with
    | bot => exact ⟨0, by rw [weight_bot hk]; rfl, le_rfl, fun h => absurd h (by simp)⟩
    | top =>
      have := hle k
      rw [hk] at this
      exact absurd this (by simp)
    | coe x =>
      refine ⟨Real.exp (x - M), ?_, (Real.exp_pos _).le, fun h => ?_⟩
      · unfold weight; rw [hk, hM]; rfl
      · have : x = M := by exact_mod_cast h
        simp [this]
  choose f hf h0 h1 using hw
  refine ⟨f, hf, h0, ?_⟩
  have hne : (Finset.univ : Finset ι).Nonempty := by
    by_contra h
    rw [Finset.not_nonempty_iff_eq_empty] at h
    unfold top at hM
    rw [h, Finset.sup_empty] at hM
    exact absurd hM (by simp)
  obtain ⟨k, _, hk⟩ := Finset.exists_mem_eq_sup _ hne s
  have hk1 : f k = 1 := h1 k (by rw [← hk]; exact hM)
  exact lt_of_lt_of_le (by rw [hk1]; exact one_pos) (Finset.single_le_sum (fun j _ => h0 j) (Finset.mem_univ k))

/-- The two orders agree where the largest score is a real number. -/
theorem rowDivided_eq_row {s v : ι → EReal} {M : ℝ} (hM : top s = (M : EReal)) : rowDivided s v = row s v := by
  obtain ⟨f, hf, h0, hpos⟩ := weight_real hM
  have hZ : ∑ k, weight s k = ((∑ k, f k : ℝ) : EReal) := by
    rw [Finset.sum_congr rfl fun k _ => hf k]
    exact (map_sum (⟨⟨Real.toEReal, rfl⟩, EReal.coe_add⟩ : ℝ →+ EReal) f Finset.univ).symm
  unfold rowDivided row
  rw [hZ, Ideal.div_coe hpos.ne', one_mul, mul_comm, mul_sum_coe (by positivity)]
  refine Finset.sum_congr rfl fun k _ => ?_
  rw [Ideal.div_coe hpos.ne', mul_comm (weight s k), mul_assoc]

/-- Keys that are all masked may be added to a row. -/
theorem row_comp (f : κ ↪ ι) (s v : ι → EReal) (h : ∀ i, i ∉ Set.range f → s i = ⊥) :
    row (s ∘ f) (v ∘ f) = row s v := by
  classical
  have htop : top (s ∘ f) = top s := by
    apply le_antisymm
    · exact Finset.sup_le fun k _ => Finset.le_sup (f := s) (Finset.mem_univ (f k))
    · refine Finset.sup_le fun i _ => ?_
      by_cases hi : i ∈ Set.range f
      · obtain ⟨k, rfl⟩ := hi
        exact Finset.le_sup (f := s ∘ f) (Finset.mem_univ k)
      · rw [h i hi]; exact bot_le
  have hw : ∀ k, weight (s ∘ f) k = weight s (f k) := fun k => by unfold weight; rw [htop]; rfl
  have hsum : ∀ g : ι → EReal, (∀ i, i ∉ Set.range f → g i = 0) → ∑ k, g (f k) = ∑ i, g i := by
    intro g hg
    rw [← Finset.sum_map Finset.univ f g]
    refine Finset.sum_subset (Finset.subset_univ _) fun i _ hi => hg i ?_
    rintro ⟨k, rfl⟩
    exact hi (Finset.mem_map_of_mem f (Finset.mem_univ k))
  unfold row
  simp only [hw, Function.comp]
  rw [hsum (fun i => weight s i * v i) fun i hi => by rw [weight_bot (h i hi), zero_mul],
    hsum (weight s) fun i hi => weight_bot (h i hi)]

end Cert.Attention

end
-- ==== Proof.Spec.lean ====
/- What the attention computes, one output number at a time: the scores of one query against the keys of its window
   and the cached keys, the values they weigh, and the row of softmax attention they make. -/
module

public import proofs.«01_k».proof.Proof.Softmax
public import Idealize.ShloMosaic.Lib.ValueIdx
public import Idealize.ShloMosaic.Lib.ValueIdxRank6
public import Idealize.ShloMosaic.Lib.ValueIdxCoords

@[expose] public section

noncomputable section

namespace Cert.Attention

open Idealize.ShloMosaic Idealize.ShloMosaic.ValueIdx

/-- The projected queries, keys and values of all tokens. -/
abbrev Proj := (⟨3, ![4, 1024, 1536]⟩ : Shape).Idx → EReal
/-- The cached keys, or the cached values. -/
abbrev Cache := (⟨4, ![4, 8, 256, 64]⟩ : Shape).Idx → EReal
/-- The relative position bias. -/
abbrev Bias := (⟨3, ![8, 15, 31]⟩ : Shape).Idx → EReal

/-- The first image row of the window of a query in image row `r`. -/
abbrev rowStart (r : ℕ) : ℕ := min (r - 4) 8
/-- The first image column of the window of a query in image column `q`. -/
abbrev colStart (q : ℕ) : ℕ := min (q - 8) 48

/-- The key in image row `kr` lies in the row window of a query in image row `r`. -/
abbrev RowIn (r kr : ℕ) : Prop := rowStart r ≤ kr ∧ kr < rowStart r + 8
/-- The key in image column `kc` lies in the column window of a query in image column `q`. -/
abbrev ColIn (q kc : ℕ) : Prop := colStart q ≤ kc ∧ kc < colStart q + 16

/-- The token in image row `r` and image column `c`. -/
abbrev tok (r : Fin 16) (c : Fin 64) : Fin 1024 := ⟨r.val * 64 + c.val, by omega⟩
/-- Lane `d` of head `h` in the part `p` (queries, keys, values) of the projection. -/
abbrev lane (p : Fin 3) (h : Fin 8) (d : Fin 64) : Fin 1536 := ⟨p.val * 512 + h.val * 64 + d.val, by omega⟩

/-- The scale of the scores, `1 / 8`. -/
def scale : EReal := ((1 / 8 : ℝ) : EReal)

/-- The bias of a key in image row `kr`, column `kc` for a query in row `r`, column `q`. -/
def bias (x3 : Bias) (h : Fin 8) (r q kr kc : ℕ) : EReal :=
  x3 (ix3 h ⟨min (kr + 7 - r) 14, by omega⟩ ⟨min (kc + 15 - q) 30, by omega⟩)

/-- The score of a key of the image. -/
def local_ (x0 : Proj) (x3 : Bias) (b : Fin 4) (h : Fin 8) (r : Fin 16) (q : Fin 64) (kr : Fin 16) (kc : Fin 64) : EReal :=
  (∑ d : Fin 64, x0 (ix3 b (tok r q) (lane 0 h d)) * x0 (ix3 b (tok kr kc) (lane 1 h d))) * scale
    + bias x3 h r.val q.val kr.val kc.val

/-- The score of a cached key. -/
def cached (x0 : Proj) (x1 : Cache) (b : Fin 4) (h : Fin 8) (r : Fin 16) (q : Fin 64) (j : Fin 256) : EReal :=
  (∑ d : Fin 64, x0 (ix3 b (tok r q) (lane 0 h d)) * x1 (ix4 b h j d)) * scale

/-- The scores of one query: of the keys of the image, those outside its window masked, and of the cached keys. -/
def score (x0 : Proj) (x1 : Cache) (x3 : Bias) (b : Fin 4) (h : Fin 8) (r : Fin 16) (q : Fin 64) :
    (Fin 16 × Fin 64) ⊕ Fin 256 → EReal
  | .inl k => if RowIn r.val k.1.val ∧ ColIn q.val k.2.val then local_ x0 x3 b h r q k.1 k.2 else ⊥
  | .inr j => cached x0 x1 b h r q j

/-- Lane `d` of the values, of the image's tokens and of the cached ones. -/
def value (x0 : Proj) (x2 : Cache) (b : Fin 4) (h : Fin 8) (d : Fin 64) : (Fin 16 × Fin 64) ⊕ Fin 256 → EReal
  | .inl k => x0 (ix3 b (tok k.1 k.2) (lane 2 h d))
  | .inr j => x2 (ix4 b h j d)

/-- Lane `d` of the attention's output for the query in image row `r`, column `q`. -/
def attend (x0 : Proj) (x1 x2 : Cache) (x3 : Bias) (b : Fin 4) (h : Fin 8) (r : Fin 16) (q : Fin 64) (d : Fin 64) : EReal :=
  row (score x0 x1 x3 b h r q) (value x0 x2 b h d)

/-- The keys of a band of `n` image rows that starts at row `s`, beside the cached keys, among all keys. -/
def band (n s : ℕ) (hs : s + n ≤ 16) : (Fin n × Fin 64) ⊕ Fin 256 ↪ (Fin 16 × Fin 64) ⊕ Fin 256 where
  toFun
    | .inl k => .inl (⟨s + k.1.val, by omega⟩, k.2)
    | .inr j => .inr j
  inj' := by
    rintro (⟨⟨a, ha⟩, c⟩ | j) (⟨⟨a', ha'⟩, c'⟩ | j') h
    · simp only [Sum.inl.injEq, Prod.mk.injEq, Fin.mk.injEq] at h ⊢; omega
    · simp at h
    · simp at h
    · simpa using h

/-- A band that holds the rows of the window gives the same row of attention as all keys. -/
theorem row_band {n s : ℕ} (hs : s + n ≤ 16) (x0 : Proj) (x1 x2 : Cache) (x3 : Bias) (b : Fin 4) (h : Fin 8)
    (r : Fin 16) (q : Fin 64) (d : Fin 64) (hlo : s ≤ rowStart r.val) (hhi : rowStart r.val + 8 ≤ s + n) :
    row (score x0 x1 x3 b h r q ∘ band n s hs) (value x0 x2 b h d ∘ band n s hs) = attend x0 x1 x2 x3 b h r q d := by
  refine row_comp _ _ _ fun i hi => ?_
  rcases i with ⟨⟨kr, hkr⟩, kc⟩ | j
  · refine if_neg fun hw => ?_
    obtain ⟨h1, h2⟩ : rowStart r.val ≤ kr ∧ kr < rowStart r.val + 8 := hw.1
    refine hi ⟨.inl (⟨kr - s, by omega⟩, kc), ?_⟩
    simp only [band, Function.Embedding.coeFn_mk, Sum.inl.injEq, Prod.mk.injEq, Fin.mk.injEq, and_true]
    omega
  · exact absurd ⟨.inr j, rfl⟩ hi

end Cert.Attention

end
-- ==== Proof.KernelMask.lean ====
/- The kernel's masks read at an index. -/
module

public import proofs.«01_k».proof.Proof.Spec
public import proofs.«01_k».proof.Proof.Gen.KernelIdeal.Value

@[expose] public section

set_option maxRecDepth 16384

noncomputable section

namespace Cert.Attention

open Idealize.ShloMosaic Idealize.ShloMosaic.ValueIdx Cert.KernelIdeal Cert.KernelIdeal.Gen

set_option maxRecDepth 100000 in
/-- The mask of the lower half of the lanes. -/
theorem low_table : ∀ (q : Fin 64) (l : Fin 128), k0_pay2 (ix2 q l) = if l.val < 64 then 1#1 else 0#1 := by decide

set_option maxRecDepth 100000 in
set_option maxHeartbeats 2000000 in
/-- The column window's mask. -/
theorem window_table : ∀ (q : Fin 64) (l : Fin 128),
    k0_pay3 (ix2 q l) = if ColIn q.val (l.val % 64) then 1#1 else 0#1 := by decide

end Cert.Attention
end
-- ==== Proof.KernelTable.lean ====
/- The kernel's table of bias rows: for each of a pair's two heads and each row offset, the bias of every query column
   against every key column, masked outside the column window. -/
module

public import proofs.«01_k».proof.Proof.KernelMask
public import Idealize.ShloMosaic.Lib.KernelVsHost
public import Idealize.ShloMosaic.Lib.Pipeline.ReadBack
public import Idealize.ShloMosaic.Lib.Pipeline.ValueKit.Geometry

@[expose] public section

set_option maxRecDepth 16384

noncomputable section

namespace Cert.Attention

open Idealize.ShloMosaic Idealize.ShloMosaic.ValueIdx Idealize.ShloMosaic.Tactic Cert.KernelIdeal Cert.KernelIdeal.Gen

/-- The mask's value. -/
theorem mask_bot : Named.named (F := Ideal) Cert.KernelIdeal.κ "mask" (φ := .f32) 0xF149F2CA#32 = ⊥ :=
  IdealRules.named_const.ideal_named_scalar _ _ _ _ rfl

/-- Re-indexing the sum of a product with one contracted axis. -/
theorem sum_contr {sl sr so : Shape} (D : DotDims sl sr so) (n : ℕ) (hr : D.contr.rank = 1)
    (hs : D.contr.size ⟨0, by omega⟩ = n) (f : D.contr.Idx → EReal) :
    ∑ k : D.contr.Idx, f k = ∑ i : Fin n, f ((contrEquiv1 D n hr hs).symm i) :=
  (Equiv.sum_comp _ _).symm

/-- The bias row of head `e` of the pair at row offset `d`, expanded along the lanes by the one-hot table. -/
def gAt (x5 : S2x16x32.Idx → EReal) (x6 : S32x128.Idx → EReal) (e : Fin 2) (d : Fin 16) (l : Fin 128) : EReal :=
  ∑ j : Fin 32, x5 (ix3 e d j) * x6 (ix2 j l)

/-- One entry of the table. -/
def tileAt (x5 : S2x16x32.Idx → EReal) (x6 : S32x128.Idx → EReal) (e : Fin 2) (t : Fin 16) (q : Fin 64) (l : ℕ) : EReal :=
  if t.val = 15 then ⊥
  else if ColIn q.val (l % 64) then gAt x5 x6 e t ⟨(l % 64 + 64 - q.val) % 128, Nat.mod_lt _ (by omega)⟩ else ⊥

/-- The table as the buffer holds it. -/
def tableOf (x5 : S2x16x32.Idx → EReal) (x6 : S32x128.Idx → EReal) : S2x16x64x128.Idx → EReal :=
  fun j => tileAt x5 x6 (j 0) (j 1) (j 2) (j 3).val

/-- The product that expands the bias rows. -/
theorem expand_apply (v : S1x16x32.Idx → EReal) (w : S32x128.Idx → EReal) (d : Fin 16) (l : Fin 128) :
    k0_pay4 (F := Ideal) v w (ix2 d l) = ∑ j : Fin 32, v (ix3 0 d j) * w (ix2 j l) := by
  unfold k0_pay4
  refine (Ideal.matmul_constant_zero_apply _ _ _ _ _).trans ((sum_contr _ 32 rfl rfl _).trans ?_)
  refine Finset.sum_congr rfl fun j _ => congrArg₂ (· * ·) ?_ (congrArg w (funext fun a => Fin.ext ?_))
  · refine shapeCast_apply _ _ _ _ ?_
    rw [Shape.rowMajor_val_three, Shape.rowMajor_val_two]
    show (0 * 16 + d.val) * 32 + j.val = d.val * 32 + _
    rw [Nat.zero_mul, Nat.zero_add]
    exact congrArg (d.val * 32 + ·) (contrEquiv1_symm_val dot_S16x32_S32x128_S16x128_1_0_0_1_n_n 32 rfl rfl j).symm
  · match a with
    | ⟨0, _⟩ => exact contrEquiv1_symm_val dot_S16x32_S32x128_S16x128_1_0_0_1_n_n 32 rfl rfl j
    | ⟨1, _⟩ => rfl

/-- A row of the table as the kernel makes it from the expanded bias rows `g`. -/
def rowOf (d : ℕ) (hs : S16x128.Slices ![d, 0] S1x128) (g : FVec Ideal S16x128 .f32) : FVec Ideal S1x1x64x128 .f32 :=
  have t : FVec Ideal S64x128 .f32 := dynamicRotate 1 64#32 (some (1, 0))
    (broadcastTo S64x128 (shapeCast S1x128 (extractStridedSlice S1x128 ![d, 0] g hs) Gen.shapeCasts_S1x128_S1x128)
      Gen.broadcasts_S1x128_S64x128) Gen.rotates_S64x128_d1s1a0
  shapeCast S1x1x64x128
    (select k0_pay3 (select k0_pay2 t (dynamicRotate 1 64#32 none t Gen.rotates_S64x128_d1))
      (broadcast S64x128 (Named.named (F := Ideal) Cert.KernelIdeal.κ "mask" (φ := .f32) 0xF149F2CA#32)))
    Gen.shapeCasts_S64x128_S1x1x64x128

/-- An entry of such a row. -/
theorem rowOf_apply (d : ℕ) (hd : d < 16) (hs : S16x128.Slices ![d, 0] S1x128) (g : FVec Ideal S16x128 .f32)
    (q : Fin 64) (l : Fin 128) :
    rowOf d hs g (ix4 0 0 q l)
      = if ColIn q.val (l.val % 64) then g (ix2 ⟨d, hd⟩ ⟨(l.val % 64 + 64 - q.val) % 128, Nat.mod_lt _ (by omega)⟩) else ⊥ := by
  have ht : ∀ l : Fin 128, dynamicRotate 1 64#32 (some (1, 0))
      (broadcastTo S64x128 (shapeCast S1x128 (extractStridedSlice S1x128 ![d, 0] g hs) Gen.shapeCasts_S1x128_S1x128)
        Gen.broadcasts_S1x128_S64x128) Gen.rotates_S64x128_d1s1a0 (ix2 q l)
      = g (ix2 ⟨d, hd⟩ ⟨(l.val + 128 - (64 + q.val) % 128) % 128, Nat.mod_lt _ (by omega)⟩) := fun l => by
    unfold dynamicRotate
    refine (broadcastTo_apply _ _ _ (ix2 0 ⟨(l.val + 128 - (64 + q.val) % 128) % 128, Nat.mod_lt _ (by omega)⟩) fun a => ?_).trans ?_
    · match a with
      | ⟨0, _⟩ => rfl
      | ⟨1, _⟩ => show _ = (l.val + 128 - (64 + 1 * q.val) % 128) % 128; rw [Nat.one_mul]
    · refine (shapeCast_apply _ _ _ _ rfl).trans (extractStridedSlice_apply _ _ _ _ _ fun a => ?_)
      match a with
      | ⟨0, _⟩ => rfl
      | ⟨1, _⟩ => exact (Nat.zero_add _).symm
  unfold rowOf
  refine (shapeCast_apply _ _ _ (ix2 q l) (by
    rw [Shape.rowMajor_val_two, Shape.rowMajor_val_four]
    show q.val * 128 + l.val = ((0 * 1 + 0) * 64 + q.val) * 128 + l.val
    omega)).trans ?_
  rw [select_apply, window_table]
  split
  · rw [select_one, select_apply, low_table]
    split
    · rw [select_one, ht]
      refine congrArg g (congrArg (ix2 _) (Fin.ext ?_))
      show (l.val + 128 - (64 + q.val) % 128) % 128 = (l.val % 64 + 64 - q.val) % 128
      omega
    · rw [select_zero]
      refine (dynamicRotate_apply 1 _ _ _ _ (ix2 q ⟨(l.val + 128 - 64) % 128, Nat.mod_lt _ (by omega)⟩) fun a => ?_).trans ?_
      · match a with
        | ⟨0, _⟩ => rfl
        | ⟨1, _⟩ => rfl
      · rw [ht]
        refine congrArg g (congrArg (ix2 _) (Fin.ext ?_))
        show ((l.val + 128 - 64) % 128 + 128 - (64 + q.val) % 128) % 128 = (l.val % 64 + 64 - q.val) % 128
        omega
  · rw [select_zero]
    exact mask_bot

/-- An index of a tile with two unit axes. -/
theorem eq_tile {n m : ℕ} (x : (⟨4, ![1, 1, n, m]⟩ : Shape).Idx) : ∃ (q : Fin n) (l : Fin m), x = ix4 0 0 q l :=
  ⟨x 2, x 3, funext fun a => by
    match a with
    | ⟨0, _⟩ => exact Fin.fin_one_eq_zero (x 0)
    | ⟨1, _⟩ => exact Fin.fin_one_eq_zero (x 1)
    | ⟨2, _⟩ => rfl
    | ⟨3, _⟩ => rfl⟩

/-- A stored row is its block of the table. -/
theorem row_piece (x5 : S2x16x32.Idx → EReal) (x6 : S32x128.Idx → EReal) (e d : ℕ) (he : e < 2) (hd : d < 15)
    (hs : S16x128.Slices ![d, 0] S1x128) (g : FVec Ideal S16x128 .f32)
    (hg : ∀ t l, g (ix2 t l) = gAt x5 x6 ⟨e, he⟩ t l)
    (inb : ∀ a, (![e, d, 0, 0] : Fin 4 → ℕ) a + S1x1x64x128.size a ≤ S2x16x64x128.size a)
    (x : S1x1x64x128.Idx) :
    rowOf d hs g x = tableOf x5 x6 ((Rect.unit (s := S2x16x64x128) ![e, d, 0, 0] S1x1x64x128.size inb).emb x) := by
  obtain ⟨q, l, rfl⟩ := eq_tile x
  rw [rowOf_apply d (by omega)]
  have hx : (Rect.unit (s := S2x16x64x128) ![e, d, 0, 0] S1x1x64x128.size inb).emb (ix4 0 0 q l)
      = ix4 (⟨e, he⟩ : Fin 2) (⟨d, by omega⟩ : Fin 16) q l := funext fun a => Fin.ext <|
    (ValueKit.rect_emb_unit_val _ _ _ _ a).trans (by
      match a with
      | ⟨0, _⟩ => rfl
      | ⟨1, _⟩ => rfl
      | ⟨2, _⟩ => exact Nat.zero_add _
      | ⟨3, _⟩ => exact Nat.zero_add _)
  rw [hx]
  show _ = tileAt x5 x6 ⟨e, he⟩ ⟨d, _⟩ q l.val
  unfold tileAt
  rw [if_neg (c := (d : ℕ) = 15) (by omega), hg]

/-- The row of masks is its block of the table. -/
theorem mask_piece (x5 : S2x16x32.Idx → EReal) (x6 : S32x128.Idx → EReal) (e : ℕ)
    (inb : ∀ a, (![e, 15, 0, 0] : Fin 4 → ℕ) a + S1x1x64x128.size a ≤ S2x16x64x128.size a) (x : S1x1x64x128.Idx) :
    k0_pay25 (F := Ideal) x
      = tableOf x5 x6 ((Rect.unit (s := S2x16x64x128) ![e, 15, 0, 0] S1x1x64x128.size inb).emb x) := by
  unfold tableOf tileAt
  rw [if_pos ((ValueKit.rect_emb_unit_val _ _ _ _ 1).trans (by
    show 15 + (x 1).val = 15
    rw [show x 1 = (0 : Fin 1) from Fin.fin_one_eq_zero _]; rfl))]
  exact mask_bot

variable (c : Dev nD) (arg7 : Memref sig Kind.tc Space.vmem S2x16x32 EltTy.f32) (harg7 : arg7.IsWhole)
  (arg8 : Memref sig Kind.tc Space.vmem S32x128 EltTy.f32) (harg8 : arg8.IsWhole)
  (arg12 : Memref sig Kind.tc Space.vmem S2x16x64x128 EltTy.f32)
  (x5 : Vec Ideal S2x16x32 EltTy.f32) (x6 : Vec Ideal S32x128 EltTy.f32)

/-- The expanded bias rows, from the blocks of the bias and of the one-hot table. -/
theorem expand_block (e : ℕ) (he : e < 2) (inb : ∀ a, (![e, 0, 0] : Fin 3 → ℕ) a + S1x16x32.size a ≤ S2x16x32.size a)
    (inb' : ∀ a, (![0, 0] : Fin 2 → ℕ) a + S32x128.size a ≤ S32x128.size a) (t : Fin 16) (l : Fin 128) :
    k0_pay4 (F := Ideal)
        (View.readAt (Elt Ideal) arg7.view (Rect.unit (s := S2x16x32) ![e, 0, 0] S1x16x32.size inb).toLoadRect (harg7.unread x5))
        (View.readAt (Elt Ideal) arg8.view (Rect.unit (s := S32x128) ![0, 0] S32x128.size inb').toLoadRect (harg8.unread x6))
        (ix2 t l)
      = gAt x5 x6 ⟨e, he⟩ t l := by
  rw [expand_apply]
  unfold gAt
  refine Finset.sum_congr rfl fun j _ => congrArg₂ (· * ·) ?_ ?_
  · refine (congrFun (harg7.read_unread x5) _).trans (congrArg x5 (funext fun a => Fin.ext ?_))
    refine (ValueKit.rect_emb_unit_val _ _ inb (ix3 0 t j) a).trans ?_
    match a with
    | ⟨0, _⟩ => rfl
    | ⟨1, _⟩ => exact Nat.zero_add _
    | ⟨2, _⟩ => exact Nat.zero_add _
  · refine (congrFun (harg8.read_unread x6) _).trans (congrArg x6 (funext fun a => Fin.ext ?_))
    refine (ValueKit.rect_emb_unit_val _ _ inb' (ix2 j l) a).trans ?_
    match a with
    | ⟨0, _⟩ => exact Nat.zero_add _
    | ⟨1, _⟩ => exact Nat.zero_add _

/-- The first head's rows, as stored. -/
theorem table_pieces0 : View.PiecesOf (Val := Elt Ideal) (tableOf x5 x6) (kernelRun0_A.sl.HS2_16 (F := Ideal) c arg7 harg7 arg8 harg8 x5 x6) := by
  have hg := expand_block arg7 harg7 arg8 harg8 x5 x6 0 (by omega) (by decide) (by decide)
  unfold kernelRun0_A.sl.HS2_16
  refine ⟨fun x => mask_piece x5 x6 0 (by decide) x, ?_⟩
  repeat' first
    | exact trivial
    | refine ⟨fun x => row_piece x5 x6 0 _ (by omega) (by omega) (by decide) _ hg (by decide) x, ?_⟩

/-- One stored row more: an index of the first head's half is in the row, or in an earlier one. -/
theorem cover_step {t : ℕ} {L : List (View.Piece (Elt Ideal) S2x16x64x128 EltTy.f32)} {y : S2x16x64x128.Idx}
    {inb : ∀ a, (![0, t, 0, 0] : Fin 4 → ℕ) a + S1x1x64x128.size a ≤ S2x16x64x128.size a}
    {w : (Rect.unit (s := S2x16x64x128) ![0, t, 0, 0] S1x1x64x128.size inb).shape.Idx → Elt Ideal EltTy.f32}
    (hy : (y 0).val = 0) (h1 : (y 1).val < t + 1) (h : (y 1).val < t → ∃ p ∈ L, y ∈ p.1.set) :
    ∃ p ∈ (⟨Rect.unit ![0, t, 0, 0] S1x1x64x128.size inb, w⟩ : View.Piece (Elt Ideal) S2x16x64x128 EltTy.f32) :: L, y ∈ p.1.set := by
  by_cases ht : (y 1).val < t
  · obtain ⟨p, hp, hyp⟩ := h ht
    exact ⟨p, List.mem_cons_of_mem _ hp, hyp⟩
  · have h2 : (y 2).val < 64 := (y 2).isLt
    have h3 : (y 3).val < 128 := (y 3).isLt
    refine ⟨_, List.mem_cons_self, (Rect.mem_set_unit (inb := inb)).2 fun a => ?_⟩
    match a with
    | ⟨0, _⟩ => exact ⟨Nat.zero_le _, show (y 0).val < 0 + 1 by omega⟩
    | ⟨1, _⟩ => exact ⟨show t ≤ (y 1).val by omega, show (y 1).val < t + 1 by omega⟩
    | ⟨2, _⟩ => exact ⟨Nat.zero_le _, show (y 2).val < 0 + 64 by omega⟩
    | ⟨3, _⟩ => exact ⟨Nat.zero_le _, show (y 3).val < 0 + 128 by omega⟩

/-- Every index of the first head's half of the table is stored by the first head's rows. -/
theorem table_cover0 (y : S2x16x64x128.Idx) (hy : (y 0).val = 0) :
    ∃ p ∈ kernelRun0_A.sl.HS2_16 (F := Ideal) c arg7 harg7 arg8 harg8 x5 x6, y ∈ p.1.set := by
  have h1 : (y 1).val < 15 + 1 := (y 1).isLt
  unfold kernelRun0_A.sl.HS2_16
  iterate 16 refine cover_step hy h1 fun h1 => ?_
  exact absurd h1 (Nat.not_lt_zero _)

/-- After the first head's rows the table's first half is there. -/
theorem table_half (y : S2x16x64x128.Idx) (hy : (y 0).val = 0) :
    View.canon (kernelRun0_A.sl.HS2_16 (F := Ideal) c arg7 harg7 arg8 harg8 x5 x6) y = tableOf x5 x6 y :=
  View.canon_apply_of_pieces (Val := Elt Ideal) _ _ (table_pieces0 c arg7 harg7 arg8 harg8 x5 x6).mem y (table_cover0 c arg7 harg7 arg8 harg8 x5 x6 y hy)

/-- All the rows, as stored. -/
theorem table_pieces : View.PiecesOf (Val := Elt Ideal) (tableOf x5 x6) (kernelRun0_A.sl.HS2_32 (F := Ideal) c arg7 harg7 arg8 harg8 x5 x6) := by
  have hg := expand_block arg7 harg7 arg8 harg8 x5 x6 1 (by omega) (by decide) (by decide)
  unfold kernelRun0_A.sl.HS2_32
  refine ⟨fun x => mask_piece x5 x6 1 (by decide) x, ?_⟩
  repeat' first
    | exact table_pieces0 c arg7 harg7 arg8 harg8 x5 x6
    | refine ⟨fun x => row_piece x5 x6 1 _ (by omega) (by omega) (by decide) _ hg (by decide) x, ?_⟩

/-- After all rows the whole table is there. -/
theorem table_whole (y : S2x16x64x128.Idx) :
    View.canon (kernelRun0_A.sl.HS2_32 (F := Ideal) c arg7 harg7 arg8 harg8 x5 x6) y = tableOf x5 x6 y :=
  View.canon_apply_of_pieces (Val := Elt Ideal) _ _ (table_pieces c arg7 harg7 arg8 harg8 x5 x6).mem y
    (View.cover_of_tiledL (s := S2x16x64x128) _ S1x1x64x128.size (by sl_kernel_rfl) y)

end Cert.Attention
end
-- ==== Proof.RefBand.lean ====
/- The reference's integer tables read at an index. -/
module

public import proofs.«01_k».proof.Proof.Spec
public import proofs.«01_k».proof.Proof.Gen.ReferenceIdeal.Read

@[expose] public section

noncomputable section

namespace Cert.Attention

open Idealize.ShloMosaic Idealize.ShloMosaic.ValueIdx Cert.ReferenceIdeal Cert.ReferenceIdeal.Read

/-- The band's row table, as the keys' gather reads it. -/
theorem row_table_k : ∀ (r : Fin 16) (i : Fin 8),
    (val_main_v27 (F := Ideal) (ix3 r i 0)).toInt.toNat = rowStart r.val + i.val := by decide

/-- The band's row table, as the values' gather reads it. -/
theorem row_table_v : ∀ (r : Fin 16) (i : Fin 8),
    (val_main_v34 (F := Ideal) (ix3 r i 0)).toInt.toNat = rowStart r.val + i.val := by decide

/-- The bias table's row for the band's row `i`. -/
theorem dr_table : ∀ (r : Fin 16) (i : Fin 8),
    (val_main_v72 (F := Ideal) (ix4 r 0 i 0)).toInt.toNat = rowStart r.val + i.val + 7 - r.val := by decide

set_option maxRecDepth 100000 in
/-- The bias table's column for a key in column `c`. -/
theorem dc_table : ∀ (q c : Fin 64),
    (val_main_v77 (F := Ideal) (ix4 0 q 0 c)).toInt.toNat = min (c.val + 15 - q.val) 30 := by decide

set_option maxRecDepth 100000 in
/-- The column window's mask. -/
theorem col_table : ∀ (q c : Fin 64),
    val_main_v52 (F := Ideal) (ix2 q c) = if ColIn q.val c.val then 1#1 else 0#1 := by decide

end Cert.Attention
end
-- ==== Proof.RefValue.lean ====
/- The reference read at an index: its scores, its weights and its output. -/
module

public import proofs.«01_k».proof.Proof.RefBand
public import Idealize.ShloMosaic.Lib.TwoAxisContraction

@[expose] public section

noncomputable section

namespace Cert.Attention

open Idealize.ShloMosaic Idealize.ShloMosaic.ValueIdx Cert.ReferenceIdeal Cert.ReferenceIdeal.Read

variable (x0 : Proj) (x1 x2 : Cache) (x3 : Bias)

/-- Row `i` of the band of a query in image row `r`. -/
abbrev bandRow (r : Fin 16) (i : Fin 8) : Fin 16 :=
  ⟨rowStart r.val + i.val, by have : rowStart r.val ≤ 8 := Nat.min_le_right _ _; omega⟩

/-- A gather's start on an axis that the start indices name. -/
theorem gather_start {s si t : Shape} (d : GatherDims s si t) (j : t.Idx) (idx : IVec si 32) (a : Fin s.rank)
    (ha : a ∈ d.startIndexMap) (k : si.Idx) (hk : d.siIdx j ⟨d.startIndexMap.idxOf a, List.idxOf_lt_length_iff.2 ha⟩ = k) :
    d.start j idx a = min (idx k).toInt.toNat (s.size a - d.sliceSizes a) := by
  unfold GatherDims.start; rw [dif_pos ha, hk]

/-- The gather of band rows reads the row that the table names. -/
theorem gather_band (x : S4x8x16x64x64.Idx → EReal) (idx : IVec S16x8x1 32)
    (ht : ∀ (r : Fin 16) (i : Fin 8), (idx (ix3 r i 0)).toInt.toNat = rowStart r.val + i.val)
    (b : Fin 4) (h : Fin 8) (r : Fin 16) (i : Fin 8) (c d : Fin 64) :
    Host.gather gather_S4x8x16x64x64_S16x8x1_S4x8x16x8x64x64_0145_2_n_n_2_2_4816464 x idx (ix6 b h r i c d)
      = x (ix5 b h (bandRow r i) c d) := by
  have e := gather_start gather_S4x8x16x64x64_S16x8x1_S4x8x16x8x64x64_0145_2_n_n_2_2_4816464 (ix6 b h r i c d) idx
    (2 : Fin 5) (by decide) (ix3 r i 0) (by
      funext e; refine Fin.ext ?_
      match e with
      | ⟨0, _⟩ => rfl
      | ⟨1, _⟩ => rfl
      | ⟨2, _⟩ => rfl)
  have e' := ht r i
  have e'' : rowStart r.val ≤ 8 := Nat.min_le_right _ _
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil]
  match a with
  | ⟨0, _⟩ => exact Nat.zero_add _
  | ⟨1, _⟩ => exact Nat.zero_add _
  | ⟨3, _⟩ => exact Nat.zero_add _
  | ⟨4, _⟩ => exact Nat.zero_add _
  | ⟨2, _⟩ =>
    rw [GatherDims.offCoord_eq_zero _ _ _ (show (2 : Fin 5) ∉ _ by decide)]
    refine (congrArg (· + 0 + 0) e).trans ?_
    rw [e']
    show min (rowStart r.val + i.val) (16 - 1) + 0 + 0 = rowStart r.val + i.val
    omega

/-- The grid's index, flattened over the image. -/
theorem idx_grid (b : Fin 4) (h : Fin 8) (r : Fin 16) (q d : Fin 64) :
    idx_main_v9 (ix5 b h r q d) = ix4 b h (tok r q) d := by
  funext a; refine Fin.ext ?_
  match a with
  | ⟨0, _⟩ => show _ = b.val; dsimp [idx_main_v9]; omega
  | ⟨1, _⟩ => show _ = h.val; dsimp [idx_main_v9]; omega
  | ⟨2, _⟩ => show _ = r.val * 64 + q.val; dsimp [idx_main_v9]; omega
  | ⟨3, _⟩ => show _ = d.val; dsimp [idx_main_v9]; omega

/-- The heads joined into the lanes of a token. -/
theorem idx_heads (b : Fin 4) (n : Fin 1024) (h : Fin 8) (d : Fin 64) :
    idx_main_v1 (ix4 b n h d) = ix3 b n (⟨h.val * 64 + d.val, by omega⟩ : Fin 512) := by
  funext a; refine Fin.ext ?_
  match a with
  | ⟨0, _⟩ => show _ = b.val; dsimp [idx_main_v1]; omega
  | ⟨1, _⟩ => show _ = n.val; dsimp [idx_main_v1]; omega
  | ⟨2, _⟩ => show _ = h.val * 64 + d.val; dsimp [idx_main_v1]; omega

/-- The transpose of heads and tokens. -/
theorem idx_swap (b : Fin 4) (n : Fin 1024) (h : Fin 8) (d : Fin 64) : idx_main_v2 (ix4 b h n d) = ix4 b n h d := by
  funext a
  match a with
  | ⟨0, _⟩ => rfl
  | ⟨1, _⟩ => rfl
  | ⟨2, _⟩ => rfl
  | ⟨3, _⟩ => rfl

/-- The queries as a grid. -/
theorem q_grid (b : Fin 4) (h : Fin 8) (r : Fin 16) (q d : Fin 64) :
    val_main_v9 (F := Ideal) x0 (ix5 b h r q d) = x0 (ix3 b (tok r q) (lane 0 h d)) := by
  rw [val_main_v9_apply, idx_grid, val_main_v2_apply, idx_swap, val_main_v1_apply, idx_heads, val_main_v0_apply]
  refine congrArg x0 (funext fun a => Fin.ext ?_)
  match a with
  | ⟨0, _⟩ => rfl
  | ⟨1, _⟩ => rfl
  | ⟨2, _⟩ => show _ = 0 * 512 + h.val * 64 + d.val; dsimp [idx_main_v0]; omega

/-- The keys as a grid. -/
theorem k_grid (b : Fin 4) (h : Fin 8) (r : Fin 16) (q d : Fin 64) :
    val_main_v10 (F := Ideal) x0 (ix5 b h r q d) = x0 (ix3 b (tok r q) (lane 1 h d)) := by
  rw [val_main_v10_apply, show idx_main_v10 (ix5 b h r q d) = _ from idx_grid b h r q d, val_main_v5_apply,
    show idx_main_v5 (ix4 b h (tok r q) d) = _ from idx_swap b (tok r q) h d, val_main_v4_apply,
    show idx_main_v4 (ix4 b (tok r q) h d) = _ from idx_heads b (tok r q) h d, val_main_v3_apply]
  refine congrArg x0 (funext fun a => Fin.ext ?_)
  match a with
  | ⟨0, _⟩ => rfl
  | ⟨1, _⟩ => rfl
  | ⟨2, _⟩ => show _ = 1 * 512 + h.val * 64 + d.val; dsimp [idx_main_v3]; omega

/-- The values as a grid. -/
theorem v_grid (b : Fin 4) (h : Fin 8) (r : Fin 16) (q d : Fin 64) :
    val_main_v11 (F := Ideal) x0 (ix5 b h r q d) = x0 (ix3 b (tok r q) (lane 2 h d)) := by
  rw [val_main_v11_apply, show idx_main_v11 (ix5 b h r q d) = _ from idx_grid b h r q d, val_main_v8_apply,
    show idx_main_v8 (ix4 b h (tok r q) d) = _ from idx_swap b (tok r q) h d, val_main_v7_apply,
    show idx_main_v7 (ix4 b (tok r q) h d) = _ from idx_heads b (tok r q) h d, val_main_v6_apply]
  refine congrArg x0 (funext fun a => Fin.ext ?_)
  match a with
  | ⟨0, _⟩ => rfl
  | ⟨1, _⟩ => rfl
  | ⟨2, _⟩ => show _ = 2 * 512 + h.val * 64 + d.val; dsimp [idx_main_v6]; omega

/-- The index pairs of the bias: first the row table. -/
theorem pair_row (r : Fin 16) (q : Fin 64) (i : Fin 8) (c : Fin 64) :
    val_main_v82 (F := Ideal) (ix5 r q i c (0 : Fin 2)) = val_main_v72 (F := Ideal) (ix4 r 0 i 0) := by
  unfold val_main_v82
  refine (concatenate_pair_apply_left (s₁ := S16x64x8x64x1) (s₂ := S16x64x8x64x1) (t := S16x64x8x64x2) (4 : Fin 5)
    (val_main_v80 (F := Ideal)) (val_main_v81 (F := Ideal)) Gen.concatenates_S16x64x8x64x1_S16x64x8x64x1_S16x64x8x64x2_d4
    (ix5 r q i c (0 : Fin 2)) rfl (ix5 r q i c (0 : Fin 1)) fun b => ?_).trans ?_
  · match b with
    | ⟨0, _⟩ => rfl
    | ⟨1, _⟩ => rfl
    | ⟨2, _⟩ => rfl
    | ⟨3, _⟩ => rfl
    | ⟨4, _⟩ => rfl
  rw [val_main_v80_apply, val_main_v78_apply]
  refine congrArg (val_main_v72 (F := Ideal)) (funext fun a => ?_)
  match a with
  | ⟨0, _⟩ => rfl
  | ⟨1, _⟩ => rfl
  | ⟨2, _⟩ => rfl
  | ⟨3, _⟩ => rfl

/-- The index pairs of the bias: second the column table. -/
theorem pair_col (r : Fin 16) (q : Fin 64) (i : Fin 8) (c : Fin 64) :
    val_main_v82 (F := Ideal) (ix5 r q i c (1 : Fin 2)) = val_main_v77 (F := Ideal) (ix4 0 q 0 c) := by
  unfold val_main_v82
  refine (concatenate_pair_apply_right (s₁ := S16x64x8x64x1) (s₂ := S16x64x8x64x1) (t := S16x64x8x64x2) (4 : Fin 5)
    (val_main_v80 (F := Ideal)) (val_main_v81 (F := Ideal)) Gen.concatenates_S16x64x8x64x1_S16x64x8x64x1_S16x64x8x64x2_d4
    (ix5 r q i c (1 : Fin 2)) rfl rfl (ix5 r q i c (0 : Fin 1)) (fun b hb => ?_) rfl).trans ?_
  · match b with
    | ⟨0, _⟩ => rfl
    | ⟨1, _⟩ => rfl
    | ⟨2, _⟩ => rfl
    | ⟨3, _⟩ => rfl
    | ⟨4, _⟩ => exact absurd rfl hb
  rw [val_main_v81_apply, val_main_v79_apply]
  refine congrArg (val_main_v77 (F := Ideal)) (funext fun a => ?_)
  match a with
  | ⟨0, _⟩ => rfl
  | ⟨1, _⟩ => rfl
  | ⟨2, _⟩ => rfl
  | ⟨3, _⟩ => rfl

/-- A gather of bias entries reads the row and the column that the index pairs name. -/
theorem gather_pair (idx : IVec S16x64x8x64x2 32) (h : Fin 8) (r : Fin 16) (q : Fin 64) (i : Fin 8) (c : Fin 64) (m n : ℕ)
    (hm : (idx (ix5 r q i c (0 : Fin 2))).toInt.toNat = m) (hn : (idx (ix5 r q i c (1 : Fin 2))).toInt.toNat = n) :
    Host.gather gather_S8x15x31_S16x64x8x64x2_S8x16x64x8x64_0_12_n_n_12_4_811 x3 idx (ix5 h r q i c)
      = x3 (ix3 h ⟨min m 14, by omega⟩ ⟨min n 30, by omega⟩) := by
  have e1 := gather_start gather_S8x15x31_S16x64x8x64x2_S8x16x64x8x64_0_12_n_n_12_4_811 (ix5 h r q i c) idx
    (1 : Fin 3) (by decide) (ix5 r q i c (0 : Fin 2)) (by
      funext e; refine Fin.ext ?_
      match e with
      | ⟨0, _⟩ => rfl
      | ⟨1, _⟩ => rfl
      | ⟨2, _⟩ => rfl
      | ⟨3, _⟩ => rfl
      | ⟨4, _⟩ => rfl)
  have e2 := gather_start gather_S8x15x31_S16x64x8x64x2_S8x16x64x8x64_0_12_n_n_12_4_811 (ix5 h r q i c) idx
    (2 : Fin 3) (by decide) (ix5 r q i c (1 : Fin 2)) (by
      funext e; refine Fin.ext ?_
      match e with
      | ⟨0, _⟩ => rfl
      | ⟨1, _⟩ => rfl
      | ⟨2, _⟩ => rfl
      | ⟨3, _⟩ => rfl
      | ⟨4, _⟩ => rfl)
  rw [hm] at e1
  rw [hn] at e2
  unfold Host.gather
  refine congrArg x3 (funext fun a => Fin.ext ?_)
  show GatherDims.start _ _ _ a + GatherDims.batchCoord _ _ a + GatherDims.offCoord _ _ a = _
  rw [GatherDims.batchCoord_eq_zero _ _ _ List.not_mem_nil]
  match a with
  | ⟨0, _⟩ => exact Nat.zero_add _
  | ⟨1, _⟩ =>
    rw [GatherDims.offCoord_eq_zero _ _ _ (show (1 : Fin 3) ∉ _ by decide)]
    exact congrArg (· + 0 + 0) e1
  | ⟨2, _⟩ =>
    rw [GatherDims.offCoord_eq_zero _ _ _ (show (2 : Fin 3) ∉ _ by decide)]
    exact congrArg (· + 0 + 0) e2

/-- The gather of the bias table reads its row and column tables. -/
theorem gather_bias (h : Fin 8) (r : Fin 16) (q : Fin 64) (i : Fin 8) (c : Fin 64) :
    val_main_v83 (F := Ideal) x3 (ix5 h r q i c) = bias x3 h r.val q.val (rowStart r.val + i.val) c.val := by
  unfold val_main_v83 bias
  rw [gather_pair x3 _ h r q i c _ _ ((congrArg _ (congrArg _ (pair_row r q i c))).trans (dr_table r i))
    ((congrArg _ (congrArg _ (pair_col r q i c))).trans (dc_table q c))]
  refine congrArg x3 (funext fun a => Fin.ext ?_)
  match a with
  | ⟨0, _⟩ => rfl
  | ⟨1, _⟩ => rfl
  | ⟨2, _⟩ => show min (min (c.val + 15 - q.val) 30) 30 = min (c.val + 15 - q.val) 30; omega

/-- The literal `0.125` is one eighth. -/
theorem eighth : Ideal.ofBits .f32 0x3E000000#32 = scale := by
  unfold scale; simp [Ideal.ofBits, Ideal.ieee, -EReal.coe_mul]; norm_num

/-- The literal `-inf` is the least extended real. -/
theorem neg_inf : Ideal.ofBits .f32 0xFF800000#32 = ⊥ := by simp [Ideal.ofBits, Ideal.ieee]

/-- The masked scores of the band's keys. -/
theorem ref_local (b : Fin 4) (h : Fin 8) (r : Fin 16) (q : Fin 64) (i : Fin 8) (c : Fin 64) :
    val_main_v91 (F := Ideal) x0 x3 (ix6 b h r q i c)
      = if ColIn q.val c.val then local_ x0 x3 b h r q (bandRow r i) c else ⊥ := by
  have hmask : val_main_call3_v1 (F := Ideal) (ix6 b h r q i c) = if ColIn q.val c.val then 1#1 else 0#1 := by
    rw [val_main_call3_v1_apply, val_main_v87_apply, ← col_table]
    refine congrArg _ (funext fun a => ?_)
    match a with
    | ⟨0, _⟩ => rfl
    | ⟨1, _⟩ => rfl
  have hdot : val_main_v86 (F := Ideal) x0 (ix6 b h r q i c)
      = (∑ d : Fin 64, x0 (ix3 b (tok r q) (lane 0 h d)) * x0 (ix3 b (tok (bandRow r i) c) (lane 1 h d))) * scale := by
    rw [val_main_v86_apply, val_main_v84_apply, val_main_v85_apply, val_main_cst_apply, Ideal.ofBits_def, eighth]
    refine congrArg (· * scale) (Finset.sum_congr rfl fun d _ => congrArg₂ (· * ·) ?_ ?_)
    · rw [← q_grid x0]
      refine congrArg _ (funext fun a => ?_)
      match a with
      | ⟨0, _⟩ => rfl
      | ⟨1, _⟩ => rfl
      | ⟨2, _⟩ => rfl
      | ⟨3, _⟩ => rfl
      | ⟨4, _⟩ => rfl
    · rw [← k_grid x0, ← gather_band (val_main_v10 (F := Ideal) x0) _ row_table_k]
      refine congrArg (val_main_v28 (F := Ideal) x0) (funext fun a => ?_)
      match a with
      | ⟨0, _⟩ => rfl
      | ⟨1, _⟩ => rfl
      | ⟨2, _⟩ => rfl
      | ⟨3, _⟩ => rfl
      | ⟨4, _⟩ => rfl
      | ⟨5, _⟩ => rfl
  have hbias : val_main_v89 (F := Ideal) x3 (ix6 b h r q i c) = bias x3 h r.val q.val (rowStart r.val + i.val) c.val := by
    rw [val_main_v89_apply, val_main_v88_apply, ← gather_bias x3]
    refine congrArg _ (funext fun a => ?_)
    match a with
    | ⟨0, _⟩ => rfl
    | ⟨1, _⟩ => rfl
    | ⟨2, _⟩ => rfl
    | ⟨3, _⟩ => rfl
    | ⟨4, _⟩ => rfl
  rw [val_main_v91_apply, hmask, val_main_v90_apply, hdot, hbias, val_main_call3_v2_apply, val_main_call3_v0_apply,
    val_main_cst_18_apply, Ideal.ofBits_def, neg_inf]
  split
  · rfl
  · rfl

/-- The keys of a band of `n` rows and the cached keys, in their order along the last axis. -/
def keys (n : ℕ) : (Fin n × Fin 64) ⊕ Fin 256 ≃ Fin (n * 64 + 256) :=
  (finProdFinEquiv.sumCongr (Equiv.refl _)).trans finSumFinEquiv

theorem keys_inl {n : ℕ} (i : Fin n) (c : Fin 64) : (keys n (.inl (i, c))).val = i.val * 64 + c.val := by
  simp [keys, finProdFinEquiv]; ring

theorem keys_inr {n : ℕ} (j : Fin 256) : (keys n (.inr j)).val = n * 64 + j.val := by
  simp [keys]

end Cert.Attention
end
-- ==== Proof.KernelRow.lean ====
/- One block of 256 queries of one head, as the kernel computes it: the scores of the 768 keys of twelve image rows and of
   the 256 cached keys, their largest, and the values they weigh; read at an index. -/
module

public import proofs.«01_k».proof.Proof.KernelTable
public import proofs.«01_k».proof.Proof.RefValue

@[expose] public section

set_option maxRecDepth 16384

noncomputable section

namespace Cert.Attention

open Idealize.ShloMosaic Idealize.ShloMosaic.ValueIdx Cert.KernelIdeal Cert.KernelIdeal.Gen

/-- The scores of the keys of the image rows. -/
abbrev scoreL (qb : FVec Ideal S256x128 .bf16) (km : FVec Ideal S1x768x128 .bf16) (bi : FVec Ideal S1x1x256x768 .f32) :
    FVec Ideal S256x768 .f32 :=
  addf (matmul dot_S256x128_S768x128_S256x768_1_1_0_0_n_n none (shapeCast S256x128 qb Gen.shapeCasts_S256x128_S256x128)
      (shapeCast S768x128 km Gen.shapeCasts_S1x768x128_S768x128) (constant S256x768 .f32 0x00000000#32))
    (shapeCast S256x768 bi Gen.shapeCasts_S1x1x256x768_S256x768)

/-- The scores of the cached keys. -/
abbrev scoreC (qb : FVec Ideal S256x128 .bf16) (kc : FVec Ideal S256x128 .bf16) : FVec Ideal S256x256 .f32 :=
  matmul dot_S256x128_S256x128_S256x256_1_1_0_0_n_n none (shapeCast S256x128 qb Gen.shapeCasts_S256x128_S256x128) kc
    (constant S256x256 .f32 0x00000000#32)

/-- The largest score of each query. -/
abbrev topOf (sL : FVec Ideal S256x768 .f32) (sC : FVec Ideal S256x256 .f32) : FVec Ideal S256x1 .f32 :=
  maximumf
    (shapeCast S256x1 (multiReduction .maximumf [1] S256 sL 0xFF800000#32 Gen.reduces_S256x768_S256 (.inl rfl) rfl) Gen.shapeCasts_S256_S256x1)
    (shapeCast S256x1 (multiReduction .maximumf [1] S256 sC 0xFF800000#32 Gen.reduces_S256x256_S256 (.inl rfl) rfl) Gen.shapeCasts_S256_S256x1)

/-- The values, weighed by the unnormalised weights. -/
abbrev headOf (sL : FVec Ideal S256x768 .f32) (sC : FVec Ideal S256x256 .f32) (vm : FVec Ideal S1x768x128 .bf16)
    (vc : FVec Ideal S256x128 .bf16) : FVec Ideal S256x128 .f32 :=
  addf
    (matmul dot_S256x768_S768x128_S256x128_1_0_0_1_n_n none
      (truncf .bf16 (exp (subf sL (broadcastTo S256x768 (topOf sL sC) Gen.broadcasts_S256x1_S256x768))) Gen.bitsLt_bf16_f32)
      (shapeCast S768x128 vm Gen.shapeCasts_S1x768x128_S768x128) (constant S256x128 .f32 0x00000000#32))
    (matmul dot_S256x256_S256x128_S256x128_1_0_0_1_n_n none
      (truncf .bf16 (exp (subf sC (broadcastTo S256x256 (topOf sL sC) Gen.broadcasts_S256x1_S256x256))) Gen.bitsLt_bf16_f32)
      vc (constant S256x128 .f32 0x00000000#32))

/-- The cached keys or values of one head: the other head's lanes hold `x`. -/
abbrev maskCache (m : IVec S1x128 1) (x : Ideal .bf16) (r : FVec Ideal S1x256x128 .bf16) : FVec Ideal S256x128 .bf16 :=
  select (broadcastTo S256x128 (shapeCast S1x128 m Gen.shapeCasts_S1x128_S1x128) Gen.broadcasts_S1x128_S256x128)
    (shapeCast S256x128 r Gen.shapeCasts_S1x256x128_S256x128) (broadcast S256x128 x)

/-- The two heads side by side, normalised: a head's sum of weights stands in the other head's lanes. -/
abbrev blockOf (m : IVec S1x128 1) (o0 o1 : FVec Ideal S256x128 .f32) : FVec Ideal S256x128 .f32 :=
  mulf (select (broadcastTo S256x128 (shapeCast S1x128 m Gen.shapeCasts_S1x128_S1x128) Gen.broadcasts_S1x128_S256x128) o0 o1)
    (divf (broadcast S256x128 (Scalar.ofBits .f32 0x3F800000#32))
      (dynamicRotate 1 64#32 none
        (select (broadcastTo S256x128 (shapeCast S1x128 m Gen.shapeCasts_S1x128_S1x128) Gen.broadcasts_S1x128_S256x128) o1 o0)
        Gen.rotates_S256x128_d1))

/-- The two lanes masks. -/
theorem half_table : ∀ l : Fin 128, k0_pay286 (ix2 0 l) = (if l.val < 64 then 1#1 else 0#1)
    ∧ k0_pay287 (ix2 0 l) = (if l.val < 64 then 0#1 else 1#1) := by decide

/-- A lane mask spread over the rows. -/
theorem spread_apply {n : ℕ} (m : IVec S1x128 1) (h : S1x128.Broadcasts ⟨2, ![n, 128]⟩) (q : Fin n) (l : Fin 128) :
    broadcastTo ⟨2, ![n, 128]⟩ (shapeCast S1x128 m Gen.shapeCasts_S1x128_S1x128) h (ix2 q l) = m (ix2 0 l) := by
  refine (broadcastTo_apply _ _ _ (ix2 0 l) fun a => ?_).trans (shapeCast_apply _ _ _ _ rfl)
  match a with
  | ⟨0, _⟩ => rfl
  | ⟨1, _⟩ => rfl

theorem scoreL_apply (qb : FVec Ideal S256x128 .bf16) (km : FVec Ideal S1x768x128 .bf16) (bi : FVec Ideal S1x1x256x768 .f32)
    (q : Fin 256) (k : Fin 768) :
    scoreL qb km bi (ix2 q k) = (∑ l : Fin 128, qb (ix2 q l) * km (ix3 0 k l)) + bi (ix4 0 0 q k) := by
  refine (addf_apply _ _ _).trans (congrArg₂ (· + ·) ?_ ?_)
  · refine (Ideal.matmul_constant_zero_apply _ none _ _ _).trans ((sum_contr _ 128 rfl rfl _).trans ?_)
    refine Finset.sum_congr rfl fun l _ => congrArg₂ (· * ·) ?_ ?_
    · refine (shapeCast_apply _ _ _ _ rfl).trans (congrArg qb (funext fun a => Fin.ext ?_))
      match a with
      | ⟨0, _⟩ => rfl
      | ⟨1, _⟩ => exact contrEquiv1_symm_val dot_S256x128_S768x128_S256x768_1_1_0_0_n_n 128 rfl rfl l
    · refine shapeCast_apply _ _ _ _ ?_
      rw [Shape.rowMajor_val_three, Shape.rowMajor_val_two]
      show (0 * 768 + k.val) * 128 + l.val = k.val * 128 + _
      rw [Nat.zero_mul, Nat.zero_add]
      exact congrArg (k.val * 128 + ·) (contrEquiv1_symm_val dot_S256x128_S768x128_S256x768_1_1_0_0_n_n 128 rfl rfl l).symm
  · refine shapeCast_apply _ _ _ _ ?_
    rw [Shape.rowMajor_val_two, Shape.rowMajor_val_four]
    show ((0 * 1 + 0) * 256 + q.val) * 768 + k.val = q.val * 768 + k.val
    omega

theorem scoreC_apply (qb : FVec Ideal S256x128 .bf16) (kc : FVec Ideal S256x128 .bf16) (q j : Fin 256) :
    scoreC qb kc (ix2 q j) = ∑ l : Fin 128, qb (ix2 q l) * kc (ix2 j l) := by
  refine (Ideal.matmul_constant_zero_apply _ none _ _ _).trans ((sum_contr _ 128 rfl rfl _).trans ?_)
  refine Finset.sum_congr rfl fun l _ => congrArg₂ (· * ·) ?_ (congrArg kc (funext fun a => Fin.ext ?_))
  · refine (shapeCast_apply _ _ _ _ rfl).trans (congrArg qb (funext fun a => Fin.ext ?_))
    match a with
    | ⟨0, _⟩ => rfl
    | ⟨1, _⟩ => exact contrEquiv1_symm_val dot_S256x128_S256x128_S256x256_1_1_0_0_n_n 128 rfl rfl l
  · match a with
    | ⟨0, _⟩ => rfl
    | ⟨1, _⟩ => exact contrEquiv1_symm_val dot_S256x128_S256x128_S256x256_1_1_0_0_n_n 128 rfl rfl l

/-- The largest entry of a row. -/
theorem rowMax_apply {n : ℕ} (s : FVec Ideal ⟨2, ![256, n]⟩ .f32) (h : (⟨2, ![256, n]⟩ : Shape).Reduces [(1 : Fin 2)] S256) (q : Fin 256) :
    shapeCast S256x1 (multiReduction .maximumf [1] S256 s 0xFF800000#32 h (.inl rfl) rfl) Gen.shapeCasts_S256_S256x1 (ix2 q 0)
      = Finset.univ.sup fun k : Fin n => s (ix2 q k) := by
  refine (shapeCast_apply _ _ _ (ix1 q) (by
    rw [Shape.rowMajor_val_one, Shape.rowMajor_val_two]; show q.val = q.val * 1 + 0; omega)).trans ?_
  refine (Ideal.multiReduction_maximumf_single s _ h _ _ (ix1 q)).trans ?_
  rw [Ideal.ofBits_def, neg_inf]
  refine Finset.sup_congr rfl fun k _ => congrArg s (funext fun a => Fin.ext ?_)
  match a with
  | ⟨0, _⟩ => rfl
  | ⟨1, _⟩ => rfl

theorem topOf_apply (sL : FVec Ideal S256x768 .f32) (sC : FVec Ideal S256x256 .f32) (q : Fin 256) :
    topOf sL sC (ix2 q 0) = (Finset.univ.sup fun k : Fin 768 => sL (ix2 q k)) ⊔ Finset.univ.sup fun j : Fin 256 => sC (ix2 q j) :=
  (maximumf_apply _ _ _).trans (congrArg₂ (· ⊔ ·) (rowMax_apply sL _ q) (rowMax_apply sC _ q))

/-- The keys a block reads, in the order the kernel holds them. -/
def blockKey : Fin 12 × Fin 64 ≃ Fin 768 := finProdFinEquiv

theorem blockKey_val (k : Fin 12 × Fin 64) : (blockKey k).val = k.1.val * 64 + k.2.val := by
  show k.2.val + 64 * k.1.val = _
  omega

/-- One head's block at an index, where its scores are `s` and its values `v`. -/
theorem headOf_apply (sL : FVec Ideal S256x768 .f32) (sC : FVec Ideal S256x256 .f32) (vm : FVec Ideal S1x768x128 .bf16)
    (vc : FVec Ideal S256x128 .bf16) (q : Fin 256) (l : Fin 128) (s v : (Fin 12 × Fin 64) ⊕ Fin 256 → EReal)
    (hsL : ∀ k, sL (ix2 q (blockKey k)) = s (.inl k)) (hsC : ∀ j, sC (ix2 q j) = s (.inr j))
    (hvL : ∀ k, vm (ix3 0 (blockKey k) l) = v (.inl k)) (hvC : ∀ j, vc (ix2 j l) = v (.inr j)) :
    headOf sL sC vm vc (ix2 q l) = ∑ k, weight s k * v k := by
  have htop : topOf sL sC (ix2 q 0) = top s := by
    rw [topOf_apply, ← Finset.map_univ_equiv blockKey, Finset.sup_map]
    unfold top
    rw [← Finset.univ_disjSum_univ, Finset.sup_disjSum]
    exact congrArg₂ (· ⊔ ·) (Finset.sup_congr rfl fun k _ => hsL k) (Finset.sup_congr rfl fun j _ => hsC j)
  rw [Fintype.sum_sum_type]
  refine (addf_apply _ _ _).trans (congrArg₂ (· + ·) ?_ ?_)
  · refine (Ideal.matmul_constant_zero_apply _ none _ _ _).trans ((sum_contr _ 768 rfl rfl _).trans ?_)
    refine (Equiv.sum_comp blockKey _).symm.trans (Finset.sum_congr rfl fun k _ => congrArg₂ (· * ·) ?_ ?_)
    · unfold weight
      rw [← hsL k, ← htop]
      refine congrArg Ideal.exp (congrArg₂ (· - ·) (congrArg sL (funext fun a => Fin.ext ?_)) (broadcastTo_apply _ _ _ _ fun a => ?_))
      · match a with
        | ⟨0, _⟩ => rfl
        | ⟨1, _⟩ => exact contrEquiv1_symm_val dot_S256x768_S768x128_S256x128_1_0_0_1_n_n 768 rfl rfl (blockKey k)
      · match a with
        | ⟨0, _⟩ => rfl
        | ⟨1, _⟩ => rfl
    · rw [← hvL k]
      refine shapeCast_apply _ _ _ _ ?_
      rw [Shape.rowMajor_val_three, Shape.rowMajor_val_two]
      show (0 * 768 + (blockKey k).val) * 128 + l.val = _ * 128 + l.val
      rw [Nat.zero_mul, Nat.zero_add]
      exact congrArg (· * 128 + l.val) (contrEquiv1_symm_val dot_S256x768_S768x128_S256x128_1_0_0_1_n_n 768 rfl rfl (blockKey k)).symm
  · refine (Ideal.matmul_constant_zero_apply _ none _ _ _).trans ((sum_contr _ 256 rfl rfl _).trans ?_)
    refine Finset.sum_congr rfl fun j _ => congrArg₂ (· * ·) ?_ ?_
    · unfold weight
      rw [← hsC j, ← htop]
      refine congrArg Ideal.exp (congrArg₂ (· - ·) (congrArg sC (funext fun a => Fin.ext ?_)) (broadcastTo_apply _ _ _ _ fun a => ?_))
      · match a with
        | ⟨0, _⟩ => rfl
        | ⟨1, _⟩ => exact contrEquiv1_symm_val dot_S256x256_S256x128_S256x128_1_0_0_1_n_n 256 rfl rfl j
      · match a with
        | ⟨0, _⟩ => rfl
        | ⟨1, _⟩ => rfl
    · rw [← hvC j]
      refine congrArg vc (funext fun a => Fin.ext ?_)
      match a with
      | ⟨0, _⟩ => exact contrEquiv1_symm_val dot_S256x256_S256x128_S256x128_1_0_0_1_n_n 256 rfl rfl j
      | ⟨1, _⟩ => rfl

/-- A head's cached keys or values at an index. -/
theorem maskCache_apply (m : IVec S1x128 1) (x : Ideal .bf16) (r : FVec Ideal S1x256x128 .bf16) (j : Fin 256) (l : Fin 128) :
    maskCache m x r (ix2 j l) = if m (ix2 0 l) = 1#1 then r (ix3 0 j l) else x := by
  refine (select_apply _ _ _ _).trans ?_
  rw [spread_apply]
  have h : shapeCast S256x128 r Gen.shapeCasts_S1x256x128_S256x128 (ix2 j l) = r (ix3 0 j l) :=
    shapeCast_apply _ _ _ _ (by
      rw [Shape.rowMajor_val_three, Shape.rowMajor_val_two]
      show (0 * 256 + j.val) * 128 + l.val = j.val * 128 + l.val
      omega)
  rw [h]
  rfl

/-- The normalised block at an index: lane `l` of a head's own half, over the sum in the other half. -/
theorem blockOf_apply (o0 o1 : FVec Ideal S256x128 .f32) (q : Fin 256) (l : Fin 128) :
    blockOf k0_pay286 o0 o1 (ix2 q l)
      = (if l.val < 64 then o0 else o1) (ix2 q l)
        * Ideal.div 1 ((if l.val < 64 then o0 else o1) (ix2 q ⟨(l.val + 64) % 128, Nat.mod_lt _ (by omega)⟩)) := by
  refine (mulf_apply _ _ _).trans (congrArg₂ (· * ·) ?_ ?_)
  · refine (select_apply _ _ _ _).trans ?_
    rw [spread_apply, (half_table l).1]
    split
    · rfl
    · rfl
  · refine (divf_apply _ _ _).trans (congrArg₂ Ideal.div ?_ ?_)
    · show Ideal.ofBits .f32 0x3F800000#32 = 1
      simp [Ideal.ofBits, Ideal.ieee, -EReal.coe_mul]; norm_num
    · refine (dynamicRotate_apply 1 _ _ _ _ (ix2 q ⟨(l.val + 64) % 128, Nat.mod_lt _ (by omega)⟩) fun a => ?_).trans ?_
      · match a with
        | ⟨0, _⟩ => rfl
        | ⟨1, _⟩ => show (l.val + 64) % 128 = (l.val + 128 - 64 % 128) % 128; omega
      · refine (select_apply _ _ _ _).trans ?_
        rw [spread_apply, (half_table _).1]
        by_cases hl : l.val < 64
        · rw [if_pos hl, if_neg (show ¬ (l.val + 64) % 128 < 64 by omega)]
          rfl
        · rw [if_neg hl, if_pos (show (l.val + 64) % 128 < 64 by omega)]
          rfl

end Cert.Attention
end
-- ==== Proof.KernelKeys.lean ====
/- The kernel's two buffers of keys and of values: for each head of a pair, the pair's lanes with the other head's half
   holding a constant (0 in the keys, so that a product over all lanes is a product over the head's; 1 in the values, so
   that the other half of a weighed sum is the sum of the weights). -/
module

public import proofs.«01_k».proof.Proof.KernelRow

@[expose] public section

set_option maxRecDepth 16384

noncomputable section

namespace Cert.Attention

open Idealize.ShloMosaic Idealize.ShloMosaic.ValueIdx Idealize.ShloMosaic.Tactic Cert.KernelIdeal Cert.KernelIdeal.Gen

/-- A buffer of both heads' rows: head `e` keeps its own half of the lanes, the other half holds `z`. -/
def halfOf (x : S4096x128.Idx → EReal) (z : EReal) : S2x4096x128.Idx → EReal := fun y =>
  if (y 2).val / 64 = (y 0).val then x (ix2 (y 1) (y 2)) else z

/-- One head's rows, as stored. -/
abbrev halfRows (m : IVec S1x128 1) (z : Ideal .bf16) (r : FVec Ideal S4096x128 .bf16) : FVec Ideal S1x4096x128 .bf16 :=
  shapeCast S1x4096x128
    (select (broadcastTo S4096x128 (shapeCast S1x128 m Gen.shapeCasts_S1x128_S1x128) Gen.broadcasts_S1x128_S4096x128)
      (shapeCast S4096x128 r Gen.shapeCasts_S4096x128_S4096x128) (broadcast S4096x128 z))
    Gen.shapeCasts_S4096x128_S1x4096x128

/-- Which lanes head `e` keeps. -/
def maskOf (e : Fin 2) : IVec S1x128 1 := if e = 0 then k0_pay286 else k0_pay287

theorem maskOf_apply (e : Fin 2) (l : Fin 128) : maskOf e (ix2 0 l) = if l.val / 64 = e.val then 1#1 else 0#1 := by
  have h := half_table l
  match e with
  | ⟨0, _⟩ =>
    refine h.1.trans ?_
    by_cases hl : l.val < 64
    · rw [if_pos hl, if_pos (show l.val / 64 = 0 by omega)]
    · rw [if_neg hl, if_neg (show ¬ l.val / 64 = 0 by omega)]
  | ⟨1, _⟩ =>
    refine h.2.trans ?_
    by_cases hl : l.val < 64
    · rw [if_pos hl, if_neg (show ¬ l.val / 64 = 1 by omega)]
    · rw [if_neg hl, if_pos (show l.val / 64 = 1 by omega)]

/-- One head's rows are its half of the buffer. -/
theorem half_piece (x : S4096x128.Idx → EReal) (z : EReal) (e : Fin 2) (m : IVec S1x128 1) (hm : m = maskOf e) (r : FVec Ideal S4096x128 .bf16)
    (hr : ∀ n l, r (ix2 n l) = x (ix2 n l))
    (inb : ∀ a, (![e.val, 0, 0] : Fin 3 → ℕ) a + S1x4096x128.size a ≤ S2x4096x128.size a) (y : S1x4096x128.Idx) :
    halfRows m z r y = halfOf x z ((Rect.unit (s := S2x4096x128) ![e.val, 0, 0] S1x4096x128.size inb).emb y) := by
  subst hm
  obtain ⟨n, l, rfl⟩ : ∃ (n : Fin 4096) (l : Fin 128), y = ix3 0 n l := ⟨y 1, y 2, funext fun a => by
    match a with
    | ⟨0, _⟩ => exact Fin.fin_one_eq_zero (y 0)
    | ⟨1, _⟩ => rfl
    | ⟨2, _⟩ => rfl⟩
  have hx : (Rect.unit (s := S2x4096x128) ![e.val, 0, 0] S1x4096x128.size inb).emb (ix3 0 n l) = ix3 e n l :=
    funext fun a => Fin.ext <| (ValueKit.rect_emb_unit_val _ _ inb (ix3 0 n l) a).trans (by
      match a with
      | ⟨0, _⟩ => rfl
      | ⟨1, _⟩ => exact Nat.zero_add _
      | ⟨2, _⟩ => exact Nat.zero_add _)
  rw [hx]
  refine (shapeCast_apply _ _ _ (ix2 n l) (by
    rw [Shape.rowMajor_val_two, Shape.rowMajor_val_three]
    show n.val * 128 + l.val = (0 * 4096 + n.val) * 128 + l.val
    omega)).trans ?_
  rw [select_apply, spread_apply, maskOf_apply]
  show _ = if l.val / 64 = e.val then x (ix2 n l) else z
  split
  · exact (shapeCast_apply _ _ _ _ rfl).trans (hr n l)
  · rfl

/-- The whole block of a window, read where it lies. -/
theorem read_all (arg : Memref sig Kind.tc Space.vmem S4096x128 EltTy.bf16) (harg : arg.IsWhole) (x : Vec Ideal S4096x128 EltTy.bf16)
    (inb : ∀ a, (![0, 0] : Fin 2 → ℕ) a + S4096x128.size a ≤ S4096x128.size a) (n : Fin 4096) (l : Fin 128) :
    View.readAt (Elt Ideal) arg.view (Rect.unit (s := S4096x128) ![0, 0] S4096x128.size inb).toLoadRect (harg.unread x) (ix2 n l)
      = x (ix2 n l) := by
  refine (congrFun (harg.read_unread x) _).trans (congrArg x (funext fun a => Fin.ext ?_))
  refine (ValueKit.rect_emb_unit_val _ _ inb (ix2 n l) a).trans ?_
  match a with
  | ⟨0, _⟩ => exact Nat.zero_add _
  | ⟨1, _⟩ => exact Nat.zero_add _

theorem zero_bf16 : Ideal.ofBits .bf16 0x0000#16 = 0 := by simp [Ideal.ofBits, Ideal.ieee]

theorem one_bf16 : Ideal.ofBits .bf16 0x3F80#16 = 1 := by
  simp [Ideal.ofBits, Ideal.ieee, -EReal.coe_mul]; norm_num

variable (c : Dev nD) (arg3 : Memref sig Kind.tc Space.vmem S4096x128 EltTy.bf16) (harg3 : arg3.IsWhole)
  (x1 : Vec Ideal S4096x128 EltTy.bf16)

/-- The buffer of keys. -/
theorem keys_whole (y : S2x4096x128.Idx) :
    View.canon (kernelRun0_A.sl.HS0_2 (F := Ideal) c arg3 harg3 x1) y = halfOf x1 0 y := by
  refine View.canon_apply_of_pieces (Val := Elt Ideal) _ _ (?_ : View.PiecesOf _ _).mem y
    (View.cover_of_tiledL (s := S2x4096x128) _ S1x4096x128.size (by sl_kernel_rfl) y)
  have hr := read_all arg3 harg3 x1 (by decide)
  rw [← zero_bf16]
  unfold kernelRun0_A.sl.HS0_2
  exact ⟨fun x => half_piece x1 _ 1 _ rfl _ hr (by decide) x, fun x => half_piece x1 _ 0 _ rfl _ hr (by decide) x, trivial⟩

/-- The buffer of values. -/
theorem values_whole (y : S2x4096x128.Idx) :
    View.canon (kernelRun0_A.sl.HS1_2 (F := Ideal) c arg3 harg3 x1) y = halfOf x1 1 y := by
  refine View.canon_apply_of_pieces (Val := Elt Ideal) _ _ (?_ : View.PiecesOf _ _).mem y
    (View.cover_of_tiledL (s := S2x4096x128) _ S1x4096x128.size (by sl_kernel_rfl) y)
  have hr := read_all arg3 harg3 x1 (by decide)
  rw [← one_bf16]
  unfold kernelRun0_A.sl.HS1_2
  exact ⟨fun x => half_piece x1 _ 1 _ rfl _ hr (by decide) x, fun x => half_piece x1 _ 0 _ rfl _ hr (by decide) x, trivial⟩

/-- Rows read back from such a buffer. -/
theorem half_load (arg10 : Memref sig Kind.tc Space.vmem S2x4096x128 EltTy.bf16) (L : List (View.Piece (Elt Ideal) S2x4096x128 EltTy.bf16))
    (x : S4096x128.Idx → EReal) (z : EReal) (hL : ∀ y, View.canon L y = halfOf x z y) (e : Fin 2) (k0 : ℕ) (hk0 : k0 + 768 ≤ 4096)
    (inb : ∀ a, (![e.val, k0, 0] : Fin 3 → ℕ) a + S1x768x128.size a ≤ S2x4096x128.size a) (k : Fin 768) (l : Fin 128) :
    arg10.view.readCov L (Rect.unit (s := S2x4096x128) ![e.val, k0, 0] S1x768x128.size inb).toLoadRect (ix3 0 k l)
      = if l.val / 64 = e.val then x (ix2 ⟨k0 + k.val, by omega⟩ l) else z := by
  have hx : (Rect.unit (s := S2x4096x128) ![e.val, k0, 0] S1x768x128.size inb).toLoadRect.idx (ix3 0 k l)
      = ix3 e (⟨k0 + k.val, by omega⟩ : Fin 4096) l := funext fun a => Fin.ext <|
    (ValueKit.rect_emb_unit_val _ _ inb (ix3 0 k l) a).trans (by
      match a with
      | ⟨0, _⟩ => rfl
      | ⟨1, _⟩ => rfl
      | ⟨2, _⟩ => exact Nat.zero_add _)
  rw [View.readCov_eq_canon']
  show View.canon L ((Rect.unit (s := S2x4096x128) ![e.val, k0, 0] S1x768x128.size inb).toLoadRect.idx (ix3 0 k l)) = _
  rw [hx, hL]
  rfl

/-- A product over all lanes with the other head's half 0 is a product over the head's. -/
theorem sum_half (e : Fin 2) (q k : Fin 128 → EReal) :
    ∑ l : Fin 128, q l * (if l.val / 64 = e.val then k l else 0)
      = ∑ d : Fin 64, q ⟨e.val * 64 + d.val, by omega⟩ * k ⟨e.val * 64 + d.val, by omega⟩ := by
  rw [← Equiv.sum_comp (finProdFinEquiv : Fin 2 × Fin 64 ≃ Fin 128), Fintype.sum_prod_type]
  refine (Finset.sum_eq_single e (fun e' _ he => Finset.sum_eq_zero fun d _ => ?_) fun h => absurd (Finset.mem_univ e) h).trans ?_
  · rw [if_neg, mul_zero]
    show ¬ (d.val + 64 * e'.val) / 64 = e.val
    have : e'.val ≠ e.val := fun h => he (Fin.ext h)
    omega
  · refine Finset.sum_congr rfl fun d _ => ?_
    have hd : (finProdFinEquiv (e, d) : Fin 128) = ⟨e.val * 64 + d.val, by omega⟩ :=
      Fin.ext (show d.val + 64 * e.val = e.val * 64 + d.val by omega)
    rw [if_pos, hd]
    show (d.val + 64 * e.val) / 64 = e.val
    omega

end Cert.Attention
end
-- ==== Proof.KernelBias.lean ====
/- The kernel's bias buffer: for each of a pair's two heads and each block of four query rows, the bias of its 256 queries
   against the 768 keys of the twelve image rows it reads, laid out in tiles of two image rows. -/
module

public import proofs.«01_k».proof.Proof.KernelTable

@[expose] public section

set_option maxRecDepth 16384

noncomputable section

namespace Cert.Attention

open Idealize.ShloMosaic Idealize.ShloMosaic.ValueIdx Idealize.ShloMosaic.Tactic Cert.KernelIdeal Cert.KernelIdeal.Gen

/-- The first image row the query block `i` reads. -/
def keyStart (i : ℕ) : ℕ := min (4 * i - 4) 4

/-- The table's row for the query row `a` of block `i` and the key row `j` it reads; row 15 outside the window. -/
def tableIdx (i a j : ℕ) : Fin 16 :=
  if RowIn (4 * i + a) (keyStart i + j) then ⟨min (keyStart i + j + 7 - (4 * i + a)) 15, by omega⟩ else 15

/-- The bias buffer. -/
def biasOf (x5 : S2x16x32.Idx → EReal) (x6 : S32x128.Idx → EReal) : S2x4x256x768.Idx → EReal := fun y =>
  tileAt x5 x6 (y 0) (tableIdx (y 1).val ((y 2).val / 64) ((y 3).val / 64)) ⟨(y 2).val % 64, Nat.mod_lt _ (by omega)⟩ (y 3).val

/-- A tile of the bias buffer: two image rows of the table side by side. -/
abbrev tileOf (A B : FVec Ideal S1x1x64x128 .f32) : FVec Ideal S1x1x64x128 .f32 :=
  shapeCast S1x1x64x128 (select k0_pay2 (shapeCast S64x128 A Gen.shapeCasts_S1x1x64x128_S64x128)
    (shapeCast S64x128 B Gen.shapeCasts_S1x1x64x128_S64x128)) Gen.shapeCasts_S64x128_S1x1x64x128

/-- A tile at an index. -/
theorem tileOf_apply (A B : FVec Ideal S1x1x64x128 .f32) (q : Fin 64) (l : Fin 128) :
    tileOf A B (ix4 0 0 q l) = if l.val < 64 then A (ix4 0 0 q l) else B (ix4 0 0 q l) := by
  have hrow : (S64x128.rowMajor (ix2 q l)).val = (S1x1x64x128.rowMajor (ix4 0 0 q l)).val := by
    rw [Shape.rowMajor_val_two, Shape.rowMajor_val_four]
    show q.val * 128 + l.val = ((0 * 1 + 0) * 64 + q.val) * 128 + l.val
    omega
  refine (shapeCast_apply _ _ _ (ix2 q l) hrow).trans ?_
  rw [select_apply, low_table]
  split
  · rw [select_one]
    exact shapeCast_apply _ _ _ _ hrow.symm
  · rw [select_zero]
    exact shapeCast_apply _ _ _ _ hrow.symm

variable (x5 : Vec Ideal S2x16x32 EltTy.f32) (x6 : Vec Ideal S32x128 EltTy.f32)
  (arg12 : Memref sig Kind.tc Space.vmem S2x16x64x128 EltTy.f32)

/-- A tile read back from the table. -/
theorem tile_load (e t : ℕ) (he : e < 2) (ht : t < 16) (L : List (View.Piece (Elt Ideal) S2x16x64x128 EltTy.f32))
    (hL : ∀ y : S2x16x64x128.Idx, (y 0).val = e → View.canon L y = tableOf x5 x6 y)
    (inb : ∀ a, (![e, t, 0, 0] : Fin 4 → ℕ) a + S1x1x64x128.size a ≤ S2x16x64x128.size a) (q : Fin 64) (l : Fin 128) :
    arg12.view.readCov L (Rect.unit (s := S2x16x64x128) ![e, t, 0, 0] S1x1x64x128.size inb).toLoadRect (ix4 0 0 q l)
      = tileAt x5 x6 ⟨e, he⟩ ⟨t, ht⟩ q l.val := by
  have hx : (Rect.unit (s := S2x16x64x128) ![e, t, 0, 0] S1x1x64x128.size inb).toLoadRect.idx (ix4 0 0 q l)
      = ix4 (⟨e, he⟩ : Fin 2) (⟨t, ht⟩ : Fin 16) q l := funext fun a => Fin.ext <|
    (ValueKit.rect_emb_unit_val _ _ inb (ix4 0 0 q l) a).trans (by
      match a with
      | ⟨0, _⟩ => rfl
      | ⟨1, _⟩ => rfl
      | ⟨2, _⟩ => exact Nat.zero_add _
      | ⟨3, _⟩ => exact Nat.zero_add _)
  rw [View.readCov_eq_canon']
  show View.canon L ((Rect.unit (s := S2x16x64x128) ![e, t, 0, 0] S1x1x64x128.size inb).toLoadRect.idx (ix4 0 0 q l)) = _
  rw [hx, hL _ rfl]
  rfl

/-- A stored tile is its block of the bias buffer. -/
theorem tile_piece (e i r c tA tB : ℕ) (he : e < 2) (hi : i < 4) (hr : r % 64 = 0 ∧ r < 256) (hc : c % 128 = 0 ∧ c < 768)
    (hA : (tableIdx i (r / 64) (c / 64)).val = tA) (hB : (tableIdx i (r / 64) (c / 64 + 1)).val = tB)
    (L : List (View.Piece (Elt Ideal) S2x16x64x128 EltTy.f32))
    (hL : ∀ y : S2x16x64x128.Idx, (y 0).val = e → View.canon L y = tableOf x5 x6 y)
    (inA : ∀ a, (![e, tA, 0, 0] : Fin 4 → ℕ) a + S1x1x64x128.size a ≤ S2x16x64x128.size a)
    (inB : ∀ a, (![e, tB, 0, 0] : Fin 4 → ℕ) a + S1x1x64x128.size a ≤ S2x16x64x128.size a)
    (inb : ∀ a, (![e, i, r, c] : Fin 4 → ℕ) a + S1x1x64x128.size a ≤ S2x4x256x768.size a)
    (x : S1x1x64x128.Idx) :
    tileOf (arg12.view.readCov L (Rect.unit (s := S2x16x64x128) ![e, tA, 0, 0] S1x1x64x128.size inA).toLoadRect)
        (arg12.view.readCov L (Rect.unit (s := S2x16x64x128) ![e, tB, 0, 0] S1x1x64x128.size inB).toLoadRect) x
      = biasOf x5 x6 ((Rect.unit (s := S2x4x256x768) ![e, i, r, c] S1x1x64x128.size inb).emb x) := by
  subst hA hB
  obtain ⟨q, l, rfl⟩ := eq_tile x
  obtain ⟨r', rfl⟩ : ∃ r', r = 64 * r' := ⟨r / 64, by omega⟩
  obtain ⟨c', rfl⟩ : ∃ c', c = 128 * c' := ⟨c / 128, by omega⟩
  have hx : (Rect.unit (s := S2x4x256x768) ![e, i, 64 * r', 128 * c'] S1x1x64x128.size inb).emb (ix4 0 0 q l)
      = ix4 (⟨e, he⟩ : Fin 2) (⟨i, hi⟩ : Fin 4) (⟨64 * r' + q.val, by omega⟩ : Fin 256) (⟨128 * c' + l.val, by omega⟩ : Fin 768) :=
    funext fun a => Fin.ext <| (ValueKit.rect_emb_unit_val _ _ inb (ix4 0 0 q l) a).trans (by
      match a with
      | ⟨0, _⟩ => rfl
      | ⟨1, _⟩ => rfl
      | ⟨2, _⟩ => rfl
      | ⟨3, _⟩ => rfl)
  have e1 : (64 * r' + q.val) / 64 = 64 * r' / 64 := by omega
  have e2 : (64 * r' + q.val) % 64 = q.val := by omega
  have e4 : (128 * c' + l.val) % 64 = l.val % 64 := by omega
  have hrhs : biasOf x5 x6 ((Rect.unit (s := S2x4x256x768) ![e, i, 64 * r', 128 * c'] S1x1x64x128.size inb).emb (ix4 0 0 q l))
      = tileAt x5 x6 ⟨e, he⟩ (tableIdx i (64 * r' / 64) ((128 * c' + l.val) / 64)) q l.val := by
    rw [hx]
    show tileAt x5 x6 ⟨e, he⟩ (tableIdx i ((64 * r' + q.val) / 64) ((128 * c' + l.val) / 64)) ⟨(64 * r' + q.val) % 64, _⟩ (128 * c' + l.val) = _
    unfold tileAt
    simp only [e1, e2, e4, Fin.eta]
  rw [hrhs, tileOf_apply]
  split
  · rw [tile_load x5 x6 arg12 e _ he (Fin.isLt _) L hL, show (128 * c' + l.val) / 64 = 128 * c' / 64 by omega]
  · rw [tile_load x5 x6 arg12 e _ he (Fin.isLt _) L hL, show (128 * c' + l.val) / 64 = 128 * c' / 64 + 1 by omega]

variable (c : Dev nD) (arg7 : Memref sig Kind.tc Space.vmem S2x16x32 EltTy.f32) (harg7 : arg7.IsWhole)
  (arg8 : Memref sig Kind.tc Space.vmem S32x128 EltTy.f32) (harg8 : arg8.IsWhole)

set_option maxHeartbeats 4000000 in
/-- The tiles of both heads, as stored. -/
theorem bias_pieces : View.PiecesOf (Val := Elt Ideal) (biasOf x5 x6)
    (kernelRun0_A.sl.HS3_192 (F := Ideal) c arg7 harg7 arg8 harg8 arg12 x5 x6) := by
  have h0 := table_half c arg7 harg7 arg8 harg8 x5 x6
  have h1 : ∀ y : S2x16x64x128.Idx, (y 0).val = 1 → _ := fun y _ => table_whole c arg7 harg7 arg8 harg8 x5 x6 y
  unfold kernelRun0_A.sl.HS3_192
  iterate 96
    refine ⟨fun x => tile_piece x5 x6 arg12 1 _ _ _ _ _ (by decide) (by decide) (by decide) (by decide) (by decide) (by decide)
      _ h1 (by decide) (by decide) (by decide) x, ?_⟩
  iterate 96
    refine ⟨fun x => tile_piece x5 x6 arg12 0 _ _ _ _ _ (by decide) (by decide) (by decide) (by decide) (by decide) (by decide)
      _ h0 (by decide) (by decide) (by decide) x, ?_⟩
  exact trivial

/-- After all tiles the whole bias buffer is there. -/
theorem bias_whole (y : S2x4x256x768.Idx) :
    View.canon (kernelRun0_A.sl.HS3_192 (F := Ideal) c arg7 harg7 arg8 harg8 arg12 x5 x6) y = biasOf x5 x6 y :=
  View.canon_apply_of_pieces (Val := Elt Ideal) _ _ (bias_pieces x5 x6 arg12 c arg7 harg7 arg8 harg8).mem y
    (View.cover_of_tiledL (s := S2x4x256x768) _ S1x1x64x128.size (by sl_kernel_rfl) y)

end Cert.Attention
end
-- ==== Proof.KernelOut.lean ====
/- What the kernel writes at one grid point: for each of a pair's two heads, each of four images and each block of four
   query rows, the attention over twelve image rows and the 256 cached keys. -/
module

public import proofs.«01_k».proof.Proof.KernelKeys
public import proofs.«01_k».proof.Proof.KernelBias

@[expose] public section

set_option maxRecDepth 16384

noncomputable section

namespace Cert.Attention

open Idealize.ShloMosaic Idealize.ShloMosaic.ValueIdx Idealize.ShloMosaic.Tactic Cert.KernelIdeal Cert.KernelIdeal.Gen

theorem keyStart_le (i : ℕ) : keyStart i ≤ 4 := Nat.min_le_right _ _

/-- Lane `d` of head `e` in the pair's lanes. -/
def pairLane (e : Fin 2) (d : Fin 64) : Fin 128 := ⟨e.val * 64 + d.val, by omega⟩

/-- The token of query `q` of block `i` of image `b`. -/
def queryTok (b i : Fin 4) (q : Fin 256) : Fin 4096 := ⟨b.val * 1024 + i.val * 256 + q.val, by omega⟩

/-- The token of key `k` of the twelve rows that block `i` of image `b` reads. -/
def keyTok (b i : Fin 4) (k : Fin 768) : Fin 4096 :=
  ⟨b.val * 1024 + keyStart i.val * 64 + k.val, by have := keyStart_le i.val; omega⟩

variable (x0 x1 x2 : S4096x128.Idx → EReal) (x3 x4 : S4x256x128.Idx → EReal) (x5 : S2x16x32.Idx → EReal) (x6 : S32x128.Idx → EReal)

/-- The scores of one query. -/
def blockScore (b i : Fin 4) (e : Fin 2) (q : Fin 256) : (Fin 12 × Fin 64) ⊕ Fin 256 → EReal
  | .inl k => (∑ d : Fin 64, x0 (ix2 (queryTok b i q) (pairLane e d)) * x1 (ix2 (keyTok b i (blockKey k)) (pairLane e d)))
      + biasOf x5 x6 (ix4 e i q (blockKey k))
  | .inr j => ∑ d : Fin 64, x0 (ix2 (queryTok b i q) (pairLane e d)) * x3 (ix3 b j (pairLane e d))

/-- The values of one lane. -/
def blockValue (b i : Fin 4) (e : Fin 2) (d : Fin 64) : (Fin 12 × Fin 64) ⊕ Fin 256 → EReal
  | .inl k => x2 (ix2 (keyTok b i (blockKey k)) (pairLane e d))
  | .inr j => x4 (ix3 b j (pairLane e d))

/-- What a grid point writes. -/
def outOf : S4096x128.Idx → EReal := fun y =>
  row (blockScore x0 x1 x3 x5 x6 ⟨(y 0).val / 1024, by have : (y 0).val < 4096 := (y 0).isLt; omega⟩
      ⟨(y 0).val % 1024 / 256, by omega⟩ ⟨(y 1).val / 64, by have : (y 1).val < 128 := (y 1).isLt; omega⟩ ⟨(y 0).val % 256, by omega⟩)
    (blockValue x2 x4 ⟨(y 0).val / 1024, by have : (y 0).val < 4096 := (y 0).isLt; omega⟩
      ⟨(y 0).val % 1024 / 256, by omega⟩ ⟨(y 1).val / 64, by have : (y 1).val < 128 := (y 1).isLt; omega⟩ ⟨(y 1).val % 64, by omega⟩)

theorem outOf_apply (b i : Fin 4) (q : Fin 256) (e : Fin 2) (d : Fin 64) :
    outOf x0 x1 x2 x3 x4 x5 x6 (ix2 (queryTok b i q) (pairLane e d))
      = row (blockScore x0 x1 x3 x5 x6 b i e q) (blockValue x2 x4 b i e d) := by
  have hb : (b.val * 1024 + i.val * 256 + q.val) / 1024 = b.val := by omega
  have hi : (b.val * 1024 + i.val * 256 + q.val) % 1024 / 256 = i.val := by omega
  have hq : (b.val * 1024 + i.val * 256 + q.val) % 256 = q.val := by omega
  have he : (e.val * 64 + d.val) / 64 = e.val := by omega
  have hd : (e.val * 64 + d.val) % 64 = d.val := by omega
  show row (blockScore x0 x1 x3 x5 x6 ⟨(b.val * 1024 + i.val * 256 + q.val) / 1024, _⟩
      ⟨(b.val * 1024 + i.val * 256 + q.val) % 1024 / 256, _⟩ ⟨(e.val * 64 + d.val) / 64, _⟩ ⟨(b.val * 1024 + i.val * 256 + q.val) % 256, _⟩)
    (blockValue x2 x4 ⟨(b.val * 1024 + i.val * 256 + q.val) / 1024, _⟩
      ⟨(b.val * 1024 + i.val * 256 + q.val) % 1024 / 256, _⟩ ⟨(e.val * 64 + d.val) / 64, _⟩ ⟨(e.val * 64 + d.val) % 64, _⟩) = _
  simp only [hb, hi, hq, he, hd, Fin.eta]

/-- One head of one block, before it is normalised. -/
abbrev headTerm (m : IVec S1x128 1) (Q : FVec Ideal S256x128 .bf16) (K : FVec Ideal S1x768x128 .bf16) (V : FVec Ideal S1x768x128 .bf16)
    (C D : FVec Ideal S1x256x128 .bf16) (B : FVec Ideal S1x1x256x768 .f32) : FVec Ideal S256x128 .f32 :=
  headOf (scoreL Q K B) (scoreC Q (maskCache m (FloatOps.ofBits .bf16 0x0000#16) C)) V (maskCache m (FloatOps.ofBits .bf16 0x3F80#16) D)

/-- One head of one block at an index: its own lanes weigh the values, the other lanes hold the sum of the weights. -/
theorem headTerm_apply (b i : Fin 4) (e : Fin 2) (Q : FVec Ideal S256x128 .bf16) (K V : FVec Ideal S1x768x128 .bf16)
    (C D : FVec Ideal S1x256x128 .bf16) (B : FVec Ideal S1x1x256x768 .f32)
    (hQ : ∀ q l, Q (ix2 q l) = x0 (ix2 (queryTok b i q) l))
    (hK : ∀ k l, K (ix3 0 k l) = if l.val / 64 = e.val then x1 (ix2 (keyTok b i k) l) else 0)
    (hV : ∀ k l, V (ix3 0 k l) = if l.val / 64 = e.val then x2 (ix2 (keyTok b i k) l) else 1)
    (hC : ∀ j l, C (ix3 0 j l) = x3 (ix3 b j l)) (hD : ∀ j l, D (ix3 0 j l) = x4 (ix3 b j l))
    (hB : ∀ q k, B (ix4 0 0 q k) = biasOf x5 x6 (ix4 e i q k)) (q : Fin 256) (l : Fin 128) :
    headTerm (maskOf e) Q K V C D B (ix2 q l)
      = ∑ k, weight (blockScore x0 x1 x3 x5 x6 b i e q) k
          * if l.val / 64 = e.val then blockValue x2 x4 b i e ⟨l.val % 64, Nat.mod_lt _ (by omega)⟩ k else 1 := by
  have hm : ∀ l : Fin 128, (maskOf e (ix2 0 l) = 1#1) ↔ l.val / 64 = e.val := fun l => by
    rw [maskOf_apply]
    split <;> simp_all
  have hl : l.val / 64 = e.val → pairLane e ⟨l.val % 64, Nat.mod_lt _ (by omega)⟩ = l := fun h =>
    Fin.ext (show e.val * 64 + l.val % 64 = l.val by omega)
  refine headOf_apply _ _ _ _ q l (blockScore x0 x1 x3 x5 x6 b i e q)
    (fun k => if l.val / 64 = e.val then blockValue x2 x4 b i e ⟨l.val % 64, Nat.mod_lt _ (by omega)⟩ k else 1)
    (fun k => ?_) (fun j => ?_) (fun k => ?_) (fun j => ?_)
  · rw [scoreL_apply, hB]
    refine congrArg (· + _) ?_
    simp only [hQ, hK]
    exact sum_half e _ _
  · rw [scoreC_apply]
    simp only [hQ, maskCache_apply, hm, hC]
    rw [Ideal.ofBits_def, zero_bf16]
    exact sum_half e _ _
  · rw [hV]
    by_cases h : l.val / 64 = e.val
    · rw [if_pos h, if_pos h]
      show _ = x2 (ix2 (keyTok b i (blockKey k)) (pairLane e _))
      rw [hl h]
    · rw [if_neg h, if_neg h]
  · rw [maskCache_apply, hD]
    by_cases h : l.val / 64 = e.val
    · rw [if_pos ((hm l).2 h), if_pos h]
      show _ = x4 (ix3 b j (pairLane e _))
      rw [hl h]
    · rw [if_neg (mt (hm l).1 h), if_neg h]
      exact one_bf16

/-- A whole block at an index: each head, normalised. -/
theorem block_apply (b i : Fin 4) (o : Fin 2 → FVec Ideal S256x128 .f32)
    (ho : ∀ e q l, o e (ix2 q l) = ∑ k, weight (blockScore x0 x1 x3 x5 x6 b i e q) k
          * if l.val / 64 = e.val then blockValue x2 x4 b i e ⟨l.val % 64, Nat.mod_lt _ (by omega)⟩ k else 1)
    (q : Fin 256) (l : Fin 128) :
    blockOf k0_pay286 (o 0) (o 1) (ix2 q l) = outOf x0 x1 x2 x3 x4 x5 x6 (ix2 (queryTok b i q) l) := by
  obtain ⟨e, he⟩ : ∃ e : Fin 2, l.val / 64 = e.val := ⟨⟨l.val / 64, by omega⟩, rfl⟩
  obtain ⟨d, hd⟩ : ∃ d : Fin 64, d = ⟨l.val % 64, Nat.mod_lt _ (by omega)⟩ := ⟨_, rfl⟩
  have hl : l = pairLane e d := Fin.ext (by subst hd; show l.val = e.val * 64 + l.val % 64; omega)
  have hsel : (if l.val < 64 then o 0 else o 1) = o e := by
    match e, he with
    | ⟨0, _⟩, he => exact if_pos (show l.val < 64 by have : l.val / 64 = 0 := he; omega)
    | ⟨1, _⟩, he => exact if_neg (show ¬ l.val < 64 by have : l.val / 64 = 1 := he; omega)
  rw [blockOf_apply, hsel, ho, ho]
  rw [show outOf x0 x1 x2 x3 x4 x5 x6 (ix2 (queryTok b i q) l) = outOf x0 x1 x2 x3 x4 x5 x6 (ix2 (queryTok b i q) (pairLane e d)) from by rw [← hl],
    outOf_apply]
  unfold row
  refine congrArg₂ (· * ·) (Finset.sum_congr rfl fun k _ => ?_) (congrArg (Ideal.div 1) (Finset.sum_congr rfl fun k _ => ?_))
  · rw [if_pos he, hd]
  · rw [if_neg, mul_one]
    show ¬ (l.val + 64) % 128 / 64 = e.val
    omega

variable (c : Dev nD) (arg2 : Memref sig Kind.tc Space.vmem S4096x128 EltTy.bf16) (harg2 : arg2.IsWhole)
  (arg3 : Memref sig Kind.tc Space.vmem S4096x128 EltTy.bf16) (harg3 : arg3.IsWhole)
  (arg4 : Memref sig Kind.tc Space.vmem S4096x128 EltTy.bf16) (harg4 : arg4.IsWhole)
  (arg5 : Memref sig Kind.tc Space.vmem S4x256x128 EltTy.bf16) (harg5 : arg5.IsWhole)
  (arg6 : Memref sig Kind.tc Space.vmem S4x256x128 EltTy.bf16) (harg6 : arg6.IsWhole)
  (arg7 : Memref sig Kind.tc Space.vmem S2x16x32 EltTy.f32) (harg7 : arg7.IsWhole)
  (arg8 : Memref sig Kind.tc Space.vmem S32x128 EltTy.f32) (harg8 : arg8.IsWhole) (arg9 : Memref sig Kind.tc Space.vmem S4096x128 EltTy.f32) (harg9 : arg9.IsWhole)
  (arg10 : Memref sig Kind.tc Space.vmem S2x4096x128 EltTy.bf16) (arg11 : Memref sig Kind.tc Space.vmem S2x4096x128 EltTy.bf16)
  (arg12 : Memref sig Kind.tc Space.vmem S2x16x64x128 EltTy.f32) (arg13 : Memref sig Kind.tc Space.vmem S2x4x256x768 EltTy.f32)

/-- The queries of a block, read where they lie. -/
theorem query_load (x : Vec Ideal S4096x128 EltTy.bf16) (r : ℕ) (hr : r + 256 ≤ 4096) (inb : ∀ a, (![r, 0] : Fin 2 → ℕ) a + S256x128.size a ≤ S4096x128.size a)
    (q : Fin 256) (l : Fin 128) :
    View.readAt (Elt Ideal) arg2.view (Rect.unit (s := S4096x128) ![r, 0] S256x128.size inb).toLoadRect (harg2.unread x) (ix2 q l)
      = x (ix2 ⟨r + q.val, by omega⟩ l) := by
  refine (congrFun (harg2.read_unread x) _).trans (congrArg x (funext fun a => Fin.ext ?_))
  refine (ValueKit.rect_emb_unit_val _ _ inb (ix2 q l) a).trans ?_
  match a with
  | ⟨0, _⟩ => rfl
  | ⟨1, _⟩ => exact Nat.zero_add _

/-- An image's cached keys or values, read where they lie. -/
theorem cache_load (x : Vec Ideal S4x256x128 EltTy.bf16) (b : Fin 4) (inb : ∀ a, (![b.val, 0, 0] : Fin 3 → ℕ) a + S1x256x128.size a ≤ S4x256x128.size a)
    (j : Fin 256) (l : Fin 128) :
    View.readAt (Elt Ideal) arg5.view (Rect.unit (s := S4x256x128) ![b.val, 0, 0] S1x256x128.size inb).toLoadRect (harg5.unread x) (ix3 0 j l)
      = x (ix3 b j l) := by
  refine (congrFun (harg5.read_unread x) _).trans (congrArg x (funext fun a => Fin.ext ?_))
  refine (ValueKit.rect_emb_unit_val _ _ inb (ix3 0 j l) a).trans ?_
  match a with
  | ⟨0, _⟩ => rfl
  | ⟨1, _⟩ => exact Nat.zero_add _
  | ⟨2, _⟩ => exact Nat.zero_add _

/-- A block's bias, read back from the bias buffer. -/
theorem bias_load (L : List (View.Piece (Elt Ideal) S2x4x256x768 EltTy.f32)) (hL : ∀ y, View.canon L y = biasOf x5 x6 y) (e : Fin 2) (i : Fin 4)
    (inb : ∀ a, (![e.val, i.val, 0, 0] : Fin 4 → ℕ) a + S1x1x256x768.size a ≤ S2x4x256x768.size a) (q : Fin 256) (k : Fin 768) :
    arg13.view.readCov L (Rect.unit (s := S2x4x256x768) ![e.val, i.val, 0, 0] S1x1x256x768.size inb).toLoadRect (ix4 0 0 q k)
      = biasOf x5 x6 (ix4 e i q k) := by
  have hx : (Rect.unit (s := S2x4x256x768) ![e.val, i.val, 0, 0] S1x1x256x768.size inb).toLoadRect.idx (ix4 0 0 q k) = ix4 e i q k :=
    funext fun a => Fin.ext <| (ValueKit.rect_emb_unit_val _ _ inb (ix4 0 0 q k) a).trans (by
      match a with
      | ⟨0, _⟩ => rfl
      | ⟨1, _⟩ => rfl
      | ⟨2, _⟩ => exact Nat.zero_add _
      | ⟨3, _⟩ => exact Nat.zero_add _)
  rw [View.readCov_eq_canon']
  show View.canon L ((Rect.unit (s := S2x4x256x768) ![e.val, i.val, 0, 0] S1x1x256x768.size inb).toLoadRect.idx (ix4 0 0 q k)) = _
  rw [hx, hL]

/-- A stored block, from the blocks of the buffers it reads. -/
theorem out_piece (r k0 : ℕ) (b i : Fin 4) (hr : r = b.val * 1024 + i.val * 256) (hk : k0 = b.val * 1024 + keyStart i.val * 64)
    (LK LV : List (View.Piece (Elt Ideal) S2x4096x128 EltTy.bf16)) (LB : List (View.Piece (Elt Ideal) S2x4x256x768 EltTy.f32))
    (hLK : ∀ y, View.canon LK y = halfOf x1 0 y) (hLV : ∀ y, View.canon LV y = halfOf x2 1 y)
    (hLB : ∀ y, View.canon LB y = biasOf x5 x6 y)
    (inQ : ∀ a, (![r, 0] : Fin 2 → ℕ) a + S256x128.size a ≤ S4096x128.size a)
    (inK : ∀ e : Fin 2, ∀ a, (![e.val, k0, 0] : Fin 3 → ℕ) a + S1x768x128.size a ≤ S2x4096x128.size a)
    (inC : ∀ a, (![b.val, 0, 0] : Fin 3 → ℕ) a + S1x256x128.size a ≤ S4x256x128.size a)
    (inB : ∀ e : Fin 2, ∀ a, (![e.val, i.val, 0, 0] : Fin 4 → ℕ) a + S1x1x256x768.size a ≤ S2x4x256x768.size a)
    (x : S256x128.Idx) :
    blockOf k0_pay286
      (headTerm k0_pay286
        (View.readAt (Elt Ideal) arg2.view (Rect.unit (s := S4096x128) ![r, 0] S256x128.size inQ).toLoadRect (harg2.unread x0))
        (arg10.view.readCov LK (Rect.unit (s := S2x4096x128) ![0, k0, 0] S1x768x128.size (inK 0)).toLoadRect)
        (arg11.view.readCov LV (Rect.unit (s := S2x4096x128) ![0, k0, 0] S1x768x128.size (inK 0)).toLoadRect)
        (View.readAt (Elt Ideal) arg5.view (Rect.unit (s := S4x256x128) ![b.val, 0, 0] S1x256x128.size inC).toLoadRect (harg5.unread x3))
        (View.readAt (Elt Ideal) arg6.view (Rect.unit (s := S4x256x128) ![b.val, 0, 0] S1x256x128.size inC).toLoadRect (harg6.unread x4))
        (arg13.view.readCov LB (Rect.unit (s := S2x4x256x768) ![0, i.val, 0, 0] S1x1x256x768.size (inB 0)).toLoadRect))
      (headTerm k0_pay287
        (View.readAt (Elt Ideal) arg2.view (Rect.unit (s := S4096x128) ![r, 0] S256x128.size inQ).toLoadRect (harg2.unread x0))
        (arg10.view.readCov LK (Rect.unit (s := S2x4096x128) ![1, k0, 0] S1x768x128.size (inK 1)).toLoadRect)
        (arg11.view.readCov LV (Rect.unit (s := S2x4096x128) ![1, k0, 0] S1x768x128.size (inK 1)).toLoadRect)
        (View.readAt (Elt Ideal) arg5.view (Rect.unit (s := S4x256x128) ![b.val, 0, 0] S1x256x128.size inC).toLoadRect (harg5.unread x3))
        (View.readAt (Elt Ideal) arg6.view (Rect.unit (s := S4x256x128) ![b.val, 0, 0] S1x256x128.size inC).toLoadRect (harg6.unread x4))
        (arg13.view.readCov LB (Rect.unit (s := S2x4x256x768) ![1, i.val, 0, 0] S1x1x256x768.size (inB 1)).toLoadRect)) x
      = outOf x0 x1 x2 x3 x4 x5 x6 ((Rect.unit (s := S4096x128) ![r, 0] S256x128.size inQ).emb x) := by
  subst hr hk
  have hks := keyStart_le i.val
  obtain ⟨q, l, rfl⟩ : ∃ (q : Fin 256) (l : Fin 128), x = ix2 q l := ⟨x 0, x 1, funext fun a => by
    match a with
    | ⟨0, _⟩ => rfl
    | ⟨1, _⟩ => rfl⟩
  have hx : (Rect.unit (s := S4096x128) ![b.val * 1024 + i.val * 256, 0] S256x128.size inQ).emb (ix2 q l) = ix2 (queryTok b i q) l :=
    funext fun a => Fin.ext <| (ValueKit.rect_emb_unit_val _ _ inQ (ix2 q l) a).trans (by
      match a with
      | ⟨0, _⟩ => rfl
      | ⟨1, _⟩ => exact Nat.zero_add _)
  rw [hx]
  have hh : ∀ e : Fin 2, ∀ q l, _ := fun e => headTerm_apply x0 x1 x2 x3 x4 x5 x6 b i e
    (View.readAt (Elt Ideal) arg2.view (Rect.unit (s := S4096x128) ![_, 0] S256x128.size inQ).toLoadRect (harg2.unread x0))
    (arg10.view.readCov LK (Rect.unit (s := S2x4096x128) ![e.val, _, 0] S1x768x128.size (inK e)).toLoadRect)
    (arg11.view.readCov LV (Rect.unit (s := S2x4096x128) ![e.val, _, 0] S1x768x128.size (inK e)).toLoadRect)
    (View.readAt (Elt Ideal) arg5.view (Rect.unit (s := S4x256x128) ![b.val, 0, 0] S1x256x128.size inC).toLoadRect (harg5.unread x3))
    (View.readAt (Elt Ideal) arg6.view (Rect.unit (s := S4x256x128) ![b.val, 0, 0] S1x256x128.size inC).toLoadRect (harg6.unread x4))
    (arg13.view.readCov LB (Rect.unit (s := S2x4x256x768) ![e.val, i.val, 0, 0] S1x1x256x768.size (inB e)).toLoadRect)
    (query_load arg2 harg2 x0 _ (by omega) inQ) (half_load arg10 LK x1 0 hLK e _ (by omega) (inK e))
    (half_load arg11 LV x2 1 hLV e _ (by omega) (inK e)) (cache_load arg5 harg5 x3 b inC) (cache_load arg6 harg6 x4 b inC)
    (bias_load x5 x6 arg13 LB hLB e i (inB e))
  exact block_apply x0 x1 x2 x3 x4 x5 x6 b i _ hh q l

set_option maxHeartbeats 4000000 in
/-- What the kernel's run at a grid point leaves in the output window. -/
theorem out_whole (i : grid0.Coords) (hc0 : cond0_0 i) (harg10 : arg10.IsWhole) (harg11 : arg11.IsWhole) (harg12 : arg12.IsWhole)
    (harg13 : arg13.IsWhole) (y : S4096x128.Idx) :
    out0_A_7 (F := Ideal) c i arg2 harg2 arg3 harg3 arg4 harg4 arg5 harg5 arg6 harg6 arg7 harg7 arg8 harg8 arg9 harg9 arg10 harg10
        arg11 harg11 arg12 harg12 arg13 harg13 hc0 x0 x1 x2 x3 x4 x5 x6 y
      = outOf x0 x1 x2 x3 x4 x5 x6 y := by
  have hK := keys_whole c arg3 harg3 x1
  have hV := values_whole c arg4 harg4 x2
  have hB := bias_whole x5 x6 arg12 c arg7 harg7 arg8 harg8
  unfold out0_A_7
  rw [View.read_writes_eq_canon _ _ _ (cover0_A_7 c _ _ _ _ _ _ _ _ _ _ _ _ _ _ _ _ _ _ _ _ _ _ _ _ _ _ _ _ _ _ _ _ _)]
  refine View.canon_apply_of_pieces (Val := Elt Ideal) _ _ (?_ : View.PiecesOf _ _).mem y
    (cover0_A_7 c _ _ _ _ _ _ _ _ _ _ _ _ _ _ _ _ _ _ _ _ _ _ _ _ _ _ _ _ _ _ _ _ _ y)
  unfold kernelRun0_A
  dsimp only
  iterate 16
    refine ⟨fun x => out_piece x0 x1 x2 x3 x4 x5 x6 arg2 harg2 arg5 harg5 arg6 harg6 arg10 arg11 arg13 _ _ ⟨_, by decide⟩ ⟨_, by decide⟩
      (by decide) (by decide) _ _ _ hK hV hB (by decide) (by decide) (by decide) (by decide) x, ?_⟩
  exact trivial

end Cert.Attention
end
-- ==== Proof.KernelHost.lean ====
/- The arrays the kernel's windows lie in, as the host prepares them from the arguments, and the windows' blocks. -/
module

public import proofs.«01_k».proof.Proof.KernelOut
public import proofs.«01_k».proof.Proof.Gen.KernelIdeal.Value

@[expose] public section

set_option maxRecDepth 16384

noncomputable section

namespace Cert.Attention

open Idealize.ShloMosaic Idealize.ShloMosaic.TcCoe Idealize.ShloMosaic.ValueIdx Idealize.ShloMosaic.Tactic Cert.KernelIdeal Cert.KernelIdeal.Gen Idealize.SL.Sem
open Idealize.ShloMosaic.StableHlo

/-- Queries (scaled), keys and values, one row per token. -/
def hostQkv (p : Proj) : S4096x1536.Idx → EReal :=
  truncf (F := Ideal) .bf16 (shapeCast S4096x1536 (concatenate S4x1024x1536 2
    [⟨S4x1024x512, mulf (F := Ideal) (extractStridedSlice S4x1024x512 ![0, 0, 0] p Gen.slices_S4x1024x1536_S4x1024x512_0_0_0)
        (broadcastInDim S4x1024x512 ![] Gen.bcast_S_S4x1024x512 (constant (F := Ideal) S_ .f32 0x3E000000#32))⟩,
      ⟨S4x1024x1024, extractStridedSlice S4x1024x1024 ![0, 0, 512] p Gen.slices_S4x1024x1536_S4x1024x1024_0_0_512⟩]
    Gen.concatenates_S4x1024x512_S4x1024x1024_S4x1024x1536_d2) Gen.shapeCasts_S4x1024x1536_S4096x1536) Gen.bitsLt_bf16_f32

/-- A cache, its heads side by side. -/
def hostCache (x : Cache) : S4x256x512.Idx → EReal :=
  truncf (F := Ideal) .bf16 (shapeCast S4x256x512 (transpose S4x256x8x64 [0, 2, 1, 3] x Gen.transposes_S4x8x256x64_S4x256x8x64_0_2_1_3)
    Gen.shapeCasts_S4x256x8x64_S4x256x512) Gen.bitsLt_bf16_f32

/-- The bias, padded. -/
def hostBias (x : Bias) : S8x16x32.Idx → EReal :=
  pad S8x16x32 ![0, 0, 0] ![0, 1, 1] ![0, 0, 0] x (sitofp (F := Ideal) .f32 (constantI S_ 32 0#32)) Gen.pads_S8x15x31_S8x16x32_000_010_010 Gen.h_S_

/-- The one-hot table that spreads a bias row over the lanes. -/
def hostTable : S32x128.Idx → EReal := fun i => FloatOps.ofBits (F := Ideal) .f32 (lit0 (S32x128.rowMajor i))

variable (m : (ℓ : Loc nD τ sig) → Buf (Elt Ideal) ℓ) (c : Dev nD)

theorem V_qkv : V m c main_v6 = hostQkv (m ((c : Thread nD τ).loc main_arg0)) := by
  show StableHlo.after (List.flatten [hostOps0, hostOps0_1]) _ (Proc.devRef .tc main_v6) = _
  simp only [List.flatten_cons, List.flatten_nil, List.append_nil, List.cons_append, List.nil_append]
  after_results
  rfl

theorem V_cacheK : V m c main_v9 = hostCache (m ((c : Thread nD τ).loc main_arg1)) := by
  show StableHlo.after (List.flatten [hostOps0, hostOps0_1]) _ (Proc.devRef .tc main_v9) = _
  simp only [List.flatten_cons, List.flatten_nil, List.append_nil, List.cons_append, List.nil_append]
  after_results
  rfl

theorem V_cacheV : V m c main_v12 = hostCache (m ((c : Thread nD τ).loc main_arg2)) := by
  show StableHlo.after (List.flatten [hostOps0, hostOps0_1]) _ (Proc.devRef .tc main_v12) = _
  simp only [List.flatten_cons, List.flatten_nil, List.append_nil, List.cons_append, List.nil_append]
  after_results
  rfl

theorem V_bias : V m c main_v13 = hostBias (m ((c : Thread nD τ).loc main_arg3)) := by
  show StableHlo.after (List.flatten [hostOps0, hostOps0_1]) _ (Proc.devRef .tc main_v13) = _
  simp only [List.flatten_cons, List.flatten_nil, List.append_nil, List.cons_append, List.nil_append]
  after_results
  rfl

theorem V_table : V m c main_cst = hostTable := by
  show StableHlo.after (List.flatten [hostOps0, hostOps0_1]) _ (Proc.devRef .tc main_cst) = _
  simp only [List.flatten_cons, List.flatten_nil, List.append_nil, List.cons_append, List.nil_append]
  after_results
  rfl

/-- The query part, scaled. -/
theorem hostQkv_query (p : Proj) (b : Fin 4) (n : Fin 1024) (h : Fin 8) (d : Fin 64) (r : Fin 4096) (l : Fin 1536)
    (hr : r.val = b.val * 1024 + n.val) (hl : l.val = h.val * 64 + d.val) :
    hostQkv p (ix2 r l) = p (ix3 b n (lane 0 h d)) * scale := by
  have hl' : l.val < 512 := by omega
  unfold hostQkv
  refine (truncf_apply _ Gen.bitsLt_bf16_f32 _).trans ((shapeCast_apply _ _ (ix2 r l) (ix3 b n l) (by
    rw [Shape.rowMajor_val_two, Shape.rowMajor_val_three]
    show (b.val * 1024 + n.val) * 1536 + l.val = r.val * 1536 + l.val
    rw [hr])).trans ?_)
  refine (concatenate_pair_apply_left (s₁ := S4x1024x512) (s₂ := S4x1024x1024) (t := S4x1024x1536) (2 : Fin 3) _ _ _ (ix3 b n l)
    rfl (ix3 b n (⟨l.val, hl'⟩ : Fin 512)) fun a => ?_).trans ?_
  · match a with
    | ⟨0, _⟩ => rfl
    | ⟨1, _⟩ => rfl
    | ⟨2, _⟩ => rfl
  refine (mulf_apply _ _ _).trans (congrArg₂ (· * ·) ?_ ?_)
  · refine extractStridedSlice_apply _ _ _ _ _ fun a => ?_
    match a with
    | ⟨0, _⟩ => exact (Nat.zero_add _).symm
    | ⟨1, _⟩ => exact (Nat.zero_add _).symm
    | ⟨2, _⟩ => show 0 * 512 + h.val * 64 + d.val = 0 + l.val; omega
  · exact (broadcastInDim_apply _ _ _ _ ix0 (fun a => a.elim0)).trans eighth

/-- The keys' and the values' parts. -/
theorem hostQkv_rest (p : Proj) (b : Fin 4) (n : Fin 1024) (g : Fin 3) (hg : g ≠ 0) (h : Fin 8) (d : Fin 64) (r : Fin 4096) (l : Fin 1536)
    (hr : r.val = b.val * 1024 + n.val) (hl : l.val = g.val * 512 + h.val * 64 + d.val) :
    hostQkv p (ix2 r l) = p (ix3 b n (lane g h d)) := by
  have hg' : 1 ≤ g.val := Nat.one_le_iff_ne_zero.2 fun h => hg (Fin.ext h)
  unfold hostQkv
  refine (truncf_apply _ Gen.bitsLt_bf16_f32 _).trans ((shapeCast_apply _ _ (ix2 r l) (ix3 b n l) (by
    rw [Shape.rowMajor_val_two, Shape.rowMajor_val_three]
    show (b.val * 1024 + n.val) * 1536 + l.val = r.val * 1536 + l.val
    rw [hr])).trans ?_)
  refine (concatenate_pair_apply_right (s₁ := S4x1024x512) (s₂ := S4x1024x1024) (t := S4x1024x1536) (2 : Fin 3) _ _ _ (ix3 b n l)
    rfl rfl (ix3 b n (⟨l.val - 512, by omega⟩ : Fin 1024)) (fun a ha => ?_) (show l.val - 512 + 512 = l.val by omega)).trans ?_
  · match a with
    | ⟨0, _⟩ => rfl
    | ⟨1, _⟩ => rfl
    | ⟨2, _⟩ => exact absurd rfl ha
  refine extractStridedSlice_apply _ _ _ _ _ fun a => ?_
  match a with
  | ⟨0, _⟩ => exact (Nat.zero_add _).symm
  | ⟨1, _⟩ => exact (Nat.zero_add _).symm
  | ⟨2, _⟩ => show g.val * 512 + h.val * 64 + d.val = 512 + (l.val - 512); omega

/-- A cache, at an image, a position, a head and a lane. -/
theorem hostCache_apply (x : Cache) (b : Fin 4) (h : Fin 8) (j : Fin 256) (d : Fin 64) (l : Fin 512) (hl : l.val = h.val * 64 + d.val) :
    hostCache x (ix3 b j l) = x (ix4 b h j d) := by
  unfold hostCache
  refine (truncf_apply _ Gen.bitsLt_bf16_f32 _).trans ((shapeCast_apply _ _ (ix3 b j l) (ix4 b j h d) (by
    rw [Shape.rowMajor_val_three, Shape.rowMajor_val_four]
    show ((b.val * 256 + j.val) * 8 + h.val) * 64 + d.val = (b.val * 256 + j.val) * 512 + l.val
    omega)).trans ?_)
  refine transpose_apply _ _ _ _ _ fun a => ?_
  match a with
  | ⟨0, _⟩ => rfl
  | ⟨1, _⟩ => rfl
  | ⟨2, _⟩ => rfl
  | ⟨3, _⟩ => rfl

/-- The padded bias, inside. -/
theorem hostBias_apply (x : Bias) (h : Fin 8) (t : Fin 16) (j : Fin 32) (ht : t.val < 15) (hj : j.val < 31) :
    hostBias x (ix3 h t j) = x (ix3 h ⟨t.val, ht⟩ ⟨j.val, hj⟩) := by
  refine pad_apply_of_inside _ _ _ _ _ _ _ _ _ fun a => ?_
  match a with
  | ⟨0, _⟩ => show h.val = 0 + h.val * (0 + 1); omega
  | ⟨1, _⟩ => show t.val = 0 + t.val * (0 + 1); omega
  | ⟨2, _⟩ => show j.val = 0 + j.val * (0 + 1); omega

/-- The tap that lane `l` reads. -/
def tap (l : ℕ) : ℕ := min (l + 15 - 64) 30

/-- The one-hot table: lane `l` reads tap `tap l`. -/
theorem lit_table : ∀ (j : Fin 32) (l : Fin 128), lit0 ⟨j.val * 128 + l.val, by omega⟩ = if j.val = tap l.val then 0x3F800000#32 else 0x00000000#32 := by
  decide +kernel

theorem hostTable_apply (j : Fin 32) (l : Fin 128) : hostTable (ix2 j l) = if j.val = tap l.val then 1 else 0 := by
  have h : S32x128.rowMajor (ix2 j l) = (⟨j.val * 128 + l.val, by omega⟩ : Fin 4096) := Fin.ext (Shape.rowMajor_val_two _)
  show Ideal.ofBits .f32 (lit0 (S32x128.rowMajor (ix2 j l))) = _
  rw [h, lit_table]
  split
  · simp [Ideal.ofBits, Ideal.ieee, -EReal.coe_mul]; norm_num
  · exact Ideal.ofBits_zero_f32

/-! ## The windows' blocks, head pair by head pair -/

/-- The block indices of the windows at each grid point. -/
theorem block_index : ∀ t : Fin grid0.N,
    (win0_0.index t 0 = 0 ∧ win0_0.index t 1 = t.val) ∧ (win0_1.index t 0 = 0 ∧ win0_1.index t 1 = 4 + t.val)
      ∧ (win0_2.index t 0 = 0 ∧ win0_2.index t 1 = 8 + t.val)
      ∧ (win0_3.index t 0 = 0 ∧ win0_3.index t 1 = 0 ∧ win0_3.index t 2 = t.val)
      ∧ (win0_4.index t 0 = 0 ∧ win0_4.index t 1 = 0 ∧ win0_4.index t 2 = t.val)
      ∧ (win0_5.index t 0 = t.val ∧ win0_5.index t 1 = 0 ∧ win0_5.index t 2 = 0)
      ∧ (win0_6.index t 0 = 0 ∧ win0_6.index t 1 = 0) ∧ (win0_7.index t 0 = 0 ∧ win0_7.index t 1 = t.val) := by
  decide +kernel

/-- The projected queries, keys and values, as launched. -/
abbrev argProj : Proj := m ((c : Thread nD τ).loc main_arg0)
/-- The cached keys, as launched. -/
abbrev argK : Cache := m ((c : Thread nD τ).loc main_arg1)
/-- The cached values, as launched. -/
abbrev argV : Cache := m ((c : Thread nD τ).loc main_arg2)
/-- The bias, as launched. -/
abbrev argBias : Bias := m ((c : Thread nD τ).loc main_arg3)

variable (t : Fin 4) (e : Fin 2)

/-- The head that the pair `t` holds in half `e`. -/
def headOfPair : Fin 8 := ⟨2 * t.val + e.val, by omega⟩

theorem blk_query (b : Fin 4) (n : Fin 1024) (r : Fin 4096) (hr : r.val = b.val * 1024 + n.val) (d : Fin 64) :
    iblk m c 0 t (ix2 r (pairLane e d)) = argProj m c (ix3 b n (lane 0 (headOfPair t e) d)) * scale := by
  have ht : t.val < 4 := t.isLt
  have hi := (block_index t).1
  refine Eq.trans ?_ (hostQkv_query _ b n (headOfPair t e) d r ⟨t.val * 128 + (e.val * 64 + d.val), by omega⟩ hr
    (show t.val * 128 + (e.val * 64 + d.val) = (2 * t.val + e.val) * 64 + d.val by omega))
  show V m c main_v6 ((win0_0.rect t).emb (ix2 r (pairLane e d))) = _
  rw [V_qkv]
  refine congrArg _ (funext fun a => Fin.ext ((Pipeline.Window.rect_emb_val win0_0 t _ a).trans ?_))
  match a with
  | ⟨0, _⟩ => show win0_0.index t 0 * 4096 + r.val = r.val; rw [hi.1]; omega
  | ⟨1, _⟩ => show win0_0.index t 1 * 128 + (e.val * 64 + d.val) = t.val * 128 + (e.val * 64 + d.val); rw [hi.2]

theorem blk_key (b : Fin 4) (n : Fin 1024) (r : Fin 4096) (hr : r.val = b.val * 1024 + n.val) (d : Fin 64) :
    iblk m c 1 t (ix2 r (pairLane e d)) = argProj m c (ix3 b n (lane 1 (headOfPair t e) d)) := by
  have ht : t.val < 4 := t.isLt
  have hi := (block_index t).2.1
  refine Eq.trans ?_ (hostQkv_rest _ b n 1 (by decide) (headOfPair t e) d r ⟨(4 + t.val) * 128 + (e.val * 64 + d.val), by omega⟩ hr
    (show (4 + t.val) * 128 + (e.val * 64 + d.val) = 1 * 512 + (2 * t.val + e.val) * 64 + d.val by omega))
  show V m c main_v6 ((win0_1.rect t).emb (ix2 r (pairLane e d))) = _
  rw [V_qkv]
  refine congrArg _ (funext fun a => Fin.ext ((Pipeline.Window.rect_emb_val win0_1 t _ a).trans ?_))
  match a with
  | ⟨0, _⟩ => show win0_1.index t 0 * 4096 + r.val = r.val; rw [hi.1]; omega
  | ⟨1, _⟩ => show win0_1.index t 1 * 128 + (e.val * 64 + d.val) = (4 + t.val) * 128 + (e.val * 64 + d.val); rw [hi.2]

theorem blk_value (b : Fin 4) (n : Fin 1024) (r : Fin 4096) (hr : r.val = b.val * 1024 + n.val) (d : Fin 64) :
    iblk m c 2 t (ix2 r (pairLane e d)) = argProj m c (ix3 b n (lane 2 (headOfPair t e) d)) := by
  have ht : t.val < 4 := t.isLt
  have hi := (block_index t).2.2.1
  refine Eq.trans ?_ (hostQkv_rest _ b n 2 (by decide) (headOfPair t e) d r ⟨(8 + t.val) * 128 + (e.val * 64 + d.val), by omega⟩ hr
    (show (8 + t.val) * 128 + (e.val * 64 + d.val) = 2 * 512 + (2 * t.val + e.val) * 64 + d.val by omega))
  show V m c main_v6 ((win0_2.rect t).emb (ix2 r (pairLane e d))) = _
  rw [V_qkv]
  refine congrArg _ (funext fun a => Fin.ext ((Pipeline.Window.rect_emb_val win0_2 t _ a).trans ?_))
  match a with
  | ⟨0, _⟩ => show win0_2.index t 0 * 4096 + r.val = r.val; rw [hi.1]; omega
  | ⟨1, _⟩ => show win0_2.index t 1 * 128 + (e.val * 64 + d.val) = (8 + t.val) * 128 + (e.val * 64 + d.val); rw [hi.2]

theorem blk_cacheK (b : Fin 4) (j : Fin 256) (d : Fin 64) :
    iblk m c 3 t (ix3 b j (pairLane e d)) = argK m c (ix4 b (headOfPair t e) j d) := by
  have ht : t.val < 4 := t.isLt
  have hi := (block_index t).2.2.2.1
  refine Eq.trans ?_ (hostCache_apply _ b (headOfPair t e) j d ⟨t.val * 128 + (e.val * 64 + d.val), by omega⟩
    (show t.val * 128 + (e.val * 64 + d.val) = (2 * t.val + e.val) * 64 + d.val by omega))
  show V m c main_v9 ((win0_3.rect t).emb (ix3 b j (pairLane e d))) = _
  rw [V_cacheK]
  refine congrArg _ (funext fun a => Fin.ext ((Pipeline.Window.rect_emb_val win0_3 t _ a).trans ?_))
  match a with
  | ⟨0, _⟩ => show win0_3.index t 0 * 4 + b.val = b.val; rw [hi.1]; omega
  | ⟨1, _⟩ => show win0_3.index t 1 * 256 + j.val = j.val; rw [hi.2.1]; omega
  | ⟨2, _⟩ => show win0_3.index t 2 * 128 + (e.val * 64 + d.val) = t.val * 128 + (e.val * 64 + d.val); rw [hi.2.2]

theorem blk_cacheV (b : Fin 4) (j : Fin 256) (d : Fin 64) :
    iblk m c 4 t (ix3 b j (pairLane e d)) = argV m c (ix4 b (headOfPair t e) j d) := by
  have ht : t.val < 4 := t.isLt
  have hi := (block_index t).2.2.2.2.1
  refine Eq.trans ?_ (hostCache_apply _ b (headOfPair t e) j d ⟨t.val * 128 + (e.val * 64 + d.val), by omega⟩
    (show t.val * 128 + (e.val * 64 + d.val) = (2 * t.val + e.val) * 64 + d.val by omega))
  show V m c main_v12 ((win0_4.rect t).emb (ix3 b j (pairLane e d))) = _
  rw [V_cacheV]
  refine congrArg _ (funext fun a => Fin.ext ((Pipeline.Window.rect_emb_val win0_4 t _ a).trans ?_))
  match a with
  | ⟨0, _⟩ => show win0_4.index t 0 * 4 + b.val = b.val; rw [hi.1]; omega
  | ⟨1, _⟩ => show win0_4.index t 1 * 256 + j.val = j.val; rw [hi.2.1]; omega
  | ⟨2, _⟩ => show win0_4.index t 2 * 128 + (e.val * 64 + d.val) = t.val * 128 + (e.val * 64 + d.val); rw [hi.2.2]

theorem blk_bias (r : Fin 16) (j : Fin 32) (hr : r.val < 15) (hj : j.val < 31) :
    iblk m c 5 t (ix3 e r j) = argBias m c (ix3 (headOfPair t e) ⟨r.val, hr⟩ ⟨j.val, hj⟩) := by
  have ht : t.val < 4 := t.isLt
  have hi := (block_index t).2.2.2.2.2.1
  refine Eq.trans ?_ (hostBias_apply _ (headOfPair t e) r j hr hj)
  show V m c main_v13 ((win0_5.rect t).emb (ix3 e r j)) = _
  rw [V_bias]
  refine congrArg _ (funext fun a => Fin.ext ((Pipeline.Window.rect_emb_val win0_5 t _ a).trans ?_))
  match a with
  | ⟨0, _⟩ => show win0_5.index t 0 * 2 + e.val = 2 * t.val + e.val; rw [hi.1]; omega
  | ⟨1, _⟩ => show win0_5.index t 1 * 16 + r.val = r.val; rw [hi.2.1]; omega
  | ⟨2, _⟩ => show win0_5.index t 2 * 32 + j.val = j.val; rw [hi.2.2]; omega

theorem blk_table (j : Fin 32) (l : Fin 128) : iblk m c 6 t (ix2 j l) = if j.val = tap l.val then (1 : EReal) else 0 := by
  have ht : t.val < 4 := t.isLt
  have hi := (block_index t).2.2.2.2.2.2.1
  refine Eq.trans ?_ (hostTable_apply j l)
  show V m c main_cst ((win0_6.rect t).emb (ix2 j l)) = _
  rw [V_table]
  refine congrArg _ (funext fun a => Fin.ext ((Pipeline.Window.rect_emb_val win0_6 t _ a).trans ?_))
  match a with
  | ⟨0, _⟩ => show win0_6.index t 0 * 32 + j.val = j.val; rw [hi.1]; omega
  | ⟨1, _⟩ => show win0_6.index t 1 * 128 + l.val = l.val; rw [hi.2]; omega

end Cert.Attention
end
-- ==== Proof.KernelArray.lean ====
/- The kernel's output array: at every token, head and lane the attention of the specification. -/
module

public import proofs.«01_k».proof.Proof.KernelHost

@[expose] public section

set_option maxRecDepth 16384

noncomputable section

namespace Cert.Attention

open Idealize.ShloMosaic Idealize.ShloMosaic.TcCoe Idealize.ShloMosaic.ValueIdx Cert.KernelIdeal Cert.KernelIdeal.Gen

section Block

variable (p : Proj) (ck cv : Cache) (pb : Bias) (h : Fin 8) (e : Fin 2)
  (x0 x1 x2 : S4096x128.Idx → EReal) (x3 x4 : S4x256x128.Idx → EReal) (x5 : S2x16x32.Idx → EReal) (x6 : S32x128.Idx → EReal)
  (hx0 : ∀ (b : Fin 4) (n : Fin 1024) (r : Fin 4096), r.val = b.val * 1024 + n.val → ∀ d : Fin 64,
    x0 (ix2 r (pairLane e d)) = p (ix3 b n (lane 0 h d)) * scale)
  (hx1 : ∀ (b : Fin 4) (n : Fin 1024) (r : Fin 4096), r.val = b.val * 1024 + n.val → ∀ d : Fin 64,
    x1 (ix2 r (pairLane e d)) = p (ix3 b n (lane 1 h d)))
  (hx2 : ∀ (b : Fin 4) (n : Fin 1024) (r : Fin 4096), r.val = b.val * 1024 + n.val → ∀ d : Fin 64,
    x2 (ix2 r (pairLane e d)) = p (ix3 b n (lane 2 h d)))
  (hx3 : ∀ (b : Fin 4) (j : Fin 256) (d : Fin 64), x3 (ix3 b j (pairLane e d)) = ck (ix4 b h j d))
  (hx4 : ∀ (b : Fin 4) (j : Fin 256) (d : Fin 64), x4 (ix3 b j (pairLane e d)) = cv (ix4 b h j d))
  (hx5 : ∀ (r : Fin 16) (j : Fin 32) (hr : r.val < 15) (hj : j.val < 31), x5 (ix3 e r j) = pb (ix3 h ⟨r.val, hr⟩ ⟨j.val, hj⟩))
  (hx6 : ∀ (j : Fin 32) (l : Fin 128), x6 (ix2 j l) = if j.val = tap l.val then (1 : EReal) else 0)

include hx5 hx6 in
/-- A spread bias row at a lane. -/
theorem gAt_block (r : Fin 16) (hr : r.val < 15) (l : Fin 128) :
    gAt x5 x6 e r l = pb (ix3 h ⟨r.val, hr⟩ ⟨tap l.val, by unfold tap; omega⟩) := by
  have htap : tap l.val ≤ 30 := Nat.min_le_right _ _
  unfold gAt
  refine (Finset.sum_eq_single (⟨tap l.val, by omega⟩ : Fin 32) (fun j _ hj => ?_) fun h => absurd (Finset.mem_univ _) h).trans ?_
  · rw [hx6 j l, if_neg fun h => hj (Fin.ext h), mul_zero]
  · rw [hx6 _ l, if_pos rfl, mul_one]
    exact hx5 r _ hr (show tap l.val < 31 by omega)

include hx5 hx6 in
/-- The bias of a key the block reads: the specification's inside the window, the mask outside. -/
theorem bias_block (i : Fin 4) (q : Fin 256) (k : Fin 12 × Fin 64) :
    biasOf x5 x6 (ix4 e i q (blockKey k))
      = if RowIn (4 * i.val + q.val / 64) (keyStart i.val + k.1.val) ∧ ColIn (q.val % 64) k.2.val
        then bias pb h (4 * i.val + q.val / 64) (q.val % 64) (keyStart i.val + k.1.val) k.2.val else ⊥ := by
  have hk := blockKey_val k
  have hk1 : (blockKey k).val / 64 = k.1.val := by omega
  have hk2 : (blockKey k).val % 64 = k.2.val := by omega
  show tileAt x5 x6 e (tableIdx i.val (q.val / 64) ((blockKey k).val / 64)) ⟨q.val % 64, _⟩ (blockKey k).val = _
  unfold tileAt
  simp only [hk1, hk2]
  by_cases hrow : RowIn (4 * i.val + q.val / 64) (keyStart i.val + k.1.val)
  · have ht : tableIdx i.val (q.val / 64) k.1.val
        = ⟨min (keyStart i.val + k.1.val + 7 - (4 * i.val + q.val / 64)) 15, by omega⟩ := if_pos hrow
    obtain ⟨h1, h2⟩ := hrow
    have h3 : rowStart (4 * i.val + q.val / 64) ≤ 8 := Nat.min_le_right _ _
    have h4 : rowStart (4 * i.val + q.val / 64) ≤ 4 * i.val + q.val / 64 - 4 := Nat.min_le_left _ _
    have hlt : min (keyStart i.val + k.1.val + 7 - (4 * i.val + q.val / 64)) 15 < 15 := by omega
    rw [ht]
    refine (if_neg (show ¬ min (keyStart i.val + k.1.val + 7 - (4 * i.val + q.val / 64)) 15 = 15 by omega)).trans ?_
    by_cases hcol : ColIn (q.val % 64) k.2.val
    · rw [if_pos hcol, if_pos ⟨⟨h1, h2⟩, hcol⟩, gAt_block pb h e x5 x6 hx5 hx6 _ hlt]
      unfold bias
      refine congrArg pb (congrArg₂ (ix3 _) (Fin.ext ?_) (Fin.ext ?_))
      · show min (keyStart i.val + k.1.val + 7 - (4 * i.val + q.val / 64)) 15 = min (keyStart i.val + k.1.val + 7 - (4 * i.val + q.val / 64)) 14
        omega
      · show min ((k.2.val + 64 - q.val % 64) % 128 + 15 - 64) 30 = min (k.2.val + 15 - q.val % 64) 30
        omega
    · rw [if_neg hcol, if_neg fun h => hcol h.2]
  · have ht : tableIdx i.val (q.val / 64) k.1.val = 15 := if_neg hrow
    rw [ht, if_neg (show ¬ (RowIn (4 * i.val + q.val / 64) (keyStart i.val + k.1.val) ∧ ColIn (q.val % 64) k.2.val) from fun h => hrow h.1)]
    exact if_pos rfl

/-- The band of the block's twelve rows. -/
theorem keyStart_band (i : ℕ) : keyStart i + 12 ≤ 16 := by have := keyStart_le i; omega

/-- The row of a key of the block, in the arrays of all tokens. -/
theorem keyTok_tok (b i : Fin 4) (k : Fin 12 × Fin 64) :
    (keyTok b i (blockKey k)).val = b.val * 1024 + (tok ⟨keyStart i.val + k.1.val, by have := keyStart_le i.val; omega⟩ k.2).val := by
  show b.val * 1024 + keyStart i.val * 64 + (blockKey k).val = b.val * 1024 + ((keyStart i.val + k.1.val) * 64 + k.2.val)
  rw [blockKey_val]
  omega

include hx0 hx1 hx3 hx5 hx6 in
/-- The block's scores are the specification's, of the band's keys. -/
theorem blockScore_eq (b i : Fin 4) (q : Fin 256) :
    blockScore x0 x1 x3 x5 x6 b i e q
      = score p ck pb b h ⟨4 * i.val + q.val / 64, by omega⟩ ⟨q.val % 64, by omega⟩
        ∘ band 12 (keyStart i.val) (keyStart_band i.val) := by
  have hq : (queryTok b i q).val = b.val * 1024 + (tok ⟨4 * i.val + q.val / 64, by omega⟩ ⟨q.val % 64, by omega⟩).val := by
    show b.val * 1024 + i.val * 256 + q.val = b.val * 1024 + ((4 * i.val + q.val / 64) * 64 + q.val % 64)
    omega
  funext k
  rcases k with k | j
  · show (∑ d : Fin 64, x0 (ix2 (queryTok b i q) (pairLane e d)) * x1 (ix2 (keyTok b i (blockKey k)) (pairLane e d)))
        + biasOf x5 x6 (ix4 e i q (blockKey k))
      = if RowIn (4 * i.val + q.val / 64) (keyStart i.val + k.1.val) ∧ ColIn (q.val % 64) k.2.val then _ else ⊥
    rw [bias_block pb h e x5 x6 hx5 hx6]
    simp only [hx0 b _ _ hq, hx1 b _ _ (keyTok_tok b i k)]
    by_cases hin : RowIn (4 * i.val + q.val / 64) (keyStart i.val + k.1.val) ∧ ColIn (q.val % 64) k.2.val
    · rw [if_pos hin, if_pos hin]
      exact congrArg (· + _) (sum_scaled_mul (by norm_num) _ _)
    · rw [if_neg hin, if_neg hin]
      exact EReal.add_bot _
  · show ∑ d : Fin 64, x0 (ix2 (queryTok b i q) (pairLane e d)) * x3 (ix3 b j (pairLane e d)) = _
    simp only [hx0 b _ _ hq, hx3 b j]
    exact sum_scaled_mul (by norm_num) _ _

include hx2 hx4 in
/-- The block's values are the specification's, of the band's keys. -/
theorem blockValue_eq (b i : Fin 4) (d : Fin 64) :
    blockValue x2 x4 b i e d = value p cv b h d ∘ band 12 (keyStart i.val) (keyStart_band i.val) := by
  funext k
  rcases k with k | j
  · exact hx2 b _ _ (keyTok_tok b i k) d
  · exact hx4 b j d

include hx0 hx1 hx2 hx3 hx4 hx5 hx6 in
/-- What the body computes from these blocks is the specification's attention. -/
theorem outOf_eq (b i : Fin 4) (q : Fin 256) (d : Fin 64) :
    outOf x0 x1 x2 x3 x4 x5 x6 (ix2 (queryTok b i q) (pairLane e d))
      = attend p ck cv pb b h ⟨4 * i.val + q.val / 64, by omega⟩ ⟨q.val % 64, by omega⟩ d := by
  rw [outOf_apply, blockScore_eq p ck pb h e x0 x1 x3 x5 x6 hx0 hx1 hx3 hx5 hx6, blockValue_eq p cv h e x2 x4 hx2 hx4]
  have hr : rowStart (4 * i.val + q.val / 64) = min (4 * i.val + q.val / 64 - 4) 8 := rfl
  have hs : keyStart i.val = min (4 * i.val - 4) 4 := rfl
  exact row_band _ _ _ _ _ _ _ _ _ _ (show keyStart i.val ≤ rowStart (4 * i.val + q.val / 64) by omega)
    (show rowStart (4 * i.val + q.val / 64) + 8 ≤ keyStart i.val + 12 by omega)

end Block

variable (m : (ℓ : Loc nD τ sig) → Buf (Elt Ideal) ℓ) (c : Dev nD) (t : Fin 4) (e : Fin 2)

/-- What a grid point writes is the specification's attention. -/
theorem out_block (b i : Fin 4) (q : Fin 256) (d : Fin 64) :
    outsAt0 m c t (ix2 (queryTok b i q) (pairLane e d))
      = attend (argProj m c) (argK m c) (argV m c) (argBias m c) b (headOfPair t e) ⟨4 * i.val + q.val / 64, by omega⟩ ⟨q.val % 64, by omega⟩ d := by
  unfold outsAt0
  refine (out_whole ..).trans ?_
  exact outOf_eq (argProj m c) (argK m c) (argV m c) (argBias m c) (headOfPair t e) e _ _ _ _ _ _ _
    (blk_query m c t e) (blk_key m c t e) (blk_value m c t e) (blk_cacheK m c t e) (blk_cacheV m c t e) (blk_bias m c t e)
    (blk_table m c t) b i q d

/-- The output array after the run. -/
theorem out_array (b : Fin 4) (h : Fin 8) (r : Fin 16) (q d : Fin 64) :
    (dats m 0 c).arrAt 7 cfg0.N (ix2 (⟨b.val * 1024 + (r.val * 64 + q.val), by omega⟩ : Fin 4096) (⟨h.val * 64 + d.val, by omega⟩ : Fin 512))
      = attend (argProj m c) (argK m c) (argV m c) (argBias m c) b h r q d := by
  obtain ⟨t, ht⟩ : ∃ t : Fin 4, t.val = h.val / 2 := ⟨⟨h.val / 2, by omega⟩, rfl⟩
  obtain ⟨e, he⟩ : ∃ e : Fin 2, e.val = h.val % 2 := ⟨⟨h.val % 2, by omega⟩, rfl⟩
  obtain ⟨i, hi⟩ : ∃ i : Fin 4, i.val = r.val / 4 := ⟨⟨r.val / 4, by omega⟩, rfl⟩
  obtain ⟨p, hp⟩ : ∃ p : Fin 256, p.val = r.val % 4 * 64 + q.val := ⟨⟨r.val % 4 * 64 + q.val, by omega⟩, rfl⟩
  have hix := (block_index t).2.2.2.2.2.2.2
  have hb := congrFun (Value.blocks7 (F := Ideal) m c t (flush0_7 t)) (ix2 (queryTok b i p) (pairLane e d))
  have hpos : (win0_7.rect t).emb (ix2 (queryTok b i p) (pairLane e d))
      = ix2 (⟨b.val * 1024 + (r.val * 64 + q.val), by omega⟩ : Fin 4096) (⟨h.val * 64 + d.val, by omega⟩ : Fin 512) := by
    refine funext fun a => Fin.ext ((Pipeline.Window.rect_emb_val win0_7 t _ a).trans ?_)
    match a with
    | ⟨0, _⟩ =>
      show win0_7.index t 0 * 4096 + (b.val * 1024 + i.val * 256 + p.val) = b.val * 1024 + (r.val * 64 + q.val)
      rw [hix.1]; omega
    | ⟨1, _⟩ =>
      show win0_7.index t 1 * 128 + (e.val * 64 + d.val) = h.val * 64 + d.val
      rw [hix.2]; omega
  have hhead : headOfPair t e = h := Fin.ext (show 2 * t.val + e.val = h.val by omega)
  have hrow : (⟨4 * i.val + p.val / 64, by omega⟩ : Fin 16) = r := Fin.ext (show 4 * i.val + p.val / 64 = r.val by omega)
  have hcol : (⟨p.val % 64, by omega⟩ : Fin 64) = q := Fin.ext (show p.val % 64 = q.val by omega)
  rw [← hpos]
  refine Eq.trans hb ((congrFun (Value.flushed7 m c t) _).trans ?_)
  show outsAt0 m c t (ix2 (queryTok b i p) (pairLane e d)) = _
  rw [out_block, hhead, hrow, hcol]

end Cert.Attention
end
-- ==== Proof.RefRow.lean ====
/- The reference's output, one number at a time: a row of softmax attention over the band and the cached keys. -/
module

public import proofs.«01_k».proof.Proof.RefValue
public import Idealize.ShloMosaic.Lib.KernelVsHost

@[expose] public section

noncomputable section

namespace Cert.Attention

open Idealize.ShloMosaic Idealize.ShloMosaic.ValueIdx Cert.ReferenceIdeal Cert.ReferenceIdeal.Read

variable (x0 : Proj) (x1 x2 : Cache) (x3 : Bias) (b : Fin 4) (h : Fin 8) (r : Fin 16) (q : Fin 64)

/-- The scores of the reference's row: the band's keys, then the cached ones. -/
abbrev bandScore : (Fin 8 × Fin 64) ⊕ Fin 256 → EReal :=
  score x0 x1 x3 b h r q ∘ band 8 (rowStart r.val) (by have : rowStart r.val ≤ 8 := Nat.min_le_right _ _; omega)

/-- The values of the reference's row. -/
abbrev bandValue (d : Fin 64) : (Fin 8 × Fin 64) ⊕ Fin 256 → EReal :=
  value x0 x2 b h d ∘ band 8 (rowStart r.val) (by have : rowStart r.val ≤ 8 := Nat.min_le_right _ _; omega)

/-- The scores of the cached keys. -/
theorem ref_cached (j : Fin 256) : val_main_v95 (F := Ideal) x0 x1 (ix5 b h r q j) = cached x0 x1 b h r q j := by
  rw [val_main_v95_apply, val_main_v93_apply, val_main_v94_apply, val_main_cst_19_apply, Ideal.ofBits_def, eighth]
  unfold cached
  refine congrArg (· * scale) (Finset.sum_congr rfl fun d _ => congrArg₂ (· * ·) ?_ (congrArg x1 (funext fun a => ?_)))
  · rw [← q_grid x0]
    refine congrArg _ (funext fun a => ?_)
    match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl

/-- The joined scores. -/
theorem ref_score (k : (Fin 8 × Fin 64) ⊕ Fin 256) :
    val_main_v96 (F := Ideal) x0 x1 x3 (ix5 b h r q (keys 8 k)) = bandScore x0 x1 x3 b h r q k := by
  unfold val_main_v96
  rcases k with ⟨i, c⟩ | j
  · have hk := keys_inl i c
    refine (concatenate_pair_apply_left (s₁ := S4x8x16x64x512) (s₂ := S4x8x16x64x256) (t := S4x8x16x64x768) (4 : Fin 5)
      (val_main_v92 (F := Ideal) x0 x3) (val_main_v95 (F := Ideal) x0 x1) Gen.concatenates_S4x8x16x64x512_S4x8x16x64x256_S4x8x16x64x768_d4
      (ix5 b h r q (keys 8 (.inl (i, c)))) rfl (ix5 b h r q (⟨i.val * 64 + c.val, by omega⟩ : Fin 512)) fun a => ?_).trans ?_
    · match a with
      | ⟨0, _⟩ => rfl
      | ⟨1, _⟩ => rfl
      | ⟨2, _⟩ => rfl
      | ⟨3, _⟩ => rfl
      | ⟨4, _⟩ => exact hk.symm
    · unfold val_main_v92
      rw [shapeCast_apply _ _ _ (ix6 b h r q i c) (by
        rw [Shape.rowMajor_val_six, Shape.rowMajor_val_five]
        show ((((b.val * 8 + h.val) * 16 + r.val) * 64 + q.val) * 8 + i.val) * 64 + c.val
          = (((b.val * 8 + h.val) * 16 + r.val) * 64 + q.val) * 512 + (i.val * 64 + c.val)
        ring), ref_local]
      show _ = if RowIn r.val (rowStart r.val + i.val) ∧ ColIn q.val c.val then _ else _
      refine if_congr ⟨fun hc => ⟨⟨by omega, by omega⟩, hc⟩, fun hc => hc.2⟩ rfl rfl
  · have hk := keys_inr (n := 8) j
    refine (concatenate_pair_apply_right (s₁ := S4x8x16x64x512) (s₂ := S4x8x16x64x256) (t := S4x8x16x64x768) (4 : Fin 5)
      (val_main_v92 (F := Ideal) x0 x3) (val_main_v95 (F := Ideal) x0 x1) Gen.concatenates_S4x8x16x64x512_S4x8x16x64x256_S4x8x16x64x768_d4
      (ix5 b h r q (keys 8 (.inr j))) rfl rfl (ix5 b h r q j) (fun a ha => ?_) ?_).trans (ref_cached x0 x1 b h r q j)
    · match a with
      | ⟨0, _⟩ => rfl
      | ⟨1, _⟩ => rfl
      | ⟨2, _⟩ => rfl
      | ⟨3, _⟩ => rfl
      | ⟨4, _⟩ => exact absurd rfl ha
    · show j.val + 512 = (keys 8 (.inr j)).val
      omega

/-- The row's largest score. -/
theorem ref_top : val_main_v99 (F := Ideal) x0 x1 x3 (ix4 b h r q) = top (bandScore x0 x1 x3 b h r q) := by
  have hfold : val_main_v97 (F := Ideal) x0 x1 x3 (ix4 b h r q) = top (bandScore x0 x1 x3 b h r q) := by
    unfold val_main_v97 val_main_cst_20
    rw [hostReduce_maximumf_eq_multiReduction (F := Ideal) (φ := .f32) (val_main_v96 (F := Ideal) x0 x1 x3) 0xFF800000#32
      Gen.reducesTo_S4x8x16x64x768_S4x8x16x64_d4 Gen.h_S_ (by decide) (by decide) (by decide), Ideal.multiReduction_maximumf_single,
      Ideal.ofBits_def, neg_inf]
    refine Eq.trans (b := Finset.univ.sup fun k : Fin 768 => val_main_v96 (F := Ideal) x0 x1 x3 (ix5 b h r q k)) ?_ ?_
    · refine Finset.sup_congr rfl fun k _ => congrArg (val_main_v96 (F := Ideal) x0 x1 x3) (funext fun a => Fin.ext ?_)
      match a with
      | ⟨0, _⟩ => rfl
      | ⟨1, _⟩ => rfl
      | ⟨2, _⟩ => rfl
      | ⟨3, _⟩ => rfl
      | ⟨4, _⟩ => rfl
    · rw [← Finset.map_univ_equiv (keys 8), Finset.sup_map]
      exact Finset.sup_congr rfl fun k _ => ref_score x0 x1 x3 b h r q k
  rw [val_main_v99_apply, val_main_v98_apply, val_main_cst_21_apply, hfold, Ideal.ofBits_def, neg_inf]
  exact bot_sup_eq _

/-- The row's unnormalised weights. -/
theorem ref_weight (k : (Fin 8 × Fin 64) ⊕ Fin 256) :
    val_main_v103 (F := Ideal) x0 x1 x3 (ix5 b h r q (keys 8 k)) = weight (bandScore x0 x1 x3 b h r q) k := by
  have hm : val_main_v101 (F := Ideal) x0 x1 x3 (ix5 b h r q (keys 8 k)) = top (bandScore x0 x1 x3 b h r q) := by
    rw [val_main_v101_apply, val_main_v100_apply, ← ref_top]
    refine congrArg _ (funext fun a => ?_)
    match a with
    | ⟨0, _⟩ => rfl
    | ⟨1, _⟩ => rfl
    | ⟨2, _⟩ => rfl
    | ⟨3, _⟩ => rfl
  rw [val_main_v103_apply, val_main_v102_apply, ref_score, hm]
  rfl

/-- The sum of the row's weights. -/
theorem ref_sum : val_main_v104 (F := Ideal) x0 x1 x3 (ix4 b h r q) = ∑ k, weight (bandScore x0 x1 x3 b h r q) k := by
  rw [val_main_v104_apply, val_main_cst_22_apply, Ideal.ofBits_def, Ideal.ofBits_zero_f32, zero_add]
  refine (Equiv.sum_comp (keys 8) _).symm.trans (Finset.sum_congr rfl fun k _ => ?_)
  rw [← ref_weight]
  refine congrArg _ (funext fun a => ?_)
  match a with
  | ⟨0, _⟩ => rfl
  | ⟨1, _⟩ => rfl
  | ⟨2, _⟩ => rfl
  | ⟨3, _⟩ => rfl
  | ⟨4, _⟩ => rfl

/-- The row's normalised weights. -/
theorem ref_prob (k : (Fin 8 × Fin 64) ⊕ Fin 256) :
    val_main_v107 (F := Ideal) x0 x1 x3 (ix5 b h r q (keys 8 k))
      = Ideal.div (weight (bandScore x0 x1 x3 b h r q) k) (∑ j, weight (bandScore x0 x1 x3 b h r q) j) := by
  have hm : val_main_v106 (F := Ideal) x0 x1 x3 (ix5 b h r q (keys 8 k)) = ∑ j, weight (bandScore x0 x1 x3 b h r q) j := by
    rw [val_main_v106_apply, val_main_v105_apply, ← ref_sum]
    refine congrArg _ (funext fun a => ?_)
    match a with
    | ⟨0, _⟩ => rfl
    | ⟨1, _⟩ => rfl
    | ⟨2, _⟩ => rfl
    | ⟨3, _⟩ => rfl
  rw [val_main_v107_apply, ref_weight, hm]
  rfl

/-- The sum over the band's keys. -/
theorem ref_out_local (d : Fin 64) :
    val_main_v111 (F := Ideal) x0 x1 x3 (ix5 b h r q d)
      = ∑ i : Fin 8, ∑ c : Fin 64, val_main_v107 (F := Ideal) x0 x1 x3 (ix5 b h r q (keys 8 (.inl (i, c))))
          * bandValue x0 x2 b h r d (.inl (i, c)) := by
  unfold val_main_v111
  simp only [Host.dotGeneral]
  rw [Ideal.dotGeneral_apply, sum_contr2 _ 8 64 rfl rfl rfl]
  refine Finset.sum_congr rfl fun i _ => Finset.sum_congr rfl fun c _ => congrArg₂ (· * ·) ?_ ?_
  · unfold val_main_v109
    rw [shapeCast_apply _ _ _ (ix5 b h r q (⟨i.val * 64 + c.val, by omega⟩ : Fin 512)) (by
      rw [Shape.rowMajor_val_six, Shape.rowMajor_val_five]
      show (((b.val * 8 + h.val) * 16 + r.val) * 64 + q.val) * 512 + (i.val * 64 + c.val)
        = ((((b.val * 8 + h.val) * 16 + r.val) * 64 + q.val) * 8 + i.val) * 64 + c.val
      ring), val_main_v108_apply]
    refine congrArg (val_main_v107 (F := Ideal) x0 x1 x3) (funext fun a => Fin.ext ?_)
    match a with
    | ⟨0, _⟩ => rfl
    | ⟨1, _⟩ => rfl
    | ⟨2, _⟩ => rfl
    | ⟨3, _⟩ => rfl
    | ⟨4, _⟩ => exact (keys_inl i c).symm
  · refine Eq.trans (b := val_main_v35 (F := Ideal) x0 (ix6 b h r i c d)) (congrArg (val_main_v35 (F := Ideal) x0) (funext fun a => Fin.ext ?_)) ?_
    · match a with
      | ⟨0, _⟩ => rfl
      | ⟨1, _⟩ => rfl
      | ⟨2, _⟩ => rfl
      | ⟨3, _⟩ => rfl
      | ⟨4, _⟩ => rfl
      | ⟨5, _⟩ => rfl
    · exact (gather_band (val_main_v11 (F := Ideal) x0) _ row_table_v b h r i c d).trans (v_grid x0 b h (bandRow r i) c d)

/-- The sum over the cached keys. -/
theorem ref_out_cached (d : Fin 64) :
    val_main_v112 (F := Ideal) x0 x1 x2 x3 (ix5 b h r q d)
      = ∑ j : Fin 256, val_main_v107 (F := Ideal) x0 x1 x3 (ix5 b h r q (keys 8 (.inr j))) * bandValue x0 x2 b h r d (.inr j) := by
  rw [val_main_v112_apply]
  refine Finset.sum_congr rfl fun j _ => congrArg₂ (· * ·) ?_ (congrArg x2 (funext fun a => ?_))
  · rw [val_main_v110_apply]
    refine congrArg _ (funext fun a => Fin.ext ?_)
    match a with
    | ⟨0, _⟩ => rfl
    | ⟨1, _⟩ => rfl
    | ⟨2, _⟩ => rfl
    | ⟨3, _⟩ => rfl
    | ⟨4, _⟩ => exact (keys_inr (n := 8) j).symm
  · match a with
    | ⟨0, _⟩ => rfl
    | ⟨1, _⟩ => rfl
    | ⟨2, _⟩ => rfl
    | ⟨3, _⟩ => rfl

/-- The output on the grid is a row with its weights normalised first. -/
theorem ref_out (d : Fin 64) :
    val_main_v113 (F := Ideal) x0 x1 x2 x3 (ix5 b h r q d)
      = rowDivided (bandScore x0 x1 x3 b h r q) (bandValue x0 x2 b h r d) := by
  rw [val_main_v113_apply, ref_out_local x0 x1 x2 x3, ref_out_cached]
  unfold rowDivided
  rw [Fintype.sum_sum_type, Fintype.sum_prod_type]
  simp only [ref_prob]
  rfl

/-- The output array at token `b * 1024 + r * 64 + q` and lane `h * 64 + d`. -/
theorem ref_flat (d : Fin 64) :
    val_main_v116 (F := Ideal) x0 x1 x2 x3
        (ix2 (⟨b.val * 1024 + (r.val * 64 + q.val), by omega⟩ : Fin 4096) (⟨h.val * 64 + d.val, by omega⟩ : Fin 512))
      = rowDivided (bandScore x0 x1 x3 b h r q) (bandValue x0 x2 b h r d) := by
  have e1 : idx_main_v116 (ix2 (⟨b.val * 1024 + (r.val * 64 + q.val), by omega⟩ : Fin 4096) (⟨h.val * 64 + d.val, by omega⟩ : Fin 512))
      = ix4 b (tok r q) h d := by
    funext a; refine Fin.ext ?_
    match a with
    | ⟨0, _⟩ => show _ = b.val; dsimp [idx_main_v116]; omega
    | ⟨1, _⟩ => show _ = r.val * 64 + q.val; dsimp [idx_main_v116]; omega
    | ⟨2, _⟩ => show _ = h.val; dsimp [idx_main_v116]; omega
    | ⟨3, _⟩ => show _ = d.val; dsimp [idx_main_v116]; omega
  have e2 : idx_main_v115 (ix4 b (tok r q) h d) = ix4 b h (tok r q) d := by
    funext a
    match a with
    | ⟨0, _⟩ => rfl
    | ⟨1, _⟩ => rfl
    | ⟨2, _⟩ => rfl
    | ⟨3, _⟩ => rfl
  have e3 : idx_main_v114 (ix4 b h (tok r q) d) = ix5 b h r q d := by
    funext a; refine Fin.ext ?_
    match a with
    | ⟨0, _⟩ => show _ = b.val; dsimp [idx_main_v114]; omega
    | ⟨1, _⟩ => show _ = h.val; dsimp [idx_main_v114]; omega
    | ⟨2, _⟩ => show _ = r.val; dsimp [idx_main_v114]; omega
    | ⟨3, _⟩ => show _ = q.val; dsimp [idx_main_v114]; omega
    | ⟨4, _⟩ => show _ = d.val; dsimp [idx_main_v114]; omega
  rw [val_main_v116_apply, e1, val_main_v115_apply, e2, val_main_v114_apply, e3, ref_out]

end Cert.Attention
end
-- ==== Proof.Finite.lean ====
/- The precondition read back: the queries, keys and biases are real numbers, so every row of scores has a real maximum. -/
module

public import proofs.«01_k».proof.Proof.RefRow
public import proofs.«01_k».proof.Proof.Gen.Pre_finite_scores
public import Idealize.ShloMosaic.Lib.ReduceAll

@[expose] public section

noncomputable section

namespace Cert.Attention

open Idealize.ShloMosaic Idealize.ShloMosaic.ValueIdx

/-- An extended real that is a real number. -/
def IsReal (x : EReal) : Prop := ∃ r : ℝ, x = (r : EReal)

/-- A sum of real numbers is real. -/
theorem IsReal.sum {ι : Type} [Fintype ι] {f : ι → EReal} (h : ∀ i, IsReal (f i)) : IsReal (∑ i, f i) := by
  choose g hg using h
  refine ⟨∑ i, g i, ?_⟩
  rw [Finset.sum_congr rfl fun i _ => hg i]
  exact (map_sum (⟨⟨Real.toEReal, rfl⟩, EReal.coe_add⟩ : ℝ →+ EReal) g Finset.univ).symm

/-- A product of real numbers is real. -/
theorem IsReal.mul {x y : EReal} : IsReal x → IsReal y → IsReal (x * y) := by
  rintro ⟨a, rfl⟩ ⟨b, rfl⟩
  exact ⟨a * b, (EReal.coe_mul a b).symm⟩

/-- A sum of two real numbers is real. -/
theorem IsReal.add {x y : EReal} : IsReal x → IsReal y → IsReal (x + y) := by
  rintro ⟨a, rfl⟩ ⟨b, rfl⟩
  exact ⟨a + b, (EReal.coe_add a b).symm⟩

/-- A number whose absolute value lies below infinity is real. -/
theorem isReal_of_abs_lt {x : EReal}
    (h : FloatOps.cmpf (F := Ideal) (φ := .f32) .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  have hlt : max x (-x) < ⊤ := by
    have h' : BitVec.ofBool (decide (max x (-x) < Ideal.ofBits .f32 0x7F800000#32)) = 1#1 := h
    rw [htop] at h'
    by_contra hn
    rw [decide_eq_false hn] at h'
    exact absurd h' (by decide)
  induction x using EReal.rec with
  | bot => simp at hlt
  | top => simp at hlt
  | coe r => exact ⟨r, rfl⟩

instance : Subsingleton Cert.Pre_finite_scores.S_.Idx := ⟨fun a b => funext fun i => i.elim0⟩

variable (x0 : Proj) (x1 x2 : Cache) (x3 : Bias)

/-- The precondition, of one number of each of the three arrays. -/
theorem finite_of_pre (h : Cert.Pre_finite_scores.fn (F := Ideal) x0 x1 x2 x3 = fun _ => 1#1) :
    (∀ (b : Fin 4) (n : Fin 1024) (l : Fin 1536), l.val < 1024 → IsReal (x0 (ix3 b n l)))
      ∧ (∀ i, IsReal (x1 i)) ∧ ∀ i, IsReal (x3 i) := by
  have h0 := congrFun h (fun i => i.elim0)
  obtain ⟨h1, h3⟩ := IntOp.andi_eq_one.1 h0
  obtain ⟨h1, h2⟩ := IntOp.andi_eq_one.1 h1
  refine ⟨fun b n l hl => ?_, fun i => ?_, fun i => ?_⟩
  · have := Host.reduce_andi_all _ _ _ _ _ h1 (ix3 b n ⟨l.val, hl⟩)
    refine isReal_of_abs_lt ?_
    refine Eq.trans (congrArg (fun x : EReal => FloatOps.cmpf (F := Ideal) (φ := .f32) .olt (FloatOps.hostAbsf x)
      (FloatOps.ofBits (F := Ideal) .f32 0x7F800000#32)) (congrArg x0 (funext fun a => Fin.ext ?_))) this
    match a with
    | ⟨0, _⟩ => exact (Nat.zero_add _).symm
    | ⟨1, _⟩ => exact (Nat.zero_add _).symm
    | ⟨2, _⟩ => exact (Nat.zero_add _).symm
  · exact isReal_of_abs_lt (Host.reduce_andi_all _ _ _ _ _ h2 i)
  · exact isReal_of_abs_lt (Host.reduce_andi_all _ _ _ _ _ h3 i)

/-- A row of scores each below infinity, one of them real, has a real maximum. -/
theorem top_real {ι : Type} [Fintype ι] (s : ι → EReal) (hs : ∀ k, IsReal (s k) ∨ s k = ⊥) (k₀ : ι) (h₀ : IsReal (s k₀)) :
    ∃ M : ℝ, top s = (M : EReal) := by
  obtain ⟨k, -, hk⟩ := Finset.exists_mem_eq_sup Finset.univ ⟨k₀, Finset.mem_univ k₀⟩ s
  rcases hs k with ⟨r, hr⟩ | hb
  · exact ⟨r, hk.trans hr⟩
  · obtain ⟨r, hr⟩ := h₀
    have hle : s k₀ ≤ Finset.univ.sup s := Finset.le_sup (Finset.mem_univ k₀)
    rw [hk, hb, hr] at hle
    exact absurd (le_bot_iff.1 hle) (EReal.coe_ne_bot r)

/-- Under the precondition the reference's output number is the specification's attention. -/
theorem ref_attend (h : Cert.Pre_finite_scores.fn (F := Ideal) x0 x1 x2 x3 = fun _ => 1#1)
    (b : Fin 4) (hd : Fin 8) (r : Fin 16) (q d : Fin 64) :
    rowDivided (bandScore x0 x1 x3 b hd r q) (bandValue x0 x2 b hd r d) = attend x0 x1 x2 x3 b hd r q d := by
  obtain ⟨hp, hk, hb⟩ := finite_of_pre x0 x1 x2 x3 h
  have hlane : ∀ (w : Fin 3) (d : Fin 64), w.val < 2 → (lane w hd d).val < 1024 := fun w d hw => by
    show w.val * 512 + hd.val * 64 + d.val < 1024
    omega
  have hscale : IsReal scale := ⟨_, rfl⟩
  have hc : ∀ j, IsReal (cached x0 x1 b hd r q j) := fun j =>
    (IsReal.sum fun d => (hp b _ _ (hlane 0 d (by decide))).mul (hk _)).mul hscale
  have hl : ∀ kr kc, IsReal (local_ x0 x3 b hd r q kr kc) := fun kr kc =>
    ((IsReal.sum fun d => (hp b _ _ (hlane 0 d (by decide))).mul (hp b _ _ (hlane 1 d (by decide)))).mul hscale).add (hb _)
  obtain ⟨M, hM⟩ := top_real (bandScore x0 x1 x3 b hd r q) (fun k => by
    rcases k with k | j
    · show IsReal (if _ then _ else _) ∨ (if _ then _ else _) = ⊥
      split
      · exact .inl (hl _ _)
      · exact .inr rfl
    · exact .inl (hc j)) (.inr 0) (hc 0)
  rw [rowDivided_eq_row hM]
  exact row_band _ _ _ _ _ _ _ _ _ _ (Nat.le_refl _) (Nat.le_refl _)

end Cert.Attention
end
-- ==== Proof.Algebraic.lean ====
/- The value claim: both programs leave the specification's attention in their result array. -/
module

public import proofs.«01_k».proof.Defs
public import proofs.«01_k».proof.Proof.KernelArray
public import proofs.«01_k».proof.Proof.Finite
public import proofs.«01_k».proof.Proof.Gen.ReferenceIdeal.Run

@[expose] public section

noncomputable section

namespace Cert.Attention

open Idealize.ShloMosaic Idealize.ShloMosaic.TcCoe Idealize.ShloMosaic.ValueIdx Idealize.SL.Sem

/-- Every index of the result is a token's row and a head's lane. -/
theorem flat_index (y : (⟨2, ![4096, 512]⟩ : Shape).Idx) : ∃ (b : Fin 4) (h : Fin 8) (r : Fin 16) (q d : Fin 64),
    y = ix2 (⟨b.val * 1024 + (r.val * 64 + q.val), by omega⟩ : Fin 4096) (⟨h.val * 64 + d.val, by omega⟩ : Fin 512) := by
  have h0 : (y 0).val < 4096 := (y 0).isLt
  have h1 : (y 1).val < 512 := (y 1).isLt
  refine ⟨⟨(y 0).val / 1024, by omega⟩, ⟨(y 1).val / 64, by omega⟩, ⟨(y 0).val % 1024 / 64, by omega⟩, ⟨(y 0).val % 64, by omega⟩,
    ⟨(y 1).val % 64, by omega⟩, funext fun a => Fin.ext ?_⟩
  match a with
  | ⟨0, _⟩ => show (y 0).val = (y 0).val / 1024 * 1024 + ((y 0).val % 1024 / 64 * 64 + (y 0).val % 64); omega
  | ⟨1, _⟩ => show (y 1).val = (y 1).val / 64 * 64 + (y 1).val % 64; omega

/-- The kernel's result and the reference's are the same array. -/
theorem same_array (m : (ℓ : Loc Cert.KernelIdeal.nD Cert.KernelIdeal.τ Cert.KernelIdeal.sig) → Buf (Elt Ideal) ℓ) (c : Dev Cert.KernelIdeal.nD)
    (h : Cert.Pre_finite_scores.fn (F := Ideal) (argProj m c) (argK m c) (argV m c) (argBias m c) = fun _ => 1#1) :
    Cert.ReferenceIdeal.Read.val_main_v116 (F := Ideal) (argProj m c) (argK m c) (argV m c) (argBias m c)
      = (Cert.KernelIdeal.Gen.dats m 0 c).arrAt 7 Cert.KernelIdeal.cfg0.N := by
  funext y
  obtain ⟨b, hd, r, q, d, rfl⟩ := flat_index y
  exact (ref_flat (argProj m c) (argK m c) (argV m c) (argBias m c) b hd r q d).trans
    ((ref_attend _ _ _ _ h b hd r q d).trans (out_array m c b hd r q d).symm)

/-- The value claim. -/
theorem algebraic : Cert.algebraic_KernelIdeal_ReferenceIdeal_pre_finite_scores := fun m g m' g' hpre hargs =>
  ⟨fun c => (Cert.KernelIdeal.Gen.dats m 0 c).arrAt 7 Cert.KernelIdeal.cfg0.N, Cert.KernelIdeal.Value.run_blocks m g,
    (θ_run _ _ _).mono (fun r h c => ⟨(h c).1.trans (by
      rw [Cert.ReferenceIdeal.Read.val_main_v116_eq m' c, (hargs c).1, (hargs c).2.1, (hargs c).2.2.1, (hargs c).2.2.2]
      exact same_array m c (hpre c)), (h c).2⟩) (Cert.ReferenceIdeal.Value.run m' g')⟩

end Cert.Attention
end
-- ==== Proof.Rows.lean ====
/- Rows of numbers: the root-mean-square normalisation and the three-tap convolution along a sequence that both the
   projection and the tail of the layer are made of. -/
module

public import Idealize.ShloMosaic.Lib.ValueIdx
public import Idealize.ShloMosaic.PureOps.Ideal.Laws
public import Idealize.ShloMosaic.Lib.Pipeline.Value

@[expose] public section

noncomputable section

namespace Cert.Layer

open Idealize.ShloMosaic Idealize.ShloMosaic.ValueIdx

/-- The number a 32-bit word encodes. -/
abbrev word (w : BitVec 32) : EReal := Ideal.ofBits .f32 w

/-- A row divided by its root mean square; `w` encodes the row's length. -/
def rms {n : ℕ} (w : BitVec 32) (x : Fin n → EReal) (c : Fin n) : EReal :=
  x c * Ideal.rsqrt (Ideal.div (∑ k, x k * x k) (word w) + word 0x358637BD#32)

/-- The row before row `l` of a sequence, zero before the first. -/
def prev {L : ℕ} (u : Fin L → EReal) (l : Fin L) : EReal := if h : l.val = 0 then 0 else u ⟨l.val - 1, by omega⟩

/-- The row after row `l` of a sequence, zero after the last. -/
def next {L : ℕ} (u : Fin L → EReal) (l : Fin L) : EReal := if h : l.val + 1 < L then u ⟨l.val + 1, h⟩ else 0

/-- The three-tap convolution of a column along its sequence. -/
def conv3 {L : ℕ} (u : Fin L → EReal) (w0 w1 w2 b : EReal) (l : Fin L) : EReal :=
  prev u l * w0 + u l * w1 + next u l * w2 + b

/-- A normalised row of a two-axis array, as a kernel writes it, read at an index. -/
theorem rms_apply {m n : ℕ} (w : BitVec 32) (x : FVec Ideal ⟨2, ![m, n]⟩ .f32)
    (hr : (⟨2, ![m, n]⟩ : Shape).Reduces [(1 : Fin 2)] ⟨1, ![m]⟩) (hc : (⟨1, ![m]⟩ : Shape).ShapeCasts ⟨2, ![m, 1]⟩)
    (hb : (⟨2, ![m, 1]⟩ : Shape).Broadcasts ⟨2, ![m, n]⟩) (hm : m ≠ 1) (r : Fin m) (c : Fin n) :
    mulf x (broadcastTo ⟨2, ![m, n]⟩ (rsqrt (addf (divf
        (shapeCast ⟨2, ![m, 1]⟩ (multiReduction .add [1] ⟨1, ![m]⟩ (mulf x x) 0x00000000#32 hr (.inl rfl) rfl) hc)
        (broadcast ⟨2, ![m, 1]⟩ (Scalar.ofBits (F := Ideal) .f32 w))) (broadcast ⟨2, ![m, 1]⟩ (Scalar.ofBits (F := Ideal) .f32 0x358637BD#32)))) hb) (ix2 r c)
      = rms w (fun k => x (ix2 r k)) c := by
  refine (mulf_apply _ _ _).trans (congrArg (x (ix2 r c) * ·) ?_)
  refine (broadcastTo_apply _ hb _ (ix2 r 0) fun a => ?_).trans ?_
  · match a with
    | ⟨0, _⟩ => exact (if_neg hm).symm
    | ⟨1, _⟩ => rfl
  refine congrArg Ideal.rsqrt (congrArg (· + _) (congrArg (Ideal.div · _) ?_))
  refine (shapeCast_apply _ hc (ix2 r 0) (ix1 r) (by
    rw [Shape.rowMajor_val_one, Shape.rowMajor_val_two]; show r.val = r.val * 1 + 0; omega)).trans ?_
  refine (Ideal.multiReduction_add_single _ _ hr _ _ (ix1 r)).trans (Finset.sum_congr rfl fun k _ => ?_)
  have hk : hr.lift (ix1 r) k = ix2 r k := funext fun a => Fin.ext (by
    match a with
    | ⟨0, _⟩ => rfl
    | ⟨1, _⟩ => rfl)
  rw [hk]; rfl

end Cert.Layer
end
-- ==== Proof.ProjBody.lean ====
/- The projection's body at one grid point, read at an index: the normalised and modulated rows, their products with the
   weights, and the convolution along each sequence. -/
module

public import proofs.«01_k».proof.Proof.Rows
public import proofs.«01_k».proof.Proof.Gen.Kernel2Ideal.Skeleton
public import Idealize.ShloMosaic.Lib.KernelVsHost
public import Idealize.ShloMosaic.Lib.Pipeline.ValueKit.Geometry

@[expose] public section

set_option maxRecDepth 16384

noncomputable section

namespace Cert.Projection

open Idealize.ShloMosaic Idealize.ShloMosaic.ValueIdx Cert.Layer Cert.Kernel2Ideal Cert.Kernel2Ideal.Gen

/-- Row `l` of sequence `s` of a block. -/
def seqRow (s : Fin 4) (l : Fin 256) : Fin 1024 := ⟨s.val * 256 + l.val, by omega⟩

/-- A row vector spread over a block, read at an index. -/
theorem spread_apply {m n : ℕ} (v : (⟨2, ![1, n]⟩ : Shape).Idx → EReal) (hn : n ≠ 1) (h : (⟨2, ![1, n]⟩ : Shape).Broadcasts ⟨2, ![m, n]⟩)
    (r : Fin m) (c : Fin n) : broadcastTo ⟨2, ![m, n]⟩ v h (ix2 r c) = v (ix2 0 c) :=
  broadcastTo_apply _ h _ (ix2 0 c) fun a => match a with
    | ⟨0, _⟩ => rfl
    | ⟨1, _⟩ => (if_neg hn).symm

/-- A reshape to the same shape changes nothing. -/
theorem same_cast {s : Shape} {α : Type} (v : s.Idx → α) (h : s.ShapeCasts s) (i : s.Idx) : shapeCast s v h i = v i :=
  shapeCast_apply _ h _ _ rfl

/-- The modulated, normalised rows of a block. -/
theorem hidden_apply (sh sc g : FVec Ideal S1x1024 .f32) (x : FVec Ideal S1024x1024 .f32) (r c : Fin 1024) :
    k0_pay7 sh sc (k0_pay6 x g) (ix2 r c)
      = rms 0x44800000#32 (fun k => x (ix2 r k)) c * g (ix2 0 c) * (word 0x3F800000#32 + sc (ix2 0 c)) + sh (ix2 0 c) := by
  unfold k0_pay7
  refine (truncf_apply _ Gen.bitsLt_bf16_f32 _).trans ((addf_apply _ _ _).trans (congrArg₂ (· + ·) ?_ (spread_apply _ (by decide) _ _ _)))
  refine (mulf_apply _ _ _).trans (congrArg₂ (· * ·) ?_ (spread_apply _ (by decide) _ _ _))
  unfold k0_pay6
  dsimp only
  refine (mulf_apply _ _ _).trans (congrArg₂ (· * ·) ?_ ((spread_apply _ (by decide) _ _ _).trans (same_cast _ _ _)))
  rw [show shapeCast S1024x1024 x Gen.shapeCasts_S1024x1024_S1024x1024 = x from funext fun i => same_cast _ _ i]
  exact rms_apply 0x44800000#32 x _ _ _ (by decide) r c

/-- A sum over a contraction's index, as a sum over the contracted axis. -/
theorem sum_contr {sl sr so : Shape} (D : DotDims sl sr so) (n : ℕ) (hr : D.contr.rank = 1) (hs : D.contr.size ⟨0, by omega⟩ = n)
    (f : D.contr.Idx → EReal) : ∑ k, f k = ∑ k : Fin n, f ((contrEquiv1 D n hr hs).symm k) :=
  (Equiv.sum_comp (contrEquiv1 D n hr hs).symm f).symm

/-- The product of a block's rows with the convolved columns of the weights. -/
theorem wide_apply (h : FVec Ideal S1024x1024 .bf16) (w : FVec Ideal S1024x1536 .bf16) (r : Fin 1024) (c : Fin 1536) :
    matmul dot_S1024x1024_S1024x1536_S1024x1536_1_0_0_1_n_n none h (shapeCast S1024x1536 w Gen.shapeCasts_S1024x1536_S1024x1536)
        (constant S1024x1536 .f32 0x00000000#32) (ix2 r c) = ∑ k : Fin 1024, h (ix2 r k) * w (ix2 k c) := by
  refine (Ideal.matmul_constant_zero_apply _ none _ _ _).trans ((sum_contr _ 1024 rfl rfl _).trans ?_)
  refine Finset.sum_congr rfl fun k _ => congrArg₂ (· * ·) (congrArg h (funext fun a => Fin.ext ?_))
    ((same_cast _ _ _).trans (congrArg w (funext fun a => Fin.ext ?_)))
  · match a with
    | ⟨0, _⟩ => rfl
    | ⟨1, _⟩ => exact contrEquiv1_symm_val dot_S1024x1024_S1024x1536_S1024x1536_1_0_0_1_n_n 1024 rfl rfl k
  · match a with
    | ⟨0, _⟩ => exact contrEquiv1_symm_val dot_S1024x1024_S1024x1536_S1024x1536_1_0_0_1_n_n 1024 rfl rfl k
    | ⟨1, _⟩ => rfl

/-- The product of a block's rows with 512 columns of the weights. -/
theorem narrow_apply (h : FVec Ideal S1024x1024 .bf16) (w : FVec Ideal S1024x512 .bf16) (r : Fin 1024) (c : Fin 512) :
    k0_pay15 h w (ix2 r c) = ∑ k : Fin 1024, h (ix2 r k) * w (ix2 k c) := by
  refine (Ideal.matmul_constant_zero_apply _ none _ _ _).trans ((sum_contr _ 1024 rfl rfl _).trans ?_)
  refine Finset.sum_congr rfl fun k _ => congrArg₂ (· * ·) (congrArg h (funext fun a => Fin.ext ?_))
    ((same_cast _ _ _).trans (congrArg w (funext fun a => Fin.ext ?_)))
  · match a with
    | ⟨0, _⟩ => rfl
    | ⟨1, _⟩ => exact contrEquiv1_symm_val dot_S1024x1024_S1024x512_S1024x512_1_0_0_1_n_n 1024 rfl rfl k
  · match a with
    | ⟨0, _⟩ => exact contrEquiv1_symm_val dot_S1024x1024_S1024x512_S1024x512_1_0_0_1_n_n 1024 rfl rfl k
    | ⟨1, _⟩ => rfl

/-- The rows in tiles of eight. -/
abbrev tiles (u : FVec Ideal S1024x1536 .f32) : FVec Ideal S128x8x1536 .f32 := shapeCast S128x8x1536 u Gen.shapeCasts_S1024x1536_S128x8x1536

theorem tiles_apply (u : FVec Ideal S1024x1536 .f32) (t : Fin 128) (e : Fin 8) (c : Fin 1536) :
    tiles u (ix3 t e c) = u (ix2 ⟨t.val * 8 + e.val, by omega⟩ c) :=
  shapeCast_apply _ _ _ _ (by rw [Shape.rowMajor_val_two, Shape.rowMajor_val_three]; rfl)

/-- A test of the row within its tile. -/
theorem lane_test (w : BitVec 32) (e0 : Fin 8) (hw : w = BitVec.ofNat 32 e0.val) (t : Fin 128) (e : Fin 8) (c : Fin 1536) :
    broadcastTo S128x8x1536 (shapeCast S1x8x1 (cmpi .eq (iota .tc S1x8x1 32 [1] Gen.iota_S1x8x1_d1_w32) (broadcast S1x8x1 w))
        Gen.shapeCasts_S1x8x1_S1x8x1) Gen.broadcasts_S1x8x1_S128x8x1536 (ix3 t e c) = if e = e0 then 1#1 else 0#1 := by
  subst hw
  refine (broadcastTo_apply _ _ _ (ix3 0 e 0) fun a => ?_).trans ((same_cast _ _ _).trans ?_)
  · match a with
    | ⟨0, _⟩ => rfl
    | ⟨1, _⟩ => rfl
    | ⟨2, _⟩ => rfl
  · revert e0 e; decide

/-- The tiles turned by one row, and by seven, read at an index. -/
theorem turn_apply (w : BitVec 32) (k : ℕ) (hk : w.toNat = k) (v : FVec Ideal S128x8x1536 .f32) (t : Fin 128) (e e' : Fin 8) (c : Fin 1536)
    (he : e'.val = (e.val + 8 - k % 8) % 8) :
    dynamicRotate 1 w none v Gen.rotates_S128x8x1536_d1 (ix3 t e c) = v (ix3 t e' c) :=
  dynamicRotate_apply 1 w v Gen.rotates_S128x8x1536_d1 _ _ fun b => match b with
    | ⟨0, _⟩ => rfl
    | ⟨1, _⟩ => by show e'.val = (e.val + 8 - w.toNat % 8) % 8; rw [hk]; exact he
    | ⟨2, _⟩ => rfl

/-- A run of tiles, read at an index. -/
theorem run_apply (o : ℕ) (v : FVec Ideal S128x8x1536 .f32) (h) (t : Fin 31) (e : Fin 8) (c : Fin 1536) (t' : Fin 128) (ht : t'.val = o + t.val) :
    extractStridedSlice S31x8x1536 ![o, 0, 0] v h (ix3 t e c) = v (ix3 t' e c) :=
  extractStridedSlice_apply _ _ _ _ _ fun a => match a with
    | ⟨0, _⟩ => ht
    | ⟨1, _⟩ => (Nat.zero_add _).symm
    | ⟨2, _⟩ => (Nat.zero_add _).symm

/-- The first rows' tiles: a tile of zeros before each sequence's first 31 tiles. -/
abbrev before (v : FVec Ideal S128x8x1536 .f32) : FVec Ideal S128x8x1536 .f32 :=
  concatenate S128x8x1536 0 [⟨S1x8x1536, k0_pay10 (F := Ideal)⟩,
    ⟨S31x8x1536, extractStridedSlice S31x8x1536 ![0, 0, 0] v Gen.slices_S128x8x1536_o0_0_0_S31x8x1536⟩, ⟨S1x8x1536, k0_pay10 (F := Ideal)⟩,
    ⟨S31x8x1536, extractStridedSlice S31x8x1536 ![32, 0, 0] v Gen.slices_S128x8x1536_o32_0_0_S31x8x1536⟩, ⟨S1x8x1536, k0_pay10 (F := Ideal)⟩,
    ⟨S31x8x1536, extractStridedSlice S31x8x1536 ![64, 0, 0] v Gen.slices_S128x8x1536_o64_0_0_S31x8x1536⟩, ⟨S1x8x1536, k0_pay10 (F := Ideal)⟩,
    ⟨S31x8x1536, extractStridedSlice S31x8x1536 ![96, 0, 0] v Gen.slices_S128x8x1536_o96_0_0_S31x8x1536⟩]
    Gen.concatenates_S1x8x1536_S31x8x1536_S1x8x1536_S31x8x1536_S1x8x1536_S31x8x1536_S1x8x1536_S31x8x1536_S128x8x1536_d0

/-- The last rows' tiles: each sequence's last 31 tiles, then a tile of zeros. -/
abbrev after (v : FVec Ideal S128x8x1536 .f32) : FVec Ideal S128x8x1536 .f32 :=
  concatenate S128x8x1536 0 [⟨S31x8x1536, extractStridedSlice S31x8x1536 ![1, 0, 0] v Gen.slices_S128x8x1536_o1_0_0_S31x8x1536⟩,
    ⟨S1x8x1536, k0_pay10 (F := Ideal)⟩, ⟨S31x8x1536, extractStridedSlice S31x8x1536 ![33, 0, 0] v Gen.slices_S128x8x1536_o33_0_0_S31x8x1536⟩,
    ⟨S1x8x1536, k0_pay10 (F := Ideal)⟩, ⟨S31x8x1536, extractStridedSlice S31x8x1536 ![65, 0, 0] v Gen.slices_S128x8x1536_o65_0_0_S31x8x1536⟩,
    ⟨S1x8x1536, k0_pay10 (F := Ideal)⟩, ⟨S31x8x1536, extractStridedSlice S31x8x1536 ![97, 0, 0] v Gen.slices_S128x8x1536_o97_0_0_S31x8x1536⟩,
    ⟨S1x8x1536, k0_pay10 (F := Ideal)⟩]
    Gen.concatenates_S31x8x1536_S1x8x1536_S31x8x1536_S1x8x1536_S31x8x1536_S1x8x1536_S31x8x1536_S1x8x1536_S128x8x1536_d0

/-- Off the joined axis two indices of tiles agree. -/
theorem off_axis {n : ℕ} (t : Fin 128) (t' : Fin n) (e : Fin 8) (c : Fin 1536) (b : Fin 3) (hb : b ≠ (0 : Fin 3)) :
    ((ix3 t' e c : (⟨3, ![n, 8, 1536]⟩ : Shape).Idx) b).val = ((ix3 t e c : S128x8x1536.Idx) b).val := match b, hb with
  | ⟨0, _⟩, hb => absurd rfl hb
  | ⟨1, _⟩, _ => rfl
  | ⟨2, _⟩, _ => rfl

theorem zero_tile (i : S1x8x1536.Idx) : k0_pay10 (F := Ideal) i = 0 := Ideal.ofBits_zero_f32

/-- A joined array of tiles, read within one of its pieces. -/
theorem joined_apply {n : ℕ} (xs : List ((s : Shape) × (s.Idx → EReal))) (h : Shape.Concatenates (xs.map (·.1)) S128x8x1536 0) (k : ℕ)
    (hk : k < xs.length) (x : (⟨3, ![n, 8, 1536]⟩ : Shape).Idx → EReal) (hx : xs[k] = ⟨⟨3, ![n, 8, 1536]⟩, x⟩) (pre : ℕ)
    (hpre : (((xs.take k).map (·.1)).map fun s => if h : s.rank = S128x8x1536.rank then s.size ((0 : Fin S128x8x1536.rank).cast h.symm) else 0).sum = pre)
    (t : Fin 128) (t' : Fin n) (ht : pre + t'.val = t.val) (e : Fin 8) (c : Fin 1536) :
    concatenate S128x8x1536 0 xs h (ix3 t e c) = x (ix3 t' e c) :=
  concatenate_apply_piece (0 : Fin S128x8x1536.rank) xs h (ix3 t e c) k hk _ x hx rfl pre hpre (ix3 t' e c) (off_axis t t' e c) ht

/-- The tile before, zero before a sequence's first. -/
theorem before_apply (v : FVec Ideal S128x8x1536 .f32) (s : Fin 4) (q : Fin 32) (e : Fin 8) (c : Fin 1536) :
    before v (ix3 (⟨s.val * 32 + q.val, by omega⟩ : Fin 128) e c)
      = if q.val = 0 then 0 else v (ix3 (⟨s.val * 32 + q.val - 1, by omega⟩ : Fin 128) e c) := by
  unfold before
  by_cases hq : q.val = 0
  · rw [if_pos hq, ← zero_tile (ix3 (0 : Fin 1) e c)]
    match s with
    | ⟨0, _⟩ => exact joined_apply _ _ 0 (by simp) _ rfl 0 rfl _ (0 : Fin 1) (by show 0 + _ = 0 * 32 + q.val; omega) e c
    | ⟨1, _⟩ => exact joined_apply _ _ 2 (by simp) _ rfl 32 rfl _ (0 : Fin 1) (by show 32 + _ = 1 * 32 + q.val; omega) e c
    | ⟨2, _⟩ => exact joined_apply _ _ 4 (by simp) _ rfl 64 rfl _ (0 : Fin 1) (by show 64 + _ = 2 * 32 + q.val; omega) e c
    | ⟨3, _⟩ => exact joined_apply _ _ 6 (by simp) _ rfl 96 rfl _ (0 : Fin 1) (by show 96 + _ = 3 * 32 + q.val; omega) e c
  · rw [if_neg hq]
    match s with
    | ⟨0, _⟩ => exact (joined_apply _ _ 1 (by simp) _ rfl 1 rfl _ (⟨q.val - 1, by omega⟩ : Fin 31) (by show 1 + (q.val - 1) = 0 * 32 + q.val; omega) e c).trans (run_apply 0 v _ _ e c _ (by show 0 * 32 + q.val - 1 = 0 + (q.val - 1); omega))
    | ⟨1, _⟩ => exact (joined_apply _ _ 3 (by simp) _ rfl 33 rfl _ (⟨q.val - 1, by omega⟩ : Fin 31) (by show 33 + (q.val - 1) = 1 * 32 + q.val; omega) e c).trans (run_apply 32 v _ _ e c _ (by show 1 * 32 + q.val - 1 = 32 + (q.val - 1); omega))
    | ⟨2, _⟩ => exact (joined_apply _ _ 5 (by simp) _ rfl 65 rfl _ (⟨q.val - 1, by omega⟩ : Fin 31) (by show 65 + (q.val - 1) = 2 * 32 + q.val; omega) e c).trans (run_apply 64 v _ _ e c _ (by show 2 * 32 + q.val - 1 = 64 + (q.val - 1); omega))
    | ⟨3, _⟩ => exact (joined_apply _ _ 7 (by simp) _ rfl 97 rfl _ (⟨q.val - 1, by omega⟩ : Fin 31) (by show 97 + (q.val - 1) = 3 * 32 + q.val; omega) e c).trans (run_apply 96 v _ _ e c _ (by show 3 * 32 + q.val - 1 = 96 + (q.val - 1); omega))

/-- The tile after, zero after a sequence's last. -/
theorem after_apply (v : FVec Ideal S128x8x1536 .f32) (s : Fin 4) (q : Fin 32) (e : Fin 8) (c : Fin 1536) :
    after v (ix3 (⟨s.val * 32 + q.val, by omega⟩ : Fin 128) e c)
      = if h : q.val = 31 then 0 else v (ix3 (⟨s.val * 32 + q.val + 1, by omega⟩ : Fin 128) e c) := by
  unfold after
  by_cases hq : q.val = 31
  · rw [dif_pos hq, ← zero_tile (ix3 (0 : Fin 1) e c)]
    match s with
    | ⟨0, _⟩ => exact joined_apply _ _ 1 (by simp) _ rfl 31 rfl _ (0 : Fin 1) (by show 31 + _ = 0 * 32 + q.val; omega) e c
    | ⟨1, _⟩ => exact joined_apply _ _ 3 (by simp) _ rfl 63 rfl _ (0 : Fin 1) (by show 63 + _ = 1 * 32 + q.val; omega) e c
    | ⟨2, _⟩ => exact joined_apply _ _ 5 (by simp) _ rfl 95 rfl _ (0 : Fin 1) (by show 95 + _ = 2 * 32 + q.val; omega) e c
    | ⟨3, _⟩ => exact joined_apply _ _ 7 (by simp) _ rfl 127 rfl _ (0 : Fin 1) (by show 127 + _ = 3 * 32 + q.val; omega) e c
  · rw [dif_neg hq]
    match s with
    | ⟨0, _⟩ => exact (joined_apply _ _ 0 (by simp) _ rfl 0 rfl _ (⟨q.val, by omega⟩ : Fin 31) (by show 0 + q.val = 0 * 32 + q.val; omega) e c).trans (run_apply 1 v _ _ e c _ (by show 0 * 32 + q.val + 1 = 1 + q.val; omega))
    | ⟨1, _⟩ => exact (joined_apply _ _ 2 (by simp) _ rfl 32 rfl _ (⟨q.val, by omega⟩ : Fin 31) (by show 32 + q.val = 1 * 32 + q.val; omega) e c).trans (run_apply 33 v _ _ e c _ (by show 1 * 32 + q.val + 1 = 33 + q.val; omega))
    | ⟨2, _⟩ => exact (joined_apply _ _ 4 (by simp) _ rfl 64 rfl _ (⟨q.val, by omega⟩ : Fin 31) (by show 64 + q.val = 2 * 32 + q.val; omega) e c).trans (run_apply 65 v _ _ e c _ (by show 2 * 32 + q.val + 1 = 65 + q.val; omega))
    | ⟨3, _⟩ => exact (joined_apply _ _ 6 (by simp) _ rfl 96 rfl _ (⟨q.val, by omega⟩ : Fin 31) (by show 96 + q.val = 3 * 32 + q.val; omega) e c).trans (run_apply 97 v _ _ e c _ (by show 3 * 32 + q.val + 1 = 97 + q.val; omega))

/-- The rows above, as the kernel forms them. -/
abbrev aboveOf (u : FVec Ideal S1024x1536 .f32) : FVec Ideal S1024x1536 .f32 :=
  shapeCast S1024x1536 (select
    (broadcastTo S128x8x1536 (shapeCast S1x8x1 (cmpi .eq (iota .tc S1x8x1 32 [1] Gen.iota_S1x8x1_d1_w32) (broadcast S1x8x1 0#32))
        Gen.shapeCasts_S1x8x1_S1x8x1) Gen.broadcasts_S1x8x1_S128x8x1536)
    (before (dynamicRotate 1 1#32 none (tiles u) Gen.rotates_S128x8x1536_d1))
    (dynamicRotate 1 1#32 none (tiles u) Gen.rotates_S128x8x1536_d1)) Gen.shapeCasts_S128x8x1536_S1024x1536

/-- The rows below, as the kernel forms them. -/
abbrev belowOf (u : FVec Ideal S1024x1536 .f32) : FVec Ideal S1024x1536 .f32 :=
  shapeCast S1024x1536 (select
    (broadcastTo S128x8x1536 (shapeCast S1x8x1 (cmpi .eq (iota .tc S1x8x1 32 [1] Gen.iota_S1x8x1_d1_w32) (broadcast S1x8x1 7#32))
        Gen.shapeCasts_S1x8x1_S1x8x1) Gen.broadcasts_S1x8x1_S128x8x1536)
    (after (dynamicRotate 1 7#32 none (tiles u) Gen.rotates_S128x8x1536_d1))
    (dynamicRotate 1 7#32 none (tiles u) Gen.rotates_S128x8x1536_d1)) Gen.shapeCasts_S128x8x1536_S1024x1536

/-- Each row of a sequence lies in one of its 32 tiles. -/
theorem row_tile (l : Fin 256) : ∃ (q : Fin 32) (e : Fin 8), l.val = q.val * 8 + e.val :=
  ⟨⟨l.val / 8, by omega⟩, ⟨l.val % 8, by omega⟩, by show l.val = l.val / 8 * 8 + l.val % 8; omega⟩

/-- Reading a reshaped array of tiles at a row. -/
theorem untile_apply (v : FVec Ideal S128x8x1536 .f32) (s : Fin 4) (q : Fin 32) (e : Fin 8) (l : Fin 256) (hl : l.val = q.val * 8 + e.val)
    (c : Fin 1536) : shapeCast S1024x1536 v Gen.shapeCasts_S128x8x1536_S1024x1536 (ix2 (seqRow s l) c)
      = v (ix3 (⟨s.val * 32 + q.val, by omega⟩ : Fin 128) e c) :=
  shapeCast_apply _ _ _ _ (by
    rw [Shape.rowMajor_val_two, Shape.rowMajor_val_three]
    show ((s.val * 32 + q.val) * 8 + e.val) * 1536 + c.val = (s.val * 256 + l.val) * 1536 + c.val
    rw [hl]; omega)

theorem above_apply (u : FVec Ideal S1024x1536 .f32) (s : Fin 4) (l : Fin 256) (c : Fin 1536) :
    aboveOf u (ix2 (seqRow s l) c) = prev (fun l => u (ix2 (seqRow s l) c)) l := by
  obtain ⟨q, e, hl⟩ := row_tile l
  refine (untile_apply _ s q e l hl c).trans ((select_apply _ _ _ _).trans ?_)
  rw [lane_test 0#32 0 rfl]
  unfold prev
  by_cases he : e = 0
  · rw [if_pos he]
    refine Eq.trans (if_pos rfl) ?_
    rw [before_apply]
    have he0 : e.val = 0 := congrArg Fin.val he
    by_cases hq : q.val = 0
    · rw [if_pos hq, dif_pos (by omega)]
    · rw [if_neg hq, dif_neg (by omega), turn_apply 1#32 1 rfl _ _ _ 7 _ (by rw [he0]; rfl), tiles_apply]
      refine congrArg (fun r => u (ix2 r c)) (Fin.ext ?_)
      show (s.val * 32 + q.val - 1) * 8 + 7 = s.val * 256 + (l.val - 1)
      omega
  · have he0 : e.val ≠ 0 := fun h => he (Fin.ext h)
    rw [if_neg he]
    refine Eq.trans (if_neg (by decide)) ?_
    rw [dif_neg (by omega),
      turn_apply 1#32 1 rfl _ _ _ (⟨e.val - 1, by omega⟩ : Fin 8) _ (by show e.val - 1 = (e.val + 8 - 1 % 8) % 8; omega), tiles_apply]
    refine congrArg (fun r => u (ix2 r c)) (Fin.ext ?_)
    show (s.val * 32 + q.val) * 8 + (e.val - 1) = s.val * 256 + (l.val - 1)
    omega

theorem below_apply (u : FVec Ideal S1024x1536 .f32) (s : Fin 4) (l : Fin 256) (c : Fin 1536) :
    belowOf u (ix2 (seqRow s l) c) = next (fun l => u (ix2 (seqRow s l) c)) l := by
  obtain ⟨q, e, hl⟩ := row_tile l
  refine (untile_apply _ s q e l hl c).trans ((select_apply _ _ _ _).trans ?_)
  rw [lane_test 7#32 7 rfl]
  unfold next
  by_cases he : e = 7
  · rw [if_pos he]
    refine Eq.trans (if_pos rfl) ?_
    rw [after_apply]
    have he0 : e.val = 7 := congrArg Fin.val he
    by_cases hq : q.val = 31
    · rw [dif_pos hq, dif_neg (by omega)]
    · rw [dif_neg hq, dif_pos (by omega), turn_apply 7#32 7 rfl _ _ _ 0 _ (by rw [he0]; rfl), tiles_apply]
      refine congrArg (fun r => u (ix2 r c)) (Fin.ext ?_)
      show (s.val * 32 + q.val + 1) * 8 + 0 = s.val * 256 + (l.val + 1)
      omega
  · have he0 : e.val ≠ 7 := fun h => he (Fin.ext h)
    rw [if_neg he]
    refine Eq.trans (if_neg (by decide)) ?_
    rw [dif_pos (by omega),
      turn_apply 7#32 7 rfl _ _ _ (⟨e.val + 1, by omega⟩ : Fin 8) _ (by show e.val + 1 = (e.val + 8 - 7 % 8) % 8; omega), tiles_apply]
    refine congrArg (fun r => u (ix2 r c)) (Fin.ext ?_)
    show (s.val * 32 + q.val) * 8 + (e.val + 1) = s.val * 256 + (l.val + 1)
    omega

/-- The convolved columns of a block. -/
theorem conv_apply (u : FVec Ideal S1024x1536 .f32) (w0 w1 w2 b : Vec Ideal S1x1536 .f32) (s : Fin 4) (l : Fin 256) (c : Fin 1536) :
    k0_pay13 (belowOf u) (addf (mulf (aboveOf u) (broadcastTo S1024x1536 w0 Gen.broadcasts_S1x1536_S1024x1536))
        (mulf u (broadcastTo S1024x1536 w1 Gen.broadcasts_S1x1536_S1024x1536))) w2 b (ix2 (seqRow s l) c)
      = conv3 (fun l => u (ix2 (seqRow s l) c)) (w0 (ix2 0 c)) (w1 (ix2 0 c)) (w2 (ix2 0 c)) (b (ix2 0 c)) l := by
  have hs : ∀ w : Vec Ideal S1x1536 .f32, broadcastTo S1024x1536 w Gen.broadcasts_S1x1536_S1024x1536 (ix2 (seqRow s l) c) = w (ix2 0 c) :=
    fun w => spread_apply w (by decide) _ _ _
  refine (addf_apply _ _ _).trans (congrArg₂ (· + ·) ((addf_apply _ _ _).trans (congrArg₂ (· + ·) ((addf_apply _ _ _).trans (congrArg₂ (· + ·) ?_ ?_)) ?_)) ?_)
  · exact (mulf_apply _ _ _).trans (congrArg₂ (· * ·) (above_apply u s l c) (hs w0))
  · exact (mulf_apply _ _ _).trans (congrArg (_ * ·) (hs w1))
  · exact (mulf_apply _ _ _).trans (congrArg₂ (· * ·) (below_apply u s l c) (hs w2))
  · exact (hs _).trans (same_cast _ _ _)

/-- Keys or values, heads first and rows last: what the state of a block holds. -/
def stateOf (k : S1024x512.Idx → EReal) : S4x1x8x64x256.Idx → EReal := fun y =>
  k (ix2 (seqRow ⟨(y 0).val, (y 0).isLt⟩ ⟨(y 4).val, (y 4).isLt⟩)
    ⟨(y 2).val * 64 + (y 3).val, by have h2 : (y 2).val < 8 := (y 2).isLt; have h3 : (y 3).val < 64 := (y 3).isLt; omega⟩)

/-- A stored piece of the state: one sequence, one head. -/
theorem state_piece (k : FVec Ideal S1024x512 .f32) (o1 o2 s h : ℕ) (h1 : o1 = h * 64) (h2 : o2 = s * 256)
    (hsl : S512x1024.Slices ![o1, o2] S64x256) (inb : ∀ a, (![s, 0, h, 0, 0] : Fin 5 → ℕ) a + S1x1x1x64x256.size a ≤ S4x1x8x64x256.size a)
    (x : S1x1x1x64x256.Idx) :
    shapeCast S1x1x1x64x256 (extractStridedSlice S64x256 ![o1, o2] (transpose S512x1024 [1, 0] k Gen.transposes_S1024x512_p1_0_S512x1024) hsl)
        Gen.shapeCasts_S64x256_S1x1x1x64x256 x
      = stateOf k ((Rect.unit (s := S4x1x8x64x256) ![s, 0, h, 0, 0] S1x1x1x64x256.size inb).emb x) := by
  subst h1 h2
  have hv := ValueKit.rect_emb_unit_val (s := S4x1x8x64x256) _ _ inb x
  have x0 : (x 0).val < 1 := (x 0).isLt
  have x1 : (x 1).val < 1 := (x 1).isLt
  have x2 : (x 2).val < 1 := (x 2).isLt
  have x3 : (x 3).val < 64 := (x 3).isLt
  have x4 : (x 4).val < 256 := (x 4).isLt
  have i0 : s + 1 ≤ 4 := inb 0
  have i2 : h + 1 ≤ 8 := inb 2
  refine (shapeCast_apply _ _ _ (ix2 (⟨(x 3).val, x3⟩ : Fin 64) (⟨(x 4).val, x4⟩ : Fin 256)) (by
    rw [Shape.rowMajor_val_two, Shape.rowMajor_val_five]
    show (x 3).val * 256 + (x 4).val = ((((x 0).val * 1 + (x 1).val) * 1 + (x 2).val) * 64 + (x 3).val) * 256 + (x 4).val
    rw [Nat.lt_one_iff.1 x0, Nat.lt_one_iff.1 x1, Nat.lt_one_iff.1 x2]; omega)).trans ?_
  refine (extractStridedSlice_apply _ _ _ _ (ix2 (⟨h * 64 + (x 3).val, by omega⟩ : Fin 512) (⟨s * 256 + (x 4).val, by omega⟩ : Fin 1024)) fun a => ?_).trans ?_
  · match a with
    | ⟨0, _⟩ => rfl
    | ⟨1, _⟩ => rfl
  refine (transpose_apply _ _ _ _ (ix2 (⟨s * 256 + (x 4).val, by omega⟩ : Fin 1024) (⟨h * 64 + (x 3).val, by omega⟩ : Fin 512)) fun a => ?_).trans ?_
  · match a with
    | ⟨0, _⟩ => rfl
    | ⟨1, _⟩ => rfl
  refine congrArg k (congrArg₂ ix2 (Fin.ext ?_) (Fin.ext ?_))
  · refine congrArg₂ (· * 256 + ·) ((?_ : s = s + (x 0).val).trans (hv 0).symm) ((Nat.zero_add _).symm.trans (hv 4).symm)
    omega
  · refine congrArg₂ (· * 64 + ·) ((?_ : h = h + (x 2).val).trans (hv 2).symm) ((Nat.zero_add _).symm.trans (hv 3).symm)
    omega

end Cert.Projection
end
-- ==== Proof.ProjOut.lean ====
/- What the projection writes at one grid point: queries (scaled), keys and values, the convolved columns, and the keys and
   values once more in the layout of the state. -/
module

public import proofs.«01_k».proof.Proof.ProjBody
public import proofs.«01_k».proof.Proof.Gen.Kernel2Ideal.Value
public import Idealize.ShloMosaic.Lib.Pipeline.ReadBack

@[expose] public section

set_option maxRecDepth 16384

noncomputable section

namespace Cert.Projection

open Idealize.ShloMosaic Idealize.ShloMosaic.ValueIdx Idealize.ShloMosaic.Tactic Cert.Layer Cert.Kernel2Ideal Cert.Kernel2Ideal.Gen

/-- An index of a two-axis array is its two coordinates. -/
theorem ix2_eta {m n : ℕ} (y : (⟨2, ![m, n]⟩ : Shape).Idx) : ∃ (r : Fin m) (c : Fin n), y = ix2 r c :=
  ⟨y 0, y 1, funext fun a => match a with
    | ⟨0, _⟩ => rfl
    | ⟨1, _⟩ => rfl⟩

/-- A rectangle of a staged two-axis block, read at an index. -/
theorem load_apply {M N a b : ℕ} {e : EltTy} (arg : Memref sig Kind.tc Space.vmem ⟨2, ![M, N]⟩ e) (harg : arg.IsWhole)
    (x : Vec Ideal ⟨2, ![M, N]⟩ e) (o1 o2 : ℕ) (inb : ∀ k, (![o1, o2] : Fin 2 → ℕ) k + (⟨2, ![a, b]⟩ : Shape).size k ≤ (⟨2, ![M, N]⟩ : Shape).size k)
    (r : Fin a) (c : Fin b) (r' : Fin M) (c' : Fin N) (hr : r'.val = o1 + r.val) (hc : c'.val = o2 + c.val) :
    View.readAt (Elt Ideal) arg.view (Rect.unit (s := ⟨2, ![M, N]⟩) ![o1, o2] (⟨2, ![a, b]⟩ : Shape).size inb).toLoadRect (harg.unread x) (ix2 r c)
      = x (ix2 r' c') := by
  refine (congrFun (harg.read_unread x) _).trans (congrArg x (funext fun k => Fin.ext ?_))
  refine (ValueKit.rect_emb_unit_val (s := ⟨2, ![M, N]⟩) _ _ inb (ix2 r c) k).trans ?_
  match k with
  | ⟨0, _⟩ => exact hr.symm
  | ⟨1, _⟩ => exact hc.symm

/-- Every grid point reads the first row of the modulations. -/
theorem off_shift : ∀ i : grid0.Coords, k0_off1 i = ![0, 0, 0] := by decide +kernel

theorem off_scale : ∀ i : grid0.Coords, k0_off2 i = ![1, 0, 0] := by decide +kernel

variable (c : Dev nD) (i : grid0.Coords) (arg1 : Memref sig .tc .vmem S1024x1024 .f32) (harg1 : arg1.IsWhole)
  (arg2 : Memref sig .tc .vmem S6x8x1024 .f32) (harg2 : arg2.IsWhole) (arg3 : Memref sig .tc .vmem S1x1024 .f32) (harg3 : arg3.IsWhole)
  (arg4 : Memref sig .tc .vmem S1024x3072 .bf16) (harg4 : arg4.IsWhole) (arg5 : Memref sig .tc .vmem S3x1536 .f32) (harg5 : arg5.IsWhole)
  (arg6 : Memref sig .tc .vmem S1x1536 .f32) (harg6 : arg6.IsWhole) (arg7 : Memref sig .tc .vmem S1024x1536 .bf16) (harg7 : arg7.IsWhole)
  (arg8 : Memref sig .tc .vmem S1024x1536 .f32) (harg8 : arg8.IsWhole) (arg9 : Memref sig .tc .vmem S4x1x8x64x256 .f32) (harg9 : arg9.IsWhole)
  (arg10 : Memref sig .tc .vmem S4x1x8x64x256 .f32) (harg10 : arg10.IsWhole)
  (x0 : S1024x1024.Idx → EReal) (x1 : S6x8x1024.Idx → EReal) (x2 : S1x1024.Idx → EReal) (x3 : S1024x3072.Idx → EReal)
  (x4 : S3x1536.Idx → EReal) (x5 : S1x1536.Idx → EReal)

/-- A row of the modulations, read where it lies. -/
theorem mod_load (k : ℕ) (hk : k < 6) (off : Fin 3 → ℕ) (hoff : off = ![k, 0, 0]) (inb : ∀ a, off a + S1x1x1024.size a ≤ S6x8x1024.size a)
    (d : Fin 1024) :
    shapeCast S1x1024 (View.readAt (Elt Ideal) arg2.view (Rect.unit (s := S6x8x1024) off S1x1x1024.size inb).toLoadRect (harg2.unread x1))
        Gen.shapeCasts_S1x1x1024_S1x1024 (ix2 0 d) = x1 (ix3 ⟨k, hk⟩ 0 d) := by
  subst hoff
  refine (shapeCast_apply _ _ _ (ix3 0 0 d) (by rw [Shape.rowMajor_val_two, Shape.rowMajor_val_three]; rfl)).trans ?_
  refine Eq.trans (congrFun (harg2.read_unread (Val := Elt Ideal) x1) _) (congrArg x1 (funext fun a => Fin.ext ?_))
  refine (ValueKit.rect_emb_unit_val (s := S6x8x1024) _ _ inb (ix3 0 0 d) a).trans ?_
  match a with
  | ⟨0, _⟩ => rfl
  | ⟨1, _⟩ => rfl
  | ⟨2, _⟩ => exact Nat.zero_add _

/-- The modulated, normalised rows. -/
def hid (r k : Fin 1024) : EReal :=
  rms 0x44800000#32 (fun k => x0 (ix2 r k)) k * x2 (ix2 0 k) * (word 0x3F800000#32 + x1 (ix3 1 0 k)) + x1 (ix3 0 0 k)

/-- Their products with the weights. -/
def projB (r : Fin 1024) (j : Fin 3072) : EReal := ∑ k, hid x0 x1 x2 r k * x3 (ix2 k j)

/-- The rows as the body forms them. -/
abbrev rowsB : FVec Ideal S1024x1024 .bf16 :=
  k0_pay7 (k0_pay4 (View.readAt (Elt Ideal) arg2.view (Rect.unit (s := S6x8x1024) (k0_off1 i) S1x1x1024.size (k0_off1_inb i)).toLoadRect (harg2.unread x1)))
    (k0_pay5 (View.readAt (Elt Ideal) arg2.view (Rect.unit (s := S6x8x1024) (k0_off2 i) S1x1x1024.size (k0_off2_inb i)).toLoadRect (harg2.unread x1)))
    (k0_pay6 (View.readAt (Elt Ideal) arg1.view (Rect.unit (s := S1024x1024) ![0, 0] S1024x1024.size inb_S1024x1024_S1024x1024_0_0).toLoadRect (harg1.unread x0))
      (View.readAt (Elt Ideal) arg3.view (Rect.unit (s := S1x1024) ![0, 0] S1x1024.size inb_S1x1024_S1x1024_0_0).toLoadRect (harg3.unread x2)))

theorem rowsB_apply (r k : Fin 1024) : rowsB i arg1 harg1 arg2 harg2 arg3 harg3 x0 x1 x2 (ix2 r k) = hid x0 x1 x2 r k := by
  refine (hidden_apply _ _ _ _ r k).trans ?_
  have h0 : ∀ k, View.readAt (Elt Ideal) arg1.view (Rect.unit (s := S1024x1024) ![0, 0] S1024x1024.size inb_S1024x1024_S1024x1024_0_0).toLoadRect
      (harg1.unread x0) (ix2 r k) = x0 (ix2 r k) := fun k => load_apply arg1 harg1 x0 0 0 _ r k r k (Nat.zero_add _).symm (Nat.zero_add _).symm
  have h2 : View.readAt (Elt Ideal) arg3.view (Rect.unit (s := S1x1024) ![0, 0] S1x1024.size inb_S1x1024_S1x1024_0_0).toLoadRect
      (harg3.unread x2) (ix2 0 k) = x2 (ix2 0 k) := load_apply arg3 harg3 x2 0 0 _ 0 k 0 k rfl (Nat.zero_add _).symm
  simp only [h0, h2]
  unfold hid
  refine congrArg₂ (· + ·) (congrArg (_ * ·) (congrArg (_ + ·) ?_)) ?_
  · exact mod_load arg2 harg2 x1 1 (by decide) _ (off_scale i) _ k
  · exact mod_load arg2 harg2 x1 0 (by decide) _ (off_shift i) _ k

/-- 512 columns of the products, as the body forms them. -/
abbrev colsB (o : ℕ) (inb : ∀ a, (![0, o] : Fin 2 → ℕ) a + S1024x512.size a ≤ S1024x3072.size a) : FVec Ideal S1024x512 .f32 :=
  k0_pay15 (rowsB i arg1 harg1 arg2 harg2 arg3 harg3 x0 x1 x2)
    (View.readAt (Elt Ideal) arg4.view (Rect.unit (s := S1024x3072) ![0, o] S1024x512.size inb).toLoadRect (harg4.unread x3))

theorem colsB_apply (o : ℕ) (inb : ∀ a, (![0, o] : Fin 2 → ℕ) a + S1024x512.size a ≤ S1024x3072.size a) (r : Fin 1024) (d : Fin 512)
    (j : Fin 3072) (hj : j.val = o + d.val) :
    colsB i arg1 harg1 arg2 harg2 arg3 harg3 arg4 harg4 x0 x1 x2 x3 o inb (ix2 r d) = projB x0 x1 x2 x3 r j :=
  (narrow_apply _ _ r d).trans (Finset.sum_congr rfl fun k _ => congrArg₂ (· * ·) (rowsB_apply i arg1 harg1 arg2 harg2 arg3 harg3 x0 x1 x2 r k)
    (load_apply arg4 harg4 x3 0 o inb k d k j (Nat.zero_add _).symm hj))

/-- The convolved columns of the products, before the convolution. -/
abbrev wideB : FVec Ideal S1024x1536 .f32 :=
  k0_pay8 (k0_pay4 (View.readAt (Elt Ideal) arg2.view (Rect.unit (s := S6x8x1024) (k0_off1 i) S1x1x1024.size (k0_off1_inb i)).toLoadRect (harg2.unread x1)))
    (k0_pay5 (View.readAt (Elt Ideal) arg2.view (Rect.unit (s := S6x8x1024) (k0_off2 i) S1x1x1024.size (k0_off2_inb i)).toLoadRect (harg2.unread x1)))
    (k0_pay6 (View.readAt (Elt Ideal) arg1.view (Rect.unit (s := S1024x1024) ![0, 0] S1024x1024.size inb_S1024x1024_S1024x1024_0_0).toLoadRect (harg1.unread x0))
      (View.readAt (Elt Ideal) arg3.view (Rect.unit (s := S1x1024) ![0, 0] S1x1024.size inb_S1x1024_S1x1024_0_0).toLoadRect (harg3.unread x2)))
    (View.readAt (Elt Ideal) arg4.view (Rect.unit (s := S1024x3072) ![0, 1536] S1024x1536.size inb_S1024x3072_S1024x1536_0_1536).toLoadRect (harg4.unread x3))

theorem wideB_apply (r : Fin 1024) (d : Fin 1536) :
    wideB i arg1 harg1 arg2 harg2 arg3 harg3 arg4 harg4 x0 x1 x2 x3 (ix2 r d) = projB x0 x1 x2 x3 r ⟨1536 + d.val, by omega⟩ :=
  (wide_apply _ _ r d).trans (Finset.sum_congr rfl fun k _ => congrArg₂ (· * ·) (rowsB_apply i arg1 harg1 arg2 harg2 arg3 harg3 x0 x1 x2 r k)
    (load_apply arg4 harg4 x3 0 1536 _ k d k _ (Nat.zero_add _).symm rfl))

/-- What a grid point writes of queries, keys and values. -/
def qkvOf : S1024x1536.Idx → EReal := fun y =>
  if (y 1).val < 512 then projB x0 x1 x2 x3 (y 0) ⟨(y 1).val, by have : (y 1).val < 1536 := (y 1).isLt; omega⟩ * word 0x3E000000#32
  else projB x0 x1 x2 x3 (y 0) ⟨(y 1).val, by have : (y 1).val < 1536 := (y 1).isLt; omega⟩

/-- What a grid point writes of the convolved columns. -/
def convOf : S1024x1536.Idx → EReal := fun y =>
  conv3 (fun l => projB x0 x1 x2 x3 (seqRow ⟨(y 0).val / 256, by have : (y 0).val < 1024 := (y 0).isLt; omega⟩ l)
      ⟨1536 + (y 1).val, by have : (y 1).val < 1536 := (y 1).isLt; omega⟩)
    (x4 (ix2 0 (y 1))) (x4 (ix2 1 (y 1))) (x4 (ix2 2 (y 1))) (x5 (ix2 0 (y 1))) ⟨(y 0).val % 256, Nat.mod_lt _ (by omega)⟩

/-- A stored third of queries, keys and values: the first is scaled. -/
theorem qkv_piece (f : FVec Ideal S1024x512 .f32 → FVec Ideal S1024x512 .bf16) (o : ℕ) (ho : o ≤ 1024)
    (hf : ∀ v (r : Fin 1024) (d : Fin 512), f v (ix2 r d) = if o + d.val < 512 then v (ix2 r d) * word 0x3E000000#32 else v (ix2 r d))
    (inw : ∀ a, (![0, o] : Fin 2 → ℕ) a + S1024x512.size a ≤ S1024x3072.size a)
    (inb : ∀ a, (![0, o] : Fin 2 → ℕ) a + S1024x512.size a ≤ S1024x1536.size a) (x : S1024x512.Idx) :
    f (colsB i arg1 harg1 arg2 harg2 arg3 harg3 arg4 harg4 x0 x1 x2 x3 o inw) x
      = qkvOf x0 x1 x2 x3 ((Rect.unit (s := S1024x1536) ![0, o] S1024x512.size inb).emb x) := by
  obtain ⟨r, d, rfl⟩ := ix2_eta x
  have hx : (Rect.unit (s := S1024x1536) ![0, o] S1024x512.size inb).emb (ix2 r d) = ix2 r (⟨o + d.val, by omega⟩ : Fin 1536) :=
    funext fun a => Fin.ext <| (ValueKit.rect_emb_unit_val (s := S1024x1536) _ _ inb (ix2 r d) a).trans (by
      match a with
      | ⟨0, _⟩ => exact Nat.zero_add _
      | ⟨1, _⟩ => rfl)
  rw [hx, hf, colsB_apply i arg1 harg1 arg2 harg2 arg3 harg3 arg4 harg4 x0 x1 x2 x3 o inw r d ⟨o + d.val, by omega⟩ rfl]
  rfl

set_option maxHeartbeats 1000000 in
/-- What the run leaves in the window of queries, keys and values. -/
theorem out_qkv (y : S1024x1536.Idx) :
    out0_A_6 (F := Ideal) c i arg1 harg1 arg2 harg2 arg3 harg3 arg4 harg4 arg5 harg5 arg6 harg6 arg7 harg7 arg8 harg8 arg9 harg9 arg10 harg10
        x0 x1 x2 x3 x4 x5 y = qkvOf x0 x1 x2 x3 y := by
  unfold out0_A_6
  rw [View.read_writes_eq_canon _ _ _ (cover0_A_6 c _ _ _ _ _ _ _ _ _ _ _ _ _ _ _ _ _ _ _ _ _ _ _ _ _ _ _)]
  refine View.canon_apply_of_pieces (Val := Elt Ideal) _ _ (?_ : View.PiecesOf _ _).mem y
    (cover0_A_6 c _ _ _ _ _ _ _ _ _ _ _ _ _ _ _ _ _ _ _ _ _ _ _ _ _ _ _ y)
  unfold kernelRun0_A
  dsimp only
  have hr : ∀ o, 512 ≤ o → ∀ (v : FVec Ideal S1024x512 .f32) (r : Fin 1024) (d : Fin 512), truncf (F := Ideal) .bf16 v Gen.bitsLt_bf16_f32 (ix2 r d)
      = if o + d.val < 512 then v (ix2 r d) * word 0x3E000000#32 else v (ix2 r d) := fun o ho v r d =>
    (truncf_apply _ Gen.bitsLt_bf16_f32 _).trans (if_neg (show ¬ o + d.val < 512 by omega)).symm
  have hq : ∀ (v : FVec Ideal S1024x512 .f32) (r : Fin 1024) (d : Fin 512),
      truncf (F := Ideal) .bf16 (mulf v (broadcast S1024x512 (FloatOps.ofBits (F := Ideal) .f32 0x3E000000#32))) Gen.bitsLt_bf16_f32 (ix2 r d)
      = if 0 + d.val < 512 then v (ix2 r d) * word 0x3E000000#32 else v (ix2 r d) := fun v r d =>
    ((truncf_apply _ Gen.bitsLt_bf16_f32 _).trans (mulf_apply _ _ _)).trans (if_pos (show 0 + d.val < 512 by omega)).symm
  refine ⟨fun x => qkv_piece i arg1 harg1 arg2 harg2 arg3 harg3 arg4 harg4 x0 x1 x2 x3
    (fun v => truncf (F := Ideal) .bf16 v Gen.bitsLt_bf16_f32) 1024 (by decide) (hr 1024 (by decide)) (by decide) (by decide) x, ?_⟩
  refine ⟨fun x => qkv_piece i arg1 harg1 arg2 harg2 arg3 harg3 arg4 harg4 x0 x1 x2 x3
    (fun v => truncf (F := Ideal) .bf16 v Gen.bitsLt_bf16_f32) 512 (by decide) (hr 512 (by decide)) (by decide) (by decide) x, ?_⟩
  refine ⟨fun x => qkv_piece i arg1 harg1 arg2 harg2 arg3 harg3 arg4 harg4 x0 x1 x2 x3
    (fun v => truncf (F := Ideal) .bf16 (mulf v (broadcast S1024x512 (FloatOps.ofBits (F := Ideal) .f32 0x3E000000#32))) Gen.bitsLt_bf16_f32)
    0 (by decide) hq (by decide) (by decide) x, ?_⟩
  exact trivial

/-- The stored convolved columns. -/
theorem conv_piece (inb : ∀ a, (![0, 0] : Fin 2 → ℕ) a + S1024x1536.size a ≤ S1024x1536.size a)
    (in4 : ∀ k : Fin 3, ∀ a, (![k.val, 0] : Fin 2 → ℕ) a + S1x1536.size a ≤ S3x1536.size a)
    (in5 : ∀ a, (![0, 0] : Fin 2 → ℕ) a + S1x1536.size a ≤ S1x1536.size a) (x : S1024x1536.Idx) :
    k0_pay13 (belowOf (wideB i arg1 harg1 arg2 harg2 arg3 harg3 arg4 harg4 x0 x1 x2 x3))
        (addf (mulf (aboveOf (wideB i arg1 harg1 arg2 harg2 arg3 harg3 arg4 harg4 x0 x1 x2 x3))
            (broadcastTo S1024x1536 (View.readAt (Elt Ideal) arg5.view (Rect.unit (s := S3x1536) ![0, 0] S1x1536.size (in4 0)).toLoadRect (harg5.unread x4))
              Gen.broadcasts_S1x1536_S1024x1536))
          (mulf (wideB i arg1 harg1 arg2 harg2 arg3 harg3 arg4 harg4 x0 x1 x2 x3)
            (broadcastTo S1024x1536 (View.readAt (Elt Ideal) arg5.view (Rect.unit (s := S3x1536) ![1, 0] S1x1536.size (in4 1)).toLoadRect (harg5.unread x4))
              Gen.broadcasts_S1x1536_S1024x1536)))
        (View.readAt (Elt Ideal) arg5.view (Rect.unit (s := S3x1536) ![2, 0] S1x1536.size (in4 2)).toLoadRect (harg5.unread x4))
        (View.readAt (Elt Ideal) arg6.view (Rect.unit (s := S1x1536) ![0, 0] S1x1536.size in5).toLoadRect (harg6.unread x5)) x
      = convOf x0 x1 x2 x3 x4 x5 ((Rect.unit (s := S1024x1536) ![0, 0] S1024x1536.size inb).emb x) := by
  obtain ⟨r, d, rfl⟩ := ix2_eta x
  have hx : (Rect.unit (s := S1024x1536) ![0, 0] S1024x1536.size inb).emb (ix2 r d) = ix2 r d :=
    funext fun a => Fin.ext <| (ValueKit.rect_emb_unit_val (s := S1024x1536) _ _ inb (ix2 r d) a).trans (by
      match a with
      | ⟨0, _⟩ => exact Nat.zero_add _
      | ⟨1, _⟩ => exact Nat.zero_add _)
  rw [hx]
  obtain ⟨s, l, hr⟩ : ∃ (s : Fin 4) (l : Fin 256), r = seqRow s l :=
    ⟨⟨r.val / 256, by omega⟩, ⟨r.val % 256, by omega⟩, Fin.ext (show r.val = r.val / 256 * 256 + r.val % 256 by omega)⟩
  have hv : r.val = s.val * 256 + l.val := congrArg Fin.val hr
  have hs : (⟨r.val / 256, by omega⟩ : Fin 4) = s := Fin.ext (by show r.val / 256 = s.val; omega)
  have hl : (⟨r.val % 256, by omega⟩ : Fin 256) = l := Fin.ext (by show r.val % 256 = l.val; omega)
  show _ = conv3 (fun l => projB x0 x1 x2 x3 (seqRow ⟨r.val / 256, _⟩ l) ⟨1536 + d.val, _⟩)
    (x4 (ix2 0 d)) (x4 (ix2 1 d)) (x4 (ix2 2 d)) (x5 (ix2 0 d)) ⟨r.val % 256, _⟩
  rw [hs, hl, hr]
  refine (conv_apply _ _ _ _ _ s l d).trans ?_
  simp only [wideB_apply]
  have h4 : ∀ k : Fin 3, View.readAt (Elt Ideal) arg5.view (Rect.unit (s := S3x1536) ![k.val, 0] S1x1536.size (in4 k)).toLoadRect (harg5.unread x4)
      (ix2 0 d) = x4 (ix2 k d) := fun k => load_apply arg5 harg5 x4 k.val 0 (in4 k) 0 d k d rfl (Nat.zero_add _).symm
  have h5 : View.readAt (Elt Ideal) arg6.view (Rect.unit (s := S1x1536) ![0, 0] S1x1536.size in5).toLoadRect (harg6.unread x5)
      (ix2 0 d) = x5 (ix2 0 d) := load_apply arg6 harg6 x5 0 0 in5 0 d 0 d rfl (Nat.zero_add _).symm
  rw [← h4 0, ← h4 1, ← h4 2, ← h5]
  rfl

set_option maxHeartbeats 1000000 in
/-- What the run leaves in the window of the convolved columns. -/
theorem out_conv (y : S1024x1536.Idx) :
    out0_A_7 (F := Ideal) c i arg1 harg1 arg2 harg2 arg3 harg3 arg4 harg4 arg5 harg5 arg6 harg6 arg7 harg7 arg8 harg8 arg9 harg9 arg10 harg10
        x0 x1 x2 x3 x4 x5 y = convOf x0 x1 x2 x3 x4 x5 y := by
  unfold out0_A_7
  rw [View.read_writes_eq_canon _ _ _ (cover0_A_7 c _ _ _ _ _ _ _ _ _ _ _ _ _ _ _ _ _ _ _ _ _ _ _ _ _ _ _)]
  refine View.canon_apply_of_pieces (Val := Elt Ideal) _ _ (?_ : View.PiecesOf _ _).mem y
    (cover0_A_7 c _ _ _ _ _ _ _ _ _ _ _ _ _ _ _ _ _ _ _ _ _ _ _ _ _ _ _ y)
  unfold kernelRun0_A
  dsimp only
  refine ⟨fun x => conv_piece i arg1 harg1 arg2 harg2 arg3 harg3 arg4 harg4 arg5 harg5 arg6 harg6 x0 x1 x2 x3 x4 x5 (by decide) (by decide) (by decide) x, ?_⟩
  exact trivial

/-- Keys or values of the block, by the column the group starts at. -/
theorem state_cols (o : ℕ) (ho : o ≤ 1024) (inb : ∀ a, (![0, o] : Fin 2 → ℕ) a + S1024x512.size a ≤ S1024x3072.size a) (y : S4x1x8x64x256.Idx) :
    stateOf (colsB i arg1 harg1 arg2 harg2 arg3 harg3 arg4 harg4 x0 x1 x2 x3 o inb) y
      = projB x0 x1 x2 x3 (seqRow ⟨(y 0).val, (y 0).isLt⟩ ⟨(y 4).val, (y 4).isLt⟩)
          ⟨o + ((y 2).val * 64 + (y 3).val), by have h2 : (y 2).val < 8 := (y 2).isLt; have h3 : (y 3).val < 64 := (y 3).isLt; omega⟩ :=
  colsB_apply i arg1 harg1 arg2 harg2 arg3 harg3 arg4 harg4 x0 x1 x2 x3 o inb _ _ _ rfl

set_option maxHeartbeats 4000000 in
/-- What the run leaves in the window of the keys' state. -/
theorem out_stateK (y : S4x1x8x64x256.Idx) :
    out0_A_8 (F := Ideal) c i arg1 harg1 arg2 harg2 arg3 harg3 arg4 harg4 arg5 harg5 arg6 harg6 arg7 harg7 arg8 harg8 arg9 harg9 arg10 harg10
        x0 x1 x2 x3 x4 x5 y
      = stateOf (colsB i arg1 harg1 arg2 harg2 arg3 harg3 arg4 harg4 x0 x1 x2 x3 512 (by decide)) y := by
  unfold out0_A_8
  rw [View.read_writes_eq_canon _ _ _ (cover0_A_8 c _ _ _ _ _ _ _ _ _ _ _ _ _ _ _ _ _ _ _ _ _ _ _ _ _ _ _)]
  refine View.canon_apply_of_pieces (Val := Elt Ideal) _ _ (?_ : View.PiecesOf _ _).mem y
    (cover0_A_8 c _ _ _ _ _ _ _ _ _ _ _ _ _ _ _ _ _ _ _ _ _ _ _ _ _ _ _ y)
  unfold kernelRun0_A
  dsimp only
  iterate 32
    refine ⟨fun x => state_piece (colsB i arg1 harg1 arg2 harg2 arg3 harg3 arg4 harg4 x0 x1 x2 x3 512 (by decide)) _ _ _ _ (by decide) (by decide) (by decide) (by decide) x, ?_⟩
  exact trivial

set_option maxHeartbeats 4000000 in
/-- What the run leaves in the window of the values' state. -/
theorem out_stateV (y : S4x1x8x64x256.Idx) :
    out0_A_9 (F := Ideal) c i arg1 harg1 arg2 harg2 arg3 harg3 arg4 harg4 arg5 harg5 arg6 harg6 arg7 harg7 arg8 harg8 arg9 harg9 arg10 harg10
        x0 x1 x2 x3 x4 x5 y
      = stateOf (colsB i arg1 harg1 arg2 harg2 arg3 harg3 arg4 harg4 x0 x1 x2 x3 1024 (by decide)) y := by
  unfold out0_A_9
  rw [View.read_writes_eq_canon _ _ _ (cover0_A_9 c _ _ _ _ _ _ _ _ _ _ _ _ _ _ _ _ _ _ _ _ _ _ _ _ _ _ _)]
  refine View.canon_apply_of_pieces (Val := Elt Ideal) _ _ (?_ : View.PiecesOf _ _).mem y
    (cover0_A_9 c _ _ _ _ _ _ _ _ _ _ _ _ _ _ _ _ _ _ _ _ _ _ _ _ _ _ _ y)
  unfold kernelRun0_A
  dsimp only
  iterate 32
    refine ⟨fun x => state_piece (colsB i arg1 harg1 arg2 harg2 arg3 harg3 arg4 harg4 x0 x1 x2 x3 1024 (by decide)) _ _ _ _ (by decide) (by decide) (by decide) (by decide) x, ?_⟩
  exact trivial

/-- Columns `o`, `o + 1`, … of the products, by sequence, head, lane and token. -/
def headsOf (o : ℕ) (ho : o ≤ 1024) : S4x1x8x64x256.Idx → EReal := fun y =>
  projB x0 x1 x2 x3 (seqRow ⟨(y 0).val, (y 0).isLt⟩ ⟨(y 4).val, (y 4).isLt⟩)
    ⟨o + ((y 2).val * 64 + (y 3).val), by have h2 : (y 2).val < 8 := (y 2).isLt; have h3 : (y 3).val < 64 := (y 3).isLt; omega⟩

/-- The keys by head, in products of the rows with the weights. -/
theorem out_colsKeys (y : S4x1x8x64x256.Idx) :
    out0_A_8 (F := Ideal) c i arg1 harg1 arg2 harg2 arg3 harg3 arg4 harg4 arg5 harg5 arg6 harg6 arg7 harg7 arg8 harg8 arg9 harg9 arg10 harg10
        x0 x1 x2 x3 x4 x5 y = headsOf x0 x1 x2 x3 512 (by decide) y :=
  (out_stateK ..).trans (state_cols i arg1 harg1 arg2 harg2 arg3 harg3 arg4 harg4 x0 x1 x2 x3 512 (by decide) (by decide) y)

/-- The values by head, in products of the rows with the weights. -/
theorem out_colsValues (y : S4x1x8x64x256.Idx) :
    out0_A_9 (F := Ideal) c i arg1 harg1 arg2 harg2 arg3 harg3 arg4 harg4 arg5 harg5 arg6 harg6 arg7 harg7 arg8 harg8 arg9 harg9 arg10 harg10
        x0 x1 x2 x3 x4 x5 y = headsOf x0 x1 x2 x3 1024 (by decide) y :=
  (out_stateV ..).trans (state_cols i arg1 harg1 arg2 harg2 arg3 harg3 arg4 harg4 x0 x1 x2 x3 1024 (by decide) (by decide) y)

end Cert.Projection
end
-- ==== Proof.ProjSpec.lean ====
/- The projection of the normalised, shifted and scaled tokens, and what is kept of it, in plain formulas. -/
module

public import proofs.«01_k».proof.Proof.Rows

@[expose] public section

noncomputable section

namespace Cert.Projection

open Idealize.ShloMosaic Idealize.ShloMosaic.ValueIdx Cert.Layer

/-- A one-axis index that names a channel. -/
theorem at_channel {n : ℕ} (k : Fin n) (y : (⟨1, ![n]⟩ : Shape).Idx) (h : (y 0).val = k.val) : y = ix1 k :=
  funext fun a => Fin.ext (by match a with | ⟨0, _⟩ => exact h)

/-- A three-axis index given by its coordinates. -/
theorem at_three {a b c : ℕ} (y : (⟨3, ![a, b, c]⟩ : Shape).Idx) (n : Fin a) (l : Fin b) (k : Fin c)
    (h0 : (y 0).val = n.val) (h1 : (y 1).val = l.val) (h2 : (y 2).val = k.val) : y = ix3 n l k :=
  funext fun i => Fin.ext (by
    match i with
    | ⟨0, _⟩ => exact h0
    | ⟨1, _⟩ => exact h1
    | ⟨2, _⟩ => exact h2)

/-- A token's row in the arrays of all tokens. -/
abbrev tokRow (n : Fin 32) (l : Fin 256) : Fin 8192 := ⟨n.val * 256 + l.val, by omega⟩

variable (x : (⟨3, ![32, 256, 1024]⟩ : Shape).Idx → EReal) (mo : (⟨3, ![6, 8, 1024]⟩ : Shape).Idx → EReal)
  (g : (⟨1, ![1024]⟩ : Shape).Idx → EReal) (w : (⟨2, ![1024, 3072]⟩ : Shape).Idx → EReal)
  (cw : (⟨2, ![3, 1536]⟩ : Shape).Idx → EReal) (cb : (⟨1, ![1536]⟩ : Shape).Idx → EReal)

/-- A token, normalised, scaled and shifted. -/
def hidS (n : Fin 32) (l : Fin 256) (k : Fin 1024) : EReal :=
  rms 0x44800000#32 (fun k => x (ix3 n l k)) k * g (ix1 k) * (word 0x3F800000#32 + mo (ix3 1 0 k)) + mo (ix3 0 0 k)

/-- Its projection. -/
def projS (n : Fin 32) (l : Fin 256) (j : Fin 3072) : EReal := ∑ k, hidS x mo g n l k * w (ix2 k j)

/-- Queries (scaled), keys and values. -/
def qkvS (n : Fin 32) (l : Fin 256) (j : Fin 1536) : EReal :=
  if j.val < 512 then projS x mo g w n l ⟨j.val, by omega⟩ * word 0x3E000000#32 else projS x mo g w n l ⟨j.val, by omega⟩

/-- The short convolution of the rest. -/
def convS (n : Fin 32) (l : Fin 256) (d : Fin 1536) : EReal :=
  conv3 (fun l => projS x mo g w n l ⟨1536 + d.val, by omega⟩) (cw (ix2 0 d)) (cw (ix2 1 d)) (cw (ix2 2 d)) (cb (ix1 d)) l

/-- The keys (`o = 512`) or the values (`o = 1024`) of a head. -/
def stateS (o : ℕ) (ho : o ≤ 1024) (n : Fin 32) (h : Fin 8) (d : Fin 64) (l : Fin 256) : EReal :=
  projS x mo g w n l ⟨o + (h.val * 64 + d.val), by omega⟩

end Cert.Projection
end
-- ==== Proof.ProjArray.lean ====
/- The projection's output arrays: at every token the plain formulas. -/
module

public import proofs.«01_k».proof.Proof.ProjOut
public import proofs.«01_k».proof.Proof.ProjSpec

@[expose] public section

set_option maxRecDepth 16384

noncomputable section

namespace Cert.Projection

open Idealize.ShloMosaic Idealize.ShloMosaic.TcCoe Idealize.ShloMosaic.ValueIdx Idealize.ShloMosaic.Tactic Cert.Layer Cert.Kernel2Ideal
open Cert.Kernel2Ideal.Gen Idealize.SL.Sem Idealize.ShloMosaic.StableHlo

section Block

variable (x : (⟨3, ![32, 256, 1024]⟩ : Shape).Idx → EReal) (mo : (⟨3, ![6, 8, 1024]⟩ : Shape).Idx → EReal)
  (g : (⟨1, ![1024]⟩ : Shape).Idx → EReal) (w : (⟨2, ![1024, 3072]⟩ : Shape).Idx → EReal)
  (cw : (⟨2, ![3, 1536]⟩ : Shape).Idx → EReal) (cb : (⟨1, ![1536]⟩ : Shape).Idx → EReal) (t : Fin 8)
  (x0 : S1024x1024.Idx → EReal) (x1 : S6x8x1024.Idx → EReal) (x2 : S1x1024.Idx → EReal) (x3 : S1024x3072.Idx → EReal)
  (x4 : S3x1536.Idx → EReal) (x5 : S1x1536.Idx → EReal)
  (hx0 : ∀ (s : Fin 4) (l : Fin 256) (k : Fin 1024), x0 (ix2 (seqRow s l) k) = x (ix3 ⟨t.val * 4 + s.val, by omega⟩ l k))
  (hx1 : x1 = mo) (hx2 : ∀ k : Fin 1024, x2 (ix2 0 k) = g (ix1 k)) (hx3 : x3 = w) (hx4 : x4 = cw)
  (hx5 : ∀ d : Fin 1536, x5 (ix2 0 d) = cb (ix1 d))

include hx0 hx1 hx2 hx3 in
/-- A block's projection. -/
theorem proj_block (s : Fin 4) (l : Fin 256) (j : Fin 3072) :
    projB x0 x1 x2 x3 (seqRow s l) j = projS x mo g w ⟨t.val * 4 + s.val, by omega⟩ l j := by
  subst hx1 hx3
  unfold projB projS hid hidS
  simp only [hx0, hx2]

include hx0 hx1 hx2 hx3 in
/-- Its queries, keys and values. -/
theorem qkv_block (s : Fin 4) (l : Fin 256) (j : Fin 1536) :
    qkvOf x0 x1 x2 x3 (ix2 (seqRow s l) j) = qkvS x mo g w ⟨t.val * 4 + s.val, by omega⟩ l j := by
  show (if j.val < 512 then projB x0 x1 x2 x3 (seqRow s l) ⟨j.val, _⟩ * word 0x3E000000#32 else projB x0 x1 x2 x3 (seqRow s l) ⟨j.val, _⟩) = _
  unfold qkvS
  simp only [proj_block x mo g w t x0 x1 x2 x3 hx0 hx1 hx2 hx3]

/-- The convolved part of a row of a sequence. -/
theorem convOf_apply (s : Fin 4) (l : Fin 256) (d : Fin 1536) :
    convOf x0 x1 x2 x3 x4 x5 (ix2 (seqRow s l) d)
      = conv3 (fun l' => projB x0 x1 x2 x3 (seqRow s l') ⟨1536 + d.val, by omega⟩) (x4 (ix2 0 d)) (x4 (ix2 1 d)) (x4 (ix2 2 d)) (x5 (ix2 0 d)) l := by
  have e : ∀ (q : Fin 4) (p : Fin 256), q = s → p = l →
      conv3 (fun l' => projB x0 x1 x2 x3 (seqRow q l') ⟨1536 + d.val, by omega⟩) (x4 (ix2 0 d)) (x4 (ix2 1 d)) (x4 (ix2 2 d)) (x5 (ix2 0 d)) p
        = conv3 (fun l' => projB x0 x1 x2 x3 (seqRow s l') ⟨1536 + d.val, by omega⟩) (x4 (ix2 0 d)) (x4 (ix2 1 d)) (x4 (ix2 2 d)) (x5 (ix2 0 d)) l := by
    rintro _ _ rfl rfl; rfl
  exact e ⟨(s.val * 256 + l.val) / 256, by omega⟩ ⟨(s.val * 256 + l.val) % 256, by omega⟩
    (Fin.ext (show (s.val * 256 + l.val) / 256 = s.val by omega)) (Fin.ext (show (s.val * 256 + l.val) % 256 = l.val by omega))

include hx0 hx1 hx2 hx3 hx4 hx5 in
/-- Its convolved part. -/
theorem conv_block (s : Fin 4) (l : Fin 256) (d : Fin 1536) :
    convOf x0 x1 x2 x3 x4 x5 (ix2 (seqRow s l) d) = convS x mo g w cw cb ⟨t.val * 4 + s.val, by omega⟩ l d := by
  rw [convOf_apply, hx4, hx5]
  unfold convS
  simp only [proj_block x mo g w t x0 x1 x2 x3 hx0 hx1 hx2 hx3]

end Block

variable (m : (ℓ : Loc nD τ sig) → Buf (Elt Ideal) ℓ) (c : Dev nD)

/-- The tokens, as launched. -/
abbrev argX : S32x256x1024.Idx → EReal := m ((c : Thread nD τ).loc main_arg0)
/-- The shifts and scales, as launched. -/
abbrev argMods : S6x8x1024.Idx → EReal := m ((c : Thread nD τ).loc main_arg1)
/-- The normalisation's gains, as launched. -/
abbrev argG : S1024.Idx → EReal := m ((c : Thread nD τ).loc main_arg2)
/-- The projection's weights, as launched. -/
abbrev argW : S1024x3072.Idx → EReal := m ((c : Thread nD τ).loc main_arg3)
/-- The convolution's weights, as launched. -/
abbrev argCW : S3x1536.Idx → EReal := m ((c : Thread nD τ).loc main_arg4)
/-- The convolution's bias, as launched. -/
abbrev argCB : S1536.Idx → EReal := m ((c : Thread nD τ).loc main_arg5)

theorem V_tokens : V m c main_v0 = shapeCast S8192x1024 (argX m c) Gen.shapeCasts_S32x256x1024_S8192x1024 := by
  show StableHlo.after (List.flatten [hostOps0]) _ (Proc.devRef .tc main_v0) = _
  simp only [List.flatten_cons, List.flatten_nil, List.append_nil, List.cons_append, List.nil_append]
  after_results
  rfl

theorem V_gain : V m c main_v1 = broadcastInDim S1x1024 ![1] Gen.bcast_S1024_S1x1024_1 (argG m c) := by
  show StableHlo.after (List.flatten [hostOps0]) _ (Proc.devRef .tc main_v1) = _
  simp only [List.flatten_cons, List.flatten_nil, List.append_nil, List.cons_append, List.nil_append]
  after_results

theorem V_weights : V m c main_v2 = argW m c := by
  show StableHlo.after (List.flatten [hostOps0]) _ (Proc.devRef .tc main_v2) = _
  simp only [List.flatten_cons, List.flatten_nil, List.append_nil, List.cons_append, List.nil_append]
  after_results
  rfl

theorem V_convBias : V m c main_v3 = broadcastInDim S1x1536 ![1] Gen.bcast_S1536_S1x1536_1 (argCB m c) := by
  show StableHlo.after (List.flatten [hostOps0]) _ (Proc.devRef .tc main_v3) = _
  simp only [List.flatten_cons, List.flatten_nil, List.append_nil, List.cons_append, List.nil_append]
  after_results

/-- Where each window's block lies. -/
theorem block_index : ∀ t : Fin grid0.N,
    (win0_0.index t 0 = t.val ∧ win0_0.index t 1 = 0)
    ∧ (win0_1.index t 0 = 0 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0 ∧ win0_8.index t 2 = 0 ∧ win0_8.index t 3 = 0 ∧ win0_8.index t 4 = 0)
    ∧ (win0_9.index t 0 = t.val ∧ win0_9.index t 1 = 0 ∧ win0_9.index t 2 = 0 ∧ win0_9.index t 3 = 0 ∧ win0_9.index t 4 = 0) := by
  decide +kernel

variable (t : Fin 8)

theorem blk_tokens (s : Fin 4) (l : Fin 256) (k : Fin 1024) :
    iblk m c 0 t (ix2 (seqRow s l) k) = argX m c (ix3 ⟨t.val * 4 + s.val, by omega⟩ l k) := by
  have hi := (block_index t).1
  have ht : t.val < 8 := t.isLt
  show V m c main_v0 ((win0_0.rect t).emb (ix2 (seqRow s l) k)) = _
  rw [V_tokens]
  have hpos : (win0_0.rect t).emb (ix2 (seqRow s l) k) = ix2 (⟨t.val * 1024 + (s.val * 256 + l.val), by omega⟩ : Fin 8192) k := by
    refine funext fun a => Fin.ext ((Pipeline.Window.rect_emb_val win0_0 t _ a).trans ?_)
    match a with
    | ⟨0, _⟩ => show win0_0.index t 0 * 1024 + (s.val * 256 + l.val) = t.val * 1024 + (s.val * 256 + l.val); rw [hi.1]
    | ⟨1, _⟩ => show win0_0.index t 1 * 1024 + k.val = k.val; rw [hi.2]; omega
  rw [hpos]
  exact shapeCast_apply _ _ _ _ (by
    rw [Shape.rowMajor_val_two, Shape.rowMajor_val_three]
    show ((t.val * 4 + s.val) * 256 + l.val) * 1024 + k.val = (t.val * 1024 + (s.val * 256 + l.val)) * 1024 + k.val
    omega)

theorem blk_mods : iblk m c 1 t = argMods m c := by
  have hi := (block_index t).2.1
  funext y
  show V m c main_arg1 ((win0_1.rect t).emb y) = _
  rw [V_main_arg1]
  refine congrArg _ (funext fun a => Fin.ext ((Pipeline.Window.rect_emb_val win0_1 t _ a).trans ?_))
  match a with
  | ⟨0, _⟩ => show win0_1.index t 0 * 6 + (y 0).val = (y 0).val; rw [hi.1]; omega
  | ⟨1, _⟩ => show win0_1.index t 1 * 8 + (y 1).val = (y 1).val; rw [hi.2.1]; omega
  | ⟨2, _⟩ => show win0_1.index t 2 * 1024 + (y 2).val = (y 2).val; rw [hi.2.2]; omega

theorem blk_gain (k : Fin 1024) : iblk m c 2 t (ix2 0 k) = argG m c (ix1 k) := by
  have hi := (block_index t).2.2.1
  show V m c main_v1 ((win0_2.rect t).emb (ix2 0 k)) = _
  rw [V_gain]
  refine broadcastInDim_apply _ _ _ _ (ix1 k) fun a => ?_
  match a with
  | ⟨0, _⟩ =>
    refine Eq.trans ?_ (if_neg (show ¬ (1024 = 1) by decide)).symm
    refine Eq.symm ((Pipeline.Window.rect_emb_val win0_2 t _ 1).trans ?_)
    show win0_2.index t 1 * 1024 + k.val = k.val; rw [hi.2]; omega

theorem blk_weights : iblk m c 3 t = argW m c := by
  have hi := (block_index t).2.2.2.1
  funext y
  show V m c main_v2 ((win0_3.rect t).emb y) = _
  rw [V_weights]
  refine congrArg _ (funext fun a => Fin.ext ((Pipeline.Window.rect_emb_val win0_3 t _ a).trans ?_))
  match a with
  | ⟨0, _⟩ => show win0_3.index t 0 * 1024 + (y 0).val = (y 0).val; rw [hi.1]; omega
  | ⟨1, _⟩ => show win0_3.index t 1 * 3072 + (y 1).val = (y 1).val; rw [hi.2]; omega

theorem blk_convW : iblk m c 4 t = argCW m c := by
  have hi := (block_index t).2.2.2.2.1
  funext y
  show V m c main_arg4 ((win0_4.rect t).emb y) = _
  rw [V_main_arg4]
  refine congrArg _ (funext fun a => Fin.ext ((Pipeline.Window.rect_emb_val win0_4 t _ a).trans ?_))
  match a with
  | ⟨0, _⟩ => show win0_4.index t 0 * 3 + (y 0).val = (y 0).val; rw [hi.1]; omega
  | ⟨1, _⟩ => show win0_4.index t 1 * 1536 + (y 1).val = (y 1).val; rw [hi.2]; omega

theorem blk_convB (d : Fin 1536) : iblk m c 5 t (ix2 0 d) = argCB m c (ix1 d) := by
  have hi := (block_index t).2.2.2.2.2.1
  show V m c main_v3 ((win0_5.rect t).emb (ix2 0 d)) = _
  rw [V_convBias]
  refine broadcastInDim_apply _ _ _ _ (ix1 d) fun a => ?_
  match a with
  | ⟨0, _⟩ =>
    refine Eq.trans ?_ (if_neg (show ¬ (1536 = 1) by decide)).symm
    refine Eq.symm ((Pipeline.Window.rect_emb_val win0_5 t _ 1).trans ?_)
    show win0_5.index t 1 * 1536 + d.val = d.val; rw [hi.2]; omega

/-- A block's projection, of the arguments. -/
theorem proj_point (s : Fin 4) (l : Fin 256) (j : Fin 3072) :
    projB (iblk m c 0 t) (iblk m c 1 t) (iblk m c 2 t) (iblk m c 3 t) (seqRow s l) j
      = projS (argX m c) (argMods m c) (argG m c) (argW m c) ⟨t.val * 4 + s.val, by omega⟩ l j :=
  proj_block _ _ _ _ t _ _ _ _ (blk_tokens m c t) (blk_mods m c t) (blk_gain m c t) (blk_weights m c t) s l j

/-- What a grid point leaves of the queries, keys and values. -/
theorem qkv_point (s : Fin 4) (l : Fin 256) (j : Fin 1536) :
    (outsAt0 m c t).1 (ix2 (seqRow s l) j)
      = qkvS (argX m c) (argMods m c) (argG m c) (argW m c) ⟨t.val * 4 + s.val, by omega⟩ l j := by
  have e : (outsAt0 m c t).1 = qkvOf (iblk m c 0 t) (iblk m c 1 t) (iblk m c 2 t) (iblk m c 3 t) := by
    unfold outsAt0
    dsimp only
    funext y
    exact out_qkv ..
  rw [e]
  exact (qkv_block _ _ _ _ t _ _ _ _ (blk_tokens m c t) (blk_mods m c t) (blk_gain m c t) (blk_weights m c t) s l j)

/-- What a grid point leaves of the convolved part. -/
theorem conv_point (s : Fin 4) (l : Fin 256) (j : Fin 1536) :
    (outsAt0 m c t).2.1 (ix2 (seqRow s l) j)
      = convS (argX m c) (argMods m c) (argG m c) (argW m c) (argCW m c) (argCB m c) ⟨t.val * 4 + s.val, by omega⟩ l j := by
  have e : (outsAt0 m c t).2.1 = convOf (iblk m c 0 t) (iblk m c 1 t) (iblk m c 2 t) (iblk m c 3 t) (iblk m c 4 t) (iblk m c 5 t) := by
    unfold outsAt0
    dsimp only
    funext y
    exact out_conv ..
  rw [e]
  exact (conv_block _ _ _ _ _ _ t _ _ _ _ _ _ (blk_tokens m c t) (blk_mods m c t) (blk_gain m c t) (blk_weights m c t)
    (blk_convW m c t) (blk_convB m c t) s l j)

/-- What a grid point leaves of the keys by head. -/
theorem stateK_point (s : Fin 4) (h : Fin 8) (d : Fin 64) (l : Fin 256) :
    (outsAt0 m c t).2.2.1 (ix5 s 0 h d l)
      = stateS (argX m c) (argMods m c) (argG m c) (argW m c) 512 (by decide) ⟨t.val * 4 + s.val, by omega⟩ h d l := by
  have e : (outsAt0 m c t).2.2.1 = headsOf (iblk m c 0 t) (iblk m c 1 t) (iblk m c 2 t) (iblk m c 3 t) 512 (by decide) := by
    unfold outsAt0
    dsimp only
    funext y
    exact out_colsKeys ..
  rw [e]
  exact proj_point m c t s l _

/-- What a grid point leaves of the values by head. -/
theorem stateV_point (s : Fin 4) (h : Fin 8) (d : Fin 64) (l : Fin 256) :
    (outsAt0 m c t).2.2.2 (ix5 s 0 h d l)
      = stateS (argX m c) (argMods m c) (argG m c) (argW m c) 1024 (by decide) ⟨t.val * 4 + s.val, by omega⟩ h d l := by
  have e : (outsAt0 m c t).2.2.2 = headsOf (iblk m c 0 t) (iblk m c 1 t) (iblk m c 2 t) (iblk m c 3 t) 1024 (by decide) := by
    unfold outsAt0
    dsimp only
    funext y
    exact out_colsValues ..
  rw [e]
  exact proj_point m c t s l _

/-- The point and the sequence within its block that hold a token. -/
theorem split_seq (n : Fin 32) : ∃ (t : Fin 8) (s : Fin 4), n = ⟨t.val * 4 + s.val, by omega⟩ :=
  ⟨⟨n.val / 4, by omega⟩, ⟨n.val % 4, by omega⟩, Fin.ext (show n.val = n.val / 4 * 4 + n.val % 4 by omega)⟩

/-- The first output array. -/
theorem qkv_array (n : Fin 32) (l : Fin 256) (j : Fin 1536) :
    (dats m 0 c).arrAt 6 cfg0.N (ix2 (tokRow n l) j) = qkvS (argX m c) (argMods m c) (argG m c) (argW m c) n l j := by
  obtain ⟨t, s, rfl⟩ := split_seq n
  have ht : t.val < 8 := t.isLt
  have hi := (block_index t).2.2.2.2.2.2.1
  have hb := congrFun (Value.blocks6 (F := Ideal) m c t (flush0_6 t)) (ix2 (seqRow s l) j)
  have hpos : (win0_6.rect t).emb (ix2 (seqRow s l) j) = ix2 (tokRow ⟨t.val * 4 + s.val, by omega⟩ l) j := by
    refine funext fun a => Fin.ext ((Pipeline.Window.rect_emb_val win0_6 t _ a).trans ?_)
    match a with
    | ⟨0, _⟩ => show win0_6.index t 0 * 1024 + (s.val * 256 + l.val) = (t.val * 4 + s.val) * 256 + l.val; rw [hi.1]; omega
    | ⟨1, _⟩ => show win0_6.index t 1 * 1536 + j.val = j.val; rw [hi.2]; omega
  rw [← hpos]
  refine Eq.trans hb ((congrFun (Value.flushed6 m c t) _).trans ?_)
  exact qkv_point m c t s l j

/-- The second output array. -/
theorem conv_array (n : Fin 32) (l : Fin 256) (j : Fin 1536) :
    (dats m 0 c).arrAt 7 cfg0.N (ix2 (tokRow n l) j)
      = convS (argX m c) (argMods m c) (argG m c) (argW m c) (argCW m c) (argCB m c) n l j := by
  obtain ⟨t, s, rfl⟩ := split_seq n
  have ht : t.val < 8 := t.isLt
  have hi := (block_index t).2.2.2.2.2.2.2.1
  have hb := congrFun (Value.blocks7 (F := Ideal) m c t (flush0_7 t)) (ix2 (seqRow s l) j)
  have hpos : (win0_7.rect t).emb (ix2 (seqRow s l) j) = ix2 (tokRow ⟨t.val * 4 + s.val, by omega⟩ l) j := by
    refine funext fun a => Fin.ext ((Pipeline.Window.rect_emb_val win0_7 t _ a).trans ?_)
    match a with
    | ⟨0, _⟩ => show win0_7.index t 0 * 1024 + (s.val * 256 + l.val) = (t.val * 4 + s.val) * 256 + l.val; rw [hi.1]; omega
    | ⟨1, _⟩ => show win0_7.index t 1 * 1536 + j.val = j.val; rw [hi.2]; omega
  rw [← hpos]
  refine Eq.trans hb ((congrFun (Value.flushed7 m c t) _).trans ?_)
  exact conv_point m c t s l j

/-- The third output array. -/
theorem stateK_array (n : Fin 32) (h : Fin 8) (d : Fin 64) (l : Fin 256) :
    (dats m 0 c).arrAt 8 cfg0.N (ix5 n 0 h d l)
      = stateS (argX m c) (argMods m c) (argG m c) (argW m c) 512 (by decide) n h d l := by
  obtain ⟨t, s, rfl⟩ := split_seq n
  have ht : t.val < 8 := t.isLt
  have hi := (block_index t).2.2.2.2.2.2.2.2.1
  have hb := congrFun (Value.blocks8 (F := Ideal) m c t (flush0_8 t)) (ix5 s 0 h d l)
  have hpos : (win0_8.rect t).emb (ix5 s 0 h d l) = ix5 (⟨t.val * 4 + s.val, by omega⟩ : Fin 32) (0 : Fin 1) h d l := by
    refine funext fun a => Fin.ext ((Pipeline.Window.rect_emb_val win0_8 t _ a).trans ?_)
    match a with
    | ⟨0, _⟩ => show win0_8.index t 0 * 4 + s.val = t.val * 4 + s.val; rw [hi.1]
    | ⟨1, _⟩ => show win0_8.index t 1 * 1 + 0 = 0; rw [hi.2.1]
    | ⟨2, _⟩ => show win0_8.index t 2 * 8 + h.val = h.val; rw [hi.2.2.1]; omega
    | ⟨3, _⟩ => show win0_8.index t 3 * 64 + d.val = d.val; rw [hi.2.2.2.1]; omega
    | ⟨4, _⟩ => show win0_8.index t 4 * 256 + l.val = l.val; rw [hi.2.2.2.2]; omega
  rw [← hpos]
  refine Eq.trans hb ((congrFun (Value.flushed8 m c t) _).trans ?_)
  exact stateK_point m c t s h d l

/-- The fourth output array. -/
theorem stateV_array (n : Fin 32) (h : Fin 8) (d : Fin 64) (l : Fin 256) :
    (dats m 0 c).arrAt 9 cfg0.N (ix5 n 0 h d l)
      = stateS (argX m c) (argMods m c) (argG m c) (argW m c) 1024 (by decide) n h d l := by
  obtain ⟨t, s, rfl⟩ := split_seq n
  have ht : t.val < 8 := t.isLt
  have hi := (block_index t).2.2.2.2.2.2.2.2.2
  have hb := congrFun (Value.blocks9 (F := Ideal) m c t (flush0_9 t)) (ix5 s 0 h d l)
  have hpos : (win0_9.rect t).emb (ix5 s 0 h d l) = ix5 (⟨t.val * 4 + s.val, by omega⟩ : Fin 32) (0 : Fin 1) h d l := by
    refine funext fun a => Fin.ext ((Pipeline.Window.rect_emb_val win0_9 t _ a).trans ?_)
    match a with
    | ⟨0, _⟩ => show win0_9.index t 0 * 4 + s.val = t.val * 4 + s.val; rw [hi.1]
    | ⟨1, _⟩ => show win0_9.index t 1 * 1 + 0 = 0; rw [hi.2.1]
    | ⟨2, _⟩ => show win0_9.index t 2 * 8 + h.val = h.val; rw [hi.2.2.1]; omega
    | ⟨3, _⟩ => show win0_9.index t 3 * 64 + d.val = d.val; rw [hi.2.2.2.1]; omega
    | ⟨4, _⟩ => show win0_9.index t 4 * 256 + l.val = l.val; rw [hi.2.2.2.2]; omega
  rw [← hpos]
  refine Eq.trans hb ((congrFun (Value.flushed9 m c t) _).trans ?_)
  exact stateV_point m c t s h d l

end Cert.Projection
end
-- ==== Proof.Padded.lean ====
/- An array of sequences padded by one row before and one row after each sequence, read at an index. -/
module

public import proofs.«01_k».proof.Proof.Rows
public import Idealize.ShloMosaic.Lib.KernelVsHost

@[expose] public section

noncomputable section

namespace Cert.Layer

open Idealize.ShloMosaic Idealize.ShloMosaic.ValueIdx

variable {N L L' D : ℕ} (u : (⟨3, ![N, L, D]⟩ : Shape).Idx → EReal) {z : Shape} (v : z.Idx → EReal)
  (h : (⟨3, ![N, L, D]⟩ : Shape).Pads ![0, 1, 0] ![0, 1, 0] ![0, 0, 0] ⟨3, ![N, L', D]⟩) (hu : 0 < z.numel)

/-- Inside the padding. -/
theorem padded_inside (n : Fin N) (l : Fin L) (d : Fin D) (p : Fin L') (hp : p.val = 1 + l.val) :
    pad ⟨3, ![N, L', D]⟩ ![0, 1, 0] ![0, 1, 0] ![0, 0, 0] u v h hu (ix3 n p d) = u (ix3 n l d) := by
  refine pad_apply_of_inside _ _ _ _ _ _ _ _ _ fun a => ?_
  match a with
  | ⟨0, _⟩ => show n.val = 0 + n.val * (0 + 1); omega
  | ⟨1, _⟩ => show p.val = 1 + l.val * (0 + 1); omega
  | ⟨2, _⟩ => show d.val = 0 + d.val * (0 + 1); omega

/-- Outside the sequence. -/
theorem padded_outside (n : Fin N) (d : Fin D) (p : Fin L') (hp : p.val = 0 ∨ p.val = L + 1) :
    pad ⟨3, ![N, L', D]⟩ ![0, 1, 0] ![0, 1, 0] ![0, 0, 0] u v h hu (ix3 n p d) = v (Shape.Idx.first hu) := by
  refine pad_apply_of_not_inside _ _ _ _ _ _ _ (ix3 n p d) (1 : Fin 3) fun hin => ?_
  have h1 : 1 ≤ p.val := hin.1
  have h3 : (p.val - 1) / (0 + 1) < L := hin.2.2
  rw [Nat.zero_add, Nat.div_one] at h3
  omega

variable (hv : v (Shape.Idx.first hu) = 0)

include hv in
/-- The row before. -/
theorem padded_prev (n : Fin N) (l : Fin L) (d : Fin D) (p : Fin L') (hp : p.val = l.val) :
    pad ⟨3, ![N, L', D]⟩ ![0, 1, 0] ![0, 1, 0] ![0, 0, 0] u v h hu (ix3 n p d) = prev (fun l => u (ix3 n l d)) l := by
  unfold prev
  by_cases hl : l.val = 0
  · rw [dif_pos hl, padded_outside u v h hu n d p (Or.inl (hp.trans hl)), hv]
  · rw [dif_neg hl]
    exact padded_inside u v h hu n _ d p (show p.val = 1 + (l.val - 1) by omega)

include hv in
/-- The row after. -/
theorem padded_next (n : Fin N) (l : Fin L) (d : Fin D) (p : Fin L') (hp : p.val = 2 + l.val) :
    pad ⟨3, ![N, L', D]⟩ ![0, 1, 0] ![0, 1, 0] ![0, 0, 0] u v h hu (ix3 n p d) = next (fun l => u (ix3 n l d)) l := by
  unfold next
  by_cases hl : l.val + 1 < L
  · rw [dif_pos hl]
    exact padded_inside u v h hu n _ d p (show p.val = 1 + (l.val + 1) by omega)
  · rw [dif_neg hl, padded_outside u v h hu n d p (Or.inr (by omega)), hv]

end Cert.Layer
end
-- ==== Proof.ProjRef.lean ====
/- The reference projection read at an index. -/
module

public import proofs.«01_k».proof.Proof.ProjSpec
public import proofs.«01_k».proof.Proof.Padded
public import proofs.«01_k».proof.Proof.Gen.Reference2Ideal.Read

@[expose] public section

set_option maxRecDepth 16384

noncomputable section

namespace Cert.Projection

open Idealize.ShloMosaic Idealize.ShloMosaic.ValueIdx Cert.Layer Cert.Reference2Ideal Cert.Reference2Ideal.Gen Cert.Reference2Ideal.Read

variable (x0 : (⟨3, ![32, 256, 1024]⟩ : Shape).Idx → EReal) (x1 : (⟨3, ![6, 8, 1024]⟩ : Shape).Idx → EReal)
  (x2 : (⟨1, ![1024]⟩ : Shape).Idx → EReal) (x3 : (⟨2, ![1024, 3072]⟩ : Shape).Idx → EReal)
  (x4 : (⟨2, ![3, 1536]⟩ : Shape).Idx → EReal) (x5 : (⟨1, ![1536]⟩ : Shape).Idx → EReal)

/-- The shift of a channel. -/
theorem ref_shift (k : Fin 1024) : val_main_v1 (F := Ideal) x1 (ix1 k) = x1 (ix3 0 0 k) := by
  rw [val_main_v1_apply, val_main_v0_apply]
  refine congrArg x1 (funext fun a => Fin.ext ?_)
  match a with
  | ⟨0, _⟩ => rfl
  | ⟨1, _⟩ => rfl
  | ⟨2, _⟩ => exact Nat.mod_eq_of_lt k.isLt

/-- The scale of a channel. -/
theorem ref_scale (k : Fin 1024) : val_main_v3 (F := Ideal) x1 (ix1 k) = x1 (ix3 1 0 k) := by
  rw [val_main_v3_apply, val_main_v2_apply]
  refine congrArg x1 (funext fun a => Fin.ext ?_)
  match a with
  | ⟨0, _⟩ => rfl
  | ⟨1, _⟩ => rfl
  | ⟨2, _⟩ => exact Nat.mod_eq_of_lt k.isLt

/-- A normalised token. -/
theorem ref_norm (n : Fin 32) (l : Fin 256) (k : Fin 1024) :
    val_main_v13 (F := Ideal) x0 (ix3 n l k) = rms 0x44800000#32 (fun k => x0 (ix3 n l k)) k := by
  rw [val_main_v13_apply]
  refine congrArg (x0 (ix3 n l k) * ·) ?_
  rw [val_main_v12_apply, val_main_v11_apply]
  refine congrArg Ideal.rsqrt ?_
  rw [val_main_v10_apply, val_main_v9_apply, val_main_v8_apply, val_main_v7_apply, val_main_v6_apply, val_main_v5_apply]
  refine congrArg (· + _) (congrArg (Ideal.div · _) ?_)
  refine (congrArg (· + _) (show val_main_cst (F := Ideal) (Shape.Idx.first h_S_) = 0 from Ideal.ofBits_zero_f32)).trans ((zero_add _).trans ?_)
  refine Finset.sum_congr rfl fun j _ => ?_
  rw [val_main_v4_apply]
  have e : idx_main_v5 (idx_main_v6 (idx_main_v12 (ix3 n l k))) j = ix3 n l j := funext fun a => match a with
    | ⟨0, _⟩ => rfl
    | ⟨1, _⟩ => rfl
    | ⟨2, _⟩ => rfl
  rw [e]
  rfl

/-- A hidden token. -/
theorem ref_hidden (n : Fin 32) (l : Fin 256) (k : Fin 1024) :
    val_main_v24 (F := Ideal) x0 x1 x2 (ix3 n l k) = hidS x0 x1 x2 n l k := by
  rw [val_main_v24_apply, val_main_v23_apply, val_main_v22_apply, val_main_v21_apply, val_main_v20_apply, val_main_v19_apply,
    val_main_v18_apply, val_main_v17_apply, val_main_v16_apply, val_main_v15_apply, val_main_v14_apply, ref_norm]
  have e1 : idx_main_v22 (idx_main_v23 (ix3 n l k)) = ix1 k := at_channel k _ rfl
  have e2 : idx_main_v19 (idx_main_v20 (ix3 n l k)) = ix1 k := at_channel k _ rfl
  have e3 : idx_main_v14 (idx_main_v15 (ix3 n l k)) = ix1 k := at_channel k _ rfl
  rw [e1, e2, e3, ref_shift, ref_scale]
  rfl

/-- The projection. -/
theorem ref_proj (n : Fin 32) (l : Fin 256) (j : Fin 3072) :
    val_main_v25 (F := Ideal) x0 x1 x2 x3 (ix3 n l j) = projS x0 x1 x2 x3 n l j := by
  rw [val_main_v25_apply]
  refine Finset.sum_congr rfl fun k _ => ?_
  have e1 : lidx_main_v25 (ix3 n l j) k = ix3 n l k := funext fun a => match a with
    | ⟨0, _⟩ => rfl
    | ⟨1, _⟩ => rfl
    | ⟨2, _⟩ => rfl
  have e2 : ridx_main_v25 (ix3 n l j) k = ix2 k j := funext fun a => match a with
    | ⟨0, _⟩ => rfl
    | ⟨1, _⟩ => rfl
  rw [e1, e2, ref_hidden]

/-- A part of three parts joined along the channels. -/
theorem joined_part (xs : List ((s : Shape) × (s.Idx → EReal))) (h : Shape.Concatenates (xs.map (·.1)) S32x256x1536 2) (k : ℕ)
    (hk : k < xs.length) (x : S32x256x512.Idx → EReal) (hx : xs[k] = ⟨S32x256x512, x⟩) (pre : ℕ)
    (hpre : (((xs.take k).map (·.1)).map fun s => if h : s.rank = S32x256x1536.rank then s.size ((2 : Fin S32x256x1536.rank).cast h.symm) else 0).sum = pre)
    (n : Fin 32) (l : Fin 256) (j : Fin 1536) (d : Fin 512) (hd : pre + d.val = j.val) :
    concatenate S32x256x1536 2 xs h (ix3 n l j) = x (ix3 n l d) :=
  concatenate_apply_piece (2 : Fin S32x256x1536.rank) xs h (ix3 n l j) k hk _ x hx rfl pre hpre (ix3 n l d) (fun a ha => by
    match a with
    | ⟨0, _⟩ => rfl
    | ⟨1, _⟩ => rfl
    | ⟨2, _⟩ => exact absurd rfl ha) hd

/-- The queries, keys and values of a token, in one array. -/
theorem ref_qkv (n : Fin 32) (l : Fin 256) (j : Fin 1536) :
    val_main_v56 (F := Ideal) x0 x1 x2 x3 (ix3 n l j) = qkvS x0 x1 x2 x3 n l j := by
  have hj := j.isLt
  unfold val_main_v56 qkvS
  by_cases h1 : j.val < 512
  · rw [if_pos h1]
    refine (joined_part _ _ 0 (by simp) _ rfl 0 rfl n l j (⟨j.val, by omega⟩ : Fin 512) (show 0 + (j.val) = j.val by omega)).trans ?_
    show val_main_v28 (F := Ideal) x0 x1 x2 x3 (ix3 n l (⟨j.val, h1⟩ : Fin 512)) = _
    rw [val_main_v28_apply, val_main_v27_apply, val_main_v26_apply,
      at_three (idx_main_v26 _) n l ⟨j.val, by omega⟩ rfl rfl rfl, ref_proj]
    rfl
  · rw [if_neg h1]
    by_cases h2 : j.val < 1024
    · refine (joined_part _ _ 1 (by simp) _ rfl 512 rfl n l j (⟨j.val - 512, by omega⟩ : Fin 512) (show 512 + (j.val - 512) = j.val by omega)).trans ?_
      show val_main_v29 (F := Ideal) x0 x1 x2 x3 (ix3 n l (⟨j.val - 512, _⟩ : Fin 512)) = _
      rw [val_main_v29_apply, at_three (idx_main_v29 _) n l ⟨j.val, by omega⟩ rfl rfl (show 512 + (j.val - 512) = j.val by omega), ref_proj]
    · refine (joined_part _ _ 2 (by simp) _ rfl 1024 rfl n l j (⟨j.val - 1024, by omega⟩ : Fin 512) (show 1024 + (j.val - 1024) = j.val by omega)).trans ?_
      show val_main_v30 (F := Ideal) x0 x1 x2 x3 (ix3 n l (⟨j.val - 1024, _⟩ : Fin 512)) = _
      rw [val_main_v30_apply, at_three (idx_main_v30 _) n l ⟨j.val, by omega⟩ rfl rfl (show 1024 + (j.val - 1024) = j.val by omega), ref_proj]

/-- The convolved part of a token before the convolution. -/
theorem ref_rest (n : Fin 32) (l : Fin 256) (d : Fin 1536) :
    val_main_v31 (F := Ideal) x0 x1 x2 x3 (ix3 n l d) = projS x0 x1 x2 x3 n l ⟨1536 + d.val, by omega⟩ := by
  rw [val_main_v31_apply, at_three (idx_main_v31 _) n l ⟨1536 + d.val, by omega⟩ rfl rfl rfl, ref_proj]

/-- The padding is zero. -/
theorem ref_zero : val_main_call0_v0 (F := Ideal) (Shape.Idx.first h_S_) = 0 := by
  show FloatOps.sitofp (F := Ideal) .f32 (0#32 : BitVec 32) = 0
  simp [FloatOps.sitofp]

/-- A weight of the convolution, its first row. -/
theorem ref_w0 (n : Fin 32) (l : Fin 256) (d : Fin 1536) : val_main_v37 (F := Ideal) x4 (ix3 n l d) = x4 (ix2 0 d) := by
  rw [val_main_v37_apply, val_main_v36_apply, val_main_v35_apply, val_main_v34_apply]
  refine congrArg x4 (funext fun a => Fin.ext ?_)
  match a with
  | ⟨0, _⟩ => rfl
  | ⟨1, _⟩ => exact Nat.mod_eq_of_lt d.isLt

/-- Its second row. -/
theorem ref_w1 (n : Fin 32) (l : Fin 256) (d : Fin 1536) : val_main_v43 (F := Ideal) x4 (ix3 n l d) = x4 (ix2 1 d) := by
  rw [val_main_v43_apply, val_main_v42_apply, val_main_v41_apply, val_main_v40_apply]
  refine congrArg x4 (funext fun a => Fin.ext ?_)
  match a with
  | ⟨0, _⟩ => rfl
  | ⟨1, _⟩ => exact Nat.mod_eq_of_lt d.isLt

/-- Its third row. -/
theorem ref_w2 (n : Fin 32) (l : Fin 256) (d : Fin 1536) : val_main_v50 (F := Ideal) x4 (ix3 n l d) = x4 (ix2 2 d) := by
  rw [val_main_v50_apply, val_main_v49_apply, val_main_v48_apply, val_main_v47_apply]
  refine congrArg x4 (funext fun a => Fin.ext ?_)
  match a with
  | ⟨0, _⟩ => rfl
  | ⟨1, _⟩ => exact Nat.mod_eq_of_lt d.isLt

/-- The convolution. -/
theorem ref_conv (n : Fin 32) (l : Fin 256) (d : Fin 1536) :
    val_main_v55 (F := Ideal) x0 x1 x2 x3 x4 x5 (ix3 n l d) = convS x0 x1 x2 x3 x4 x5 n l d := by
  rw [val_main_v55_apply, val_main_v54_apply, val_main_v53_apply, val_main_v52_apply, val_main_v51_apply, val_main_v46_apply,
    val_main_v45_apply, val_main_v44_apply, val_main_v39_apply, val_main_v38_apply, val_main_v33_apply, ref_w0, ref_w1, ref_w2,
    at_channel d (idx_main_v53 _) rfl]
  unfold convS conv3
  have hrow : (fun l => val_main_v31 (F := Ideal) x0 x1 x2 x3 (ix3 n l d)) = fun l => projS x0 x1 x2 x3 n l ⟨1536 + d.val, by omega⟩ :=
    funext fun l => ref_rest x0 x1 x2 x3 n l d
  refine congrArg (· + x5 (ix1 d)) (congrArg₂ (· + ·) (congrArg₂ (· + ·) (congrArg (· * x4 (ix2 0 d)) ?_) (congrArg (· * x4 (ix2 1 d)) ?_))
    (congrArg (· * x4 (ix2 2 d)) ?_))
  · rw [at_three (idx_main_v33 _) n (⟨l.val, by omega⟩ : Fin 258) d rfl rfl rfl, ← hrow]
    exact padded_prev _ _ _ _ ref_zero n l d _ rfl
  · rw [at_three (idx_main_v39 _) n (⟨1 + l.val, by omega⟩ : Fin 258) d rfl rfl rfl]
    exact (padded_inside _ _ _ _ n l d _ rfl).trans (ref_rest x0 x1 x2 x3 n l d)
  · rw [at_three (idx_main_v46 _) n (⟨2 + l.val, by omega⟩ : Fin 258) d rfl rfl rfl, ← hrow]
    exact padded_next _ _ _ _ ref_zero n l d _ rfl

/-- The first result. -/
theorem ref_first (n : Fin 32) (l : Fin 256) (j : Fin 1536) :
    val_main_v58 (F := Ideal) x0 x1 x2 x3 (ix2 (tokRow n l) j) = qkvS x0 x1 x2 x3 n l j := by
  rw [val_main_v58_apply, val_main_v57_apply]
  have hj := j.isLt
  have hl := l.isLt
  have e : idx_main_v57 (ix2 (tokRow n l) j) = ix3 n l j := at_three _ n l j
    (show ((n.val * 256 + l.val) * 1536 + j.val) / 393216 = n.val by omega)
    (show ((n.val * 256 + l.val) * 1536 + j.val) / 1536 % 256 = l.val by omega)
    (show ((n.val * 256 + l.val) * 1536 + j.val) % 1536 = j.val by omega)
  rw [e]
  exact ref_qkv x0 x1 x2 x3 n l j

/-- The second result. -/
theorem ref_second (n : Fin 32) (l : Fin 256) (j : Fin 1536) :
    val_main_v59 (F := Ideal) x0 x1 x2 x3 x4 x5 (ix2 (tokRow n l) j) = convS x0 x1 x2 x3 x4 x5 n l j := by
  rw [val_main_v59_apply]
  have hj := j.isLt
  have hl := l.isLt
  have e : idx_main_v59 (ix2 (tokRow n l) j) = ix3 n l j := at_three _ n l j
    (show ((n.val * 256 + l.val) * 1536 + j.val) / 393216 = n.val by omega)
    (show ((n.val * 256 + l.val) * 1536 + j.val) / 1536 % 256 = l.val by omega)
    (show ((n.val * 256 + l.val) * 1536 + j.val) % 1536 = j.val by omega)
  rw [e]
  exact ref_conv x0 x1 x2 x3 x4 x5 n l j

/-- The third result: the keys. -/
theorem ref_third (n : Fin 32) (h : Fin 8) (d : Fin 64) (l : Fin 256) :
    val_main_v63 (F := Ideal) x0 x1 x2 x3 (ix5 n 0 h d l) = stateS x0 x1 x2 x3 512 (by decide) n h d l := by
  rw [val_main_v63_apply, val_main_v62_apply, val_main_v61_apply, val_main_v60_apply, val_main_v29_apply]
  have hd := d.isLt
  have hl := l.isLt
  have hh := h.isLt
  refine (congrArg _ (at_three _ n l ⟨512 + (h.val * 64 + d.val), by omega⟩
    (show (((n.val * 256 + l.val) * 8 + h.val) * 64 + d.val) / 131072 = n.val by omega)
    (show (((n.val * 256 + l.val) * 8 + h.val) * 64 + d.val) / 512 % 256 = l.val by omega)
    (show 512 + (((n.val * 256 + l.val) * 8 + h.val) * 64 + d.val) % 512 = 512 + (h.val * 64 + d.val) by omega))).trans ?_
  exact ref_proj x0 x1 x2 x3 n l _

/-- The fourth result: the values. -/
theorem ref_fourth (n : Fin 32) (h : Fin 8) (d : Fin 64) (l : Fin 256) :
    val_main_v67 (F := Ideal) x0 x1 x2 x3 (ix5 n 0 h d l) = stateS x0 x1 x2 x3 1024 (by decide) n h d l := by
  rw [val_main_v67_apply, val_main_v66_apply, val_main_v65_apply, val_main_v64_apply, val_main_v30_apply]
  have hd := d.isLt
  have hl := l.isLt
  have hh := h.isLt
  refine (congrArg _ (at_three _ n l ⟨1024 + (h.val * 64 + d.val), by omega⟩
    (show (((n.val * 256 + l.val) * 8 + h.val) * 64 + d.val) / 131072 = n.val by omega)
    (show (((n.val * 256 + l.val) * 8 + h.val) * 64 + d.val) / 512 % 256 = l.val by omega)
    (show 1024 + (((n.val * 256 + l.val) * 8 + h.val) * 64 + d.val) % 512 = 1024 + (h.val * 64 + d.val) by omega))).trans ?_
  exact ref_proj x0 x1 x2 x3 n l _

end Cert.Projection
end
-- ==== Proof.ProjAlgebraic.lean ====
/- The projection's value claim: both programs leave the plain formulas in their four result arrays. -/
module

public import proofs.«01_k».proof.Defs
public import proofs.«01_k».proof.Proof.ProjArray
public import proofs.«01_k».proof.Proof.ProjRef
public import proofs.«01_k».proof.Proof.Gen.Reference2Ideal.Run

@[expose] public section

noncomputable section

namespace Cert.Projection

open Idealize.ShloMosaic Idealize.ShloMosaic.TcCoe Idealize.ShloMosaic.ValueIdx Idealize.SL.Sem

/-- Every index of an array of all tokens is a sequence's token and a channel. -/
theorem token_index (y : (⟨2, ![8192, 1536]⟩ : Shape).Idx) : ∃ (n : Fin 32) (l : Fin 256) (j : Fin 1536), y = ix2 (tokRow n l) j := by
  have h0 : (y 0).val < 8192 := (y 0).isLt
  refine ⟨⟨(y 0).val / 256, by omega⟩, ⟨(y 0).val % 256, by omega⟩, ⟨(y 1).val, (y 1).isLt⟩, funext fun a => Fin.ext ?_⟩
  match a with
  | ⟨0, _⟩ => show (y 0).val = (y 0).val / 256 * 256 + (y 0).val % 256; omega
  | ⟨1, _⟩ => rfl

/-- Every index of a state is a sequence, a head, a lane and a token. -/
theorem state_index (y : (⟨5, ![32, 1, 8, 64, 256]⟩ : Shape).Idx) : ∃ (n : Fin 32) (h : Fin 8) (d : Fin 64) (l : Fin 256), y = ix5 n 0 h d l := by
  have h1 : (y 1).val < 1 := (y 1).isLt
  refine ⟨⟨(y 0).val, (y 0).isLt⟩, ⟨(y 2).val, (y 2).isLt⟩, ⟨(y 3).val, (y 3).isLt⟩, ⟨(y 4).val, (y 4).isLt⟩, funext fun a => Fin.ext ?_⟩
  match a with
  | ⟨0, _⟩ => rfl
  | ⟨1, _⟩ => show (y 1).val = 0; omega
  | ⟨2, _⟩ => rfl
  | ⟨3, _⟩ => rfl
  | ⟨4, _⟩ => rfl

variable (m : (ℓ : Loc Cert.Kernel2Ideal.nD Cert.Kernel2Ideal.τ Cert.Kernel2Ideal.sig) → Buf (Elt Ideal) ℓ) (c : Dev Cert.Kernel2Ideal.nD)

/-- The first results are the same array. -/
theorem same_qkv : Cert.Reference2Ideal.Read.val_main_v58 (F := Ideal) (argX m c) (argMods m c) (argG m c) (argW m c)
    = (Cert.Kernel2Ideal.Gen.dats m 0 c).arrAt 6 Cert.Kernel2Ideal.cfg0.N := by
  funext y
  obtain ⟨n, l, j, rfl⟩ := token_index y
  exact (ref_first (argX m c) (argMods m c) (argG m c) (argW m c) n l j).trans (qkv_array m c n l j).symm

/-- The second results are the same array. -/
theorem same_conv : Cert.Reference2Ideal.Read.val_main_v59 (F := Ideal) (argX m c) (argMods m c) (argG m c) (argW m c) (argCW m c) (argCB m c)
    = (Cert.Kernel2Ideal.Gen.dats m 0 c).arrAt 7 Cert.Kernel2Ideal.cfg0.N := by
  funext y
  obtain ⟨n, l, j, rfl⟩ := token_index y
  exact (ref_second (argX m c) (argMods m c) (argG m c) (argW m c) (argCW m c) (argCB m c) n l j).trans (conv_array m c n l j).symm

/-- The third results are the same array. -/
theorem same_stateK : Cert.Reference2Ideal.Read.val_main_v63 (F := Ideal) (argX m c) (argMods m c) (argG m c) (argW m c)
    = (Cert.Kernel2Ideal.Gen.dats m 0 c).arrAt 8 Cert.Kernel2Ideal.cfg0.N := by
  funext y
  obtain ⟨n, h, d, l, rfl⟩ := state_index y
  exact (ref_third (argX m c) (argMods m c) (argG m c) (argW m c) n h d l).trans (stateK_array m c n h d l).symm

/-- The fourth results are the same array. -/
theorem same_stateV : Cert.Reference2Ideal.Read.val_main_v67 (F := Ideal) (argX m c) (argMods m c) (argG m c) (argW m c)
    = (Cert.Kernel2Ideal.Gen.dats m 0 c).arrAt 9 Cert.Kernel2Ideal.cfg0.N := by
  funext y
  obtain ⟨n, h, d, l, rfl⟩ := state_index y
  exact (ref_fourth (argX m c) (argMods m c) (argG m c) (argW m c) n h d l).trans (stateV_array m c n h d l).symm

/-- The value claim. -/
theorem algebraic : Cert.algebraic_Kernel2Ideal_Reference2Ideal := fun m g m' g' _ hargs =>
  ⟨fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    Cert.Kernel2Ideal.Value.run_blocks m g,
    (θ_run _ _ _).mono (fun r h c => by
      obtain ⟨a0, a1, a2, a3, a4, a5⟩ := hargs c
      obtain ⟨r0, r1, r2, r3, rest⟩ := h c
      refine ⟨r0.trans ?_, r1.trans ?_, r2.trans ?_, r3.trans ?_, rest⟩
      · rw [Cert.Reference2Ideal.Read.val_main_v58_eq m' c, a0, a1, a2, a3]
        exact same_qkv m c
      · rw [Cert.Reference2Ideal.Read.val_main_v59_eq m' c, a0, a1, a2, a3, a4, a5]
        exact same_conv m c
      · rw [Cert.Reference2Ideal.Read.val_main_v63_eq, a0, a1, a2, a3]
        exact same_stateK m c
      · rw [Cert.Reference2Ideal.Read.val_main_v67_eq, a0, a1, a2, a3]
        exact same_stateV m c) (Cert.Reference2Ideal.Value.run m' g')⟩

end Cert.Projection
end
-- ==== Proof.TailBody.lean ====
/- The tail's feed-forward tile: the rows of a block (two sequences of 256) with eight rows of padding on each side, the
   three-tap convolution along each sequence, the gated activation, and its product with a tile of the weights. -/
module

public import proofs.«01_k».proof.Proof.Rows
public import proofs.«01_k».proof.Proof.Gen.Kernel3Ideal.Skeleton
public import Idealize.ShloMosaic.Lib.KernelVsHost
public import Idealize.ShloMosaic.Lib.Pipeline.ValueKit.Geometry

@[expose] public section

set_option maxRecDepth 16384

noncomputable section

namespace Cert.Tail

open Idealize.ShloMosaic Idealize.ShloMosaic.ValueIdx Cert.Layer Cert.Kernel3Ideal Cert.Kernel3Ideal.Gen

/-- Row `l` of sequence `s` of a block. -/
def seqRow (s : Fin 2) (l : Fin 256) : Fin 512 := ⟨s.val * 256 + l.val, by omega⟩

/-- Row `r` of the block among the padded rows. -/
def padRow (r : Fin 512) : Fin 528 := ⟨8 + r.val, by omega⟩

/-- A row vector spread over a block, read at an index. -/
theorem spread_apply {m n : ℕ} (v : (⟨2, ![1, n]⟩ : Shape).Idx → EReal) (hn : n ≠ 1) (h : (⟨2, ![1, n]⟩ : Shape).Broadcasts ⟨2, ![m, n]⟩)
    (r : Fin m) (c : Fin n) : broadcastTo ⟨2, ![m, n]⟩ v h (ix2 r c) = v (ix2 0 c) :=
  broadcastTo_apply _ h _ (ix2 0 c) fun a => match a with
    | ⟨0, _⟩ => rfl
    | ⟨1, _⟩ => (if_neg hn).symm

/-- A reshape to the same shape changes nothing. -/
theorem same_cast {s : Shape} {α : Type} (v : s.Idx → α) (h : s.ShapeCasts s) : shapeCast s v h = v :=
  funext fun i => shapeCast_apply _ h _ _ rfl

/-- A sum over a contraction's index, as a sum over the contracted axis. -/
theorem sum_contr {sl sr so : Shape} (D : DotDims sl sr so) (n : ℕ) (hr : D.contr.rank = 1) (hs : D.contr.size ⟨0, by omega⟩ = n)
    (f : D.contr.Idx → EReal) : ∑ k, f k = ∑ k : Fin n, f ((contrEquiv1 D n hr hs).symm k) :=
  (Equiv.sum_comp (contrEquiv1 D n hr hs).symm f).symm

/-- The number of a row within its tile of eight. -/
abbrev lanes : IVec S1x8x1 32 := iota .tc S1x8x1 32 [1] Gen.iota_S1x8x1_d1_w32

/-- The padded rows in tiles of eight. -/
theorem tiles_apply (T : FVec Ideal S1x528x256 .f32) (t : Fin 66) (e : Fin 8) (c : Fin 256) :
    k0_pay30 T (ix3 t e c) = T (ix3 0 ⟨t.val * 8 + e.val, by omega⟩ c) := by
  unfold k0_pay30
  refine (shapeCast_apply _ _ _ (ix2 (⟨t.val * 8 + e.val, by omega⟩ : Fin 528) c) (by
    rw [Shape.rowMajor_val_two, Shape.rowMajor_val_three]; rfl)).trans ?_
  exact shapeCast_apply _ _ _ _ (by
    rw [Shape.rowMajor_val_two, Shape.rowMajor_val_three]
    show (0 * 528 + (t.val * 8 + e.val)) * 256 + c.val = _
    rw [Nat.zero_mul, Nat.zero_add]; rfl)

/-- A test of the row within its tile. -/
theorem lane_test (w : BitVec 32) (e0 : Fin 8) (hw : w = BitVec.ofNat 32 e0.val) (t : Fin 64) (e : Fin 8) (c : Fin 256) :
    broadcastTo S64x8x256 (shapeCast S1x8x1 (cmpi .eq lanes (broadcast S1x8x1 w))
        Gen.shapeCasts_S1x8x1_S1x8x1) Gen.broadcasts_S1x8x1_S64x8x256 (ix3 t e c) = if e = e0 then 1#1 else 0#1 := by
  subst hw
  refine (broadcastTo_apply _ _ _ (ix3 0 e 0) fun a => ?_).trans ((congrFun (same_cast _ _) _).trans ?_)
  · match a with
    | ⟨0, _⟩ => rfl
    | ⟨1, _⟩ => rfl
    | ⟨2, _⟩ => rfl
  · revert e0 e; decide

/-- The tiles turned by one row, and by seven, read at an index. -/
theorem turn_apply (w : BitVec 32) (k : ℕ) (hk : w.toNat = k) (v : FVec Ideal S66x8x256 .f32) (t : Fin 66) (e e' : Fin 8) (c : Fin 256)
    (he : e'.val = (e.val + 8 - k % 8) % 8) :
    dynamicRotate 1 w none v Gen.rotates_S66x8x256_d1 (ix3 t e c) = v (ix3 t e' c) :=
  dynamicRotate_apply 1 w v Gen.rotates_S66x8x256_d1 _ _ fun b => match b with
    | ⟨0, _⟩ => rfl
    | ⟨1, _⟩ => by show e'.val = (e.val + 8 - w.toNat % 8) % 8; rw [hk]; exact he
    | ⟨2, _⟩ => rfl

/-- A run of tiles, read at an index. -/
theorem run_apply {n : ℕ} (o : ℕ) (v : FVec Ideal S66x8x256 .f32) (h : S66x8x256.Slices ![o, 0, 0] ⟨3, ![n, 8, 256]⟩) (t : Fin n) (e : Fin 8)
    (c : Fin 256) (t' : Fin 66) (ht : t'.val = o + t.val) :
    extractStridedSlice ⟨3, ![n, 8, 256]⟩ ![o, 0, 0] v h (ix3 t e c) = v (ix3 t' e c) :=
  extractStridedSlice_apply _ _ _ _ _ fun a => match a with
    | ⟨0, _⟩ => ht
    | ⟨1, _⟩ => (Nat.zero_add _).symm
    | ⟨2, _⟩ => (Nat.zero_add _).symm

/-- Off the joined axis two indices of tiles agree. -/
theorem off_axis {n : ℕ} (t : Fin 64) (t' : Fin n) (e : Fin 8) (c : Fin 256) (b : Fin 3) (hb : b ≠ (0 : Fin 3)) :
    ((ix3 t' e c : (⟨3, ![n, 8, 256]⟩ : Shape).Idx) b).val = ((ix3 t e c : S64x8x256.Idx) b).val := match b, hb with
  | ⟨0, _⟩, hb => absurd rfl hb
  | ⟨1, _⟩, _ => rfl
  | ⟨2, _⟩, _ => rfl

theorem zero_tile (i : S1x8x256.Idx) : k0_pay1 (F := Ideal) i = 0 := Ideal.ofBits_zero_f32

/-- A joined array of tiles, read within one of its pieces. -/
theorem joined_apply {n : ℕ} (xs : List ((s : Shape) × (s.Idx → EReal))) (h : Shape.Concatenates (xs.map (·.1)) S64x8x256 0) (k : ℕ)
    (hk : k < xs.length) (x : (⟨3, ![n, 8, 256]⟩ : Shape).Idx → EReal) (hx : xs[k] = ⟨⟨3, ![n, 8, 256]⟩, x⟩) (pre : ℕ)
    (hpre : (((xs.take k).map (·.1)).map fun s => if h : s.rank = S64x8x256.rank then s.size ((0 : Fin S64x8x256.rank).cast h.symm) else 0).sum = pre)
    (t : Fin 64) (t' : Fin n) (ht : pre + t'.val = t.val) (e : Fin 8) (c : Fin 256) :
    concatenate S64x8x256 0 xs h (ix3 t e c) = x (ix3 t' e c) :=
  concatenate_apply_piece (0 : Fin S64x8x256.rank) xs h (ix3 t e c) k hk _ x hx rfl pre hpre (ix3 t' e c) (off_axis t t' e c) ht

/-- The first rows' tiles: each tile's predecessor, a tile of zeros before the second sequence's first. -/
abbrev before (v : FVec Ideal S66x8x256 .f32) : FVec Ideal S64x8x256 .f32 :=
  concatenate S64x8x256 0 [⟨S1x8x256, extractStridedSlice S1x8x256 ![0, 0, 0] v Gen.slices_S66x8x256_o0_0_0_S1x8x256⟩,
    ⟨S31x8x256, extractStridedSlice S31x8x256 ![1, 0, 0] v Gen.slices_S66x8x256_o1_0_0_S31x8x256⟩, ⟨S1x8x256, k0_pay1 (F := Ideal)⟩,
    ⟨S31x8x256, extractStridedSlice S31x8x256 ![33, 0, 0] v Gen.slices_S66x8x256_o33_0_0_S31x8x256⟩]
    Gen.concatenates_S1x8x256_S31x8x256_S1x8x256_S31x8x256_S64x8x256_d0

/-- The last rows' tiles: each tile's successor, a tile of zeros after the first sequence's last. -/
abbrev after (v : FVec Ideal S66x8x256 .f32) : FVec Ideal S64x8x256 .f32 :=
  concatenate S64x8x256 0 [⟨S31x8x256, extractStridedSlice S31x8x256 ![2, 0, 0] v Gen.slices_S66x8x256_o2_0_0_S31x8x256⟩,
    ⟨S1x8x256, k0_pay1 (F := Ideal)⟩, ⟨S31x8x256, extractStridedSlice S31x8x256 ![34, 0, 0] v Gen.slices_S66x8x256_o34_0_0_S31x8x256⟩,
    ⟨S1x8x256, extractStridedSlice S1x8x256 ![65, 0, 0] v Gen.slices_S66x8x256_o65_0_0_S1x8x256⟩]
    Gen.concatenates_S31x8x256_S1x8x256_S31x8x256_S1x8x256_S64x8x256_d0

theorem before_apply (v : FVec Ideal S66x8x256 .f32) (t : Fin 64) (e : Fin 8) (c : Fin 256) :
    before v (ix3 t e c) = if t.val = 32 then 0 else v (ix3 (⟨t.val, by omega⟩ : Fin 66) e c) := by
  unfold before
  by_cases h32 : t.val = 32
  · rw [if_pos h32, ← zero_tile (ix3 (0 : Fin 1) e c)]
    exact joined_apply _ _ 2 (by simp) _ rfl 32 rfl _ (0 : Fin 1) (by show 32 + _ = t.val; omega) e c
  · rw [if_neg h32]
    by_cases h0 : t.val = 0
    · exact (joined_apply _ _ 0 (by simp) _ rfl 0 rfl _ (0 : Fin 1) (by show 0 + _ = t.val; omega) e c).trans
        (run_apply 0 v _ _ e c _ (by show t.val = 0 + 0; omega))
    · by_cases h1 : t.val < 32
      · exact (joined_apply _ _ 1 (by simp) _ rfl 1 rfl _ (⟨t.val - 1, by omega⟩ : Fin 31) (by show 1 + (t.val - 1) = t.val; omega) e c).trans
          (run_apply 1 v _ _ e c _ (by show t.val = 1 + (t.val - 1); omega))
      · exact (joined_apply _ _ 3 (by simp) _ rfl 33 rfl _ (⟨t.val - 33, by omega⟩ : Fin 31) (by show 33 + (t.val - 33) = t.val; omega) e c).trans
          (run_apply 33 v _ _ e c _ (by show t.val = 33 + (t.val - 33); omega))

theorem after_apply (v : FVec Ideal S66x8x256 .f32) (t : Fin 64) (e : Fin 8) (c : Fin 256) :
    after v (ix3 t e c) = if t.val = 31 then 0 else v (ix3 (⟨t.val + 2, by omega⟩ : Fin 66) e c) := by
  unfold after
  by_cases h31 : t.val = 31
  · rw [if_pos h31, ← zero_tile (ix3 (0 : Fin 1) e c)]
    exact joined_apply _ _ 1 (by simp) _ rfl 31 rfl _ (0 : Fin 1) (by show 31 + _ = t.val; omega) e c
  · rw [if_neg h31]
    by_cases h0 : t.val = 63
    · exact (joined_apply _ _ 3 (by simp) _ rfl 63 rfl _ (0 : Fin 1) (by show 63 + _ = t.val; omega) e c).trans
        (run_apply 65 v _ _ e c _ (by show t.val + 2 = 65 + 0; omega))
    · by_cases h1 : t.val < 31
      · exact (joined_apply _ _ 0 (by simp) _ rfl 0 rfl _ (⟨t.val, by omega⟩ : Fin 31) (by show 0 + t.val = t.val; omega) e c).trans
          (run_apply 2 v _ _ e c _ (by show t.val + 2 = 2 + t.val; omega))
      · exact (joined_apply _ _ 2 (by simp) _ rfl 32 rfl _ (⟨t.val - 32, by omega⟩ : Fin 31) (by show 32 + (t.val - 32) = t.val; omega) e c).trans
          (run_apply 34 v _ _ e c _ (by show t.val + 2 = 34 + (t.val - 32); omega))

/-- Padded rows that are zero just before the block and just after it. -/
def Pads (T : FVec Ideal S1x528x256 .f32) : Prop := ∀ c : Fin 256, T (ix3 0 7 c) = 0 ∧ T (ix3 0 520 c) = 0

/-- The column `c` of sequence `s` among the padded rows. -/
abbrev seqCol (T : FVec Ideal S1x528x256 .f32) (s : Fin 2) (c : Fin 256) (l : Fin 256) : EReal := T (ix3 0 (padRow (seqRow s l)) c)

/-- Equal rows hold equal numbers. -/
theorem same_row (T : FVec Ideal S1x528x256 .f32) (r r' : Fin 528) (c : Fin 256) (h : r.val = r'.val) : T (ix3 0 r c) = T (ix3 0 r' c) :=
  congrArg (fun r => T (ix3 0 r c)) (Fin.ext h)

/-- The rows above, as the kernel forms them. -/
abbrev aboveOf (T : FVec Ideal S1x528x256 .f32) : FVec Ideal S64x8x256 .f32 :=
  select (broadcastTo S64x8x256 (shapeCast S1x8x1 (cmpi .eq lanes (broadcast S1x8x1 0#32)) Gen.shapeCasts_S1x8x1_S1x8x1) Gen.broadcasts_S1x8x1_S64x8x256)
    (before (dynamicRotate 1 1#32 none (k0_pay30 T) Gen.rotates_S66x8x256_d1))
    (extractStridedSlice S64x8x256 ![1, 0, 0] (dynamicRotate 1 1#32 none (k0_pay30 T) Gen.rotates_S66x8x256_d1) Gen.slices_S66x8x256_o1_0_0_S64x8x256)

theorem above_apply (T : FVec Ideal S1x528x256 .f32) (hT : Pads T) (s : Fin 2) (q : Fin 32) (e : Fin 8) (l : Fin 256) (hl : l.val = q.val * 8 + e.val)
    (c : Fin 256) : aboveOf T (ix3 (⟨s.val * 32 + q.val, by omega⟩ : Fin 64) e c) = prev (seqCol T s c) l := by
  refine (select_apply _ _ _ _).trans ?_
  rw [lane_test 0#32 0 rfl]
  unfold prev
  by_cases he : e = 0
  · rw [if_pos he]
    refine Eq.trans (if_pos rfl) ?_
    rw [before_apply]
    have he0 : e.val = 0 := congrArg Fin.val he
    by_cases hq : q.val = 0
    · rw [dif_pos (by omega)]
      match s with
      | ⟨0, _⟩ =>
        rw [if_neg (by show ¬ 0 * 32 + q.val = 32; omega), turn_apply 1#32 1 rfl _ _ _ 7 _ (by rw [he0]; rfl), tiles_apply]
        exact (same_row T _ 7 c (by show (0 * 32 + q.val) * 8 + 7 = 7; omega)).trans (hT c).1
      | ⟨1, _⟩ => rw [if_pos (by show 1 * 32 + q.val = 32; omega)]
    · rw [dif_neg (by omega), if_neg (by show ¬ s.val * 32 + q.val = 32; omega), turn_apply 1#32 1 rfl _ _ _ 7 _ (by rw [he0]; rfl), tiles_apply]
      exact same_row T _ _ c (by show (s.val * 32 + q.val) * 8 + 7 = 8 + (s.val * 256 + (l.val - 1)); omega)
  · have he0 : e.val ≠ 0 := fun h => he (Fin.ext h)
    rw [if_neg he]
    refine Eq.trans (if_neg (by decide)) ?_
    rw [dif_neg (by omega), run_apply 1 _ _ _ e c (⟨s.val * 32 + q.val + 1, by omega⟩ : Fin 66) (by show s.val * 32 + q.val + 1 = 1 + (s.val * 32 + q.val); omega),
      turn_apply 1#32 1 rfl _ _ _ (⟨e.val - 1, by omega⟩ : Fin 8) _ (by show e.val - 1 = (e.val + 8 - 1 % 8) % 8; omega), tiles_apply]
    exact same_row T _ _ c (by show (s.val * 32 + q.val + 1) * 8 + (e.val - 1) = 8 + (s.val * 256 + (l.val - 1)); omega)

theorem below_apply (T : FVec Ideal S1x528x256 .f32) (hT : Pads T) (s : Fin 2) (q : Fin 32) (e : Fin 8) (l : Fin 256) (hl : l.val = q.val * 8 + e.val)
    (c : Fin 256) : k0_pay31 (F := Ideal) lanes k0_pay1 T (ix3 (⟨s.val * 32 + q.val, by omega⟩ : Fin 64) e c) = next (seqCol T s c) l := by
  unfold k0_pay31
  dsimp only
  refine (select_apply _ _ _ _).trans ?_
  rw [lane_test 7#32 7 rfl]
  unfold next
  by_cases he : e = 7
  · rw [if_pos he]
    refine Eq.trans (if_pos rfl) (Eq.trans (after_apply _ _ _ _) ?_)
    have he0 : e.val = 7 := congrArg Fin.val he
    by_cases hq : q.val = 31
    · rw [dif_neg (by omega)]
      match s with
      | ⟨0, _⟩ => rw [if_pos (by show 0 * 32 + q.val = 31; omega)]
      | ⟨1, _⟩ =>
        rw [if_neg (by show ¬ 1 * 32 + q.val = 31; omega), turn_apply 7#32 7 rfl _ _ _ 0 _ (by rw [he0]; rfl), tiles_apply]
        exact (same_row T _ 520 c (by show (1 * 32 + q.val + 2) * 8 + 0 = 520; omega)).trans (hT c).2
    · rw [dif_pos (by omega), if_neg (by show ¬ s.val * 32 + q.val = 31; omega), turn_apply 7#32 7 rfl _ _ _ 0 _ (by rw [he0]; rfl), tiles_apply]
      exact same_row T _ _ c (by show (s.val * 32 + q.val + 2) * 8 + 0 = 8 + (s.val * 256 + (l.val + 1)); omega)
  · have he0 : e.val ≠ 7 := fun h => he (Fin.ext h)
    rw [if_neg he]
    refine Eq.trans (if_neg (by decide)) ?_
    rw [dif_pos (by omega), run_apply 1 _ _ _ e c (⟨s.val * 32 + q.val + 1, by omega⟩ : Fin 66) (by show s.val * 32 + q.val + 1 = 1 + (s.val * 32 + q.val); omega),
      turn_apply 7#32 7 rfl _ _ _ (⟨e.val + 1, by omega⟩ : Fin 8) _ (by show e.val + 1 = (e.val + 8 - 7 % 8) % 8; omega), tiles_apply]
    exact same_row T _ _ c (by show (s.val * 32 + q.val + 1) * 8 + (e.val + 1) = 8 + (s.val * 256 + (l.val + 1)); omega)

/-- A tap of the convolution, spread over the tiles. -/
theorem tap_apply (k : ℕ) (hk : k < 3) (W : FVec Ideal S1x1x3x256 .f32) (h : S3x256.Slices ![k, 0] S1x256) (t : Fin 64) (e : Fin 8) (c : Fin 256) :
    broadcastTo S64x8x256 (shapeCast S1x1x256 (extractStridedSlice S1x256 ![k, 0] (k0_pay32 W) h) Gen.shapeCasts_S1x256_S1x1x256)
        Gen.broadcasts_S1x1x256_S64x8x256 (ix3 t e c) = W (ix4 0 0 ⟨k, hk⟩ c) := by
  refine (broadcastTo_apply _ _ _ (ix3 0 0 c) fun a => ?_).trans ?_
  · match a with
    | ⟨0, _⟩ => rfl
    | ⟨1, _⟩ => rfl
    | ⟨2, _⟩ => rfl
  refine (shapeCast_apply _ _ _ (ix2 0 c) (by rw [Shape.rowMajor_val_two, Shape.rowMajor_val_three]; rfl)).trans ?_
  refine (extractStridedSlice_apply _ _ _ _ (ix2 ⟨k, hk⟩ c) fun a => ?_).trans ?_
  · match a with
    | ⟨0, _⟩ => rfl
    | ⟨1, _⟩ => exact (Nat.zero_add _).symm
  unfold k0_pay32
  exact shapeCast_apply _ _ _ _ (by
    rw [Shape.rowMajor_val_two, Shape.rowMajor_val_four]
    show ((0 * 1 + 0) * 3 + k) * 256 + c.val = k * 256 + c.val
    omega)

/-- The bias of the convolution, spread over the tiles. -/
theorem bias_apply (B : FVec Ideal S1x1x1x256 .f32) (t : Fin 64) (e : Fin 8) (c : Fin 256) :
    broadcastTo S64x8x256 (shapeCast S1x1x256 (shapeCast S1x256 B Gen.shapeCasts_S1x1x1x256_S1x256) Gen.shapeCasts_S1x256_S1x1x256)
        Gen.broadcasts_S1x1x256_S64x8x256 (ix3 t e c) = B (ix4 0 0 0 c) := by
  refine (broadcastTo_apply _ _ _ (ix3 0 0 c) fun a => ?_).trans ?_
  · match a with
    | ⟨0, _⟩ => rfl
    | ⟨1, _⟩ => rfl
    | ⟨2, _⟩ => rfl
  refine (shapeCast_apply _ _ _ (ix2 0 c) (by rw [Shape.rowMajor_val_two, Shape.rowMajor_val_three]; rfl)).trans ?_
  exact shapeCast_apply _ _ _ _ (by rw [Shape.rowMajor_val_two, Shape.rowMajor_val_four]; rfl)

/-- The convolution of the padded rows, as the kernel forms it. -/
abbrev convK (T : FVec Ideal S1x528x256 .f32) (W : FVec Ideal S1x1x3x256 .f32) (B : FVec Ideal S1x1x1x256 .f32) : FVec Ideal S64x8x256 .f32 :=
  addf (addf (k0_pay33 lanes k0_pay1 T W) (mulf (k0_pay31 lanes k0_pay1 T) (k0_pay34 W)))
    (broadcastTo S64x8x256 (shapeCast S1x1x256 (shapeCast S1x256 B Gen.shapeCasts_S1x1x1x256_S1x256) Gen.shapeCasts_S1x256_S1x1x256)
      Gen.broadcasts_S1x1x256_S64x8x256)

theorem convK_apply (T : FVec Ideal S1x528x256 .f32) (hT : Pads T) (W : FVec Ideal S1x1x3x256 .f32) (B : FVec Ideal S1x1x1x256 .f32)
    (s : Fin 2) (q : Fin 32) (e : Fin 8) (l : Fin 256) (hl : l.val = q.val * 8 + e.val) (c : Fin 256) :
    convK T W B (ix3 (⟨s.val * 32 + q.val, by omega⟩ : Fin 64) e c)
      = conv3 (seqCol T s c) (W (ix4 0 0 0 c)) (W (ix4 0 0 1 c)) (W (ix4 0 0 2 c)) (B (ix4 0 0 0 c)) l := by
  refine (addf_apply _ _ _).trans (congrArg₂ (· + ·) ((addf_apply _ _ _).trans (congrArg₂ (· + ·) ?_ ?_)) (bias_apply B _ e c))
  · unfold k0_pay33
    refine (addf_apply _ _ _).trans (congrArg₂ (· + ·) ?_ ?_)
    · exact (mulf_apply _ _ _).trans (congrArg₂ (· * ·) (above_apply T hT s q e l hl c) (tap_apply 0 (by decide) W _ _ e c))
    · refine (mulf_apply _ _ _).trans (congrArg₂ (· * ·) ?_ (tap_apply 1 (by decide) W _ _ e c))
      refine (run_apply 1 _ _ _ e c (⟨s.val * 32 + q.val + 1, by omega⟩ : Fin 66) (by show s.val * 32 + q.val + 1 = 1 + (s.val * 32 + q.val); omega)).trans ?_
      exact (tiles_apply T _ e c).trans (same_row T _ _ c (by show (s.val * 32 + q.val + 1) * 8 + e.val = 8 + (s.val * 256 + l.val); omega))
  · exact (mulf_apply _ _ _).trans (congrArg₂ (· * ·) (below_apply T hT s q e l hl c) (tap_apply 2 (by decide) W _ _ e c))

/-- The gated activation: `g / (1 + exp (0 - g))` times `u`. -/
def gated (g u : EReal) : EReal := Ideal.div g (word 0x3F800000#32 + Ideal.exp (word 0x00000000#32 - g)) * u

/-- The activation, as the kernel forms it. -/
abbrev actK (Tg : FVec Ideal S1x528x256 .f32) (Wg : FVec Ideal S1x1x3x256 .f32) (Bg : FVec Ideal S1x1x1x256 .f32)
    (Tu : FVec Ideal S1x528x256 .f32) (Wu : FVec Ideal S1x1x3x256 .f32) (Bu : FVec Ideal S1x1x1x256 .f32) : FVec Ideal S64x8x256 .f32 :=
  mulf (k0_pay35 (k0_pay31 lanes k0_pay1 Tg) (k0_pay33 lanes k0_pay1 Tg Wg) (k0_pay34 Wg) Bg) (convK Tu Wu Bu)

/-- The product of the activation with a tile of the weights, as the kernel forms it. -/
abbrev prodK (Tg : FVec Ideal S1x528x256 .f32) (Wg : FVec Ideal S1x1x3x256 .f32) (Bg : FVec Ideal S1x1x1x256 .f32)
    (Tu : FVec Ideal S1x528x256 .f32) (Wu : FVec Ideal S1x1x3x256 .f32) (Bu : FVec Ideal S1x1x1x256 .f32) (D : FVec Ideal S1x256x1024 .bf16) :
    FVec Ideal S512x1024 .f32 :=
  matmul dot_S512x256_S256x1024_S512x1024_1_0_0_1_n_n none
    (truncf .bf16 (shapeCast S512x256 (actK Tg Wg Bg Tu Wu Bu) Gen.shapeCasts_S64x8x256_S512x256) Gen.bitsLt_bf16_f32)
    (shapeCast S256x1024 D Gen.shapeCasts_S1x256x1024_S256x1024) (constant S512x1024 .f32 0x00000000#32)

/-- Each row of a sequence lies in one of its 32 tiles. -/
theorem row_tile (l : Fin 256) : ∃ (q : Fin 32) (e : Fin 8), l.val = q.val * 8 + e.val :=
  ⟨⟨l.val / 8, by omega⟩, ⟨l.val % 8, by omega⟩, by show l.val = l.val / 8 * 8 + l.val % 8; omega⟩

theorem prodK_apply (Tg : FVec Ideal S1x528x256 .f32) (hg : Pads Tg) (Wg : FVec Ideal S1x1x3x256 .f32) (Bg : FVec Ideal S1x1x1x256 .f32)
    (Tu : FVec Ideal S1x528x256 .f32) (hu : Pads Tu) (Wu : FVec Ideal S1x1x3x256 .f32) (Bu : FVec Ideal S1x1x1x256 .f32)
    (D : FVec Ideal S1x256x1024 .bf16) (s : Fin 2) (l : Fin 256) (d : Fin 1024) :
    prodK Tg Wg Bg Tu Wu Bu D (ix2 (seqRow s l) d)
      = ∑ c : Fin 256, gated
          (conv3 (seqCol Tg s c) (Wg (ix4 0 0 0 c)) (Wg (ix4 0 0 1 c)) (Wg (ix4 0 0 2 c)) (Bg (ix4 0 0 0 c)) l)
          (conv3 (seqCol Tu s c) (Wu (ix4 0 0 0 c)) (Wu (ix4 0 0 1 c)) (Wu (ix4 0 0 2 c)) (Bu (ix4 0 0 0 c)) l) * D (ix3 0 c d) := by
  obtain ⟨q, e, hl⟩ := row_tile l
  refine (Ideal.matmul_constant_zero_apply _ none _ _ _).trans ((sum_contr _ 256 rfl rfl _).trans ?_)
  refine Finset.sum_congr rfl fun c _ => congrArg₂ (· * ·) ?_ ?_
  · have hi : dot_S512x256_S256x1024_S512x1024_1_0_0_1_n_n.lhsIdx (ix2 (seqRow s l) d)
        ((contrEquiv1 dot_S512x256_S256x1024_S512x1024_1_0_0_1_n_n 256 rfl rfl).symm c) = ix2 (seqRow s l) c := funext fun a => Fin.ext (by
      match a with
      | ⟨0, _⟩ => rfl
      | ⟨1, _⟩ => exact contrEquiv1_symm_val dot_S512x256_S256x1024_S512x1024_1_0_0_1_n_n 256 rfl rfl c)
    refine (congrArg _ hi).trans ((truncf_apply _ Gen.bitsLt_bf16_f32 _).trans ?_)
    refine (shapeCast_apply _ _ _ (ix3 (⟨s.val * 32 + q.val, by omega⟩ : Fin 64) e c) (by
      rw [Shape.rowMajor_val_two, Shape.rowMajor_val_three]
      show ((s.val * 32 + q.val) * 8 + e.val) * 256 + c.val = (s.val * 256 + l.val) * 256 + c.val
      rw [hl]; omega)).trans ?_
    refine (mulf_apply _ _ _).trans (congrArg₂ (· * ·) ?_ (convK_apply Tu hu Wu Bu s q e l hl c))
    have hc := convK_apply Tg hg Wg Bg s q e l hl c
    refine Eq.trans (?_ : _ = Ideal.div (convK Tg Wg Bg (ix3 (⟨s.val * 32 + q.val, by omega⟩ : Fin 64) e c))
      (word 0x3F800000#32 + Ideal.exp (word 0x00000000#32 - convK Tg Wg Bg (ix3 (⟨s.val * 32 + q.val, by omega⟩ : Fin 64) e c)))) (by rw [hc])
    rfl
  · have hi : dot_S512x256_S256x1024_S512x1024_1_0_0_1_n_n.rhsIdx (ix2 (seqRow s l) d)
        ((contrEquiv1 dot_S512x256_S256x1024_S512x1024_1_0_0_1_n_n 256 rfl rfl).symm c) = ix2 c d := funext fun a => Fin.ext (by
      match a with
      | ⟨0, _⟩ => exact contrEquiv1_symm_val dot_S512x256_S256x1024_S512x1024_1_0_0_1_n_n 256 rfl rfl c
      | ⟨1, _⟩ => rfl)
    refine (congrArg _ hi).trans (shapeCast_apply _ _ _ _ (by rw [Shape.rowMajor_val_two, Shape.rowMajor_val_three]; show (0 * 256 + c.val) * 1024 + d.val = _; rw [Nat.zero_mul, Nat.zero_add]; rfl))

end Cert.Tail
end
-- ==== Proof.TailStage.lean ====
/- The tail's feed-forward scratch arrays: what the two halves of an up-projected tile hold between their pads, and what the
   convolution, the gate and the down projection make of them. -/
module

public import proofs.«01_k».proof.Proof.TailBody
public import Idealize.ShloMosaic.Lib.WritesUnit
public import Idealize.ShloMosaic.Lib.VecWindow

@[expose] public section

set_option maxRecDepth 16384

noncomputable section

namespace Cert.Tail

open Idealize.ShloMosaic Idealize.ShloMosaic.ValueIdx Cert.Layer Cert.Kernel3Ideal Cert.Kernel3Ideal.Gen

/-- The rows just before and just after the block are zero in both halves. -/
def Padded (g : S2x528x256.Idx → EReal) : Prop := ∀ (e : Fin 2) (c : Fin 256), g (ix3 e 7 c) = 0 ∧ g (ix3 e 520 c) = 0

/-- Both halves hold `U` between their pads. -/
structure Staged (g : S2x528x256.Idx → EReal) (U : Fin 2 → Fin 512 → Fin 256 → EReal) : Prop where
  pads : Padded g
  rows : ∀ (e : Fin 2) (r : Fin 512) (c : Fin 256), g (ix3 e (padRow r) c) = U e r c

/-- A half of a scratch array, as it is loaded. -/
abbrev half (a : Memref sig .tc .vmem S2x528x256 .f32) (f : BufTy.Contents (Elt Ideal) a.view.ty) (e : ℕ)
    (inb : ∀ b, (![e, 0, 0] : Fin 3 → ℕ) b + S1x528x256.size b ≤ S2x528x256.size b) : FVec Ideal S1x528x256 .f32 :=
  View.readAt (Elt Ideal) a.view (Rect.unit (s := S2x528x256) ![e, 0, 0] S1x528x256.size inb).toLoadRect f

theorem half_apply (a : Memref sig .tc .vmem S2x528x256 .f32) (f : BufTy.Contents (Elt Ideal) a.view.ty) (e : Fin 2)
    (inb : ∀ b, (![e.val, 0, 0] : Fin 3 → ℕ) b + S1x528x256.size b ≤ S2x528x256.size b) (r : Fin 528) (c : Fin 256) :
    half a f e.val inb (ix3 0 r c) = a.view.read (Elt Ideal) f (ix3 e r c) :=
  congrArg (a.view.read (Elt Ideal) f) (funext fun b => Fin.ext (by
    match b with
    | ⟨0, _⟩ => rfl
    | ⟨1, _⟩ => show 0 + 1 * r.val = r.val; omega
    | ⟨2, _⟩ => show 0 + 1 * c.val = c.val; omega))

/-- A tile of the up projection's two halves: columns `j * 256 + c` of the gate, and of the value. -/
def upTile (h : S512x1024.Idx → EReal) (wu : S1024x5632.Idx → EReal) (j : Fin 11) (e : Fin 2) (r : Fin 512) (c : Fin 256) : EReal :=
  ∑ k : Fin 1024, h (ix2 r k) * wu (ix2 k ⟨2816 * e.val + 256 * j.val + c.val, by omega⟩)

/-- A tile of the feed-forward layer: the convolution of both halves, the gate, and the down projection's rows of the tile. -/
def downTile (U : Fin 2 → Fin 512 → Fin 256 → EReal) (cw : S2x11x3x256.Idx → EReal) (cb : S2x11x1x256.Idx → EReal)
    (wd : S11x256x1024.Idx → EReal) (j : Fin 11) (s : Fin 2) (l : Fin 256) (d : Fin 1024) : EReal :=
  ∑ c : Fin 256, gated
    (conv3 (fun l => U 0 (seqRow s l) c) (cw (ix4 0 j 0 c)) (cw (ix4 0 j 1 c)) (cw (ix4 0 j 2 c)) (cb (ix4 0 j 0 c)) l)
    (conv3 (fun l => U 1 (seqRow s l) c) (cw (ix4 1 j 0 c)) (cw (ix4 1 j 1 c)) (cw (ix4 1 j 2 c)) (cb (ix4 1 j 0 c)) l) * wd (ix3 j c d)

/-- The up projection of a tile, as the kernel forms it. -/
theorem upK_apply (h : FVec Ideal S512x1024 .bf16) (w : FVec Ideal S1024x256 .bf16) (r : Fin 512) (c : Fin 256) :
    k0_pay25 (F := Ideal) h w (ix3 0 r c) = ∑ k : Fin 1024, h (ix2 r k) * w (ix2 k c) := by
  unfold k0_pay25
  refine (shapeCast_apply _ _ _ (ix2 r c) (by
    rw [Shape.rowMajor_val_two, Shape.rowMajor_val_three]
    show r.val * 256 + c.val = (0 * 512 + r.val) * 256 + c.val
    omega)).trans ?_
  refine (Ideal.matmul_constant_zero_apply _ none _ _ _).trans ((sum_contr _ 1024 rfl rfl _).trans ?_)
  refine Finset.sum_congr rfl fun k _ => congrArg₂ (· * ·) ?_ ?_
  · refine congrArg h (funext fun a => Fin.ext ?_)
    match a with
    | ⟨0, _⟩ => rfl
    | ⟨1, _⟩ => exact contrEquiv1_symm_val dot_S512x1024_S1024x256_S512x256_1_0_0_1_n_n 1024 rfl rfl k
  · refine (congrFun (same_cast w _) _).trans (congrArg w (funext fun a => Fin.ext ?_))
    match a with
    | ⟨0, _⟩ => exact contrEquiv1_symm_val dot_S512x1024_S1024x256_S512x256_1_0_0_1_n_n 1024 rfl rfl k
    | ⟨1, _⟩ => rfl

/-- The columns of the up projection's weights, as they are loaded. -/
theorem upLoad_apply (a : Memref sig .tc .vmem S1024x5632 .bf16) (f : BufTy.Contents (Elt Ideal) a.view.ty) (off : Fin 2 → ℕ) (o : ℕ)
    (ho : off = ![0, o]) (inb : ∀ b, off b + S1024x256.size b ≤ S1024x5632.size b) (k : Fin 1024) (c : Fin 256) (q : Fin 5632) (hq : q.val = o + c.val) :
    View.readAt (Elt Ideal) a.view (Rect.unit (s := S1024x5632) off S1024x256.size inb).toLoadRect f (ix2 k c)
      = a.view.read (Elt Ideal) f (ix2 k q) := by
  subst ho
  exact congrArg (a.view.read (Elt Ideal) f) (funext fun b => Fin.ext (by
    match b with
    | ⟨0, _⟩ => show 0 + 1 * k.val = k.val; omega
    | ⟨1, _⟩ => show o + 1 * c.val = q.val; omega))

/-- The up projection of a tile of the loaded weights. -/
theorem up_apply (h : FVec Ideal S512x1024 .bf16) (a : Memref sig .tc .vmem S1024x5632 .bf16) (f : BufTy.Contents (Elt Ideal) a.view.ty)
    (j : Fin 11) (e : Fin 2) (off : Fin 2 → ℕ) (o : ℕ) (ho : off = ![0, o]) (hv : o = 2816 * e.val + 256 * j.val)
    (inb : ∀ b, off b + S1024x256.size b ≤ S1024x5632.size b) (r : Fin 512) (c : Fin 256) :
    k0_pay25 (F := Ideal) h (View.readAt (Elt Ideal) a.view (Rect.unit (s := S1024x5632) off S1024x256.size inb).toLoadRect f) (ix3 0 r c)
      = upTile h (a.view.read (Elt Ideal) f) j e r c :=
  (upK_apply h _ r c).trans (Finset.sum_congr rfl fun k _ => congrArg (h (ix2 r k) * ·)
    (upLoad_apply a f off o ho inb k c _ (by show 2816 * e.val + 256 * j.val + c.val = o + c.val; rw [hv])))

/-- The taps of a tile of the convolution, as they are loaded. -/
theorem tapLoad_apply (a : Memref sig .tc .vmem S2x11x3x256 .f32) (f : BufTy.Contents (Elt Ideal) a.view.ty) (j : Fin 11) (e : Fin 2) (off : Fin 4 → ℕ)
    (ho : off = ![e.val, j.val, 0, 0]) (inb : ∀ b, off b + S1x1x3x256.size b ≤ S2x11x3x256.size b) (k : Fin 3) (c : Fin 256) :
    View.readAt (Elt Ideal) a.view (Rect.unit (s := S2x11x3x256) off S1x1x3x256.size inb).toLoadRect f (ix4 0 0 k c)
      = a.view.read (Elt Ideal) f (ix4 e j k c) := by
  subst ho
  exact congrArg (a.view.read (Elt Ideal) f) (funext fun b => Fin.ext (by
    match b with
    | ⟨0, _⟩ => rfl
    | ⟨1, _⟩ => rfl
    | ⟨2, _⟩ => show 0 + 1 * k.val = k.val; omega
    | ⟨3, _⟩ => show 0 + 1 * c.val = c.val; omega))

/-- The biases of a tile of the convolution, as they are loaded. -/
theorem biasLoad_apply (a : Memref sig .tc .vmem S2x11x1x256 .f32) (f : BufTy.Contents (Elt Ideal) a.view.ty) (j : Fin 11) (e : Fin 2) (off : Fin 4 → ℕ)
    (ho : off = ![e.val, j.val, 0, 0]) (inb : ∀ b, off b + S1x1x1x256.size b ≤ S2x11x1x256.size b) (c : Fin 256) :
    View.readAt (Elt Ideal) a.view (Rect.unit (s := S2x11x1x256) off S1x1x1x256.size inb).toLoadRect f (ix4 0 0 0 c)
      = a.view.read (Elt Ideal) f (ix4 e j 0 c) := by
  subst ho
  exact congrArg (a.view.read (Elt Ideal) f) (funext fun b => Fin.ext (by
    match b with
    | ⟨0, _⟩ => rfl
    | ⟨1, _⟩ => rfl
    | ⟨2, _⟩ => rfl
    | ⟨3, _⟩ => show 0 + 1 * c.val = c.val; omega))

/-- The rows of a tile of the down projection, as they are loaded. -/
theorem downLoad_apply (a : Memref sig .tc .vmem S11x256x1024 .bf16) (f : BufTy.Contents (Elt Ideal) a.view.ty) (j : Fin 11) (off : Fin 3 → ℕ)
    (ho : off = ![j.val, 0, 0]) (inb : ∀ b, off b + S1x256x1024.size b ≤ S11x256x1024.size b) (c : Fin 256) (d : Fin 1024) :
    View.readAt (Elt Ideal) a.view (Rect.unit (s := S11x256x1024) off S1x256x1024.size inb).toLoadRect f (ix3 0 c d)
      = a.view.read (Elt Ideal) f (ix3 j c d) := by
  subst ho
  exact congrArg (a.view.read (Elt Ideal) f) (funext fun b => Fin.ext (by
    match b with
    | ⟨0, _⟩ => rfl
    | ⟨1, _⟩ => show 0 + 1 * c.val = c.val; omega
    | ⟨2, _⟩ => show 0 + 1 * d.val = d.val; omega))

/-- What a tile contributes to the feed-forward layer's output, from a staged array and the loaded weights. -/
theorem down_apply (a : Memref sig .tc .vmem S2x528x256 .f32) (f : BufTy.Contents (Elt Ideal) a.view.ty) (U : Fin 2 → Fin 512 → Fin 256 → EReal)
    (hf : Staged (a.view.read (Elt Ideal) f) U)
    (a10 : Memref sig .tc .vmem S2x11x3x256 .f32) (f10 : BufTy.Contents (Elt Ideal) a10.view.ty)
    (a11 : Memref sig .tc .vmem S2x11x1x256 .f32) (f11 : BufTy.Contents (Elt Ideal) a11.view.ty)
    (a12 : Memref sig .tc .vmem S11x256x1024 .bf16) (f12 : BufTy.Contents (Elt Ideal) a12.view.ty) (j : Fin 11)
    (inb0 : ∀ b, (![0, 0, 0] : Fin 3 → ℕ) b + S1x528x256.size b ≤ S2x528x256.size b)
    (inb1 : ∀ b, (![1, 0, 0] : Fin 3 → ℕ) b + S1x528x256.size b ≤ S2x528x256.size b)
    (o10 o11 o12 o13 : Fin 4 → ℕ) (o14 : Fin 3 → ℕ)
    (h10 : o10 = ![0, j.val, 0, 0]) (h11 : o11 = ![0, j.val, 0, 0]) (h12 : o12 = ![1, j.val, 0, 0]) (h13 : o13 = ![1, j.val, 0, 0]) (h14 : o14 = ![j.val, 0, 0])
    (i10 : ∀ b, o10 b + S1x1x3x256.size b ≤ S2x11x3x256.size b) (i11 : ∀ b, o11 b + S1x1x1x256.size b ≤ S2x11x1x256.size b)
    (i12 : ∀ b, o12 b + S1x1x3x256.size b ≤ S2x11x3x256.size b) (i13 : ∀ b, o13 b + S1x1x1x256.size b ≤ S2x11x1x256.size b)
    (i14 : ∀ b, o14 b + S1x256x1024.size b ≤ S11x256x1024.size b) (s : Fin 2) (l : Fin 256) (d : Fin 1024) :
    prodK (half a f 0 inb0)
        (View.readAt (Elt Ideal) a10.view (Rect.unit (s := S2x11x3x256) o10 S1x1x3x256.size i10).toLoadRect f10)
        (View.readAt (Elt Ideal) a11.view (Rect.unit (s := S2x11x1x256) o11 S1x1x1x256.size i11).toLoadRect f11)
        (half a f 1 inb1)
        (View.readAt (Elt Ideal) a10.view (Rect.unit (s := S2x11x3x256) o12 S1x1x3x256.size i12).toLoadRect f10)
        (View.readAt (Elt Ideal) a11.view (Rect.unit (s := S2x11x1x256) o13 S1x1x1x256.size i13).toLoadRect f11)
        (View.readAt (Elt Ideal) a12.view (Rect.unit (s := S11x256x1024) o14 S1x256x1024.size i14).toLoadRect f12) (ix2 (seqRow s l) d)
      = downTile U (a10.view.read (Elt Ideal) f10) (a11.view.read (Elt Ideal) f11) (a12.view.read (Elt Ideal) f12) j s l d := by
  have hr : ∀ (e : Fin 2) inb, (fun (s : Fin 2) (c : Fin 256) (l : Fin 256) => seqCol (half a f e.val inb) s c l) = fun s c l => U e (seqRow s l) c :=
    fun e inb => funext fun s => funext fun c => funext fun l => (half_apply a f e inb _ c).trans (hf.rows e _ c)
  refine (prodK_apply _ (fun c => ⟨(half_apply a f 0 inb0 7 c).trans (hf.pads 0 c).1, (half_apply a f 0 inb0 520 c).trans (hf.pads 0 c).2⟩) _ _
    _ (fun c => ⟨(half_apply a f 1 inb1 7 c).trans (hf.pads 1 c).1, (half_apply a f 1 inb1 520 c).trans (hf.pads 1 c).2⟩) _ _ _ s l d).trans ?_
  refine Finset.sum_congr rfl fun c _ => ?_
  rw [tapLoad_apply a10 f10 j 0 o10 h10, tapLoad_apply a10 f10 j 0 o10 h10, tapLoad_apply a10 f10 j 0 o10 h10, biasLoad_apply a11 f11 j 0 o11 h11,
    tapLoad_apply a10 f10 j 1 o12 h12, tapLoad_apply a10 f10 j 1 o12 h12, tapLoad_apply a10 f10 j 1 o12 h12, biasLoad_apply a11 f11 j 1 o13 h13,
    downLoad_apply a12 f12 j o14 h14]
  have h0 : seqCol (half a f (0 : Fin 2).val inb0) s c = fun l => U 0 (seqRow s l) c := congrFun (congrFun (hr 0 inb0) s) c
  have h1 : seqCol (half a f (1 : Fin 2).val inb1) s c = fun l => U 1 (seqRow s l) c := congrFun (congrFun (hr 1 inb1) s) c
  rw [h0, h1]

/-- A row between the pads, stored into one half, is what that half then holds. -/
theorem store_row (a : Memref sig .tc .vmem S2x528x256 .f32) (f : BufTy.Contents (Elt Ideal) a.view.ty) (L : List (View.Piece (Elt Ideal) S2x528x256 .f32))
    (e : Fin 2) (P : FVec Ideal S1x512x256 .f32) (inb : ∀ b, (![e.val, 8, 0] : Fin 3 → ℕ) b + S1x512x256.size b ≤ S2x528x256.size b) (r : Fin 512) (c : Fin 256) :
    a.view.read (Elt Ideal) (a.view.writes (Elt Ideal) f (⟨Rect.unit (s := S2x528x256) ![e.val, 8, 0] S1x512x256.size inb, P⟩ :: L)) (ix3 e (padRow r) c)
      = P (ix3 0 r c) :=
  View.read_writes_cons_unit_of_mem a.view f inb P L _ (ix3 0 r c) rfl fun b => match b with
    | ⟨0, _⟩ => rfl
    | ⟨1, _⟩ => rfl
    | ⟨2, _⟩ => (Nat.zero_add _).symm

/-- A store between the pads leaves the other half. -/
theorem store_other (a : Memref sig .tc .vmem S2x528x256 .f32) (f : BufTy.Contents (Elt Ideal) a.view.ty) (L : List (View.Piece (Elt Ideal) S2x528x256 .f32))
    (e e' : Fin 2) (he : e' ≠ e) (P : FVec Ideal S1x512x256 .f32) (inb : ∀ b, (![e.val, 8, 0] : Fin 3 → ℕ) b + S1x512x256.size b ≤ S2x528x256.size b)
    (r : Fin 528) (c : Fin 256) :
    a.view.read (Elt Ideal) (a.view.writes (Elt Ideal) f (⟨Rect.unit (s := S2x528x256) ![e.val, 8, 0] S1x512x256.size inb, P⟩ :: L)) (ix3 e' r c)
      = a.view.read (Elt Ideal) (a.view.writes (Elt Ideal) f L) (ix3 e' r c) :=
  View.read_writes_cons_unit_of_not_mem a.view f inb P L _ rfl 0 (by
    have : e'.val ≠ e.val := fun h => he (Fin.ext h)
    show e'.val < e.val ∨ e.val + 1 ≤ e'.val
    omega)

/-- A store between the pads leaves the pads. -/
theorem store_pad (a : Memref sig .tc .vmem S2x528x256 .f32) (f : BufTy.Contents (Elt Ideal) a.view.ty) (L : List (View.Piece (Elt Ideal) S2x528x256 .f32))
    (e e' : Fin 2) (P : FVec Ideal S1x512x256 .f32) (inb : ∀ b, (![e.val, 8, 0] : Fin 3 → ℕ) b + S1x512x256.size b ≤ S2x528x256.size b)
    (r : Fin 528) (hr : r.val < 8 ∨ 520 ≤ r.val) (c : Fin 256) :
    a.view.read (Elt Ideal) (a.view.writes (Elt Ideal) f (⟨Rect.unit (s := S2x528x256) ![e.val, 8, 0] S1x512x256.size inb, P⟩ :: L)) (ix3 e' r c)
      = a.view.read (Elt Ideal) (a.view.writes (Elt Ideal) f L) (ix3 e' r c) :=
  View.read_writes_cons_unit_of_not_mem a.view f inb P L _ rfl 1 hr

/-- Both halves stored between pads that are zero are staged. -/
theorem staged_store (a : Memref sig .tc .vmem S2x528x256 .f32) (f : BufTy.Contents (Elt Ideal) a.view.ty) (L : List (View.Piece (Elt Ideal) S2x528x256 .f32))
    (P0 P1 : FVec Ideal S1x512x256 .f32) (inb0 : ∀ b, (![0, 8, 0] : Fin 3 → ℕ) b + S1x512x256.size b ≤ S2x528x256.size b)
    (inb1 : ∀ b, (![1, 8, 0] : Fin 3 → ℕ) b + S1x512x256.size b ≤ S2x528x256.size b) (U : Fin 2 → Fin 512 → Fin 256 → EReal)
    (hp : Padded (a.view.read (Elt Ideal) (a.view.writes (Elt Ideal) f L)))
    (h0 : ∀ r c, P0 (ix3 0 r c) = U 0 r c) (h1 : ∀ r c, P1 (ix3 0 r c) = U 1 r c) :
    Staged (a.view.read (Elt Ideal) (a.view.writes (Elt Ideal) f
      (⟨Rect.unit (s := S2x528x256) ![1, 8, 0] S1x512x256.size inb1, P1⟩ :: ⟨Rect.unit (s := S2x528x256) ![0, 8, 0] S1x512x256.size inb0, P0⟩ :: L))) U where
  pads e c := ⟨(store_pad a f _ 1 e P1 inb1 7 (.inl (by decide)) c).trans ((store_pad a f L 0 e P0 inb0 7 (.inl (by decide)) c).trans (hp e c).1),
    (store_pad a f _ 1 e P1 inb1 520 (.inr (by decide)) c).trans ((store_pad a f L 0 e P0 inb0 520 (.inr (by decide)) c).trans (hp e c).2)⟩
  rows e r c := match e with
    | ⟨0, _⟩ => (store_other a f _ 1 0 (by decide) P1 inb1 (padRow r) c).trans ((store_row a f L 0 P0 inb0 r c).trans (h0 r c))
    | ⟨1, _⟩ => (store_row a f _ 1 P1 inb1 r c).trans (h1 r c)

/-- The four pads stored as zeros. -/
theorem padded_store (a : Memref sig .tc .vmem S2x528x256 .f32) (f : BufTy.Contents (Elt Ideal) a.view.ty) (L : List (View.Piece (Elt Ideal) S2x528x256 .f32))
    (z0 z1 z2 z3 : FVec Ideal S1x8x256 .f32) (i0 : ∀ b, (![0, 0, 0] : Fin 3 → ℕ) b + S1x8x256.size b ≤ S2x528x256.size b)
    (i1 : ∀ b, (![0, 520, 0] : Fin 3 → ℕ) b + S1x8x256.size b ≤ S2x528x256.size b)
    (i2 : ∀ b, (![1, 0, 0] : Fin 3 → ℕ) b + S1x8x256.size b ≤ S2x528x256.size b)
    (i3 : ∀ b, (![1, 520, 0] : Fin 3 → ℕ) b + S1x8x256.size b ≤ S2x528x256.size b)
    (h0 : ∀ x, z0 x = 0) (h1 : ∀ x, z1 x = 0) (h2 : ∀ x, z2 x = 0) (h3 : ∀ x, z3 x = 0) :
    Padded (a.view.read (Elt Ideal) (a.view.writes (Elt Ideal) f
      (⟨Rect.unit (s := S2x528x256) ![1, 520, 0] S1x8x256.size i3, z3⟩ :: ⟨Rect.unit (s := S2x528x256) ![1, 0, 0] S1x8x256.size i2, z2⟩
        :: ⟨Rect.unit (s := S2x528x256) ![0, 520, 0] S1x8x256.size i1, z1⟩ :: ⟨Rect.unit (s := S2x528x256) ![0, 0, 0] S1x8x256.size i0, z0⟩ :: L))) := by
  have inside : ∀ (e : Fin 2) (o : ℕ) (k : Fin 8) (r : Fin 528) (_ : r.val = o + k.val) (c : Fin 256) (z : FVec Ideal S1x8x256 .f32) (_ : ∀ x, z x = 0)
      (i : ∀ b, (![e.val, o, 0] : Fin 3 → ℕ) b + S1x8x256.size b ≤ S2x528x256.size b) L,
      a.view.read (Elt Ideal) (a.view.writes (Elt Ideal) f (⟨Rect.unit (s := S2x528x256) ![e.val, o, 0] S1x8x256.size i, z⟩ :: L)) (ix3 e r c) = 0 :=
    fun e o k r hr c z hz i L => (View.read_writes_cons_unit_of_mem a.view f i z L _ (ix3 0 k c) rfl fun b => match b with
      | ⟨0, _⟩ => rfl
      | ⟨1, _⟩ => hr
      | ⟨2, _⟩ => (Nat.zero_add _).symm).trans (hz _)
  have outside : ∀ (e e' : Fin 2) (o : ℕ) (r : Fin 528) (_ : e' ≠ e ∨ r.val < o ∨ o + 8 ≤ r.val) (c : Fin 256) (z : FVec Ideal S1x8x256 .f32)
      (i : ∀ b, (![e.val, o, 0] : Fin 3 → ℕ) b + S1x8x256.size b ≤ S2x528x256.size b) L,
      a.view.read (Elt Ideal) (a.view.writes (Elt Ideal) f (⟨Rect.unit (s := S2x528x256) ![e.val, o, 0] S1x8x256.size i, z⟩ :: L)) (ix3 e' r c)
        = a.view.read (Elt Ideal) (a.view.writes (Elt Ideal) f L) (ix3 e' r c) := fun e e' o r hr c z i L => by
    rcases hr with he | hr
    · refine View.read_writes_cons_unit_of_not_mem a.view f i z L _ rfl 0 ?_
      have : e'.val ≠ e.val := fun h => he (Fin.ext h)
      show e'.val < e.val ∨ e.val + 1 ≤ e'.val
      omega
    · exact View.read_writes_cons_unit_of_not_mem a.view f i z L _ rfl 1 hr
  intro e c
  match e with
  | ⟨0, _⟩ =>
    exact ⟨(outside 1 0 520 7 (.inl (by decide)) c z3 i3 _).trans ((outside 1 0 0 7 (.inl (by decide)) c z2 i2 _).trans
        ((outside 0 0 520 7 (.inr (.inl (by decide))) c z1 i1 _).trans (inside 0 0 7 7 rfl c z0 h0 i0 _))),
      (outside 1 0 520 520 (.inl (by decide)) c z3 i3 _).trans ((outside 1 0 0 520 (.inl (by decide)) c z2 i2 _).trans (inside 0 520 0 520 rfl c z1 h1 i1 _))⟩
  | ⟨1, _⟩ =>
    exact ⟨(outside 1 1 520 7 (.inr (.inl (by decide))) c z3 i3 _).trans (inside 1 0 7 7 rfl c z2 h2 i2 _), inside 1 520 0 520 rfl c z3 h3 i3 _⟩

end Cert.Tail
end
-- ==== Proof.TailLoop.lean ====
/- The tail's loop over the feed-forward layer's tiles: each trip adds two tiles' contributions to the accumulator and stages
   the two next tiles. -/
module

public import proofs.«01_k».proof.Proof.TailStage
public import proofs.«01_k».proof.Proof.Gen.Kernel3Ideal.Loops

@[expose] public section

set_option maxRecDepth 16384

noncomputable section

namespace Cert.Tail

open Idealize.ShloMosaic Idealize.ShloMosaic.ValueIdx Idealize.SL.Sem Cert.Layer Cert.Kernel3Ideal Cert.Kernel3Ideal.Gen

/-- The first tile's sum of a trip, as the kernel forms it. -/
theorem first_sum (A : FVec Ideal S512x1024 .f32) (T0 T1 : FVec Ideal S1x528x256 .f32) (W0 W1 : FVec Ideal S1x1x3x256 .f32) (B0 B1 : FVec Ideal S1x1x1x256 .f32)
    (D : FVec Ideal S1x256x1024 .bf16) :
    k0_pay124 A (k0_pay121 lanes k0_pay1 (k0_pay118 T0) (k0_pay119 T0) (k0_pay120 T0) W0 B0) (k0_pay122 lanes k0_pay1 T1 W1) (k0_pay123 B1) D
      = addf A (prodK T0 W0 B0 T1 W1 B1 D) :=
  same_cast (addf A (prodK T0 W0 B0 T1 W1 B1 D)) _

/-- The second tile's sum of a trip, as the kernel forms it. -/
theorem second_sum (A : FVec Ideal S512x1024 .f32) (T0 T1 : FVec Ideal S1x528x256 .f32) (W0 W1 : FVec Ideal S1x1x3x256 .f32) (B0 B1 : FVec Ideal S1x1x1x256 .f32)
    (D : FVec Ideal S1x256x1024 .bf16) :
    k0_pay5 A (k0_pay132 (k0_pay130 lanes k0_pay1 T0 W0) (k0_pay131 lanes k0_pay1 T0 W0) B0) (k0_pay133 T1) (k0_pay134 lanes k0_pay1 T1) (k0_pay135 W1)
        (k0_pay136 lanes k0_pay1 T1 W1) B1 D
      = addf A (prodK T0 W0 B0 T1 W1 B1 D) :=
  same_cast (addf A (prodK T0 W0 B0 T1 W1 B1 D)) _

/-- The contributions of the first `n` tiles. -/
def tiles (h : S512x1024.Idx → EReal) (wu : S1024x5632.Idx → EReal) (cw : S2x11x3x256.Idx → EReal) (cb : S2x11x1x256.Idx → EReal)
    (wd : S11x256x1024.Idx → EReal) (n : ℕ) (s : Fin 2) (l : Fin 256) (d : Fin 1024) : EReal :=
  ∑ j ∈ Finset.range n, if hj : j < 11 then downTile (upTile h wu ⟨j, hj⟩) cw cb wd ⟨j, hj⟩ s l d else 0

/-- One tile more. -/
theorem tiles_succ (h : S512x1024.Idx → EReal) (wu : S1024x5632.Idx → EReal) (cw : S2x11x3x256.Idx → EReal) (cb : S2x11x1x256.Idx → EReal)
    (wd : S11x256x1024.Idx → EReal) (j : Fin 11) (n : ℕ) (hn : n = j.val) (s : Fin 2) (l : Fin 256) (d : Fin 1024) :
    tiles h wu cw cb wd (n + 1) s l d = tiles h wu cw cb wd n s l d + downTile (upTile h wu j) cw cb wd j s l d := by
  subst hn
  unfold tiles
  rw [Finset.sum_range_succ, dif_pos j.isLt]

section Loop

variable (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S6x8x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S2x11x3x256 .f32) (harg10 : arg10.IsWhole) (arg11 : Memref sig .tc .vmem S2x11x1x256 .f32) (harg11 : arg11.IsWhole) (arg12 : Memref sig .tc .vmem S11x256x1024 .bf16) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x1024 .f32) (harg16 : arg16.IsWhole) (arg17 : Memref sig .tc .vmem S2x528x256 .f32) (harg17 : arg17.IsWhole) (arg18 : Memref sig .tc .vmem S2x528x256 .f32) (harg18 : arg18.IsWhole) (arg19 : Memref sig .tc .vmem S2x528x256 .f32) (harg19 : arg19.IsWhole)
  (k0_h4 : k0_cond4 i = 1#1) (x9 : BufTy.Contents (Elt Ideal) arg9.view.ty) (x10 : BufTy.Contents (Elt Ideal) arg10.view.ty)
  (x11 : BufTy.Contents (Elt Ideal) arg11.view.ty) (x12 : BufTy.Contents (Elt Ideal) arg12.view.ty) (x14 : BufTy.Contents (Elt Ideal) arg14.view.ty)

/-- What the loop's scratch arrays hold with `n` tiles summed and tile `n` staged. -/
structure State (n : Fin 11) (f16 : BufTy.Contents (Elt Ideal) arg16.view.ty) (f17 : BufTy.Contents (Elt Ideal) arg17.view.ty)
    (f18 : BufTy.Contents (Elt Ideal) arg18.view.ty) : Prop where
  acc : ∀ (s : Fin 2) (l : Fin 256) (d : Fin 1024), arg16.view.read (Elt Ideal) f16 (ix2 (seqRow s l) d)
    = tiles (arg14.view.read (Elt Ideal) x14) (arg9.view.read (Elt Ideal) x9) (arg10.view.read (Elt Ideal) x10) (arg11.view.read (Elt Ideal) x11)
        (arg12.view.read (Elt Ideal) x12) n.val s l d
  staged : Staged (arg17.view.read (Elt Ideal) f17) (upTile (arg14.view.read (Elt Ideal) x14) (arg9.view.read (Elt Ideal) x9) n)
  pads : Padded (arg18.view.read (Elt Ideal) f18)

/-- A trip's pieces, over the contents it finds. -/
abbrev tripOf (c : Dev nD) (k : Fin k0_t1_loop.trips) (f16 : BufTy.Contents (Elt Ideal) arg16.view.ty) (f17 : BufTy.Contents (Elt Ideal) arg17.view.ty)
    (f18 : BufTy.Contents (Elt Ideal) arg18.view.ty) :=
  tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 lanes k0_h4 x9 x10 x11 x12 x14 k f16 f17 f18

theorem trip_state (c : Dev nD) (k : Fin k0_t1_loop.trips) (n n' : Fin 11) (hn : n.val = 2 * k.val + 2) (hn' : n'.val = n.val + 2)
    (f16 : BufTy.Contents (Elt Ideal) arg16.view.ty) (f17 : BufTy.Contents (Elt Ideal) arg17.view.ty) (f18 : BufTy.Contents (Elt Ideal) arg18.view.ty)
    (H : State arg9 arg10 arg11 arg12 arg14 arg16 arg17 arg18 x9 x10 x11 x12 x14 n f16 f17 f18) :
    State arg9 arg10 arg11 arg12 arg14 arg16 arg17 arg18 x9 x10 x11 x12 x14 n'
      (arg16.view.writes (Elt Ideal) f16 (tripOf i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 x9 x10 x11 x12 x14 c k f16 f17 f18).1)
      (arg17.view.writes (Elt Ideal) f17 (tripOf i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 x9 x10 x11 x12 x14 c k f16 f17 f18).2.1)
      (arg18.view.writes (Elt Ideal) f18 (tripOf i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 x9 x10 x11 x12 x14 c k f16 f17 f18).2.2) := by
  have hl : (arg14.view.readAt (Elt Ideal) (Rect.unit (s := S512x1024) ![0, 0] S512x1024.size inb_S512x1024_S512x1024_0_0).toLoadRect x14) = arg14.view.read (Elt Ideal) x14 :=
    View.readAt_full _ _ _
  let m : Fin 11 := ⟨n.val + 1, by omega⟩
  have h18 : Staged (arg18.view.read (Elt Ideal) (arg18.view.writes (Elt Ideal) f18 (tripOf i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 x9 x10 x11 x12 x14 c k f16 f17 f18).2.2))
      (upTile (arg14.view.read (Elt Ideal) x14) (arg9.view.read (Elt Ideal) x9) m) := by
    unfold tripOf tripL_k0_t1 trip_k0_t1
    dsimp only
    unfold trip_k0_t1.sl.HW_arg18_2
    refine staged_store arg18 f18 [] _ _ _ _ _ H.pads (fun r c => ?_) (fun r c => ?_)
    · rw [← hl]
      exact up_apply _ arg9 x9 m 0 _ _ (k0_off9_eq k 0 0) (by show 2816 * 0 + 512 * k.val + 256 * 0 + 768 = 2816 * 0 + 256 * (n.val + 1); omega) _ r c
    · rw [← hl]
      exact up_apply _ arg9 x9 m 1 _ _ (k0_off9_eq k 1 0) (by show 2816 * 1 + 512 * k.val + 256 * 0 + 768 = 2816 * 1 + 256 * (n.val + 1); omega) _ r c
  refine ⟨fun s l d => ?_, ?_, h18.pads⟩
  · have t1 := tiles_succ (arg14.view.read (Elt Ideal) x14) (arg9.view.read (Elt Ideal) x9) (arg10.view.read (Elt Ideal) x10) (arg11.view.read (Elt Ideal) x11)
      (arg12.view.read (Elt Ideal) x12) n n.val rfl s l d
    have t2 := tiles_succ (arg14.view.read (Elt Ideal) x14) (arg9.view.read (Elt Ideal) x9) (arg10.view.read (Elt Ideal) x10) (arg11.view.read (Elt Ideal) x11)
      (arg12.view.read (Elt Ideal) x12) m (n.val + 1) rfl s l d
    rw [hn', t2, t1, ← H.acc s l d]
    have d1 := down_apply arg17 f17 _ H.staged arg10 x10 arg11 x11 arg12 x12 n inb_S2x528x256_S1x528x256_0_0_0 inb_S2x528x256_S1x528x256_1_0_0
      (k0_off10 k) (k0_off11 k) (k0_off12 k) (k0_off13 k) (k0_off14 k) ((k0_off10_eq k).trans (by rw [hn])) ((k0_off11_eq k).trans (by rw [hn]))
      ((k0_off12_eq k).trans (by rw [hn])) ((k0_off13_eq k).trans (by rw [hn])) ((k0_off14_eq k).trans (by rw [hn]))
      (k0_off10_inb i k k0_h4) (k0_off11_inb i k k0_h4) (k0_off12_inb i k k0_h4) (k0_off13_inb i k k0_h4) (k0_off14_inb i k k0_h4) s l d
    have hm : m.val = 2 * k.val + 3 := by show n.val + 1 = _; omega
    have d2 := down_apply arg18 _ _ h18 arg10 x10 arg11 x11 arg12 x12 m inb_S2x528x256_S1x528x256_0_0_0 inb_S2x528x256_S1x528x256_1_0_0
      (k0_off15 k) (k0_off16 k) (k0_off17 k) (k0_off18 k) (k0_off19 k) ((k0_off15_eq k).trans (by rw [hm])) ((k0_off16_eq k).trans (by rw [hm]))
      ((k0_off17_eq k).trans (by rw [hm])) ((k0_off18_eq k).trans (by rw [hm])) ((k0_off19_eq k).trans (by rw [hm]))
      (k0_off15_inb i k k0_h4) (k0_off16_inb i k k0_h4) (k0_off17_inb i k k0_h4) (k0_off18_inb i k k0_h4) (k0_off19_inb i k k0_h4) s l d
    rw [← d1, ← d2]
    unfold tripOf tripL_k0_t1 trip_k0_t1
    dsimp only
    refine (congrFun (View.read_writes_full arg16.view f16 _ _ _) _).trans ?_
    unfold trip_k0_t1.sl.r_10 trip_k0_t1.sl.r_11 trip_k0_t1.sl.r_12 trip_k0_t1.sl.r_13 trip_k0_t1.sl.r_14 trip_k0_t1.sl.r_8 trip_k0_t1.sl.r_9
    refine (congrFun (second_sum _ _ _ _ _ _ _ _) _).trans ?_
    refine (addf_apply _ _ _).trans (congrArg₂ (· + ·) ?_ rfl)
    unfold trip_k0_t1.sl.v180 trip_k0_t1.sl.HW_arg16_1
    refine (congrFun (View.readCov_full arg16.view _ _ _ _) _).trans ?_
    unfold trip_k0_t1.sl.r_4 trip_k0_t1.sl.r_5 trip_k0_t1.sl.r_6 trip_k0_t1.sl.r_1 trip_k0_t1.sl.r_2 trip_k0_t1.sl.r_3
    refine (congrFun (first_sum _ _ _ _ _ _ _ _) _).trans ?_
    refine (addf_apply _ _ _).trans (congrArg₂ (· + ·) ?_ rfl)
    unfold trip_k0_t1.sl.r
    exact congrFun (View.readAt_full arg16.view f16 _) _
  · unfold tripOf tripL_k0_t1 trip_k0_t1
    dsimp only
    unfold trip_k0_t1.sl.r_7
    refine staged_store arg17 f17 [] _ _ _ _ _ H.staged.pads (fun r c => ?_) (fun r c => ?_)
    · rw [← hl]
      exact up_apply _ arg9 x9 n' 0 _ _ (k0_off9_eq k 0 1) (by show 2816 * 0 + 512 * k.val + 256 * 1 + 768 = 2816 * 0 + 256 * n'.val; omega) _ r c
    · rw [← hl]
      exact up_apply _ arg9 x9 n' 1 _ _ (k0_off9_eq k 1 1) (by show 2816 * 1 + 512 * k.val + 256 * 1 + 768 = 2816 * 1 + 256 * n'.val; omega) _ r c

/-- The loop's pieces after `n` trips, over the contents it starts from. -/
abbrev loopOf (c : Dev nD) (f16 : BufTy.Contents (Elt Ideal) arg16.view.ty) (f17 : BufTy.Contents (Elt Ideal) arg17.view.ty)
    (f18 : BufTy.Contents (Elt Ideal) arg18.view.ty) (n : ℕ) :=
  pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 lanes k0_h4 x9 x10 x11 x12 x14 f16 f17 f18 n

theorem loop_state (c : Dev nD) (f16 : BufTy.Contents (Elt Ideal) arg16.view.ty) (f17 : BufTy.Contents (Elt Ideal) arg17.view.ty)
    (f18 : BufTy.Contents (Elt Ideal) arg18.view.ty) (H : State arg9 arg10 arg11 arg12 arg14 arg16 arg17 arg18 x9 x10 x11 x12 x14 2 f16 f17 f18)
    (n : ℕ) (hn : n ≤ k0_t1_loop.trips) (j : Fin 11) (hj : j.val = 2 * n + 2) :
    State arg9 arg10 arg11 arg12 arg14 arg16 arg17 arg18 x9 x10 x11 x12 x14 j
      (arg16.view.writes (Elt Ideal) f16 (loopOf i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 x9 x10 x11 x12 x14 c f16 f17 f18 n).1)
      (arg17.view.writes (Elt Ideal) f17 (loopOf i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 x9 x10 x11 x12 x14 c f16 f17 f18 n).2.1)
      (arg18.view.writes (Elt Ideal) f18 (loopOf i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 x9 x10 x11 x12 x14 c f16 f17 f18 n).2.2) := by
  induction n generalizing j with
  | zero =>
    have : j = 2 := Fin.ext hj
    subst this
    exact H
  | succ n ih =>
    have h := trip_state i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 x9 x10 x11 x12 x14 c ⟨n, hn⟩ ⟨2 * n + 2, by omega⟩ j rfl (by show j.val = 2 * n + 2 + 2; omega) _ _ _
      (ih (Nat.le_of_succ_le hn) ⟨2 * n + 2, by omega⟩ rfl)
    rw [← View.writes_append, ← View.writes_append, ← View.writes_append] at h
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 lanes k0_h4 x9 x10 x11 x12 x14 f16 f17 f18 ⟨n, hn⟩
    unfold loopOf
    rw [e]
    exact h

end Loop

end Cert.Tail
end
-- ==== Proof.TailMath.lean ====
/- The tail's block, read at an index: the merged heads and their projection, the normalised and modulated rows, and the last
   normalisation. The kernel's texts of the first point, of the middle ones and of the last are the same formulas. -/
module

public import proofs.«01_k».proof.Proof.TailLoop

@[expose] public section

set_option maxRecDepth 16384

noncomputable section

namespace Cert.Tail

open Idealize.ShloMosaic Idealize.ShloMosaic.ValueIdx Cert.Layer Cert.Kernel3Ideal Cert.Kernel3Ideal.Gen

/-- The first tile's product at the first point. -/
theorem first_product (T0 T1 : FVec Ideal S1x528x256 .f32) (W0 W1 : FVec Ideal S1x1x3x256 .f32) (B0 B1 : FVec Ideal S1x1x1x256 .f32)
    (D : FVec Ideal S1x256x1024 .bf16) :
    k0_pay41 (k0_pay35 (k0_pay31 lanes k0_pay1 T0) (k0_pay33 lanes k0_pay1 T0 W0) (k0_pay34 W0) B0) (k0_pay36 T1) (k0_pay37 lanes k0_pay1 T1)
        (k0_pay38 lanes k0_pay1 T1) (k0_pay39 W1) (k0_pay40 W1) B1 D
      = prodK T0 W0 B0 T1 W1 B1 D :=
  same_cast (prodK T0 W0 B0 T1 W1 B1 D) _

/-- The second tile's sum at the first point. -/
theorem second_product (A : FVec Ideal S512x1024 .f32) (T0 T1 : FVec Ideal S1x528x256 .f32) (W0 W1 : FVec Ideal S1x1x3x256 .f32)
    (B0 B1 : FVec Ideal S1x1x1x256 .f32) (D : FVec Ideal S1x256x1024 .bf16) :
    k0_pay2 A (k0_pay50 (k0_pay45 lanes k0_pay1 T0) (k0_pay46 W0) (k0_pay47 lanes k0_pay1 T0 W0) (k0_pay48 T0) (k0_pay49 W0) B0) (k0_pay51 T1)
        (k0_pay52 lanes k0_pay1 T1) (k0_pay53 lanes k0_pay1 T1) W1 B1 D
      = addf A (prodK T0 W0 B0 T1 W1 B1 D) :=
  same_cast (addf A (prodK T0 W0 B0 T1 W1 B1 D)) _

/-- The first tile's product at a middle point. -/
theorem first_product' (T0 T1 : FVec Ideal S1x528x256 .f32) (W0 W1 : FVec Ideal S1x1x3x256 .f32) (B0 B1 : FVec Ideal S1x1x1x256 .f32)
    (D : FVec Ideal S1x256x1024 .bf16) :
    k0_pay92 (k0_pay89 lanes k0_pay1 (k0_pay85 T0) (k0_pay86 T0) (k0_pay87 T0) (k0_pay88 T0) W0 B0) (k0_pay90 lanes k0_pay1 T1 W1) (k0_pay91 B1) D
      = prodK T0 W0 B0 T1 W1 B1 D :=
  same_cast (prodK T0 W0 B0 T1 W1 B1 D) _

/-- The second tile's sum at a middle point. -/
theorem second_product' (A : FVec Ideal S512x1024 .f32) (T0 T1 : FVec Ideal S1x528x256 .f32) (W0 W1 : FVec Ideal S1x1x3x256 .f32)
    (B0 B1 : FVec Ideal S1x1x1x256 .f32) (D : FVec Ideal S1x256x1024 .bf16) :
    k0_pay3 A (k0_pay97 (k0_pay95 lanes k0_pay1 T0 W0 B0) k0_pay96) (k0_pay98 lanes k0_pay1 T1 W1) B1 D
      = addf A (prodK T0 W0 B0 T1 W1 B1 D) :=
  same_cast (addf A (prodK T0 W0 B0 T1 W1 B1 D)) _

/-- The block's last step before its normalisation: the gated sum with the rows it began with. -/
abbrev lastK (x acc : FVec Ideal S512x1024 .f32) (gate : FVec Ideal S1x1x1024 .f32) (P : FVec Ideal S512x1024 .f32) : FVec Ideal S512x1024 .f32 :=
  addf x (mulf (broadcastTo S512x1024 (shapeCast S1x1024 gate Gen.shapeCasts_S1x1x1024_S1x1024) Gen.broadcasts_S1x1024_S512x1024) (addf acc P))

/-- A block normalised and scaled. -/
abbrev normK (x : FVec Ideal S512x1024 .f32) (g : FVec Ideal S1x1024 .f32) : FVec Ideal S512x1024 .f32 :=
  mulf (mulf x (broadcastTo S512x1024 (rsqrt (addf (divf
        (shapeCast S512x1 (multiReduction .add [1] S512 (mulf x x) 0x00000000#32 Gen.reduces_S512x1024_S512 (.inl rfl) rfl) Gen.shapeCasts_S512_S512x1)
        (broadcast S512x1 (Scalar.ofBits (F := Ideal) .f32 0x44800000#32))) (broadcast S512x1 (Scalar.ofBits (F := Ideal) .f32 0x358637BD#32))))
      Gen.broadcasts_S512x1_S512x1024))
    (broadcastTo S512x1024 (shapeCast S1x1024 g Gen.shapeCasts_S1x1024_S1x1024) Gen.broadcasts_S1x1024_S512x1024)

/-- What a middle point writes. -/
theorem finish (x acc : FVec Ideal S512x1024 .f32) (gate : FVec Ideal S1x1x1024 .f32) (T0 T1 : FVec Ideal S1x528x256 .f32) (W0 W1 : FVec Ideal S1x1x3x256 .f32)
    (B0 B1 : FVec Ideal S1x1x1x256 .f32) (D : FVec Ideal S1x256x1024 .bf16) (g : FVec Ideal S1x1024 .f32) :
    k0_pay4 x (k0_pay54 gate) acc (k0_pay69 lanes k0_pay1 (k0_pay64 lanes k0_pay1 (k0_pay55 T0) (k0_pay57 T0) (k0_pay58 T0) (k0_pay59 T0) (k0_pay60 T0)
          (k0_pay61 lanes) (k0_pay62 k0_pay1 T0) (k0_pay63 T0) W0 B0) (k0_pay65 T1) (k0_pay66 T1) (k0_pay67 T1) (k0_pay68 T1) W1 B1)
        (k0_pay70 D) (constant S512x1024 .f32 0x00000000#32) g
      = normK (lastK x acc gate (prodK T0 W0 B0 T1 W1 B1 D)) g := rfl

/-- What the last point writes. -/
theorem finish' (x acc : FVec Ideal S512x1024 .f32) (gate : FVec Ideal S1x1x1024 .f32) (T0 T1 : FVec Ideal S1x528x256 .f32) (W0 W1 : FVec Ideal S1x1x3x256 .f32)
    (B0 B1 : FVec Ideal S1x1x1x256 .f32) (D : FVec Ideal S1x256x1024 .bf16) (g : FVec Ideal S1x1024 .f32) :
    k0_pay4 x (k0_pay99 gate) acc (k0_pay114 lanes k0_pay1 (k0_pay109 lanes k0_pay1 (k0_pay100 T0) (k0_pay102 T0) (k0_pay103 T0) (k0_pay104 T0) (k0_pay105 T0)
          (k0_pay106 lanes) (k0_pay107 k0_pay1 T0) (k0_pay108 T0) W0 B0) (k0_pay110 T1) (k0_pay111 T1) (k0_pay112 T1) (k0_pay113 T1) W1 B1)
        (k0_pay115 D) (constant S512x1024 .f32 0x00000000#32) g
      = normK (lastK x acc gate (prodK T0 W0 B0 T1 W1 B1 D)) g := rfl

/-- The rows with the merged heads' projection added, as the kernel forms them. -/
abbrev addedK (x : FVec Ideal S512x1024 .f32) (a h : FVec Ideal S512x512 .f32) (grp : FVec Ideal S1x1024 .f32) (gate : FVec Ideal S1x1x1024 .f32)
    (w : FVec Ideal S1024x1024 .bf16) : FVec Ideal S512x1024 .f32 := k0_pay21 (k0_pay19 x) (k0_pay20 a h grp) gate w

/-- Those rows normalised and modulated, as the kernel forms them. -/
abbrev hiddenK (x : FVec Ideal S512x1024 .f32) (a h : FVec Ideal S512x512 .f32) (grp : FVec Ideal S1x1024 .f32) (gate : FVec Ideal S1x1x1024 .f32)
    (w : FVec Ideal S1024x1024 .bf16) (n2 : FVec Ideal S1x1024 .f32) (sc sh : FVec Ideal S1x1x1024 .f32) : FVec Ideal S512x1024 .bf16 :=
  k0_pay23 (k0_pay22 (k0_pay19 x) (k0_pay20 a h grp) gate w n2) sc sh

/-- A middle point forms the same rows. -/
theorem added_middle (x : FVec Ideal S512x1024 .f32) (a h : FVec Ideal S512x512 .f32) (grp : FVec Ideal S1x1024 .f32) (gate : FVec Ideal S1x1x1024 .f32)
    (w : FVec Ideal S1024x1024 .bf16) :
    k0_pay76 (k0_pay72 x) h (k0_pay73 grp) (k0_pay74 a grp) (k0_pay75 h) gate w = addedK x a h grp gate w := rfl

theorem hidden_middle (x : FVec Ideal S512x1024 .f32) (a h : FVec Ideal S512x512 .f32) (grp : FVec Ideal S1x1024 .f32) (gate : FVec Ideal S1x1x1024 .f32)
    (w : FVec Ideal S1024x1024 .bf16) (n2 : FVec Ideal S1x1024 .f32) (sc sh : FVec Ideal S1x1x1024 .f32) :
    k0_pay79 (k0_pay78 (k0_pay76 (k0_pay72 x) h (k0_pay73 grp) (k0_pay74 a grp) (k0_pay75 h) gate w)
        (k0_pay77 (k0_pay72 x) h (k0_pay73 grp) (k0_pay74 a grp) (k0_pay75 h) gate w) n2 sc) sh
      = hiddenK x a h grp gate w n2 sc sh := rfl

/-- The rows are kept as they are. -/
theorem kept_first (v : FVec Ideal S512x1024 .f32) : k0_pay24 v = v := same_cast v _

theorem kept_middle (v : FVec Ideal S512x1024 .f32) : k0_pay80 v = v := same_cast v _

/-- The two halves of the merged heads, each normalised over its own 512 columns. -/
def mergedRow (a h : S512x512.Idx → EReal) (grp : S1x1024.Idx → EReal) (r : Fin 512) (k : Fin 1024) : EReal :=
  (if hk : k.val < 512 then rms 0x44000000#32 (fun j => a (ix2 r j)) ⟨k.val, hk⟩ else rms 0x44000000#32 (fun j => h (ix2 r j)) ⟨k.val - 512, by omega⟩)
    * grp (ix2 0 k)

/-- The rows with the merged heads' projection added. -/
def addedRow (x : S512x1024.Idx → EReal) (a h : S512x512.Idx → EReal) (grp : S1x1024.Idx → EReal) (gate : Fin 1024 → EReal)
    (w : S1024x1024.Idx → EReal) (r : Fin 512) (d : Fin 1024) : EReal :=
  x (ix2 r d) + gate d * ∑ k : Fin 1024, mergedRow a h grp r k * w (ix2 k d)

/-- Those rows normalised and modulated. -/
def hiddenRow (x : S512x1024.Idx → EReal) (a h : S512x512.Idx → EReal) (grp : S1x1024.Idx → EReal) (gate sc sh : Fin 1024 → EReal)
    (w : S1024x1024.Idx → EReal) (n2 : S1x1024.Idx → EReal) (r : Fin 512) (d : Fin 1024) : EReal :=
  rms 0x44800000#32 (addedRow x a h grp gate w r) d * n2 (ix2 0 d) * (word 0x3F800000#32 + sc d) + sh d

/-- A row of the modulations as a row vector. -/
theorem mod_row (v : S1x1x1024.Idx → EReal) (d : Fin 1024) :
    shapeCast S1x1024 v Gen.shapeCasts_S1x1x1024_S1x1024 (ix2 0 d) = v (ix3 0 0 d) :=
  shapeCast_apply _ _ _ (ix3 0 0 d) (by rw [Shape.rowMajor_val_two, Shape.rowMajor_val_three]; rfl)

/-- A half of the gain of the merged heads, spread over the block. -/
theorem gain_half (o : ℕ) (grp : S1x1024.Idx → EReal) (h : S1x1024.Slices ![0, o] S1x512) (r : Fin 512) (k : Fin 512) (q : Fin 1024) (hq : q.val = o + k.val) :
    broadcastTo S512x512 (extractStridedSlice S1x512 ![0, o] (shapeCast S1x1024 grp Gen.shapeCasts_S1x1024_S1x1024) h) Gen.broadcasts_S1x512_S512x512 (ix2 r k)
      = grp (ix2 0 q) := by
  refine (spread_apply _ (by decide) _ r k).trans ((extractStridedSlice_apply _ _ _ _ (ix2 0 q) fun a => ?_).trans (congrFun (same_cast grp _) _))
  match a with
  | ⟨0, _⟩ => rfl
  | ⟨1, _⟩ => exact hq

theorem merged_apply (a h : FVec Ideal S512x512 .f32) (grp : FVec Ideal S1x1024 .f32) (r : Fin 512) (k : Fin 1024) :
    k0_pay20 (F := Ideal) a h grp (ix2 r k) = mergedRow a h grp r k := by
  unfold k0_pay20 mergedRow
  refine (truncf_apply _ Gen.bitsLt_bf16_f32 _).trans ?_
  by_cases hk : k.val < 512
  · rw [dif_pos hk]
    refine (concatenate_pair_apply_left (t := S512x1024) (s₁ := S512x512) (s₂ := S512x512) (1 : Fin 2) _ _ _ (ix2 r k) rfl (ix2 r (⟨k.val, hk⟩ : Fin 512)) fun b => ?_).trans ?_
    · match b with
      | ⟨0, _⟩ => rfl
      | ⟨1, _⟩ => rfl
    refine (mulf_apply _ _ _).trans (congrArg₂ (· * ·) ?_ (gain_half 0 grp _ r _ k (Nat.zero_add _).symm))
    exact rms_apply 0x44000000#32 a _ _ _ (by decide) r _
  · rw [dif_neg hk]
    refine (concatenate_pair_apply_right (t := S512x1024) (s₁ := S512x512) (s₂ := S512x512) (1 : Fin 2) _ _ _ (ix2 r k) rfl rfl (ix2 r (⟨k.val - 512, by omega⟩ : Fin 512)) (fun b hb => ?_)
      (by show k.val - 512 + 512 = k.val; omega)).trans ?_
    · match b, hb with
      | ⟨0, _⟩, _ => rfl
      | ⟨1, _⟩, hb => exact absurd rfl hb
    refine (mulf_apply _ _ _).trans (congrArg₂ (· * ·) ?_ (gain_half 512 grp _ r _ k (by show k.val = 512 + (k.val - 512); omega)))
    exact rms_apply 0x44000000#32 h _ _ _ (by decide) r _

theorem added_apply (x : FVec Ideal S512x1024 .f32) (a h : FVec Ideal S512x512 .f32) (grp : FVec Ideal S1x1024 .f32) (gate : FVec Ideal S1x1x1024 .f32)
    (w : FVec Ideal S1024x1024 .bf16) (r : Fin 512) (d : Fin 1024) :
    addedK x a h grp gate w (ix2 r d) = addedRow x a h grp (fun d => gate (ix3 0 0 d)) w r d := by
  unfold addedK k0_pay21 addedRow
  refine (addf_apply _ _ _).trans (congrArg₂ (· + ·) (congrFun (same_cast x _) _) ?_)
  refine (mulf_apply _ _ _).trans (congrArg₂ (· * ·) ((spread_apply _ (by decide) _ r d).trans (mod_row gate d)) ?_)
  refine (Ideal.matmul_constant_zero_apply _ none _ _ _).trans ((sum_contr _ 1024 rfl rfl _).trans ?_)
  refine Finset.sum_congr rfl fun k _ => congrArg₂ (· * ·) ?_ ?_
  · refine Eq.trans (congrArg _ (funext fun a => Fin.ext ?_)) (merged_apply a h grp r k)
    match a with
    | ⟨0, _⟩ => rfl
    | ⟨1, _⟩ => exact contrEquiv1_symm_val dot_S512x1024_S1024x1024_S512x1024_1_0_0_1_n_n 1024 rfl rfl k
  · refine (congrFun (same_cast w _) _).trans (congrArg w (funext fun a => Fin.ext ?_))
    match a with
    | ⟨0, _⟩ => exact contrEquiv1_symm_val dot_S512x1024_S1024x1024_S512x1024_1_0_0_1_n_n 1024 rfl rfl k
    | ⟨1, _⟩ => rfl

theorem norm_apply (x : FVec Ideal S512x1024 .f32) (g : FVec Ideal S1x1024 .f32) (r : Fin 512) (d : Fin 1024) :
    normK x g (ix2 r d) = rms 0x44800000#32 (fun k => x (ix2 r k)) d * g (ix2 0 d) :=
  (mulf_apply _ _ _).trans (congrArg₂ (· * ·) (rms_apply 0x44800000#32 x _ _ _ (by decide) r d)
    ((spread_apply _ (by decide) _ r d).trans (congrFun (same_cast g _) _)))

theorem hidden_apply (x : FVec Ideal S512x1024 .f32) (a h : FVec Ideal S512x512 .f32) (grp : FVec Ideal S1x1024 .f32) (gate : FVec Ideal S1x1x1024 .f32)
    (w : FVec Ideal S1024x1024 .bf16) (n2 : FVec Ideal S1x1024 .f32) (sc sh : FVec Ideal S1x1x1024 .f32) (r : Fin 512) (d : Fin 1024) :
    hiddenK x a h grp gate w n2 sc sh (ix2 r d)
      = hiddenRow x a h grp (fun d => gate (ix3 0 0 d)) (fun d => sc (ix3 0 0 d)) (fun d => sh (ix3 0 0 d)) w n2 r d := by
  unfold hiddenK k0_pay23 hiddenRow
  refine (congrFun (same_cast _ _) _).trans ((truncf_apply _ Gen.bitsLt_bf16_f32 _).trans ?_)
  refine (addf_apply _ _ _).trans (congrArg₂ (· + ·) ?_ ((spread_apply _ (by decide) _ r d).trans (mod_row sh d)))
  refine (mulf_apply _ _ _).trans (congrArg₂ (· * ·) ?_ ((spread_apply _ (by decide) _ r d).trans ((addf_apply _ _ _).trans (congrArg (_ + ·) (mod_row sc d)))))
  refine (norm_apply (addedK x a h grp gate w) n2 r d).trans ?_
  rw [show (fun k => addedK x a h grp gate w (ix2 r k)) = addedRow x a h grp (fun d => gate (ix3 0 0 d)) w r from
    funext fun k => added_apply x a h grp gate w r k]

/-- A row of the finished block. -/
theorem finish_apply (x acc : FVec Ideal S512x1024 .f32) (gate : FVec Ideal S1x1x1024 .f32) (P : FVec Ideal S512x1024 .f32) (g : FVec Ideal S1x1024 .f32)
    (r : Fin 512) (d : Fin 1024) :
    normK (lastK x acc gate P) g (ix2 r d)
      = rms 0x44800000#32 (fun k => x (ix2 r k) + gate (ix3 0 0 k) * (acc (ix2 r k) + P (ix2 r k))) d * g (ix2 0 d) := by
  refine (norm_apply _ g r d).trans (congrArg (fun v => rms 0x44800000#32 v d * g (ix2 0 d)) (funext fun k => ?_))
  refine (addf_apply _ _ _).trans (congrArg (_ + ·) ((mulf_apply _ _ _).trans (congrArg₂ (· * ·) ?_ (addf_apply _ _ _))))
  exact (spread_apply _ (by decide) _ r k).trans (mod_row gate k)

end Cert.Tail
end
-- ==== Proof.TailStart.lean ====
/- What one grid point leaves in the tail's scratch arrays: the rows with the merged heads' projection, the sum of ten tiles, and
   the eleventh tile staged for the next point. -/
module

public import proofs.«01_k».proof.Proof.TailMath
public import proofs.«01_k».proof.Proof.Gen.Kernel3Ideal.Value
public import Idealize.ShloMosaic.Lib.Pipeline.ReadBack

@[expose] public section

set_option maxRecDepth 16384

noncomputable section

namespace Cert.Tail

open Idealize.ShloMosaic Idealize.ShloMosaic.ValueIdx Idealize.ShloMosaic.Tactic Idealize.SL.Sem Cert.Layer Cert.Kernel3Ideal Cert.Kernel3Ideal.Gen

/-- The points that begin a block read the first batch's modulations: rows 2 to 4. -/
theorem off_begin : ∀ i : grid0.Coords, (i 0).val < 16 → k0_off1 i = ![2, 0, 0] ∧ k0_off2 i = ![4, 0, 0] ∧ k0_off3 i = ![3, 0, 0]
    ∧ k0_off5 i = ![2, 0, 0] ∧ k0_off6 i = ![4, 0, 0] ∧ k0_off7 i = ![3, 0, 0] := by decide +kernel

/-- The points that finish a block read its row 5. -/
theorem off_end : ∀ i : grid0.Coords, 1 ≤ (i 0).val → k0_off4 i = ![5, 0, 0] ∧ k0_off8 i = ![5, 0, 0] := by decide +kernel

/-- A whole block, as it is loaded. -/
theorem load_full {s : Shape} {e : EltTy} (arg : Memref sig .tc .vmem s e) (harg : arg.IsWhole) (x : Vec Ideal s e) {off : Fin s.rank → ℕ} (ho : off = fun _ => 0)
    (inb : ∀ b, off b + s.size b ≤ s.size b) :
    View.readAt (Elt Ideal) arg.view (Rect.unit (s := s) off s.size inb).toLoadRect (harg.unread x) = x := by
  subst ho
  exact (View.readAt_full _ _ _).trans (harg.read_unread (Val := Elt Ideal) x)

/-- A row of the modulations, read where it lies. -/
theorem mod_load (arg4 : Memref sig .tc .vmem S6x8x1024 .f32) (harg4 : arg4.IsWhole) (x3 : Vec Ideal S6x8x1024 .f32) (k : Fin 6) (off : Fin 3 → ℕ)
    (hoff : off = ![k.val, 0, 0]) (inb : ∀ a, off a + S1x1x1024.size a ≤ S6x8x1024.size a) (d : Fin 1024) :
    View.readAt (Elt Ideal) arg4.view (Rect.unit (s := S6x8x1024) off S1x1x1024.size inb).toLoadRect (harg4.unread x3) (ix3 0 0 d) = x3 (ix3 k 0 d) := by
  subst hoff
  refine Eq.trans (congrFun (harg4.read_unread (Val := Elt Ideal) x3) _) (congrArg x3 (funext fun a => Fin.ext ?_))
  refine (ValueKit.rect_emb_unit_val (s := S6x8x1024) _ _ inb (ix3 0 0 d) a).trans ?_
  match a with
  | ⟨0, _⟩ => rfl
  | ⟨1, _⟩ => rfl
  | ⟨2, _⟩ => exact Nat.zero_add _

/-- The normalised and modulated rows of a block. -/
def hidOf (x0 : S512x1024.Idx → EReal) (x1 x2 : S512x512.Idx → EReal) (x3 : S6x8x1024.Idx → EReal) (x4 : S1x1024.Idx → EReal)
    (x5 : S1024x1024.Idx → EReal) (x6 : S1x1024.Idx → EReal) : S512x1024.Idx → EReal := fun y =>
  hiddenRow x0 x1 x2 x4 (fun d => x3 (ix3 2 0 d)) (fun d => x3 (ix3 4 0 d)) (fun d => x3 (ix3 3 0 d)) x5 x6 (y 0) (y 1)

/-- What a grid point leaves for the next. -/
structure Carried (x0 : S512x1024.Idx → EReal) (x1 x2 : S512x512.Idx → EReal) (x3 : S6x8x1024.Idx → EReal) (x4 : S1x1024.Idx → EReal)
    (x5 : S1024x1024.Idx → EReal) (x6 : S1x1024.Idx → EReal) (x8 : S1024x5632.Idx → EReal) (x9 : S2x11x3x256.Idx → EReal) (x10 : S2x11x1x256.Idx → EReal)
    (x11 : S11x256x1024.Idx → EReal) (s1 s2 : S512x1024.Idx → EReal) (s3 s4 s5 : S2x528x256.Idx → EReal) : Prop where
  added : ∀ r d, s1 (ix2 r d) = addedRow x0 x1 x2 x4 (fun d => x3 (ix3 2 0 d)) x5 r d
  acc : ∀ s l d, s2 (ix2 (seqRow s l) d) = tiles (hidOf x0 x1 x2 x3 x4 x5 x6) x8 x9 x10 x11 10 s l d
  staged : Staged s3 (upTile (hidOf x0 x1 x2 x3 x4 x5 x6) x8 10)
  pads4 : Padded s4
  pads5 : Padded s5

/-- The first two tiles' contributions. -/
theorem two_tiles (h : S512x1024.Idx → EReal) (arg9 : Memref sig .tc .vmem S1024x5632 .bf16) (f9 : BufTy.Contents (Elt Ideal) arg9.view.ty)
    (a10 : Memref sig .tc .vmem S2x11x3x256 .f32) (f10 : BufTy.Contents (Elt Ideal) a10.view.ty)
    (a11 : Memref sig .tc .vmem S2x11x1x256 .f32) (f11 : BufTy.Contents (Elt Ideal) a11.view.ty)
    (a12 : Memref sig .tc .vmem S11x256x1024 .bf16) (f12 : BufTy.Contents (Elt Ideal) a12.view.ty)
    (a b : Memref sig .tc .vmem S2x528x256 .f32) (f : BufTy.Contents (Elt Ideal) a.view.ty) (g : BufTy.Contents (Elt Ideal) b.view.ty)
    (hf : Staged (a.view.read (Elt Ideal) f) (upTile h (arg9.view.read (Elt Ideal) f9) 0))
    (hg : Staged (b.view.read (Elt Ideal) g) (upTile h (arg9.view.read (Elt Ideal) f9) 1)) (s : Fin 2) (l : Fin 256) (d : Fin 1024) :
    prodK (half a f 0 inb_S2x528x256_S1x528x256_0_0_0)
        (View.readAt (Elt Ideal) a10.view (Rect.unit (s := S2x11x3x256) ![0, 0, 0, 0] S1x1x3x256.size inb_S2x11x3x256_S1x1x3x256_0_0_0_0).toLoadRect f10)
        (View.readAt (Elt Ideal) a11.view (Rect.unit (s := S2x11x1x256) ![0, 0, 0, 0] S1x1x1x256.size inb_S2x11x1x256_S1x1x1x256_0_0_0_0).toLoadRect f11)
        (half a f 1 inb_S2x528x256_S1x528x256_1_0_0)
        (View.readAt (Elt Ideal) a10.view (Rect.unit (s := S2x11x3x256) ![1, 0, 0, 0] S1x1x3x256.size inb_S2x11x3x256_S1x1x3x256_1_0_0_0).toLoadRect f10)
        (View.readAt (Elt Ideal) a11.view (Rect.unit (s := S2x11x1x256) ![1, 0, 0, 0] S1x1x1x256.size inb_S2x11x1x256_S1x1x1x256_1_0_0_0).toLoadRect f11)
        (View.readAt (Elt Ideal) a12.view (Rect.unit (s := S11x256x1024) ![0, 0, 0] S1x256x1024.size inb_S11x256x1024_S1x256x1024_0_0_0).toLoadRect f12) (ix2 (seqRow s l) d)
      + prodK (half b g 0 inb_S2x528x256_S1x528x256_0_0_0)
        (View.readAt (Elt Ideal) a10.view (Rect.unit (s := S2x11x3x256) ![0, 1, 0, 0] S1x1x3x256.size inb_S2x11x3x256_S1x1x3x256_0_1_0_0).toLoadRect f10)
        (View.readAt (Elt Ideal) a11.view (Rect.unit (s := S2x11x1x256) ![0, 1, 0, 0] S1x1x1x256.size inb_S2x11x1x256_S1x1x1x256_0_1_0_0).toLoadRect f11)
        (half b g 1 inb_S2x528x256_S1x528x256_1_0_0)
        (View.readAt (Elt Ideal) a10.view (Rect.unit (s := S2x11x3x256) ![1, 1, 0, 0] S1x1x3x256.size inb_S2x11x3x256_S1x1x3x256_1_1_0_0).toLoadRect f10)
        (View.readAt (Elt Ideal) a11.view (Rect.unit (s := S2x11x1x256) ![1, 1, 0, 0] S1x1x1x256.size inb_S2x11x1x256_S1x1x1x256_1_1_0_0).toLoadRect f11)
        (View.readAt (Elt Ideal) a12.view (Rect.unit (s := S11x256x1024) ![1, 0, 0] S1x256x1024.size inb_S11x256x1024_S1x256x1024_1_0_0).toLoadRect f12) (ix2 (seqRow s l) d)
      = tiles h (arg9.view.read (Elt Ideal) f9) (a10.view.read (Elt Ideal) f10) (a11.view.read (Elt Ideal) f11) (a12.view.read (Elt Ideal) f12) 2 s l d := by
  have t1 := tiles_succ h (arg9.view.read (Elt Ideal) f9) (a10.view.read (Elt Ideal) f10) (a11.view.read (Elt Ideal) f11) (a12.view.read (Elt Ideal) f12) 0 0 rfl s l d
  have t2 := tiles_succ h (arg9.view.read (Elt Ideal) f9) (a10.view.read (Elt Ideal) f10) (a11.view.read (Elt Ideal) f11) (a12.view.read (Elt Ideal) f12) 1 1 rfl s l d
  have t0 : tiles h (arg9.view.read (Elt Ideal) f9) (a10.view.read (Elt Ideal) f10) (a11.view.read (Elt Ideal) f11) (a12.view.read (Elt Ideal) f12) 0 s l d = 0 :=
    Finset.sum_range_zero _
  refine Eq.trans ?_ (t2.trans (congrArg (· + _) (t1.trans (by rw [t0, zero_add])))).symm
  exact congrArg₂ (· + ·)
    (down_apply a f _ hf a10 f10 a11 f11 a12 f12 0 _ _ _ _ _ _ _ rfl rfl rfl rfl rfl _ _ _ _ _ s l d)
    (down_apply b g _ hg a10 f10 a11 f11 a12 f12 1 _ _ _ _ _ _ _ rfl rfl rfl rfl rfl _ _ _ _ _ s l d)

section Point

variable (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S6x8x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S2x11x3x256 .f32) (harg10 : arg10.IsWhole) (arg11 : Memref sig .tc .vmem S2x11x1x256 .f32) (harg11 : arg11.IsWhole) (arg12 : Memref sig .tc .vmem S11x256x1024 .bf16) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x1024 .f32) (harg16 : arg16.IsWhole) (arg17 : Memref sig .tc .vmem S2x528x256 .f32) (harg17 : arg17.IsWhole) (arg18 : Memref sig .tc .vmem S2x528x256 .f32) (harg18 : arg18.IsWhole) (arg19 : Memref sig .tc .vmem S2x528x256 .f32) (harg19 : arg19.IsWhole)
  (x0 : Vec Ideal S512x1024 .f32) (x1 : Vec Ideal S512x512 .f32) (x2 : Vec Ideal S512x512 .f32) (x3 : Vec Ideal S6x8x1024 .f32) (x4 : Vec Ideal S1x1024 .f32)
  (x5 : Vec Ideal S1024x1024 .bf16) (x6 : Vec Ideal S1x1024 .f32) (x7 : Vec Ideal S1x1024 .f32) (x8 : Vec Ideal S1024x5632 .bf16)
  (x9 : Vec Ideal S2x11x3x256 .f32) (x10 : Vec Ideal S2x11x1x256 .f32) (x11 : Vec Ideal S11x256x1024 .bf16)

/-- The normalised and modulated rows, from the loaded blocks. -/
theorem hidden_load (o1 o2 o3 : Fin 3 → ℕ) (h1 : o1 = ![2, 0, 0]) (h2 : o2 = ![4, 0, 0]) (h3 : o3 = ![3, 0, 0])
    (i1 : ∀ a, o1 a + S1x1x1024.size a ≤ S6x8x1024.size a) (i2 : ∀ a, o2 a + S1x1x1024.size a ≤ S6x8x1024.size a)
    (i3 : ∀ a, o3 a + S1x1x1024.size a ≤ S6x8x1024.size a) :
    hiddenK (View.readAt (Elt Ideal) arg1.view (Rect.unit (s := S512x1024) ![0, 0] S512x1024.size inb_S512x1024_S512x1024_0_0).toLoadRect (harg1.unread x0))
        (View.readAt (Elt Ideal) arg2.view (Rect.unit (s := S512x512) ![0, 0] S512x512.size inb_S512x512_S512x512_0_0).toLoadRect (harg2.unread x1))
        (View.readAt (Elt Ideal) arg3.view (Rect.unit (s := S512x512) ![0, 0] S512x512.size inb_S512x512_S512x512_0_0).toLoadRect (harg3.unread x2))
        (View.readAt (Elt Ideal) arg5.view (Rect.unit (s := S1x1024) ![0, 0] S1x1024.size inb_S1x1024_S1x1024_0_0).toLoadRect (harg5.unread x4))
         (View.readAt (Elt Ideal) arg4.view (Rect.unit (s := S6x8x1024) o1 S1x1x1024.size i1).toLoadRect (harg4.unread x3))
        (View.readAt (Elt Ideal) arg6.view (Rect.unit (s := S1024x1024) ![0, 0] S1024x1024.size inb_S1024x1024_S1024x1024_0_0).toLoadRect (harg6.unread x5)) (View.readAt (Elt Ideal) arg7.view (Rect.unit (s := S1x1024) ![0, 0] S1x1024.size inb_S1x1024_S1x1024_0_0).toLoadRect (harg7.unread x6))
        (View.readAt (Elt Ideal) arg4.view (Rect.unit (s := S6x8x1024) o2 S1x1x1024.size i2).toLoadRect (harg4.unread x3))
        (View.readAt (Elt Ideal) arg4.view (Rect.unit (s := S6x8x1024) o3 S1x1x1024.size i3).toLoadRect (harg4.unread x3))
      = hidOf x0 x1 x2 x3 x4 x5 x6 := by
  have e2 : (![0, 0] : Fin 2 → ℕ) = fun _ => 0 := funext fun b => match b with
    | ⟨0, _⟩ => rfl
    | ⟨1, _⟩ => rfl
  funext y
  rw [load_full arg1 harg1 x0 e2, load_full arg2 harg2 x1 e2, load_full arg3 harg3 x2 e2, load_full arg5 harg5 x4 e2, load_full arg6 harg6 x5 e2,
    load_full arg7 harg7 x6 e2]
  refine (congrArg _ (show y = ix2 (y 0) (y 1) from funext fun b => match b with
    | ⟨0, _⟩ => rfl
    | ⟨1, _⟩ => rfl)).trans ((hidden_apply _ _ _ _ _ _ _ _ _ (y 0) (y 1)).trans ?_)
  unfold hidOf
  simp only [mod_load arg4 harg4 x3 2 o1 h1, mod_load arg4 harg4 x3 4 o2 h2, mod_load arg4 harg4 x3 3 o3 h3]

/-- The rows with the merged heads' projection, from the loaded blocks. -/
theorem added_load (o1 : Fin 3 → ℕ) (h1 : o1 = ![2, 0, 0]) (i1 : ∀ a, o1 a + S1x1x1024.size a ≤ S6x8x1024.size a) (r : Fin 512) (d : Fin 1024) :
    addedK (View.readAt (Elt Ideal) arg1.view (Rect.unit (s := S512x1024) ![0, 0] S512x1024.size inb_S512x1024_S512x1024_0_0).toLoadRect (harg1.unread x0))
        (View.readAt (Elt Ideal) arg2.view (Rect.unit (s := S512x512) ![0, 0] S512x512.size inb_S512x512_S512x512_0_0).toLoadRect (harg2.unread x1))
        (View.readAt (Elt Ideal) arg3.view (Rect.unit (s := S512x512) ![0, 0] S512x512.size inb_S512x512_S512x512_0_0).toLoadRect (harg3.unread x2))
        (View.readAt (Elt Ideal) arg5.view (Rect.unit (s := S1x1024) ![0, 0] S1x1024.size inb_S1x1024_S1x1024_0_0).toLoadRect (harg5.unread x4))
         (View.readAt (Elt Ideal) arg4.view (Rect.unit (s := S6x8x1024) o1 S1x1x1024.size i1).toLoadRect (harg4.unread x3)) (View.readAt (Elt Ideal) arg6.view (Rect.unit (s := S1024x1024) ![0, 0] S1024x1024.size inb_S1024x1024_S1024x1024_0_0).toLoadRect (harg6.unread x5)) (ix2 r d)
      = addedRow x0 x1 x2 x4 (fun d => x3 (ix3 2 0 d)) x5 r d := by
  have e2 : (![0, 0] : Fin 2 → ℕ) = fun _ => 0 := funext fun b => match b with
    | ⟨0, _⟩ => rfl
    | ⟨1, _⟩ => rfl
  rw [load_full arg1 harg1 x0 e2, load_full arg2 harg2 x1 e2, load_full arg3 harg3 x2 e2, load_full arg5 harg5 x4 e2, load_full arg6 harg6 x5 e2]
  refine (added_apply _ _ _ _ _ _ r d).trans ?_
  simp only [mod_load arg4 harg4 x3 2 o1 h1]

/-- Two tiles summed and the next one staged, the loop can begin. -/
theorem state_two (x9 : BufTy.Contents (Elt Ideal) arg9.view.ty) (x10 : BufTy.Contents (Elt Ideal) arg10.view.ty)
    (x11 : BufTy.Contents (Elt Ideal) arg11.view.ty) (x12 : BufTy.Contents (Elt Ideal) arg12.view.ty) (x14 : BufTy.Contents (Elt Ideal) arg14.view.ty)
    (f16 : BufTy.Contents (Elt Ideal) arg16.view.ty) (f17 : BufTy.Contents (Elt Ideal) arg17.view.ty) (f18 : BufTy.Contents (Elt Ideal) arg18.view.ty)
    (f19 : BufTy.Contents (Elt Ideal) arg19.view.ty)
    (h19 : Staged (arg19.view.read (Elt Ideal) f19) (upTile (arg14.view.read (Elt Ideal) x14) (arg9.view.read (Elt Ideal) x9) 0))
    (h18 : Staged (arg18.view.read (Elt Ideal) f18) (upTile (arg14.view.read (Elt Ideal) x14) (arg9.view.read (Elt Ideal) x9) 1))
    (h17 : Staged (arg17.view.read (Elt Ideal) f17) (upTile (arg14.view.read (Elt Ideal) x14) (arg9.view.read (Elt Ideal) x9) 2))
    (h16 : ∀ s l d, arg16.view.read (Elt Ideal) f16 (ix2 (seqRow s l) d)
      = prodK (half arg19 f19 0 inb_S2x528x256_S1x528x256_0_0_0) (View.readAt (Elt Ideal) arg10.view (Rect.unit (s := S2x11x3x256) ![0, 0, 0, 0] S1x1x3x256.size inb_S2x11x3x256_S1x1x3x256_0_0_0_0).toLoadRect x10)
           (View.readAt (Elt Ideal) arg11.view (Rect.unit (s := S2x11x1x256) ![0, 0, 0, 0] S1x1x1x256.size inb_S2x11x1x256_S1x1x1x256_0_0_0_0).toLoadRect x11)
           (half arg19 f19 1 inb_S2x528x256_S1x528x256_1_0_0) (View.readAt (Elt Ideal) arg10.view (Rect.unit (s := S2x11x3x256) ![1, 0, 0, 0] S1x1x3x256.size inb_S2x11x3x256_S1x1x3x256_1_0_0_0).toLoadRect x10)
           (View.readAt (Elt Ideal) arg11.view (Rect.unit (s := S2x11x1x256) ![1, 0, 0, 0] S1x1x1x256.size inb_S2x11x1x256_S1x1x1x256_1_0_0_0).toLoadRect x11)
           (View.readAt (Elt Ideal) arg12.view (Rect.unit (s := S11x256x1024) ![0, 0, 0] S1x256x1024.size inb_S11x256x1024_S1x256x1024_0_0_0).toLoadRect x12)
           (ix2 (seqRow s l) d)
        + prodK (half arg18 f18 0 inb_S2x528x256_S1x528x256_0_0_0) (View.readAt (Elt Ideal) arg10.view (Rect.unit (s := S2x11x3x256) ![0, 1, 0, 0] S1x1x3x256.size inb_S2x11x3x256_S1x1x3x256_0_1_0_0).toLoadRect x10)
           (View.readAt (Elt Ideal) arg11.view (Rect.unit (s := S2x11x1x256) ![0, 1, 0, 0] S1x1x1x256.size inb_S2x11x1x256_S1x1x1x256_0_1_0_0).toLoadRect x11)
           (half arg18 f18 1 inb_S2x528x256_S1x528x256_1_0_0) (View.readAt (Elt Ideal) arg10.view (Rect.unit (s := S2x11x3x256) ![1, 1, 0, 0] S1x1x3x256.size inb_S2x11x3x256_S1x1x3x256_1_1_0_0).toLoadRect x10)
           (View.readAt (Elt Ideal) arg11.view (Rect.unit (s := S2x11x1x256) ![1, 1, 0, 0] S1x1x1x256.size inb_S2x11x1x256_S1x1x1x256_1_1_0_0).toLoadRect x11)
           (View.readAt (Elt Ideal) arg12.view (Rect.unit (s := S11x256x1024) ![1, 0, 0] S1x256x1024.size inb_S11x256x1024_S1x256x1024_1_0_0).toLoadRect x12)
           (ix2 (seqRow s l) d)) :
    State arg9 arg10 arg11 arg12 arg14 arg16 arg17 arg18 x9 x10 x11 x12 x14 2 f16 f17 f18 :=
  ⟨fun s l d => (h16 s l d).trans (two_tiles _ arg9 x9 arg10 x10 arg11 x11 arg12 x12 arg19 arg18 f19 f18 h19 h18 s l d), h17, h18.pads⟩

/-- The loop's state over the arrays' contents. -/
theorem State.plain {x9 : BufTy.Contents (Elt Ideal) arg9.view.ty} {x10 : BufTy.Contents (Elt Ideal) arg10.view.ty}
    {x11 : BufTy.Contents (Elt Ideal) arg11.view.ty} {x12 : BufTy.Contents (Elt Ideal) arg12.view.ty} {x14 : BufTy.Contents (Elt Ideal) arg14.view.ty}
    {n : Fin 11} {f16 : BufTy.Contents (Elt Ideal) arg16.view.ty} {f17 : BufTy.Contents (Elt Ideal) arg17.view.ty} {f18 : BufTy.Contents (Elt Ideal) arg18.view.ty}
    (hs : State arg9 arg10 arg11 arg12 arg14 arg16 arg17 arg18 x9 x10 x11 x12 x14 n f16 f17 f18) {h : S512x1024.Idx → EReal} {wu : S1024x5632.Idx → EReal}
    {cw : S2x11x3x256.Idx → EReal} {cb : S2x11x1x256.Idx → EReal} {wd : S11x256x1024.Idx → EReal} (h14 : arg14.view.read (Elt Ideal) x14 = h)
    (h9 : arg9.view.read (Elt Ideal) x9 = wu) (h10 : arg10.view.read (Elt Ideal) x10 = cw) (h11 : arg11.view.read (Elt Ideal) x11 = cb)
    (h12 : arg12.view.read (Elt Ideal) x12 = wd) :
    (∀ s l d, arg16.view.read (Elt Ideal) f16 (ix2 (seqRow s l) d) = tiles h wu cw cb wd n.val s l d)
      ∧ Staged (arg17.view.read (Elt Ideal) f17) (upTile h wu n) ∧ Padded (arg18.view.read (Elt Ideal) f18) := by
  subst h14 h9 h10 h11 h12
  exact ⟨hs.acc, hs.staged, hs.pads⟩

section First

variable (hc0 : cond0_0 i) (hc1 : ¬cond0_1 i) (hc2 : ¬cond0_2 i) (hc3 : cond0_3 i)

/-- The first point's run. -/
abbrev runA := kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11

/-- The normalised and modulated rows the first point stages. -/
theorem rows_A (hi : (i 0).val < 16) :
    arg14.view.read (Elt Ideal) (arg14.view.writes (Elt Ideal) arg14.view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3).2.2.2.2.2.2.1) = hidOf x0 x1 x2 x3 x4 x5 x6 := by
  unfold runA kernelRun0_A
  dsimp only
  unfold kernelRun0_A.sl.HS0_1
  refine (View.read_writes_full arg14.view _ _ _ _).trans ?_
  unfold kernelRun0_A.sl.r_5 kernelRun0_A.sl.r_3 kernelRun0_A.sl.r kernelRun0_A.sl.r_1 kernelRun0_A.sl.r_2
  exact hidden_load arg1 harg1 arg2 harg2 arg3 harg3 arg4 harg4 arg5 harg5 arg6 harg6 arg7 harg7 x0 x1 x2 x3 x4 x5 x6 _ _ _ (off_begin i hi).1 (off_begin i hi).2.1 (off_begin i hi).2.2.1 _ _ _

/-- The first point stages the first tile. -/
theorem staged_A :
    Staged (arg19.view.read (Elt Ideal) (arg19.view.writes (Elt Ideal) arg19.view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3).2.2.2.2.2.1))
      (upTile (arg14.view.read (Elt Ideal) (arg14.view.writes (Elt Ideal) arg14.view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3).2.2.2.2.2.2.1))
        (arg9.view.read (Elt Ideal) (harg9.unread x8)) 0) := by
  unfold runA kernelRun0_A
  dsimp only
  unfold kernelRun0_A.sl.HS5_6
  refine staged_store arg19 _ _ _ _ _ _ _ (padded_store arg19 _ [] _ _ _ _ _ _ _ _ (fun _ => Ideal.ofBits_zero_f32) (fun _ => Ideal.ofBits_zero_f32)
    (fun _ => Ideal.ofBits_zero_f32) (fun _ => Ideal.ofBits_zero_f32)) (fun r c => ?_) (fun r c => ?_)
  · refine (up_apply _ arg9 _ 0 0 _ 0 rfl rfl _ r c).trans (congrArg (fun h => upTile h _ 0 0 r c) (View.readAt_full _ _ _))
  · refine (up_apply _ arg9 _ 0 1 _ 2816 rfl rfl _ r c).trans (congrArg (fun h => upTile h _ 0 1 r c) (View.readAt_full _ _ _))

/-- The first point's tiles. -/
theorem state_A :
    State arg9 arg10 arg11 arg12 arg14 arg16 arg17 arg18 (harg9.unread x8) (harg10.unread x9) (harg11.unread x10) (harg12.unread x11)
      (arg14.view.writes (Elt Ideal) arg14.view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3).2.2.2.2.2.2.1) 10
      (arg16.view.writes (Elt Ideal) arg16.view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3).2.2.1)
      (arg17.view.writes (Elt Ideal) arg17.view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3).2.2.2.1)
      (arg18.view.writes (Elt Ideal) arg18.view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3).2.2.2.2.1) := by
  unfold runA kernelRun0_A
  dsimp only
  rw [View.writes_append, View.writes_append, View.writes_append]
  refine loop_state i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc3 _ _ _ _ _ c _ _ _ ?_ _ le_rfl 10 rfl
  refine state_two arg9 arg10 arg11 arg12 arg14 arg16 arg17 arg18 arg19 _ _ _ _ _ _ _ _ _ (staged_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3) ?_ ?_ fun s l d => ?_
  · unfold kernelRun0_A.sl.HS4_6 kernelRun0_A.sl.r_6
    refine staged_store arg18 _ _ _ _ _ _ _ (padded_store arg18 _ [] _ _ _ _ _ _ _ _ (fun _ => Ideal.ofBits_zero_f32) (fun _ => Ideal.ofBits_zero_f32)
      (fun _ => Ideal.ofBits_zero_f32) (fun _ => Ideal.ofBits_zero_f32)) (fun r c => ?_) (fun r c => ?_)
    · refine (up_apply _ arg9 _ 1 0 _ 256 rfl rfl _ r c).trans (congrArg (fun h => upTile h _ 1 0 r c) (View.readAt_full _ _ _))
    · refine (up_apply _ arg9 _ 1 1 _ 3072 rfl rfl _ r c).trans (congrArg (fun h => upTile h _ 1 1 r c) (View.readAt_full _ _ _))
  · unfold kernelRun0_A.sl.HS3_6
    refine staged_store arg17 _ _ _ _ _ _ _ (padded_store arg17 _ [] _ _ _ _ _ _ _ _ (fun _ => Ideal.ofBits_zero_f32) (fun _ => Ideal.ofBits_zero_f32)
      (fun _ => Ideal.ofBits_zero_f32) (fun _ => Ideal.ofBits_zero_f32)) (fun r c => ?_) (fun r c => ?_)
    · refine (up_apply _ arg9 _ 2 0 _ 512 rfl rfl _ r c).trans (congrArg (fun h => upTile h _ 2 0 r c) (View.readAt_full _ _ _))
    · refine (up_apply _ arg9 _ 2 1 _ 3328 rfl rfl _ r c).trans (congrArg (fun h => upTile h _ 2 1 r c) (View.readAt_full _ _ _))
  · unfold kernelRun0_A.sl.HS2_2
    refine (congrFun (View.read_writes_full arg16.view _ _ _ _) _).trans ?_
    unfold kernelRun0_A.sl.r_21 kernelRun0_A.sl.r_22 kernelRun0_A.sl.r_23 kernelRun0_A.sl.r_24 kernelRun0_A.sl.r_16 kernelRun0_A.sl.r_17 kernelRun0_A.sl.r_18 kernelRun0_A.sl.r_19
      kernelRun0_A.sl.r_20
    refine (congrFun (second_product _ _ _ _ _ _ _ _) _).trans ?_
    refine (addf_apply _ _ _).trans (congrArg₂ (· + ·) ?_ ?_)
    · unfold kernelRun0_A.sl.v357 kernelRun0_A.sl.HS2_1
      refine (congrFun (View.readCov_full arg16.view _ _ _ _) _).trans ?_
      unfold kernelRun0_A.sl.r_10 kernelRun0_A.sl.r_11 kernelRun0_A.sl.r_12 kernelRun0_A.sl.r_13 kernelRun0_A.sl.r_14 kernelRun0_A.sl.r_15 kernelRun0_A.sl.r_7 kernelRun0_A.sl.r_8
        kernelRun0_A.sl.r_9
      exact congrFun (first_product _ _ _ _ _ _ _) _
    · rfl

/-- The first point leaves what the next one needs. -/
theorem carried_A (hi : (i 0).val < 16) :
    Carried x0 x1 x2 x3 x4 x5 x6 x8 x9 x10 x11 (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11) (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11)
      (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11) (sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11) (sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11) := by
  obtain ⟨ha, ht, hp⟩ := State.plain arg9 arg10 arg11 arg12 arg14 arg16 arg17 arg18 (state_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3) (rows_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3 hi)
    (harg9.read_unread (Val := Elt Ideal) x8) (harg10.read_unread (Val := Elt Ideal) x9) (harg11.read_unread (Val := Elt Ideal) x10)
    (harg12.read_unread (Val := Elt Ideal) x11)
  have h19 := staged_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3
  have s2 : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 = arg16.view.read (Elt Ideal) (arg16.view.writes (Elt Ideal) arg16.view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3).2.2.1) :=
    (View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11)).trans (View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11)).symm
  have s3 : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 = arg17.view.read (Elt Ideal) (arg17.view.writes (Elt Ideal) arg17.view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3).2.2.2.1) :=
    (View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11)).trans (View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11)).symm
  have s4 : sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 = arg18.view.read (Elt Ideal) (arg18.view.writes (Elt Ideal) arg18.view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3).2.2.2.2.1) :=
    (View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11)).trans (View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11)).symm
  have s5 : sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 = arg19.view.read (Elt Ideal) (arg19.view.writes (Elt Ideal) arg19.view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hc0 hc1 hc2 hc3).2.2.2.2.2.1) :=
    (View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11)).trans (View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11)).symm
  refine ⟨fun r d => ?_, ?_, ?_, ?_, ?_⟩
  · unfold sout0_A_1 kernelRun0_A
    dsimp only
    unfold kernelRun0_A.sl.HS1_1
    refine (congrFun (View.read_writes_full VS0_1 _ _ _ _) _).trans ?_
    unfold kernelRun0_A.sl.r_4 kernelRun0_A.sl.r_3 kernelRun0_A.sl.r kernelRun0_A.sl.r_1 kernelRun0_A.sl.r_2
    refine (congrFun (kept_first _) _).trans ?_
    exact added_load arg1 harg1 arg2 harg2 arg3 harg3 arg4 harg4 arg5 harg5 arg6 harg6 x0 x1 x2 x3 x4 x5 _ (off_begin i hi).1 _ r d
  · rw [s2]; exact ha
  · rw [s3]; exact ht
  · rw [s4]; exact hp
  · rw [s5]; exact h19.pads

end First

section Middle

variable (xs1 : Vec Ideal S512x1024 .f32) (xs2 : Vec Ideal S512x1024 .f32) (xs3 : Vec Ideal S2x528x256 .f32) (xs4 : Vec Ideal S2x528x256 .f32) (xs5 : Vec Ideal S2x528x256 .f32)
  (hc0 : ¬cond0_0 i) (hc1 : cond0_1 i) (hc2 : ¬cond0_2 i) (hc3 : cond0_3 i)

/-- The middle points' run. -/
abbrev runB := kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs1 xs2 xs3 xs4 xs5

/-- The normalised and modulated rows a middle point stages. -/
theorem rows_B (hi : (i 0).val < 16) :
    arg14.view.read (Elt Ideal) (arg14.view.writes (Elt Ideal) arg14.view.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xs1 xs2 xs3 xs4 xs5 hc0 hc1 hc2 hc3).2.2.2.2.2.2.1) = hidOf x0 x1 x2 x3 x4 x5 x6 := by
  unfold runB kernelRun0_B
  dsimp only
  unfold kernelRun0_B.sl.HS0_1
  refine (View.read_writes_full arg14.view _ _ _ _).trans ?_
  unfold kernelRun0_B.sl.r_25 kernelRun0_B.sl.r_24 kernelRun0_B.sl.r_23 kernelRun0_B.sl.r_22 kernelRun0_B.sl.r_21 kernelRun0_B.sl.r_20 kernelRun0_B.sl.r_19 kernelRun0_B.sl.r_18
  refine (hidden_middle _ _ _ _ _ _ _ _ _).trans ?_
  exact hidden_load arg1 harg1 arg2 harg2 arg3 harg3 arg4 harg4 arg5 harg5 arg6 harg6 arg7 harg7 x0 x1 x2 x3 x4 x5 x6 _ _ _ (off_begin i hi).2.2.2.1 (off_begin i hi).2.2.2.2.1 (off_begin i hi).2.2.2.2.2 _ _ _

/-- A middle point stages the first tile. -/
theorem staged_B (hp : Padded xs5) :
    Staged (arg19.view.read (Elt Ideal) (arg19.view.writes (Elt Ideal) (harg19.unread xs5) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xs1 xs2 xs3 xs4 xs5 hc0 hc1 hc2 hc3).2.2.2.2.2.1))
      (upTile (arg14.view.read (Elt Ideal) (arg14.view.writes (Elt Ideal) arg14.view.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xs1 xs2 xs3 xs4 xs5 hc0 hc1 hc2 hc3).2.2.2.2.2.2.1))
        (arg9.view.read (Elt Ideal) (harg9.unread x8)) 0) := by
  unfold runB kernelRun0_B
  dsimp only
  unfold kernelRun0_B.sl.HS5_2
  refine staged_store arg19 _ _ _ _ _ _ _ (by rw [View.writes_nil, harg19.read_unread (Val := Elt Ideal) xs5]; exact hp) (fun r c => ?_) (fun r c => ?_)
  · refine (up_apply _ arg9 _ 0 0 _ 0 rfl rfl _ r c).trans (congrArg (fun h => upTile h _ 0 0 r c) (View.readAt_full _ _ _))
  · refine (up_apply _ arg9 _ 0 1 _ 2816 rfl rfl _ r c).trans (congrArg (fun h => upTile h _ 0 1 r c) (View.readAt_full _ _ _))

/-- The middle points' tiles. -/
theorem state_B (hp3 : Padded xs3) (hp4 : Padded xs4) (hp5 : Padded xs5) :
    State arg9 arg10 arg11 arg12 arg14 arg16 arg17 arg18 (harg9.unread x8) (harg10.unread x9) (harg11.unread x10) (harg12.unread x11)
      (arg14.view.writes (Elt Ideal) arg14.view.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xs1 xs2 xs3 xs4 xs5 hc0 hc1 hc2 hc3).2.2.2.2.2.2.1) 10
      (arg16.view.writes (Elt Ideal) arg16.view.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xs1 xs2 xs3 xs4 xs5 hc0 hc1 hc2 hc3).2.2.1)
      (arg17.view.writes (Elt Ideal) (harg17.unread xs3) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xs1 xs2 xs3 xs4 xs5 hc0 hc1 hc2 hc3).2.2.2.1)
      (arg18.view.writes (Elt Ideal) (harg18.unread xs4) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xs1 xs2 xs3 xs4 xs5 hc0 hc1 hc2 hc3).2.2.2.2.1) := by
  unfold runB kernelRun0_B
  dsimp only
  rw [View.writes_append, View.writes_append, View.writes_append]
  refine loop_state i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc3 _ _ _ _ _ c _ _ _ ?_ _ le_rfl 10 rfl
  refine state_two arg9 arg10 arg11 arg12 arg14 arg16 arg17 arg18 arg19 _ _ _ _ _ _ _ _ _ (staged_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xs1 xs2 xs3 xs4 xs5 hc0 hc1 hc2 hc3 hp5) ?_ ?_ fun s l d => ?_
  · unfold kernelRun0_B.sl.HS4_2
    refine staged_store arg18 _ _ _ _ _ _ _ (by rw [View.writes_nil, harg18.read_unread (Val := Elt Ideal) xs4]; exact hp4) (fun r c => ?_) (fun r c => ?_)
    · refine (up_apply _ arg9 _ 1 0 _ 256 rfl rfl _ r c).trans (congrArg (fun h => upTile h _ 1 0 r c) (View.readAt_full _ _ _))
    · refine (up_apply _ arg9 _ 1 1 _ 3072 rfl rfl _ r c).trans (congrArg (fun h => upTile h _ 1 1 r c) (View.readAt_full _ _ _))
  · refine staged_store arg17 _ _ _ _ _ _ _ (by rw [View.writes_nil, harg17.read_unread (Val := Elt Ideal) xs3]; exact hp3) (fun r c => ?_) (fun r c => ?_)
    · refine (up_apply _ arg9 _ 2 0 _ 512 rfl rfl _ r c).trans (congrArg (fun h => upTile h _ 2 0 r c) (View.readAt_full _ _ _))
    · refine (up_apply _ arg9 _ 2 1 _ 3328 rfl rfl _ r c).trans (congrArg (fun h => upTile h _ 2 1 r c) (View.readAt_full _ _ _))
  · unfold kernelRun0_B.sl.HS2_2
    refine (congrFun (View.read_writes_full arg16.view _ _ _ _) _).trans ?_
    unfold kernelRun0_B.sl.r_34 kernelRun0_B.sl.r_35 kernelRun0_B.sl.r_33
    refine (congrFun (second_product' _ _ _ _ _ _ _ _) _).trans ?_
    refine (addf_apply _ _ _).trans (congrArg₂ (· + ·) ?_ ?_)
    · unfold kernelRun0_B.sl.v458 kernelRun0_B.sl.HS2_1
      refine (congrFun (View.readCov_full arg16.view _ _ _ _) _).trans ?_
      unfold kernelRun0_B.sl.r_30 kernelRun0_B.sl.r_31 kernelRun0_B.sl.r_32 kernelRun0_B.sl.r_26 kernelRun0_B.sl.r_27 kernelRun0_B.sl.r_28 kernelRun0_B.sl.r_29
      exact congrFun (first_product' _ _ _ _ _ _ _) _
    · rfl

/-- A middle point leaves what the next one needs. -/
theorem carried_B (hi : (i 0).val < 16) (hp3 : Padded xs3) (hp4 : Padded xs4) (hp5 : Padded xs5) :
    Carried x0 x1 x2 x3 x4 x5 x6 x8 x9 x10 x11 (sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs1 xs2 xs3 xs4 xs5) (sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs1 xs2 xs3 xs4 xs5)
      (sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs1 xs2 xs3 xs4 xs5) (sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs1 xs2 xs3 xs4 xs5) (sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs1 xs2 xs3 xs4 xs5) := by
  obtain ⟨ha, ht, hp⟩ := State.plain arg9 arg10 arg11 arg12 arg14 arg16 arg17 arg18 (state_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xs1 xs2 xs3 xs4 xs5 hc0 hc1 hc2 hc3 hp3 hp4 hp5) (rows_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xs1 xs2 xs3 xs4 xs5 hc0 hc1 hc2 hc3 hi)
    (harg9.read_unread (Val := Elt Ideal) x8) (harg10.read_unread (Val := Elt Ideal) x9) (harg11.read_unread (Val := Elt Ideal) x10)
    (harg12.read_unread (Val := Elt Ideal) x11)
  have h19 := staged_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xs1 xs2 xs3 xs4 xs5 hc0 hc1 hc2 hc3 hp5
  have s2 : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs1 xs2 xs3 xs4 xs5 = arg16.view.read (Elt Ideal) (arg16.view.writes (Elt Ideal) arg16.view.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xs1 xs2 xs3 xs4 xs5 hc0 hc1 hc2 hc3).2.2.1) :=
    (View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs1 xs2 xs3 xs4 xs5)).trans (View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs1 xs2 xs3 xs4 xs5)).symm
  refine ⟨fun r d => ?_, ?_, ?_, ?_, ?_⟩
  · unfold sout0_B_1 kernelRun0_B
    dsimp only
    unfold kernelRun0_B.sl.HS1_1
    refine (congrFun (View.read_writes_full VS0_1 _ _ _ _) _).trans ?_
    unfold kernelRun0_B.sl.r_23 kernelRun0_B.sl.r_22 kernelRun0_B.sl.r_21 kernelRun0_B.sl.r_20 kernelRun0_B.sl.r_19 kernelRun0_B.sl.r_18
    refine (congrFun (kept_middle _) _).trans ((congrFun (added_middle _ _ _ _ _ _) _).trans ?_)
    exact added_load arg1 harg1 arg2 harg2 arg3 harg3 arg4 harg4 arg5 harg5 arg6 harg6 x0 x1 x2 x3 x4 x5 _ (off_begin i hi).2.2.2.1 _ r d
  · rw [s2]; exact ha
  · exact ht
  · exact hp
  · exact h19.pads

end Middle

end Point

end Cert.Tail
end
-- ==== Proof.TailOut.lean ====
/- What one grid point of the tail writes: the block the point before began, finished with its eleventh tile, normalised and scaled. -/
module

public import proofs.«01_k».proof.Proof.TailStart

@[expose] public section

set_option maxRecDepth 16384

noncomputable section

namespace Cert.Tail

open Idealize.ShloMosaic Idealize.ShloMosaic.ValueIdx Idealize.ShloMosaic.Tactic Idealize.SL.Sem Cert.Layer Cert.Kernel3Ideal Cert.Kernel3Ideal.Gen

/-- A row of a finished block. -/
def blockOut (x0 : S512x1024.Idx → EReal) (x1 x2 : S512x512.Idx → EReal) (x3 : S6x8x1024.Idx → EReal) (x4 : S1x1024.Idx → EReal)
    (x5 : S1024x1024.Idx → EReal) (x6 x7 : S1x1024.Idx → EReal) (x8 : S1024x5632.Idx → EReal) (x9 : S2x11x3x256.Idx → EReal) (x10 : S2x11x1x256.Idx → EReal)
    (x11 : S11x256x1024.Idx → EReal) (s : Fin 2) (l : Fin 256) (d : Fin 1024) : EReal :=
  rms 0x44800000#32 (fun k => addedRow x0 x1 x2 x4 (fun d => x3 (ix3 2 0 d)) x5 (seqRow s l) k
    + x3 (ix3 5 0 k) * tiles (hidOf x0 x1 x2 x3 x4 x5 x6) x8 x9 x10 x11 11 s l k) d * x7 (ix2 0 d)

section Point

variable (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S6x8x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S2x11x3x256 .f32) (harg10 : arg10.IsWhole) (arg11 : Memref sig .tc .vmem S2x11x1x256 .f32) (harg11 : arg11.IsWhole) (arg12 : Memref sig .tc .vmem S11x256x1024 .bf16) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x1024 .f32) (harg16 : arg16.IsWhole) (arg17 : Memref sig .tc .vmem S2x528x256 .f32) (harg17 : arg17.IsWhole) (arg18 : Memref sig .tc .vmem S2x528x256 .f32) (harg18 : arg18.IsWhole) (arg19 : Memref sig .tc .vmem S2x528x256 .f32) (harg19 : arg19.IsWhole)
  (x0 : Vec Ideal S512x1024 .f32) (x1 : Vec Ideal S512x512 .f32) (x2 : Vec Ideal S512x512 .f32) (x3 : Vec Ideal S6x8x1024 .f32) (x4 : Vec Ideal S1x1024 .f32)
  (x5 : Vec Ideal S1024x1024 .bf16) (x6 : Vec Ideal S1x1024 .f32) (x7 : Vec Ideal S1x1024 .f32) (x8 : Vec Ideal S1024x5632 .bf16)
  (x9 : Vec Ideal S2x11x3x256 .f32) (x10 : Vec Ideal S2x11x1x256 .f32) (x11 : Vec Ideal S11x256x1024 .bf16)
  (xs1 : Vec Ideal S512x1024 .f32) (xs2 : Vec Ideal S512x1024 .f32) (xs3 : Vec Ideal S2x528x256 .f32) (xs4 : Vec Ideal S2x528x256 .f32) (xs5 : Vec Ideal S2x528x256 .f32)
  (X0 : Vec Ideal S512x1024 .f32) (X1 X2 : Vec Ideal S512x512 .f32)

/-- The finished block, from what the point before left. -/
theorem finish_load (hC : Carried X0 X1 X2 x3 x4 x5 x6 x8 x9 x10 x11 xs1 xs2 xs3 xs4 xs5) (o : Fin 3 → ℕ) (ho : o = ![5, 0, 0])
    (io : ∀ a, o a + S1x1x1024.size a ≤ S6x8x1024.size a) (s : Fin 2) (l : Fin 256) (d : Fin 1024) :
    normK (lastK (View.readAt (Elt Ideal) arg15.view (Rect.unit (s := S512x1024) ![0, 0] S512x1024.size inb_S512x1024_S512x1024_0_0).toLoadRect (harg15.unread xs1))
         (View.readAt (Elt Ideal) arg16.view (Rect.unit (s := S512x1024) ![0, 0] S512x1024.size inb_S512x1024_S512x1024_0_0).toLoadRect (harg16.unread xs2))
        (View.readAt (Elt Ideal) arg4.view (Rect.unit (s := S6x8x1024) o S1x1x1024.size io).toLoadRect (harg4.unread x3))
        (prodK (half arg17 (harg17.unread xs3) 0 inb_S2x528x256_S1x528x256_0_0_0)
          (View.readAt (Elt Ideal) arg10.view (Rect.unit (s := S2x11x3x256) ![0, 10, 0, 0] S1x1x3x256.size inb_S2x11x3x256_S1x1x3x256_0_10_0_0).toLoadRect (harg10.unread x9))
           (View.readAt (Elt Ideal) arg11.view (Rect.unit (s := S2x11x1x256) ![0, 10, 0, 0] S1x1x1x256.size inb_S2x11x1x256_S1x1x1x256_0_10_0_0).toLoadRect (harg11.unread x10))
           (half arg17 (harg17.unread xs3) 1 inb_S2x528x256_S1x528x256_1_0_0) (View.readAt (Elt Ideal) arg10.view (Rect.unit (s := S2x11x3x256) ![1, 10, 0, 0] S1x1x3x256.size inb_S2x11x3x256_S1x1x3x256_1_10_0_0).toLoadRect (harg10.unread x9))
           (View.readAt (Elt Ideal) arg11.view (Rect.unit (s := S2x11x1x256) ![1, 10, 0, 0] S1x1x1x256.size inb_S2x11x1x256_S1x1x1x256_1_10_0_0).toLoadRect (harg11.unread x10))
           (View.readAt (Elt Ideal) arg12.view (Rect.unit (s := S11x256x1024) ![10, 0, 0] S1x256x1024.size inb_S11x256x1024_S1x256x1024_10_0_0).toLoadRect (harg12.unread x11)))) (View.readAt (Elt Ideal) arg8.view (Rect.unit (s := S1x1024) ![0, 0] S1x1024.size inb_S1x1024_S1x1024_0_0).toLoadRect (harg8.unread x7)) (ix2 (seqRow s l) d)
      = blockOut X0 X1 X2 x3 x4 x5 x6 x7 x8 x9 x10 x11 s l d := by
  have e2 : (![0, 0] : Fin 2 → ℕ) = fun _ => 0 := funext fun b => match b with
    | ⟨0, _⟩ => rfl
    | ⟨1, _⟩ => rfl
  rw [load_full arg15 harg15 xs1 e2, load_full arg16 harg16 xs2 e2, load_full arg8 harg8 x7 e2]
  refine (finish_apply _ _ _ _ _ _ _).trans (congrArg (fun v => rms 0x44800000#32 v d * x7 (ix2 0 d)) (funext fun k => ?_))
  refine congrArg₂ (· + ·) (hC.added _ k) (congrArg₂ (· * ·) (mod_load arg4 harg4 x3 5 o ho io k) ?_)
  have ht := tiles_succ (hidOf X0 X1 X2 x3 x4 x5 x6) x8 x9 x10 x11 10 10 rfl s l k
  refine Eq.trans (congrArg₂ (· + ·) (hC.acc s l k) ?_) ht.symm
  refine (down_apply arg17 (harg17.unread xs3) (upTile (hidOf X0 X1 X2 x3 x4 x5 x6) x8 10) (by rw [harg17.read_unread (Val := Elt Ideal) xs3]; exact hC.staged)
    arg10 _ arg11 _ arg12 _ 10 _ _ _ _ _ _ _ rfl rfl rfl rfl rfl _ _ _ _ _ s l k).trans ?_
  rw [harg10.read_unread (Val := Elt Ideal) x9, harg11.read_unread (Val := Elt Ideal) x10, harg12.read_unread (Val := Elt Ideal) x11]

/-- What a middle point writes. -/
theorem out_B (hc0 : ¬cond0_0 i) (hc1 : cond0_1 i) (hc2 : ¬cond0_2 i) (hc3 : cond0_3 i) (hi : 1 ≤ (i 0).val)
    (hC : Carried X0 X1 X2 x3 x4 x5 x6 x8 x9 x10 x11 xs1 xs2 xs3 xs4 xs5) (s : Fin 2) (l : Fin 256) (d : Fin 1024) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs1 xs2 xs3 xs4 xs5 (ix2 (seqRow s l) d) = blockOut X0 X1 X2 x3 x4 x5 x6 x7 x8 x9 x10 x11 s l d := by
  unfold out0_B_12 kernelRun0_B
  dsimp only
  refine (congrFun (View.read_writes_full VO0_12 _ _ _ _) _).trans ?_
  unfold kernelRun0_B.sl.r_16 kernelRun0_B.sl.r_17 kernelRun0_B.sl.r_11 kernelRun0_B.sl.r_15 kernelRun0_B.sl.r_14 kernelRun0_B.sl.r_13 kernelRun0_B.sl.r_12 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r
  refine (congrFun (finish _ _ _ _ _ _ _ _ _ _ _) _).trans ?_
  exact finish_load arg4 harg4 arg8 harg8 arg10 harg10 arg11 harg11 arg12 harg12 arg15 harg15 arg16 harg16 arg17 harg17 x3 x4 x5 x6 x7 x8 x9 x10 x11 xs1 xs2 xs3 xs4 xs5 X0 X1 X2 hC _ (off_end i hi).1 _ s l d

/-- What the last point writes. -/
theorem out_C (hc0 : ¬cond0_0 i) (hc1 : ¬cond0_1 i) (hc2 : cond0_2 i) (hc3 : ¬cond0_3 i) (hi : 1 ≤ (i 0).val)
    (hC : Carried X0 X1 X2 x3 x4 x5 x6 x8 x9 x10 x11 xs1 xs2 xs3 xs4 xs5) (s : Fin 2) (l : Fin 256) (d : Fin 1024) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs1 xs2 xs3 xs4 xs5 (ix2 (seqRow s l) d) = blockOut X0 X1 X2 x3 x4 x5 x6 x7 x8 x9 x10 x11 s l d := by
  unfold out0_C_12 kernelRun0_C
  dsimp only
  refine (congrFun (View.read_writes_full VO0_12 _ _ _ _) _).trans ?_
  unfold kernelRun0_C.sl.r_16 kernelRun0_C.sl.r_17 kernelRun0_C.sl.r_11 kernelRun0_C.sl.r_15 kernelRun0_C.sl.r_14 kernelRun0_C.sl.r_13 kernelRun0_C.sl.r_12 kernelRun0_C.sl.r_10 kernelRun0_C.sl.r_9 kernelRun0_C.sl.r_8 kernelRun0_C.sl.r_7 kernelRun0_C.sl.r_6 kernelRun0_C.sl.r_5 kernelRun0_C.sl.r_4 kernelRun0_C.sl.r_3 kernelRun0_C.sl.r_2 kernelRun0_C.sl.r_1 kernelRun0_C.sl.r
  refine (congrFun (finish' _ _ _ _ _ _ _ _ _ _ _) _).trans ?_
  exact finish_load arg4 harg4 arg8 harg8 arg10 harg10 arg11 harg11 arg12 harg12 arg15 harg15 arg16 harg16 arg17 harg17 x3 x4 x5 x6 x7 x8 x9 x10 x11 xs1 xs2 xs3 xs4 xs5 X0 X1 X2 hC _ (off_end i hi).2 _ s l d

end Point

end Cert.Tail
end
-- ==== Proof.TailSpec.lean ====
/- The tail of the layer in plain formulas over the whole arrays. -/
module

public import proofs.«01_k».proof.Proof.TailBody
public import proofs.«01_k».proof.Proof.ProjSpec

@[expose] public section

noncomputable section

namespace Cert.Tail

open Idealize.ShloMosaic Idealize.ShloMosaic.ValueIdx Cert.Layer
open Cert.Projection (tokRow at_channel at_three)

variable (x : (⟨3, ![32, 256, 1024]⟩ : Shape).Idx → EReal) (a h : (⟨2, ![8192, 512]⟩ : Shape).Idx → EReal)
  (mo : (⟨3, ![6, 8, 1024]⟩ : Shape).Idx → EReal) (gg : (⟨1, ![1024]⟩ : Shape).Idx → EReal)
  (wo : (⟨2, ![1024, 1024]⟩ : Shape).Idx → EReal) (n2 : (⟨1, ![1024]⟩ : Shape).Idx → EReal)
  (wu : (⟨2, ![1024, 5632]⟩ : Shape).Idx → EReal) (cw : (⟨2, ![3, 5632]⟩ : Shape).Idx → EReal)
  (cb : (⟨1, ![5632]⟩ : Shape).Idx → EReal) (wd : (⟨2, ![2816, 1024]⟩ : Shape).Idx → EReal)
  (fg : (⟨1, ![1024]⟩ : Shape).Idx → EReal)

/-- The two halves of the heads, each normalised, side by side and scaled. -/
def mergedS (n : Fin 32) (l : Fin 256) (k : Fin 1024) : EReal :=
  (if hk : k.val < 512 then rms 0x44000000#32 (fun j => a (ix2 (tokRow n l) j)) ⟨k.val, hk⟩
    else rms 0x44000000#32 (fun j => h (ix2 (tokRow n l) j)) ⟨k.val - 512, by omega⟩) * gg (ix1 k)

/-- A token with the gated projection of its heads added. -/
def addedS (n : Fin 32) (l : Fin 256) (d : Fin 1024) : EReal :=
  x (ix3 n l d) + mo (ix3 2 0 d) * ∑ k : Fin 1024, mergedS a h gg n l k * wo (ix2 k d)

/-- That token normalised and modulated. -/
def hiddenS (n : Fin 32) (l : Fin 256) (d : Fin 1024) : EReal :=
  rms 0x44800000#32 (addedS x a h mo gg wo n l) d * n2 (ix1 d) * (word 0x3F800000#32 + mo (ix3 4 0 d)) + mo (ix3 3 0 d)

/-- Its projection upwards. -/
def upS (n : Fin 32) (l : Fin 256) (j : Fin 5632) : EReal := ∑ k : Fin 1024, hiddenS x a h mo gg wo n2 n l k * wu (ix2 k j)

/-- That projection convolved along the sequence. -/
def convolvedS (n : Fin 32) (l : Fin 256) (j : Fin 5632) : EReal :=
  conv3 (fun l => upS x a h mo gg wo n2 wu n l j) (cw (ix2 0 j)) (cw (ix2 1 j)) (cw (ix2 2 j)) (cb (ix1 j)) l

/-- The gated activation. -/
def actS (n : Fin 32) (l : Fin 256) (f : Fin 2816) : EReal :=
  gated (convolvedS x a h mo gg wo n2 wu cw cb n l ⟨f.val, by omega⟩) (convolvedS x a h mo gg wo n2 wu cw cb n l ⟨2816 + f.val, by omega⟩)

/-- The token with the gated projection downwards added. -/
def lastS (n : Fin 32) (l : Fin 256) (d : Fin 1024) : EReal :=
  addedS x a h mo gg wo n l d + mo (ix3 5 0 d) * ∑ f : Fin 2816, actS x a h mo gg wo n2 wu cw cb n l f * wd (ix2 f d)

/-- The layer's output. -/
def outS (n : Fin 32) (l : Fin 256) (d : Fin 1024) : EReal :=
  rms 0x44800000#32 (lastS x a h mo gg wo n2 wu cw cb wd n l) d * fg (ix1 d)

end Cert.Tail
end
-- ==== Proof.TailBlock.lean ====
/- A finished block of the tail is the plain formulas at its two sequences, when its input blocks are those sequences' rows. -/
module

public import proofs.«01_k».proof.Proof.TailOut
public import proofs.«01_k».proof.Proof.TailSpec

@[expose] public section

set_option maxRecDepth 16384

noncomputable section

namespace Cert.Tail

open Idealize.ShloMosaic Idealize.ShloMosaic.ValueIdx Cert.Layer Cert.Kernel3Ideal Cert.Kernel3Ideal.Gen
open Cert.Projection (tokRow)

/-- A sequence of a block. -/
abbrev seqOf (t : Fin 16) (s : Fin 2) : Fin 32 := ⟨2 * t.val + s.val, by omega⟩

/-- A channel of a tile, of the half `e`. -/
abbrev tileCol (e : Fin 2) (j : Fin 11) (c : Fin 256) : Fin 5632 := ⟨2816 * e.val + 256 * j.val + c.val, by omega⟩

/-- A sum over the channels, tile by tile. -/
theorem sum_by_tiles (f : Fin 2816 → EReal) : ∑ j : Fin 11, ∑ c : Fin 256, f ⟨256 * j.val + c.val, by omega⟩ = ∑ i : Fin 2816, f i := by
  rw [← Equiv.sum_comp (finProdFinEquiv : Fin 11 × Fin 256 ≃ Fin 2816), Fintype.sum_prod_type]
  refine Finset.sum_congr rfl fun j _ => Finset.sum_congr rfl fun c _ => congrArg f (Fin.ext ?_)
  show 256 * j.val + c.val = c.val + 256 * j.val
  omega

variable (x : (⟨3, ![32, 256, 1024]⟩ : Shape).Idx → EReal) (a h : (⟨2, ![8192, 512]⟩ : Shape).Idx → EReal)
  (mo : (⟨3, ![6, 8, 1024]⟩ : Shape).Idx → EReal) (gg : (⟨1, ![1024]⟩ : Shape).Idx → EReal)
  (wo : (⟨2, ![1024, 1024]⟩ : Shape).Idx → EReal) (n2 : (⟨1, ![1024]⟩ : Shape).Idx → EReal)
  (wu : (⟨2, ![1024, 5632]⟩ : Shape).Idx → EReal) (cw : (⟨2, ![3, 5632]⟩ : Shape).Idx → EReal)
  (cb : (⟨1, ![5632]⟩ : Shape).Idx → EReal) (wd : (⟨2, ![2816, 1024]⟩ : Shape).Idx → EReal)
  (fg : (⟨1, ![1024]⟩ : Shape).Idx → EReal) (t : Fin 16)
  (x0 : S512x1024.Idx → EReal) (x1 x2 : S512x512.Idx → EReal) (x3 : S6x8x1024.Idx → EReal) (x4 : S1x1024.Idx → EReal)
  (x5 : S1024x1024.Idx → EReal) (x6 x7 : S1x1024.Idx → EReal) (x8 : S1024x5632.Idx → EReal) (x9 : S2x11x3x256.Idx → EReal)
  (x10 : S2x11x1x256.Idx → EReal) (x11 : S11x256x1024.Idx → EReal)
  (hx0 : ∀ (s : Fin 2) (l : Fin 256) (k : Fin 1024), x0 (ix2 (seqRow s l) k) = x (ix3 (seqOf t s) l k))
  (hx1 : ∀ (s : Fin 2) (l : Fin 256) (k : Fin 512), x1 (ix2 (seqRow s l) k) = a (ix2 (tokRow (seqOf t s) l) k))
  (hx2 : ∀ (s : Fin 2) (l : Fin 256) (k : Fin 512), x2 (ix2 (seqRow s l) k) = h (ix2 (tokRow (seqOf t s) l) k))
  (hx3 : x3 = mo) (hx4 : ∀ k : Fin 1024, x4 (ix2 0 k) = gg (ix1 k)) (hx5 : x5 = wo) (hx6 : ∀ k : Fin 1024, x6 (ix2 0 k) = n2 (ix1 k))
  (hx7 : ∀ k : Fin 1024, x7 (ix2 0 k) = fg (ix1 k)) (hx8 : x8 = wu)
  (hx9 : ∀ (e : Fin 2) (j : Fin 11) (k : Fin 3) (c : Fin 256), x9 (ix4 e j k c) = cw (ix2 k (tileCol e j c)))
  (hx10 : ∀ (e : Fin 2) (j : Fin 11) (c : Fin 256), x10 (ix4 e j 0 c) = cb (ix1 (tileCol e j c)))
  (hx11 : ∀ (j : Fin 11) (c : Fin 256) (d : Fin 1024), x11 (ix3 j c d) = wd (ix2 ⟨256 * j.val + c.val, by omega⟩ d))

include hx1 hx2 hx4 in
/-- The merged heads of a block's row. -/
theorem merged_block (s : Fin 2) (l : Fin 256) (k : Fin 1024) :
    mergedRow x1 x2 x4 (seqRow s l) k = mergedS a h gg (seqOf t s) l k := by
  unfold mergedRow mergedS
  simp only [hx1, hx2, hx4]

include hx0 hx1 hx2 hx3 hx4 hx5 in
/-- A block's row with the heads' projection added. -/
theorem added_block (s : Fin 2) (l : Fin 256) :
    addedRow x0 x1 x2 x4 (fun d => x3 (ix3 2 0 d)) x5 (seqRow s l) = addedS x a h mo gg wo (seqOf t s) l := by
  subst hx3 hx5
  funext d
  unfold addedRow addedS
  simp only [hx0, merged_block a h gg t x1 x2 x4 hx1 hx2 hx4]

include hx0 hx1 hx2 hx3 hx4 hx5 hx6 in
/-- That row normalised and modulated. -/
theorem hidden_block (s : Fin 2) (l : Fin 256) (d : Fin 1024) :
    hidOf x0 x1 x2 x3 x4 x5 x6 (ix2 (seqRow s l) d) = hiddenS x a h mo gg wo n2 (seqOf t s) l d := by
  show hiddenRow x0 x1 x2 x4 (fun d => x3 (ix3 2 0 d)) (fun d => x3 (ix3 4 0 d)) (fun d => x3 (ix3 3 0 d)) x5 x6 (seqRow s l) d = _
  unfold hiddenRow hiddenS
  rw [added_block x a h mo gg wo t x0 x1 x2 x3 x4 x5 hx0 hx1 hx2 hx3 hx4 hx5 s l, hx6, hx3]

include hx0 hx1 hx2 hx3 hx4 hx5 hx6 hx8 in
/-- A tile of the projection upwards. -/
theorem up_block (j : Fin 11) (e : Fin 2) (s : Fin 2) (l : Fin 256) (c : Fin 256) :
    upTile (hidOf x0 x1 x2 x3 x4 x5 x6) x8 j e (seqRow s l) c = upS x a h mo gg wo n2 wu (seqOf t s) l (tileCol e j c) := by
  unfold upTile upS
  refine Finset.sum_congr rfl fun k _ => ?_
  rw [hidden_block x a h mo gg wo n2 t x0 x1 x2 x3 x4 x5 x6 hx0 hx1 hx2 hx3 hx4 hx5 hx6 s l k, hx8]

include hx0 hx1 hx2 hx3 hx4 hx5 hx6 hx8 hx9 hx10 in
/-- A tile's convolution. -/
theorem conv_block (j : Fin 11) (e : Fin 2) (s : Fin 2) (l : Fin 256) (c : Fin 256) :
    conv3 (fun l => upTile (hidOf x0 x1 x2 x3 x4 x5 x6) x8 j e (seqRow s l) c) (x9 (ix4 e j 0 c)) (x9 (ix4 e j 1 c)) (x9 (ix4 e j 2 c)) (x10 (ix4 e j 0 c)) l
      = convolvedS x a h mo gg wo n2 wu cw cb (seqOf t s) l (tileCol e j c) := by
  unfold convolvedS
  rw [hx9, hx9, hx9, hx10, funext fun l => up_block x a h mo gg wo n2 wu t x0 x1 x2 x3 x4 x5 x6 x8 hx0 hx1 hx2 hx3 hx4 hx5 hx6 hx8 j e s l c]

include hx0 hx1 hx2 hx3 hx4 hx5 hx6 hx8 hx9 hx10 hx11 in
/-- A tile's contribution. -/
theorem down_block (j : Fin 11) (s : Fin 2) (l : Fin 256) (d : Fin 1024) :
    downTile (upTile (hidOf x0 x1 x2 x3 x4 x5 x6) x8 j) x9 x10 x11 j s l d
      = ∑ c : Fin 256, actS x a h mo gg wo n2 wu cw cb (seqOf t s) l ⟨256 * j.val + c.val, by omega⟩ * wd (ix2 ⟨256 * j.val + c.val, by omega⟩ d) := by
  unfold downTile actS
  refine Finset.sum_congr rfl fun c _ => ?_
  have e0 : tileCol 0 j c = ⟨256 * j.val + c.val, by omega⟩ := Fin.ext (show 2816 * 0 + 256 * j.val + c.val = 256 * j.val + c.val by omega)
  have e1 : tileCol 1 j c = ⟨2816 + (256 * j.val + c.val), by omega⟩ := Fin.ext (show 2816 * 1 + 256 * j.val + c.val = 2816 + (256 * j.val + c.val) by omega)
  rw [conv_block x a h mo gg wo n2 wu cw cb t x0 x1 x2 x3 x4 x5 x6 x8 x9 x10 hx0 hx1 hx2 hx3 hx4 hx5 hx6 hx8 hx9 hx10 j 0 s l c,
    conv_block x a h mo gg wo n2 wu cw cb t x0 x1 x2 x3 x4 x5 x6 x8 x9 x10 hx0 hx1 hx2 hx3 hx4 hx5 hx6 hx8 hx9 hx10 j 1 s l c, hx11, e0, e1]

include hx0 hx1 hx2 hx3 hx4 hx5 hx6 hx8 hx9 hx10 hx11 in
/-- All tiles' contributions. -/
theorem tiles_block (s : Fin 2) (l : Fin 256) (d : Fin 1024) :
    tiles (hidOf x0 x1 x2 x3 x4 x5 x6) x8 x9 x10 x11 11 s l d
      = ∑ f : Fin 2816, actS x a h mo gg wo n2 wu cw cb (seqOf t s) l f * wd (ix2 f d) := by
  unfold tiles
  rw [Finset.sum_range, ← sum_by_tiles]
  refine Finset.sum_congr rfl fun j _ => ?_
  rw [dif_pos j.isLt]
  exact down_block x a h mo gg wo n2 wu cw cb wd t x0 x1 x2 x3 x4 x5 x6 x8 x9 x10 x11 hx0 hx1 hx2 hx3 hx4 hx5 hx6 hx8 hx9 hx10 hx11 j s l d

include hx0 hx1 hx2 hx3 hx4 hx5 hx6 hx7 hx8 hx9 hx10 hx11 in
/-- The finished block. -/
theorem out_block (s : Fin 2) (l : Fin 256) (d : Fin 1024) :
    blockOut x0 x1 x2 x3 x4 x5 x6 x7 x8 x9 x10 x11 s l d = outS x a h mo gg wo n2 wu cw cb wd fg (seqOf t s) l d := by
  unfold blockOut outS
  rw [hx7]
  refine congrArg (fun f => rms 0x44800000#32 f d * fg (ix1 d)) (funext fun k => ?_)
  unfold lastS
  rw [tiles_block x a h mo gg wo n2 wu cw cb wd t x0 x1 x2 x3 x4 x5 x6 x8 x9 x10 x11 hx0 hx1 hx2 hx3 hx4 hx5 hx6 hx8 hx9 hx10 hx11 s l k,
    added_block x a h mo gg wo t x0 x1 x2 x3 x4 x5 hx0 hx1 hx2 hx3 hx4 hx5 s l, hx3]

end Cert.Tail
end
-- ==== Proof.TailArray.lean ====
/- The tail's output array: what the grid points carry, and at every token the plain formulas. -/
module

public import proofs.«01_k».proof.Proof.TailBlock

@[expose] public section

set_option maxRecDepth 16384

noncomputable section

namespace Cert.Tail

open Idealize.ShloMosaic Idealize.ShloMosaic.TcCoe Idealize.ShloMosaic.ValueIdx Idealize.ShloMosaic.Tactic Cert.Layer Cert.Kernel3Ideal
open Cert.Kernel3Ideal.Gen Idealize.SL.Sem Idealize.ShloMosaic.StableHlo
open Cert.Projection (tokRow)

variable (m : (ℓ : Loc nD τ sig) → Buf (Elt Ideal) ℓ) (c : Dev nD)

/-- The tokens, as launched. -/
abbrev argX : S32x256x1024.Idx → EReal := m ((c : Thread nD τ).loc main_arg0)
/-- The attention heads, as launched. -/
abbrev argA : S8192x512.Idx → EReal := m ((c : Thread nD τ).loc main_arg1)
/-- The other heads, as launched. -/
abbrev argH : S8192x512.Idx → EReal := m ((c : Thread nD τ).loc main_arg2)
/-- The modulations, as launched. -/
abbrev argMods : S6x8x1024.Idx → EReal := m ((c : Thread nD τ).loc main_arg3)
/-- The gains of the merged heads, as launched. -/
abbrev argGrp : S1024.Idx → EReal := m ((c : Thread nD τ).loc main_arg4)
/-- The weights of the merged heads, as launched. -/
abbrev argWo : S1024x1024.Idx → EReal := m ((c : Thread nD τ).loc main_arg5)
/-- The gains of the second normalisation, as launched. -/
abbrev argN2 : S1024.Idx → EReal := m ((c : Thread nD τ).loc main_arg6)
/-- The weights upwards, as launched. -/
abbrev argWu : S1024x5632.Idx → EReal := m ((c : Thread nD τ).loc main_arg7)
/-- The weights of the convolution, as launched. -/
abbrev argCW : S3x5632.Idx → EReal := m ((c : Thread nD τ).loc main_arg8)
/-- The bias of the convolution, as launched. -/
abbrev argCB : S5632.Idx → EReal := m ((c : Thread nD τ).loc main_arg9)
/-- The weights downwards, as launched. -/
abbrev argWd : S2816x1024.Idx → EReal := m ((c : Thread nD τ).loc main_arg10)
/-- The gains of the last normalisation, as launched. -/
abbrev argFg : S1024.Idx → EReal := m ((c : Thread nD τ).loc main_arg11)

/-- The tokens, one row each. -/
theorem V_tokens : V m c main_v3 = shapeCast S8192x1024 (argX m c) Gen.shapeCasts_S32x256x1024_S8192x1024 := by
  show StableHlo.after (List.flatten [hostOps0]) _ (Proc.devRef .tc main_v3) = _
  simp only [List.flatten_cons, List.flatten_nil, List.append_nil, List.cons_append, List.nil_append]
  after_results
  rfl

/-- The gains of the merged heads, as a row. -/
theorem V_grp : V m c main_v4 = broadcastInDim S1x1024 ![1] Gen.bcast_S1024_S1x1024_1 (argGrp m c) := by
  show StableHlo.after (List.flatten [hostOps0]) _ (Proc.devRef .tc main_v4) = _
  simp only [List.flatten_cons, List.flatten_nil, List.append_nil, List.cons_append, List.nil_append]
  after_results

/-- The gains of the second normalisation, as a row. -/
theorem V_n2 : V m c main_v6 = broadcastInDim S1x1024 ![1] Gen.bcast_S1024_S1x1024_1 (argN2 m c) := by
  show StableHlo.after (List.flatten [hostOps0]) _ (Proc.devRef .tc main_v6) = _
  simp only [List.flatten_cons, List.flatten_nil, List.append_nil, List.cons_append, List.nil_append]
  after_results

/-- The gains of the last normalisation, as a row. -/
theorem V_fg : V m c main_v7 = broadcastInDim S1x1024 ![1] Gen.bcast_S1024_S1x1024_1 (argFg m c) := by
  show StableHlo.after (List.flatten [hostOps0]) _ (Proc.devRef .tc main_v7) = _
  simp only [List.flatten_cons, List.flatten_nil, List.append_nil, List.cons_append, List.nil_append]
  after_results

/-- The weights of the merged heads. -/
theorem V_wo : V m c main_v5 = argWo m c := by
  show StableHlo.after (List.flatten [hostOps0]) _ (Proc.devRef .tc main_v5) = _
  simp only [List.flatten_cons, List.flatten_nil, List.append_nil, List.cons_append, List.nil_append]
  after_results
  rfl

/-- The weights upwards. -/
theorem V_wu : V m c main_v8 = argWu m c := by
  show StableHlo.after (List.flatten [hostOps0]) _ (Proc.devRef .tc main_v8) = _
  simp only [List.flatten_cons, List.flatten_nil, List.append_nil, List.cons_append, List.nil_append]
  after_results
  rfl

/-- The weights of the convolution, by half and tile. -/
theorem V_convW : V m c main_v1 = transpose S2x11x3x256 [1, 2, 0, 3] (shapeCast S3x2x11x256 (argCW m c) Gen.shapeCasts_S3x5632_S3x2x11x256) Gen.transposes_S3x2x11x256_S2x11x3x256_1_2_0_3 := by
  show StableHlo.after (List.flatten [hostOps0]) _ (Proc.devRef .tc main_v1) = _
  simp only [List.flatten_cons, List.flatten_nil, List.append_nil, List.cons_append, List.nil_append]
  after_results
  rfl

/-- The bias of the convolution, by half and tile. -/
theorem V_convB : V m c main_v2 = shapeCast S2x11x1x256 (argCB m c) Gen.shapeCasts_S5632_S2x11x1x256 := by
  show StableHlo.after (List.flatten [hostOps0]) _ (Proc.devRef .tc main_v2) = _
  simp only [List.flatten_cons, List.flatten_nil, List.append_nil, List.cons_append, List.nil_append]
  after_results
  rfl

/-- The weights downwards, by tile. -/
theorem V_wd : V m c main_v10 = shapeCast S11x256x1024 (argWd m c) Gen.shapeCasts_S2816x1024_S11x256x1024 := by
  show StableHlo.after (List.flatten [hostOps0]) _ (Proc.devRef .tc main_v10) = _
  simp only [List.flatten_cons, List.flatten_nil, List.append_nil, List.cons_append, List.nil_append]
  after_results
  rfl

/-- A row of gains. -/
theorem gain_row (g : S1024.Idx → EReal) (k : Fin 1024) : broadcastInDim S1x1024 ![1] Gen.bcast_S1024_S1x1024_1 g (ix2 0 k) = g (ix1 k) := by
  refine broadcastInDim_apply _ _ _ _ (ix1 k) fun a => ?_
  match a with
  | ⟨0, _⟩ => exact (if_neg (show ¬ (1024 = 1) by decide)).symm

/-- A weight of the convolution, in its tile. -/
theorem conv_weight (e : Fin 2) (j : Fin 11) (k : Fin 3) (q : Fin 256) : V m c main_v1 (ix4 e j k q) = argCW m c (ix2 k (tileCol e j q)) := by
  rw [V_convW]
  refine (transpose_apply _ _ _ _ (ix4 k e j q) fun a => ?_).trans (shapeCast_apply _ _ _ (ix2 k (tileCol e j q)) ?_)
  · match a with
    | ⟨0, _⟩ => rfl
    | ⟨1, _⟩ => rfl
    | ⟨2, _⟩ => rfl
    | ⟨3, _⟩ => rfl
  · rw [Shape.rowMajor_val_two, Shape.rowMajor_val_four]
    show k.val * 5632 + (2816 * e.val + 256 * j.val + q.val) = ((k.val * 2 + e.val) * 11 + j.val) * 256 + q.val
    omega

/-- A channel's bias, in its tile. -/
theorem conv_bias (e : Fin 2) (j : Fin 11) (q : Fin 256) : V m c main_v2 (ix4 e j 0 q) = argCB m c (ix1 (tileCol e j q)) := by
  rw [V_convB]
  refine shapeCast_apply _ _ _ (ix1 (tileCol e j q)) ?_
  rw [Shape.rowMajor_val_one, Shape.rowMajor_val_four]
  show 2816 * e.val + 256 * j.val + q.val = ((e.val * 11 + j.val) * 1 + 0) * 256 + q.val
  omega

/-- A weight downwards, in its tile. -/
theorem down_weight (j : Fin 11) (q : Fin 256) (d : Fin 1024) :
    V m c main_v10 (ix3 j q d) = argWd m c (ix2 ⟨256 * j.val + q.val, by omega⟩ d) := by
  rw [V_wd]
  refine shapeCast_apply _ _ _ (ix2 (⟨256 * j.val + q.val, by omega⟩ : Fin 2816) d) ?_
  rw [Shape.rowMajor_val_two, Shape.rowMajor_val_three]
  show (256 * j.val + q.val) * 1024 + d.val = (j.val * 256 + q.val) * 1024 + d.val
  omega

/-- Where the blocks of the three moving windows lie. -/
theorem block_in : ∀ t : Fin grid0.N, t.val < 16 →
    (win0_0.index t 0 = t.val ∧ win0_0.index t 1 = 0) ∧ (win0_1.index t 0 = t.val ∧ win0_1.index t 1 = 0)
    ∧ (win0_2.index t 0 = t.val ∧ win0_2.index t 1 = 0) := by
  decide +kernel

/-- Where the output's block lies: a point writes the block before. -/
theorem block_out : ∀ t : Fin grid0.N, 1 ≤ t.val → win0_12.index t 0 = t.val - 1 ∧ win0_12.index t 1 = 0 := by
  decide +kernel

/-- The first point writes nothing back, every other one does. -/
theorem flush_out : ∀ t : Fin grid0.N, win0_12.flush t = true ↔ 1 ≤ t.val := by
  decide +kernel

/-- A point's coordinate. -/
theorem coord_val : ∀ t : Fin grid0.N, (grid0.coords t 0).val = t.val := by
  decide +kernel

/-- The block of window 3 is its whole array at every point. -/
theorem whole_3 (t : Fin cfg0.N) : iblk m c 3 t = V m c main_arg3 := by
  funext y
  show V m c main_arg3 ((win0_3.rect t).emb y) = _
  refine congrArg _ (funext fun a => Fin.ext (Pipeline.Window.rect_emb_val_of_index_zero win0_3 t a ?_ y))
  match a with
  | ⟨0, _⟩ => rfl
  | ⟨1, _⟩ => rfl
  | ⟨2, _⟩ => rfl

/-- The block of window 4 is its whole array at every point. -/
theorem whole_4 (t : Fin cfg0.N) : iblk m c 4 t = V m c main_v4 := by
  funext y
  show V m c main_v4 ((win0_4.rect t).emb y) = _
  refine congrArg _ (funext fun a => Fin.ext (Pipeline.Window.rect_emb_val_of_index_zero win0_4 t a ?_ y))
  match a with
  | ⟨0, _⟩ => rfl
  | ⟨1, _⟩ => rfl

/-- The block of window 5 is its whole array at every point. -/
theorem whole_5 (t : Fin cfg0.N) : iblk m c 5 t = V m c main_v5 := by
  funext y
  show V m c main_v5 ((win0_5.rect t).emb y) = _
  refine congrArg _ (funext fun a => Fin.ext (Pipeline.Window.rect_emb_val_of_index_zero win0_5 t a ?_ y))
  match a with
  | ⟨0, _⟩ => rfl
  | ⟨1, _⟩ => rfl

/-- The block of window 6 is its whole array at every point. -/
theorem whole_6 (t : Fin cfg0.N) : iblk m c 6 t = V m c main_v6 := by
  funext y
  show V m c main_v6 ((win0_6.rect t).emb y) = _
  refine congrArg _ (funext fun a => Fin.ext (Pipeline.Window.rect_emb_val_of_index_zero win0_6 t a ?_ y))
  match a with
  | ⟨0, _⟩ => rfl
  | ⟨1, _⟩ => rfl

/-- The block of window 7 is its whole array at every point. -/
theorem whole_7 (t : Fin cfg0.N) : iblk m c 7 t = V m c main_v7 := by
  funext y
  show V m c main_v7 ((win0_7.rect t).emb y) = _
  refine congrArg _ (funext fun a => Fin.ext (Pipeline.Window.rect_emb_val_of_index_zero win0_7 t a ?_ y))
  match a with
  | ⟨0, _⟩ => rfl
  | ⟨1, _⟩ => rfl

/-- The block of window 8 is its whole array at every point. -/
theorem whole_8 (t : Fin cfg0.N) : iblk m c 8 t = V m c main_v8 := by
  funext y
  show V m c main_v8 ((win0_8.rect t).emb y) = _
  refine congrArg _ (funext fun a => Fin.ext (Pipeline.Window.rect_emb_val_of_index_zero win0_8 t a ?_ y))
  match a with
  | ⟨0, _⟩ => rfl
  | ⟨1, _⟩ => rfl

/-- The block of window 9 is its whole array at every point. -/
theorem whole_9 (t : Fin cfg0.N) : iblk m c 9 t = V m c main_v1 := by
  funext y
  show V m c main_v1 ((win0_9.rect t).emb y) = _
  refine congrArg _ (funext fun a => Fin.ext (Pipeline.Window.rect_emb_val_of_index_zero win0_9 t a ?_ y))
  match a with
  | ⟨0, _⟩ => rfl
  | ⟨1, _⟩ => rfl
  | ⟨2, _⟩ => rfl
  | ⟨3, _⟩ => rfl

/-- The block of window 10 is its whole array at every point. -/
theorem whole_10 (t : Fin cfg0.N) : iblk m c 10 t = V m c main_v2 := by
  funext y
  show V m c main_v2 ((win0_10.rect t).emb y) = _
  refine congrArg _ (funext fun a => Fin.ext (Pipeline.Window.rect_emb_val_of_index_zero win0_10 t a ?_ y))
  match a with
  | ⟨0, _⟩ => rfl
  | ⟨1, _⟩ => rfl
  | ⟨2, _⟩ => rfl
  | ⟨3, _⟩ => rfl

/-- The block of window 11 is its whole array at every point. -/
theorem whole_11 (t : Fin cfg0.N) : iblk m c 11 t = V m c main_v10 := by
  funext y
  show V m c main_v10 ((win0_11.rect t).emb y) = _
  refine congrArg _ (funext fun a => Fin.ext (Pipeline.Window.rect_emb_val_of_index_zero win0_11 t a ?_ y))
  match a with
  | ⟨0, _⟩ => rfl
  | ⟨1, _⟩ => rfl
  | ⟨2, _⟩ => rfl

/-- The tokens of a block. -/
theorem moving_0 (t : Fin cfg0.N) (ht : t.val < 16) (s : Fin 2) (l : Fin 256) (k : Fin 1024) :
    iblk m c 0 t (ix2 (seqRow s l) k) = argX m c (ix3 (seqOf ⟨t.val, ht⟩ s) l k) := by
  have hi := (block_in t ht).1
  have hpos : (win0_0.rect t).emb (ix2 (seqRow s l) k) = ix2 (tokRow (seqOf ⟨t.val, ht⟩ s) l) k := by
    refine funext fun a => Fin.ext ((Pipeline.Window.rect_emb_val win0_0 t _ a).trans ?_)
    match a with
    | ⟨0, _⟩ => show win0_0.index t 0 * 512 + (s.val * 256 + l.val) = (2 * t.val + s.val) * 256 + l.val; rw [hi.1]; omega
    | ⟨1, _⟩ => show win0_0.index t 1 * 1024 + k.val = k.val; rw [hi.2]; omega
  show V m c main_v3 ((win0_0.rect t).emb (ix2 (seqRow s l) k)) = _
  rw [V_tokens, hpos]
  exact shapeCast_apply _ _ _ _ (by
    rw [Shape.rowMajor_val_two, Shape.rowMajor_val_three]
    rfl)

/-- The attention heads of a block. -/
theorem moving_1 (t : Fin cfg0.N) (ht : t.val < 16) (s : Fin 2) (l : Fin 256) (k : Fin 512) :
    iblk m c 1 t (ix2 (seqRow s l) k) = argA m c (ix2 (tokRow (seqOf ⟨t.val, ht⟩ s) l) k) := by
  have hi := (block_in t ht).2.1
  have hpos : (win0_1.rect t).emb (ix2 (seqRow s l) k) = ix2 (tokRow (seqOf ⟨t.val, ht⟩ s) l) k := by
    refine funext fun a => Fin.ext ((Pipeline.Window.rect_emb_val win0_1 t _ a).trans ?_)
    match a with
    | ⟨0, _⟩ => show win0_1.index t 0 * 512 + (s.val * 256 + l.val) = (2 * t.val + s.val) * 256 + l.val; rw [hi.1]; omega
    | ⟨1, _⟩ => show win0_1.index t 1 * 512 + k.val = k.val; rw [hi.2]; omega
  show V m c main_arg1 ((win0_1.rect t).emb (ix2 (seqRow s l) k)) = _
  rw [V_main_arg1, hpos]

/-- The other heads of a block. -/
theorem moving_2 (t : Fin cfg0.N) (ht : t.val < 16) (s : Fin 2) (l : Fin 256) (k : Fin 512) :
    iblk m c 2 t (ix2 (seqRow s l) k) = argH m c (ix2 (tokRow (seqOf ⟨t.val, ht⟩ s) l) k) := by
  have hi := (block_in t ht).2.2
  have hpos : (win0_2.rect t).emb (ix2 (seqRow s l) k) = ix2 (tokRow (seqOf ⟨t.val, ht⟩ s) l) k := by
    refine funext fun a => Fin.ext ((Pipeline.Window.rect_emb_val win0_2 t _ a).trans ?_)
    match a with
    | ⟨0, _⟩ => show win0_2.index t 0 * 512 + (s.val * 256 + l.val) = (2 * t.val + s.val) * 256 + l.val; rw [hi.1]; omega
    | ⟨1, _⟩ => show win0_2.index t 1 * 512 + k.val = k.val; rw [hi.2]; omega
  show V m c main_arg2 ((win0_2.rect t).emb (ix2 (seqRow s l) k)) = _
  rw [V_main_arg2, hpos]

/-- What point `t` leaves for the next. -/
def Left (t : Fin cfg0.N) : Prop :=
  Carried (iblk m c 0 t) (iblk m c 1 t) (iblk m c 2 t) (iblk m c 3 t) (iblk m c 4 t) (iblk m c 5 t) (iblk m c 6 t) (iblk m c 8 t) (iblk m c 9 t) (iblk m c 10 t) (iblk m c 11 t)
    (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2

/-- The first point leaves it. -/
theorem left_first (t : Fin cfg0.N) (ht : t.val = 0) : Left m c t := by
  have h0 : t.val % 17 = 0 := by omega
  unfold Left
  rw [outsAt0_A m c t h0 (by omega) (by omega) (by omega)]
  dsimp only
  have hi : (grid0.coords t 0).val < 16 := by rw [coord_val]; omega
  exact carried_A (hi := hi) ..

/-- A middle point leaves it, if the point before did. -/
theorem left_middle (t p : Fin cfg0.N) (hp : p.val = t.val - 1) (h1 : 1 ≤ t.val) (h2 : t.val < 16) (hL : Left m c p) : Left m c t := by
  obtain ⟨p, hp'⟩ := p
  have hp : p = t.val - 1 := hp
  subst hp
  unfold Left at hL ⊢
  rw [outsAt0_B m c t (by omega) (by omega) (by omega) h2]
  dsimp only at hL ⊢
  revert hL
  generalize outsAt0 m c (t.val - 1) _ = o
  intro hL
  have h3 := hL.staged.pads
  have h4 := hL.pads4
  have h5 := hL.pads5
  refine carried_B (hi := ?_) (hp3 := h3) (hp4 := h4) (hp5 := h5) ..
  rw [coord_val]; exact h2

/-- Every point but the last leaves it. -/
theorem left_all : ∀ (n : ℕ) (hn : n < cfg0.N), n < 16 → Left m c ⟨n, hn⟩
  | 0, hn, _ => left_first m c ⟨0, hn⟩ rfl
  | n + 1, hn, h => left_middle m c ⟨n + 1, hn⟩ ⟨n, Nat.lt_of_succ_lt hn⟩ rfl (Nat.succ_pos n) h (left_all n (Nat.lt_of_succ_lt hn) (Nat.lt_of_succ_lt h))

/-- What is carried depends on the resting blocks only through their values. -/
theorem Carried.move {x0 : S512x1024.Idx → EReal} {x1 x2 : S512x512.Idx → EReal} {x3 y3 : S6x8x1024.Idx → EReal} {x4 y4 : S1x1024.Idx → EReal}
    {x5 y5 : S1024x1024.Idx → EReal} {x6 y6 : S1x1024.Idx → EReal} {x8 y8 : S1024x5632.Idx → EReal} {x9 y9 : S2x11x3x256.Idx → EReal}
    {x10 y10 : S2x11x1x256.Idx → EReal} {x11 y11 : S11x256x1024.Idx → EReal} {s1 s2 : S512x1024.Idx → EReal} {s3 s4 s5 : S2x528x256.Idx → EReal}
    (hC : Carried x0 x1 x2 x3 x4 x5 x6 x8 x9 x10 x11 s1 s2 s3 s4 s5) (h3 : x3 = y3) (h4 : x4 = y4) (h5 : x5 = y5) (h6 : x6 = y6) (h8 : x8 = y8) (h9 : x9 = y9) (h10 : x10 = y10) (h11 : x11 = y11) :
    Carried x0 x1 x2 y3 y4 y5 y6 y8 y9 y10 y11 s1 s2 s3 s4 s5 := by
  subst h3 h4 h5 h6 h8 h9 h10 h11
  exact hC

/-- What a point after the first writes: the block before, finished. -/
theorem out_point (t p : Fin cfg0.N) (hp : p.val = t.val - 1) (h1 : 1 ≤ t.val) (s : Fin 2) (l : Fin 256) (d : Fin 1024) :
    (outsAt0 m c t.val t.isLt).1 (ix2 (seqRow s l) d)
      = blockOut (iblk m c 0 p) (iblk m c 1 p) (iblk m c 2 p) (iblk m c 3 t) (iblk m c 4 t) (iblk m c 5 t) (iblk m c 6 t) (iblk m c 7 t) (iblk m c 8 t) (iblk m c 9 t) (iblk m c 10 t) (iblk m c 11 t) s l d := by
  have ht : t.val < 17 := t.isLt
  obtain ⟨p, hp'⟩ := p
  have hp : p = t.val - 1 := hp
  subst hp
  have hL := left_all m c (t.val - 1) hp' (by omega)
  unfold Left at hL
  replace hL := Carried.move hL ((whole_3 m c _).trans (whole_3 m c t).symm) ((whole_4 m c _).trans (whole_4 m c t).symm) ((whole_5 m c _).trans (whole_5 m c t).symm) ((whole_6 m c _).trans (whole_6 m c t).symm) ((whole_8 m c _).trans (whole_8 m c t).symm) ((whole_9 m c _).trans (whole_9 m c t).symm) ((whole_10 m c _).trans (whole_10 m c t).symm) ((whole_11 m c _).trans (whole_11 m c t).symm)
  by_cases h2 : t.val < 16
  · have e : (outsAt0 m c t.val t.isLt).1 = _ := congrArg Prod.fst (outsAt0_B m c t (by omega) (by omega) (by omega) h2)
    rw [e]
    dsimp only at hL ⊢
    revert hL
    generalize outsAt0 m c (t.val - 1) _ = o
    intro hL
    have hi : 1 ≤ (grid0.coords t 0).val := by rw [coord_val]; exact h1
    exact out_B (hi := hi) (hC := hL) ..
  · have e : (outsAt0 m c t.val t.isLt).1 = _ := congrArg Prod.fst (outsAt0_C m c t (by omega) (by omega) (by omega) h2)
    rw [e]
    dsimp only at hL ⊢
    revert hL
    generalize outsAt0 m c (t.val - 1) _ = o
    intro hL
    have hi : 1 ≤ (grid0.coords t 0).val := by rw [coord_val]; exact h1
    exact out_C (hi := hi) (hC := hL) ..

/-- The plain formulas, as the output array. -/
def outA : S8192x1024.Idx → EReal := fun y =>
  outS (argX m c) (argA m c) (argH m c) (argMods m c) (argGrp m c) (argWo m c) (argN2 m c) (argWu m c) (argCW m c) (argCB m c) (argWd m c) (argFg m c)
    ⟨(y 0).val / 256, by have h : (y 0).val < 8192 := (y 0).isLt; omega⟩ ⟨(y 0).val % 256, Nat.mod_lt _ (by decide)⟩ (y 1)

/-- The formulas at a token. -/
theorem outA_apply (n : Fin 32) (l : Fin 256) (d : Fin 1024) :
    outA m c (ix2 (tokRow n l) d)
      = outS (argX m c) (argA m c) (argH m c) (argMods m c) (argGrp m c) (argWo m c) (argN2 m c) (argWu m c) (argCW m c) (argCB m c) (argWd m c) (argFg m c) n l d := by
  have e : ∀ (q : Fin 32) (p : Fin 256), q = n → p = l →
      outS (argX m c) (argA m c) (argH m c) (argMods m c) (argGrp m c) (argWo m c) (argN2 m c) (argWu m c) (argCW m c) (argCB m c) (argWd m c) (argFg m c) q p d
        = outS (argX m c) (argA m c) (argH m c) (argMods m c) (argGrp m c) (argWo m c) (argN2 m c) (argWu m c) (argCW m c) (argCB m c) (argWd m c) (argFg m c) n l d := by
    rintro _ _ rfl rfl; rfl
  exact e ⟨(n.val * 256 + l.val) / 256, by omega⟩ ⟨(n.val * 256 + l.val) % 256, by omega⟩
    (Fin.ext (show (n.val * 256 + l.val) / 256 = n.val by omega)) (Fin.ext (show (n.val * 256 + l.val) % 256 = l.val by omega))

/-- The finished block at its sequences. -/
theorem formula_point (t p : Fin cfg0.N) (hp : p.val < 16) (s : Fin 2) (l : Fin 256) (d : Fin 1024) :
    blockOut (iblk m c 0 p) (iblk m c 1 p) (iblk m c 2 p) (iblk m c 3 t) (iblk m c 4 t) (iblk m c 5 t) (iblk m c 6 t) (iblk m c 7 t) (iblk m c 8 t) (iblk m c 9 t) (iblk m c 10 t) (iblk m c 11 t) s l d
      = outS (argX m c) (argA m c) (argH m c) (argMods m c) (argGrp m c) (argWo m c) (argN2 m c) (argWu m c) (argCW m c) (argCB m c) (argWd m c) (argFg m c)
          (seqOf ⟨p.val, hp⟩ s) l d := by
  refine out_block (t := ⟨p.val, hp⟩) (hx0 := moving_0 m c p hp) (hx1 := moving_1 m c p hp) (hx2 := moving_2 m c p hp) (hx3 := ?_) (hx4 := ?_) (hx5 := ?_)
    (hx6 := ?_) (hx7 := ?_) (hx8 := ?_) (hx9 := ?_) (hx10 := ?_) (hx11 := ?_) ..
  · exact (whole_3 m c t).trans (V_main_arg3 m c)
  · exact fun k => (congrFun ((whole_4 m c t).trans (V_grp m c)) _).trans (gain_row _ k)
  · exact (whole_5 m c t).trans (V_wo m c)
  · exact fun k => (congrFun ((whole_6 m c t).trans (V_n2 m c)) _).trans (gain_row _ k)
  · exact fun k => (congrFun ((whole_7 m c t).trans (V_fg m c)) _).trans (gain_row _ k)
  · exact (whole_8 m c t).trans (V_wu m c)
  · exact fun e j k q => (congrFun (whole_9 m c t) _).trans (conv_weight m c e j k q)
  · exact fun e j q => (congrFun (whole_10 m c t) _).trans (conv_bias m c e j q)
  · exact fun j q d => (congrFun (whole_11 m c t) _).trans (down_weight m c j q d)

/-- Where an element of the output's block lies. -/
theorem out_pos (t : Fin cfg0.N) (h1 : 1 ≤ t.val) (hp : t.val - 1 < 16) (s : Fin 2) (l : Fin 256) (d : Fin 1024) :
    (win0_12.rect t).emb (ix2 (seqRow s l) d) = ix2 (tokRow (seqOf ⟨t.val - 1, hp⟩ s) l) d := by
  have hi := block_out t h1
  refine funext fun a => Fin.ext ((Pipeline.Window.rect_emb_val win0_12 t _ a).trans ?_)
  match a with
  | ⟨0, _⟩ => show win0_12.index t 0 * 512 + (s.val * 256 + l.val) = (2 * (t.val - 1) + s.val) * 256 + l.val; rw [hi.1]; omega
  | ⟨1, _⟩ => show win0_12.index t 1 * 1024 + d.val = d.val; rw [hi.2]; omega

/-- What a point writes back is its block of the formulas. -/
theorem flushed_formula (t : Fin cfg0.N) (hf : (cfg0.win 12).flush t = true) :
    (dats m 0 c).flushed 12 t = ((cfg0.win 12).blk t).view.read (Elt Ideal) (outA m c) := by
  have h1 : 1 ≤ t.val := (flush_out t).mp hf
  have ht : t.val < 17 := t.isLt
  funext y
  obtain ⟨s, l, d, rfl⟩ : ∃ (s : Fin 2) (l : Fin 256) (d : Fin 1024), y = ix2 (seqRow s l) d := by
    have h0 : (y 0).val < 512 := (y 0).isLt
    refine ⟨⟨(y 0).val / 256, by omega⟩, ⟨(y 0).val % 256, by omega⟩, ⟨(y 1).val, (y 1).isLt⟩, funext fun a => Fin.ext ?_⟩
    match a with
    | ⟨0, _⟩ => show (y 0).val = (y 0).val / 256 * 256 + (y 0).val % 256; omega
    | ⟨1, _⟩ => rfl
  refine (congrFun (Value.flushed12 m c t) _).trans ?_
  refine (out_point m c t ⟨t.val - 1, by omega⟩ rfl h1 s l d).trans ((formula_point m c t _ (show t.val - 1 < 16 by omega) s l d).trans ?_)
  show _ = outA m c ((win0_12.rect t).emb (ix2 (seqRow s l) d))
  rw [out_pos t h1 (by omega), outA_apply]

/-- The output array. -/
theorem out_array (n : Fin 32) (l : Fin 256) (d : Fin 1024) :
    (dats m 0 c).arrAt 12 cfg0.N (ix2 (tokRow n l) d)
      = outS (argX m c) (argA m c) (argH m c) (argMods m c) (argGrp m c) (argWo m c) (argN2 m c) (argWu m c) (argCW m c) (argCB m c) (argWd m c) (argFg m c) n l d := by
  obtain ⟨q, s, rfl⟩ : ∃ (q : Fin 16) (s : Fin 2), n = seqOf q s :=
    ⟨⟨n.val / 2, by omega⟩, ⟨n.val % 2, by omega⟩, Fin.ext (show n.val = 2 * (n.val / 2) + n.val % 2 by omega)⟩
  have hN : q.val + 1 < cfg0.N := show q.val + 1 < 17 by omega
  have hf : (cfg0.win 12).flush ⟨q.val + 1, hN⟩ = true := (flush_out ⟨q.val + 1, hN⟩).mpr (Nat.succ_pos _)
  have hb := congrFun ((dats m 0 c).read_blk_arrAt 12 (outA m c) (flushed_formula m c) ⟨q.val + 1, hN⟩ hf) (ix2 (seqRow s l) d)
  have hpos : (win0_12.rect ⟨q.val + 1, hN⟩).emb (ix2 (seqRow s l) d) = ix2 (tokRow (seqOf q s) l) d :=
    out_pos ⟨q.val + 1, hN⟩ (Nat.succ_pos _) (show q.val + 1 - 1 < 16 by omega) s l d
  rw [← hpos]
  refine Eq.trans hb ?_
  show outA m c ((win0_12.rect ⟨q.val + 1, hN⟩).emb (ix2 (seqRow s l) d)) = _
  rw [hpos, outA_apply]

end Cert.Tail
end
-- ==== Proof.TailRef.lean ====
/- The reference tail read at an index. -/
module

public import proofs.«01_k».proof.Proof.TailSpec
public import proofs.«01_k».proof.Proof.Padded
public import proofs.«01_k».proof.Proof.Gen.Reference3Ideal.Read
public import Idealize.ShloMosaic.Lib.IdealHost

@[expose] public section

set_option maxRecDepth 16384

noncomputable section

namespace Cert.Tail

open Idealize.ShloMosaic Idealize.ShloMosaic.ValueIdx Cert.Layer Cert.Reference3Ideal Cert.Reference3Ideal.Gen Cert.Reference3Ideal.Read
open Cert.Projection (tokRow at_channel at_three)

/-- A two-axis index given by its coordinates. -/
theorem at_two {a b : ℕ} (y : (⟨2, ![a, b]⟩ : Shape).Idx) (n : Fin a) (k : Fin b) (h0 : (y 0).val = n.val) (h1 : (y 1).val = k.val) : y = ix2 n k :=
  funext fun i => Fin.ext (by
    match i with
    | ⟨0, _⟩ => exact h0
    | ⟨1, _⟩ => exact h1)

/-- A row's normalisation from the sum of its squares. -/
theorem rms_of {n : ℕ} (w : BitVec 32) (x : Fin n → EReal) (c : Fin n) (z : EReal) (s : Fin n → EReal) (hz : z = 0) (hs : ∀ k, s k = x k * x k) :
    x c * Ideal.rsqrt (Ideal.div (z + ∑ k, s k) (word w) + word 0x358637BD#32) = rms w x c := by
  rw [hz, zero_add]
  unfold rms
  rw [Finset.sum_congr rfl fun k _ => hs k]

/-- One plus an exponential is not zero. -/
theorem one_add_exp_ne_zero (g : EReal) : (1 : EReal) + Ideal.exp g ≠ 0 := by
  induction g using EReal.rec with
  | bot => rw [Ideal.exp_bot, add_zero]; exact one_ne_zero
  | coe r =>
    rw [Ideal.exp_coe, ← EReal.coe_one, ← EReal.coe_add]
    have : (0 : ℝ) < 1 + Real.exp r := by positivity
    exact_mod_cast this.ne'
  | top => rw [Ideal.exp_top, EReal.add_top_of_ne_bot (show (1 : EReal) ≠ ⊥ from EReal.coe_ne_bot 1)]; exact EReal.top_ne_zero

/-- The reference's gating is the kernel's: `g * (1 / (1 + exp (-g)))` is `g / (1 + exp (0 - g))`. -/
theorem gated_ref (g u : EReal) :
    g * Ideal.div (word 0x3F800000#32) (word 0x3F800000#32 + Ideal.exp (-g)) * u = gated g u := by
  unfold gated
  have h1 : word 0x3F800000#32 = 1 := Ideal.ofBits_one_f32
  have h0 : word 0x00000000#32 = 0 := Ideal.ofBits_zero_f32
  rw [h1, h0, zero_sub]
  refine congrArg (· * u) ?_
  unfold Ideal.div
  rw [if_neg (one_add_exp_ne_zero _), if_neg (one_add_exp_ne_zero _), one_mul]

variable (x0 : (⟨3, ![32, 256, 1024]⟩ : Shape).Idx → EReal) (x1 x2 : (⟨2, ![8192, 512]⟩ : Shape).Idx → EReal)
  (x3 : (⟨3, ![6, 8, 1024]⟩ : Shape).Idx → EReal) (x4 : (⟨1, ![1024]⟩ : Shape).Idx → EReal)
  (x5 : (⟨2, ![1024, 1024]⟩ : Shape).Idx → EReal) (x6 : (⟨1, ![1024]⟩ : Shape).Idx → EReal)
  (x7 : (⟨2, ![1024, 5632]⟩ : Shape).Idx → EReal) (x8 : (⟨2, ![3, 5632]⟩ : Shape).Idx → EReal)
  (x9 : (⟨1, ![5632]⟩ : Shape).Idx → EReal) (x10 : (⟨2, ![2816, 1024]⟩ : Shape).Idx → EReal)
  (x11 : (⟨1, ![1024]⟩ : Shape).Idx → EReal)

/-- The first gate. -/
theorem ref_gate1 (k : Fin 1024) : val_main_v1 (F := Ideal) x3 (ix1 k) = x3 (ix3 2 0 k) := by
  rw [val_main_v1_apply, val_main_v0_apply]
  exact congrArg x3 (at_three _ (2 : Fin 6) (0 : Fin 8) k rfl rfl (Nat.mod_eq_of_lt k.isLt))

/-- The shift. -/
theorem ref_shift (k : Fin 1024) : val_main_v3 (F := Ideal) x3 (ix1 k) = x3 (ix3 3 0 k) := by
  rw [val_main_v3_apply, val_main_v2_apply]
  exact congrArg x3 (at_three _ (3 : Fin 6) (0 : Fin 8) k rfl rfl (Nat.mod_eq_of_lt k.isLt))

/-- The scale. -/
theorem ref_scale (k : Fin 1024) : val_main_v5 (F := Ideal) x3 (ix1 k) = x3 (ix3 4 0 k) := by
  rw [val_main_v5_apply, val_main_v4_apply]
  exact congrArg x3 (at_three _ (4 : Fin 6) (0 : Fin 8) k rfl rfl (Nat.mod_eq_of_lt k.isLt))

/-- The second gate. -/
theorem ref_gate2 (k : Fin 1024) : val_main_v7 (F := Ideal) x3 (ix1 k) = x3 (ix3 5 0 k) := by
  rw [val_main_v7_apply, val_main_v6_apply]
  exact congrArg x3 (at_three _ (5 : Fin 6) (0 : Fin 8) k rfl rfl (Nat.mod_eq_of_lt k.isLt))

/-- The attention's heads of a token. -/
theorem ref_att (n : Fin 32) (l : Fin 256) (k : Fin 512) : val_main_v8 (F := Ideal) x1 (ix3 n l k) = x1 (ix2 (tokRow n l) k) := by
  rw [val_main_v8_apply]
  have hk := k.isLt
  exact congrArg x1 (at_two _ (tokRow n l) k (show ((n.val * 256 + l.val) * 512 + k.val) / 512 = n.val * 256 + l.val by omega)
    (show ((n.val * 256 + l.val) * 512 + k.val) % 512 = k.val by omega))

/-- The other heads of a token. -/
theorem ref_hyo (n : Fin 32) (l : Fin 256) (k : Fin 512) : val_main_v9 (F := Ideal) x2 (ix3 n l k) = x2 (ix2 (tokRow n l) k) := by
  rw [val_main_v9_apply]
  have hk := k.isLt
  exact congrArg x2 (at_two _ (tokRow n l) k (show ((n.val * 256 + l.val) * 512 + k.val) / 512 = n.val * 256 + l.val by omega)
    (show ((n.val * 256 + l.val) * 512 + k.val) % 512 = k.val by omega))

/-- The attention's heads, normalised. -/
theorem ref_norm_att (n : Fin 32) (l : Fin 256) (k : Fin 512) :
    val_main_v20 (F := Ideal) x1 (ix3 n l k) = rms 0x44000000#32 (fun j => x1 (ix2 (tokRow n l) j)) k := by
  rw [val_main_v20_apply, val_main_v19_apply, val_main_v18_apply, val_main_v17_apply, val_main_v16_apply, val_main_v15_apply, val_main_v14_apply,
    val_main_v13_apply, val_main_v12_apply, ref_att]
  refine rms_of 0x44000000#32 (fun j => x1 (ix2 (tokRow n l) j)) k _
    (fun j => val_main_v11 (F := Ideal) x1 (idx_main_v12 (idx_main_v13 (idx_main_v19 (ix3 n l k))) j)) Ideal.ofBits_zero_f32 fun j => ?_
  rw [val_main_v11_apply, at_three (idx_main_v12 _ j) n l j rfl rfl rfl, ref_att]
  rfl

/-- The other heads, normalised. -/
theorem ref_norm_hyo (n : Fin 32) (l : Fin 256) (k : Fin 512) :
    val_main_v34 (F := Ideal) x2 (ix3 n l k) = rms 0x44000000#32 (fun j => x2 (ix2 (tokRow n l) j)) k := by
  rw [val_main_v34_apply, val_main_v33_apply, val_main_v32_apply, val_main_v31_apply, val_main_v30_apply, val_main_v29_apply, val_main_v28_apply,
    val_main_v27_apply, val_main_v26_apply, ref_hyo]
  refine rms_of 0x44000000#32 (fun j => x2 (ix2 (tokRow n l) j)) k _
    (fun j => val_main_v25 (F := Ideal) x2 (idx_main_v26 (idx_main_v27 (idx_main_v33 (ix3 n l k))) j)) Ideal.ofBits_zero_f32 fun j => ?_
  rw [val_main_v25_apply, at_three (idx_main_v26 _ j) n l j rfl rfl rfl, ref_hyo]
  rfl

/-- The merged heads. -/
theorem ref_merged (n : Fin 32) (l : Fin 256) (k : Fin 1024) :
    val_main_v38 (F := Ideal) x1 x2 x4 (ix3 n l k) = mergedS x1 x2 x4 n l k := by
  unfold val_main_v38 mergedS
  by_cases hk : k.val < 512
  · rw [dif_pos hk]
    refine (concatenate_pair_apply_left (t := S32x256x1024) (s₁ := S32x256x512) (s₂ := S32x256x512) (2 : Fin 3) _ _ _ (ix3 n l k) rfl
      (ix3 n l ⟨k.val, hk⟩) (fun a => by match a with | ⟨0, _⟩ => rfl | ⟨1, _⟩ => rfl | ⟨2, _⟩ => rfl)).trans ?_
    rw [val_main_v23_apply, val_main_v22_apply, val_main_v21_apply, val_main_v10_apply, ref_norm_att,
      at_channel k (idx_main_v10 _) rfl]
    rfl
  · rw [dif_neg hk]
    refine (concatenate_pair_apply_right (t := S32x256x1024) (s₁ := S32x256x512) (s₂ := S32x256x512) (2 : Fin 3) _ _ _ (ix3 n l k) rfl rfl
      (ix3 n l ⟨k.val - 512, by omega⟩) (fun a ha => by
        match a with
        | ⟨0, _⟩ => rfl
        | ⟨1, _⟩ => rfl
        | ⟨2, _⟩ => exact absurd rfl ha) (show k.val - 512 + 512 = k.val by omega)).trans ?_
    rw [val_main_v37_apply, val_main_v36_apply, val_main_v35_apply, val_main_v24_apply, ref_norm_hyo,
      at_channel k (idx_main_v24 _) (show 512 + (k.val - 512) = k.val by omega)]
    rfl

/-- A token with the projection of its heads added. -/
theorem ref_added (n : Fin 32) (l : Fin 256) (d : Fin 1024) :
    val_main_v43 (F := Ideal) x0 x1 x2 x3 x4 x5 (ix3 n l d) = addedS x0 x1 x2 x3 x4 x5 n l d := by
  rw [val_main_v43_apply, val_main_v42_apply, val_main_v41_apply, val_main_v40_apply, val_main_v39_apply,
    at_channel d (idx_main_v40 _) rfl, ref_gate1]
  refine congrArg (x0 (ix3 n l d) + x3 (ix3 2 0 d) * ·) (Finset.sum_congr rfl fun k _ => ?_)
  rw [at_three (lidx_main_v39 _ k) n l k rfl rfl rfl, at_two (ridx_main_v39 _ k) k d rfl rfl, ref_merged]

/-- That token normalised. -/
theorem ref_norm_added (n : Fin 32) (l : Fin 256) (d : Fin 1024) :
    val_main_v53 (F := Ideal) x0 x1 x2 x3 x4 x5 (ix3 n l d) = rms 0x44800000#32 (addedS x0 x1 x2 x3 x4 x5 n l) d := by
  rw [val_main_v53_apply, val_main_v52_apply, val_main_v51_apply, val_main_v50_apply, val_main_v49_apply, val_main_v48_apply, val_main_v47_apply,
    val_main_v46_apply, val_main_v45_apply, ref_added]
  refine rms_of 0x44800000#32 (addedS x0 x1 x2 x3 x4 x5 n l) d _
    (fun j => val_main_v44 (F := Ideal) x0 x1 x2 x3 x4 x5 (idx_main_v45 (idx_main_v46 (idx_main_v52 (ix3 n l d))) j)) Ideal.ofBits_zero_f32 fun j => ?_
  rw [val_main_v44_apply, at_three (idx_main_v45 _ j) n l j rfl rfl rfl, ref_added]
  rfl

/-- That token modulated. -/
theorem ref_hidden (n : Fin 32) (l : Fin 256) (d : Fin 1024) :
    val_main_v64 (F := Ideal) x0 x1 x2 x3 x4 x5 x6 (ix3 n l d) = hiddenS x0 x1 x2 x3 x4 x5 x6 n l d := by
  rw [val_main_v64_apply, val_main_v63_apply, val_main_v62_apply, val_main_v61_apply, val_main_v60_apply, val_main_v59_apply,
    val_main_v58_apply, val_main_v57_apply, val_main_v56_apply, val_main_v55_apply, val_main_v54_apply, ref_norm_added,
    at_channel d (idx_main_v62 _) rfl, at_channel d (idx_main_v59 _) rfl, at_channel d (idx_main_v54 _) rfl, ref_shift, ref_scale]
  rfl

/-- Its projection upwards. -/
theorem ref_up (n : Fin 32) (l : Fin 256) (j : Fin 5632) :
    val_main_v65 (F := Ideal) x0 x1 x2 x3 x4 x5 x6 x7 (ix3 n l j) = upS x0 x1 x2 x3 x4 x5 x6 x7 n l j := by
  rw [val_main_v65_apply]
  refine Finset.sum_congr rfl fun k _ => ?_
  rw [at_three (lidx_main_v65 _ k) n l k rfl rfl rfl, at_two (ridx_main_v65 _ k) k j rfl rfl, ref_hidden]

/-- The padding is zero. -/
theorem ref_zero : val_main_call0_v0 (F := Ideal) (Shape.Idx.first h_S_) = 0 := by
  show FloatOps.sitofp (F := Ideal) .f32 (0#32 : BitVec 32) = 0
  simp [FloatOps.sitofp]

/-- A weight of the convolution, its first row. -/
theorem ref_w0 (n : Fin 32) (l : Fin 256) (d : Fin 5632) : val_main_v71 (F := Ideal) x8 (ix3 n l d) = x8 (ix2 0 d) := by
  rw [val_main_v71_apply, val_main_v70_apply, val_main_v69_apply, val_main_v68_apply]
  exact congrArg x8 (at_two _ (0 : Fin 3) d rfl (Nat.mod_eq_of_lt d.isLt))

/-- Its second row. -/
theorem ref_w1 (n : Fin 32) (l : Fin 256) (d : Fin 5632) : val_main_v77 (F := Ideal) x8 (ix3 n l d) = x8 (ix2 1 d) := by
  rw [val_main_v77_apply, val_main_v76_apply, val_main_v75_apply, val_main_v74_apply]
  exact congrArg x8 (at_two _ (1 : Fin 3) d rfl (Nat.mod_eq_of_lt d.isLt))

/-- Its third row. -/
theorem ref_w2 (n : Fin 32) (l : Fin 256) (d : Fin 5632) : val_main_v84 (F := Ideal) x8 (ix3 n l d) = x8 (ix2 2 d) := by
  rw [val_main_v84_apply, val_main_v83_apply, val_main_v82_apply, val_main_v81_apply]
  exact congrArg x8 (at_two _ (2 : Fin 3) d rfl (Nat.mod_eq_of_lt d.isLt))

/-- The convolution. -/
theorem ref_conv (n : Fin 32) (l : Fin 256) (d : Fin 5632) :
    val_main_v89 (F := Ideal) x0 x1 x2 x3 x4 x5 x6 x7 x8 x9 (ix3 n l d) = convolvedS x0 x1 x2 x3 x4 x5 x6 x7 x8 x9 n l d := by
  rw [val_main_v89_apply, val_main_v88_apply, val_main_v87_apply, val_main_v86_apply, val_main_v85_apply, val_main_v80_apply,
    val_main_v79_apply, val_main_v78_apply, val_main_v73_apply, val_main_v72_apply, val_main_v67_apply, ref_w0, ref_w1, ref_w2,
    at_channel d (idx_main_v87 _) rfl]
  unfold convolvedS conv3
  have hrow : (fun l => val_main_v65 (F := Ideal) x0 x1 x2 x3 x4 x5 x6 x7 (ix3 n l d)) = fun l => upS x0 x1 x2 x3 x4 x5 x6 x7 n l d :=
    funext fun l => ref_up x0 x1 x2 x3 x4 x5 x6 x7 n l d
  refine congrArg (· + x9 (ix1 d)) (congrArg₂ (· + ·) (congrArg₂ (· + ·) (congrArg (· * x8 (ix2 0 d)) ?_) (congrArg (· * x8 (ix2 1 d)) ?_))
    (congrArg (· * x8 (ix2 2 d)) ?_))
  · rw [at_three (idx_main_v67 _) n (⟨l.val, by omega⟩ : Fin 258) d rfl rfl rfl, ← hrow]
    exact padded_prev _ _ _ _ ref_zero n l d _ rfl
  · rw [at_three (idx_main_v73 _) n (⟨1 + l.val, by omega⟩ : Fin 258) d rfl rfl rfl]
    exact (padded_inside _ _ _ _ n l d _ rfl).trans (ref_up x0 x1 x2 x3 x4 x5 x6 x7 n l d)
  · rw [at_three (idx_main_v80 _) n (⟨2 + l.val, by omega⟩ : Fin 258) d rfl rfl rfl, ← hrow]
    exact padded_next _ _ _ _ ref_zero n l d _ rfl

/-- The gated activation. -/
theorem ref_act (n : Fin 32) (l : Fin 256) (f : Fin 2816) :
    val_main_v93 (F := Ideal) x0 x1 x2 x3 x4 x5 x6 x7 x8 x9 (ix3 n l f) = actS x0 x1 x2 x3 x4 x5 x6 x7 x8 x9 n l f := by
  rw [val_main_v93_apply, val_main_v92_apply, val_main_call1_v5_apply, val_main_call1_v4_apply, val_main_call1_v3_apply, val_main_call1_v2_apply,
    val_main_call1_v1_apply, val_main_call1_v0_apply, val_main_v91_apply, val_main_v90_apply,
    at_three (idx_main_v90 _) n l (⟨f.val, by omega⟩ : Fin 5632) rfl rfl rfl,
    at_three (idx_main_v91 _) n l (⟨2816 + f.val, by omega⟩ : Fin 5632) rfl rfl rfl, ref_conv, ref_conv]
  exact gated_ref _ _

/-- The token with the projection downwards added. -/
theorem ref_last (n : Fin 32) (l : Fin 256) (d : Fin 1024) :
    val_main_v98 (F := Ideal) x0 x1 x2 x3 x4 x5 x6 x7 x8 x9 x10 (ix3 n l d) = lastS x0 x1 x2 x3 x4 x5 x6 x7 x8 x9 x10 n l d := by
  rw [val_main_v98_apply, val_main_v97_apply, val_main_v96_apply, val_main_v95_apply, val_main_v94_apply, ref_added,
    at_channel d (idx_main_v95 _) rfl, ref_gate2]
  refine congrArg (addedS x0 x1 x2 x3 x4 x5 n l d + x3 (ix3 5 0 d) * ·) (Finset.sum_congr rfl fun f _ => ?_)
  rw [at_three (lidx_main_v94 _ f) n l f rfl rfl rfl, at_two (ridx_main_v94 _ f) f d rfl rfl, ref_act]

/-- That token normalised. -/
theorem ref_norm_last (n : Fin 32) (l : Fin 256) (d : Fin 1024) :
    val_main_v108 (F := Ideal) x0 x1 x2 x3 x4 x5 x6 x7 x8 x9 x10 (ix3 n l d) = rms 0x44800000#32 (lastS x0 x1 x2 x3 x4 x5 x6 x7 x8 x9 x10 n l) d := by
  rw [val_main_v108_apply, val_main_v107_apply, val_main_v106_apply, val_main_v105_apply,
    val_main_v104_apply, val_main_v103_apply, val_main_v102_apply, val_main_v101_apply, val_main_v100_apply, ref_last]
  refine rms_of 0x44800000#32 (lastS x0 x1 x2 x3 x4 x5 x6 x7 x8 x9 x10 n l) d _
    (fun j => val_main_v99 (F := Ideal) x0 x1 x2 x3 x4 x5 x6 x7 x8 x9 x10 (idx_main_v100 (idx_main_v101 (idx_main_v107 (ix3 n l d))) j)) Ideal.ofBits_zero_f32 fun j => ?_
  rw [val_main_v99_apply, at_three (idx_main_v100 _ j) n l j rfl rfl rfl, ref_last]
  rfl

/-- The reference's result. -/
theorem ref_out (n : Fin 32) (l : Fin 256) (d : Fin 1024) :
    val_main_v112 (F := Ideal) x0 x1 x2 x3 x4 x5 x6 x7 x8 x9 x10 x11 (ix2 (tokRow n l) d) = outS x0 x1 x2 x3 x4 x5 x6 x7 x8 x9 x10 x11 n l d := by
  have hd := d.isLt
  have hl := l.isLt
  have e : idx_main_v112 (ix2 (tokRow n l) d) = ix3 n l d := at_three _ n l d
    (show ((n.val * 256 + l.val) * 1024 + d.val) / 262144 = n.val by omega)
    (show ((n.val * 256 + l.val) * 1024 + d.val) / 1024 % 256 = l.val by omega)
    (show ((n.val * 256 + l.val) * 1024 + d.val) % 1024 = d.val by omega)
  rw [val_main_v112_apply, e, val_main_v111_apply, val_main_v110_apply, val_main_v109_apply, ref_norm_last, at_channel d (idx_main_v109 _) rfl]
  rfl

end Cert.Tail
end
-- ==== Proof.TailAlgebraic.lean ====
/- The tail's value claim: both programs leave the plain formulas in their result array. -/
module

public import proofs.«01_k».proof.Defs
public import proofs.«01_k».proof.Proof.TailArray
public import proofs.«01_k».proof.Proof.TailRef
public import proofs.«01_k».proof.Proof.Gen.Reference3Ideal.Run

@[expose] public section

noncomputable section

namespace Cert.Tail

open Idealize.ShloMosaic Idealize.ShloMosaic.TcCoe Idealize.ShloMosaic.ValueIdx Idealize.SL.Sem
open Cert.Projection (tokRow)

/-- Every index of the result is a sequence's token and a channel. -/
theorem token_index (y : (⟨2, ![8192, 1024]⟩ : Shape).Idx) : ∃ (n : Fin 32) (l : Fin 256) (d : Fin 1024), y = ix2 (tokRow n l) d := by
  have h0 : (y 0).val < 8192 := (y 0).isLt
  refine ⟨⟨(y 0).val / 256, by omega⟩, ⟨(y 0).val % 256, by omega⟩, ⟨(y 1).val, (y 1).isLt⟩, funext fun a => Fin.ext ?_⟩
  match a with
  | ⟨0, _⟩ => show (y 0).val = (y 0).val / 256 * 256 + (y 0).val % 256; omega
  | ⟨1, _⟩ => rfl

variable (m : (ℓ : Loc Cert.Kernel3Ideal.nD Cert.Kernel3Ideal.τ Cert.Kernel3Ideal.sig) → Buf (Elt Ideal) ℓ) (c : Dev Cert.Kernel3Ideal.nD)

/-- The results are the same array. -/
theorem same_out : Cert.Reference3Ideal.Read.val_main_v112 (F := Ideal) (argX m c) (argA m c) (argH m c) (argMods m c) (argGrp m c) (argWo m c) (argN2 m c) (argWu m c) (argCW m c) (argCB m c) (argWd m c) (argFg m c)
    = (Cert.Kernel3Ideal.Gen.dats m 0 c).arrAt 12 Cert.Kernel3Ideal.cfg0.N := by
  funext y
  obtain ⟨n, l, d, rfl⟩ := token_index y
  exact (ref_out (argX m c) (argA m c) (argH m c) (argMods m c) (argGrp m c) (argWo m c) (argN2 m c) (argWu m c) (argCW m c) (argCB m c) (argWd m c) (argFg m c) n l d).trans (out_array m c n l d).symm

/-- The value claim. -/
theorem algebraic : Cert.algebraic_Kernel3Ideal_Reference3Ideal := fun m g m' g' _ hargs =>
  ⟨fun c => (Cert.Kernel3Ideal.Gen.dats m 0 c).arrAt 12 Cert.Kernel3Ideal.cfg0.N, Cert.Kernel3Ideal.Value.run_blocks m g,
    (θ_run _ _ _).mono (fun r h c => by
      obtain ⟨a0, a1, a2, a3, a4, a5, a6, a7, a8, a9, a10, a11⟩ := hargs c
      obtain ⟨r0, rest⟩ := h c
      refine ⟨r0.trans ?_, rest⟩
      refine (Cert.Reference3Ideal.Read.val_main_v112_eq (StableHlo.launchContents m' c)).trans ?_
      show Cert.Reference3Ideal.Read.val_main_v112 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) = _
      rw [a0, a1, a2, a3, a4, a5, a6, a7, a8, a9, a10, a11]
      exact same_out m c) (Cert.Reference3Ideal.Value.run m' g')⟩

end Cert.Tail
end
-- ==== Proof.SampleBody.lean ====
/- The sample's projection at one grid point, read at an index: a grid point holds one sequence, whose rows are normalised,
   modulated, multiplied with the weights and convolved along the sequence. -/
module

public import proofs.«01_k».proof.Proof.ProjOut
public import proofs.«01_k».proof.Proof.Gen.Kernel4Ideal.Skeleton

@[expose] public section

set_option maxRecDepth 16384

noncomputable section

namespace Cert.Sample

open Idealize.ShloMosaic Idealize.ShloMosaic.ValueIdx Cert.Layer Cert.Kernel4Ideal Cert.Kernel4Ideal.Gen
open Cert.Projection (spread_apply same_cast tiles tiles_apply lane_test turn_apply joined_apply)

/-- The modulated, normalised rows of a block. -/
theorem hidden_apply (sh sc g : FVec Ideal S1x1024 .f32) (x : FVec Ideal S1024x1024 .f32) (r c : Fin 1024) :
    k0_pay8 sh sc (k0_pay7 x g) (ix2 r c)
      = rms 0x44800000#32 (fun k => x (ix2 r k)) c * g (ix2 0 c) * (word 0x3F800000#32 + sc (ix2 0 c)) + sh (ix2 0 c) :=
  Cert.Projection.hidden_apply sh sc g x r c

/-- The product of a block's rows with the convolved columns of the weights. -/
abbrev wide (h : FVec Ideal S1024x1024 .bf16) (w : FVec Ideal S1024x1536 .bf16) : FVec Ideal S1024x1536 .f32 :=
  matmul dot_S1024x1024_S1024x1536_S1024x1536_1_0_0_1_n_n none h (shapeCast S1024x1536 w Gen.shapeCasts_S1024x1536_S1024x1536)
    (constant S1024x1536 .f32 0x00000000#32)

theorem wide_apply (h : FVec Ideal S1024x1024 .bf16) (w : FVec Ideal S1024x1536 .bf16) (r : Fin 1024) (c : Fin 1536) :
    wide h w (ix2 r c) = ∑ k : Fin 1024, h (ix2 r k) * w (ix2 k c) :=
  Cert.Projection.wide_apply h w r c

/-- The product of a block's rows with 512 columns of the weights. -/
abbrev narrow (h : FVec Ideal S1024x1024 .bf16) (w : FVec Ideal S1024x512 .bf16) : FVec Ideal S1024x512 .f32 :=
  matmul dot_S1024x1024_S1024x512_S1024x512_1_0_0_1_n_n none h (shapeCast S1024x512 w Gen.shapeCasts_S1024x512_S1024x512)
    (constant S1024x512 .f32 0x00000000#32)

theorem narrow_apply (h : FVec Ideal S1024x1024 .bf16) (w : FVec Ideal S1024x512 .bf16) (r : Fin 1024) (c : Fin 512) :
    narrow h w (ix2 r c) = ∑ k : Fin 1024, h (ix2 r k) * w (ix2 k c) :=
  Cert.Projection.narrow_apply h w r c

/-- A tile of zeros. -/
abbrev zeroTile : FVec Ideal S1x8x1536 .f32 := broadcast S1x8x1536 (Scalar.ofBits (F := Ideal) .f32 0x00000000#32)

theorem zeroTile_apply (i : S1x8x1536.Idx) : zeroTile i = 0 := Ideal.ofBits_zero_f32

/-- A run of tiles, read at an index. -/
theorem run_apply (o : ℕ) (v : FVec Ideal S128x8x1536 .f32) (h) (t : Fin 127) (e : Fin 8) (c : Fin 1536) (t' : Fin 128) (ht : t'.val = o + t.val) :
    extractStridedSlice S127x8x1536 ![o, 0, 0] v h (ix3 t e c) = v (ix3 t' e c) :=
  extractStridedSlice_apply _ _ _ _ _ fun a => match a with
    | ⟨0, _⟩ => ht
    | ⟨1, _⟩ => (Nat.zero_add _).symm
    | ⟨2, _⟩ => (Nat.zero_add _).symm

/-- A tile of zeros before the first 127 tiles. -/
abbrev before (v : FVec Ideal S128x8x1536 .f32) : FVec Ideal S128x8x1536 .f32 :=
  concatenate S128x8x1536 0 [⟨S1x8x1536, zeroTile⟩,
    ⟨S127x8x1536, extractStridedSlice S127x8x1536 ![0, 0, 0] v Gen.slices_S128x8x1536_o0_0_0_S127x8x1536⟩]
    Gen.concatenates_S1x8x1536_S127x8x1536_S128x8x1536_d0

/-- The last 127 tiles, then a tile of zeros. -/
abbrev after (v : FVec Ideal S128x8x1536 .f32) : FVec Ideal S128x8x1536 .f32 :=
  concatenate S128x8x1536 0 [⟨S127x8x1536, extractStridedSlice S127x8x1536 ![1, 0, 0] v Gen.slices_S128x8x1536_o1_0_0_S127x8x1536⟩,
    ⟨S1x8x1536, zeroTile⟩] Gen.concatenates_S127x8x1536_S1x8x1536_S128x8x1536_d0

/-- The tile before, zero before the first. -/
theorem before_apply (v : FVec Ideal S128x8x1536 .f32) (q : Fin 128) (e : Fin 8) (c : Fin 1536) :
    before v (ix3 q e c) = if q.val = 0 then 0 else v (ix3 (⟨q.val - 1, by omega⟩ : Fin 128) e c) := by
  unfold before
  by_cases hq : q.val = 0
  · rw [if_pos hq, ← zeroTile_apply (ix3 (0 : Fin 1) e c)]
    exact joined_apply _ _ 0 (by simp) _ rfl 0 rfl _ (0 : Fin 1) (by show 0 + 0 = q.val; omega) e c
  · rw [if_neg hq]
    exact (joined_apply _ _ 1 (by simp) _ rfl 1 rfl _ (⟨q.val - 1, by omega⟩ : Fin 127) (by show 1 + (q.val - 1) = q.val; omega) e c).trans
      (run_apply 0 v _ _ e c _ (by show q.val - 1 = 0 + (q.val - 1); omega))

/-- The tile after, zero after the last. -/
theorem after_apply (v : FVec Ideal S128x8x1536 .f32) (q : Fin 128) (e : Fin 8) (c : Fin 1536) :
    after v (ix3 q e c) = if h : q.val = 127 then 0 else v (ix3 (⟨q.val + 1, by omega⟩ : Fin 128) e c) := by
  unfold after
  by_cases hq : q.val = 127
  · rw [dif_pos hq, ← zeroTile_apply (ix3 (0 : Fin 1) e c)]
    exact joined_apply _ _ 1 (by simp) _ rfl 127 rfl _ (0 : Fin 1) (by show 127 + 0 = q.val; omega) e c
  · rw [dif_neg hq]
    exact (joined_apply _ _ 0 (by simp) _ rfl 0 rfl _ (⟨q.val, by omega⟩ : Fin 127) (by show 0 + q.val = q.val; omega) e c).trans
      (run_apply 1 v _ _ e c _ (by show q.val + 1 = 1 + q.val; omega))

/-- The rows above, as the kernel forms them. -/
abbrev aboveOf (u : FVec Ideal S1024x1536 .f32) : FVec Ideal S1024x1536 .f32 :=
  shapeCast S1024x1536 (select
    (broadcastTo S128x8x1536 (shapeCast S1x8x1 (cmpi .eq (iota .tc S1x8x1 32 [1] Gen.iota_S1x8x1_d1_w32) (broadcast S1x8x1 0#32))
        Gen.shapeCasts_S1x8x1_S1x8x1) Gen.broadcasts_S1x8x1_S128x8x1536)
    (before (dynamicRotate 1 1#32 none (tiles u) Gen.rotates_S128x8x1536_d1))
    (dynamicRotate 1 1#32 none (tiles u) Gen.rotates_S128x8x1536_d1)) Gen.shapeCasts_S128x8x1536_S1024x1536

/-- The rows below, as the kernel forms them. -/
abbrev belowOf (u : FVec Ideal S1024x1536 .f32) : FVec Ideal S1024x1536 .f32 :=
  shapeCast S1024x1536 (select
    (broadcastTo S128x8x1536 (shapeCast S1x8x1 (cmpi .eq (iota .tc S1x8x1 32 [1] Gen.iota_S1x8x1_d1_w32) (broadcast S1x8x1 7#32))
        Gen.shapeCasts_S1x8x1_S1x8x1) Gen.broadcasts_S1x8x1_S128x8x1536)
    (after (dynamicRotate 1 7#32 none (tiles u) Gen.rotates_S128x8x1536_d1))
    (dynamicRotate 1 7#32 none (tiles u) Gen.rotates_S128x8x1536_d1)) Gen.shapeCasts_S128x8x1536_S1024x1536

/-- Each row lies in one of the 128 tiles. -/
theorem row_tile (l : Fin 1024) : ∃ (q : Fin 128) (e : Fin 8), l.val = q.val * 8 + e.val :=
  ⟨⟨l.val / 8, by omega⟩, ⟨l.val % 8, by omega⟩, by show l.val = l.val / 8 * 8 + l.val % 8; omega⟩

/-- Reading a reshaped array of tiles at a row. -/
theorem untile_apply (v : FVec Ideal S128x8x1536 .f32) (q : Fin 128) (e : Fin 8) (l : Fin 1024) (hl : l.val = q.val * 8 + e.val)
    (c : Fin 1536) : shapeCast S1024x1536 v Gen.shapeCasts_S128x8x1536_S1024x1536 (ix2 l c) = v (ix3 q e c) :=
  shapeCast_apply _ _ _ _ (by
    rw [Shape.rowMajor_val_two, Shape.rowMajor_val_three]
    show (q.val * 8 + e.val) * 1536 + c.val = l.val * 1536 + c.val
    rw [hl])

theorem above_apply (u : FVec Ideal S1024x1536 .f32) (l : Fin 1024) (c : Fin 1536) :
    aboveOf u (ix2 l c) = prev (fun l => u (ix2 l c)) l := by
  obtain ⟨q, e, hl⟩ := row_tile l
  refine (untile_apply _ q e l hl c).trans ((select_apply _ _ _ _).trans ?_)
  rw [lane_test 0#32 0 rfl]
  unfold prev
  by_cases he : e = 0
  · rw [if_pos he]
    refine Eq.trans (if_pos rfl) ?_
    rw [before_apply]
    have he0 : e.val = 0 := congrArg Fin.val he
    by_cases hq : q.val = 0
    · rw [if_pos hq, dif_pos (by omega)]
    · rw [if_neg hq, dif_neg (by omega), turn_apply 1#32 1 rfl _ _ _ 7 _ (by rw [he0]; rfl), tiles_apply]
      refine congrArg (fun r => u (ix2 r c)) (Fin.ext ?_)
      show (q.val - 1) * 8 + 7 = l.val - 1
      omega
  · have he0 : e.val ≠ 0 := fun h => he (Fin.ext h)
    rw [if_neg he]
    refine Eq.trans (if_neg (by decide)) ?_
    rw [dif_neg (by omega),
      turn_apply 1#32 1 rfl _ _ _ (⟨e.val - 1, by omega⟩ : Fin 8) _ (by show e.val - 1 = (e.val + 8 - 1 % 8) % 8; omega), tiles_apply]
    refine congrArg (fun r => u (ix2 r c)) (Fin.ext ?_)
    show q.val * 8 + (e.val - 1) = l.val - 1
    omega

theorem below_apply (u : FVec Ideal S1024x1536 .f32) (l : Fin 1024) (c : Fin 1536) :
    belowOf u (ix2 l c) = next (fun l => u (ix2 l c)) l := by
  obtain ⟨q, e, hl⟩ := row_tile l
  refine (untile_apply _ q e l hl c).trans ((select_apply _ _ _ _).trans ?_)
  rw [lane_test 7#32 7 rfl]
  unfold next
  by_cases he : e = 7
  · rw [if_pos he]
    refine Eq.trans (if_pos rfl) ?_
    rw [after_apply]
    have he0 : e.val = 7 := congrArg Fin.val he
    by_cases hq : q.val = 127
    · rw [dif_pos hq, dif_neg (by omega)]
    · rw [dif_neg hq, dif_pos (by omega), turn_apply 7#32 7 rfl _ _ _ 0 _ (by rw [he0]; rfl), tiles_apply]
      refine congrArg (fun r => u (ix2 r c)) (Fin.ext ?_)
      show (q.val + 1) * 8 + 0 = l.val + 1
      omega
  · have he0 : e.val ≠ 7 := fun h => he (Fin.ext h)
    rw [if_neg he]
    refine Eq.trans (if_neg (by decide)) ?_
    rw [dif_pos (by omega),
      turn_apply 7#32 7 rfl _ _ _ (⟨e.val + 1, by omega⟩ : Fin 8) _ (by show e.val + 1 = (e.val + 8 - 7 % 8) % 8; omega), tiles_apply]
    refine congrArg (fun r => u (ix2 r c)) (Fin.ext ?_)
    show q.val * 8 + (e.val + 1) = l.val + 1
    omega

/-- The convolved columns of a block, as the kernel forms them. -/
abbrev convB (u : FVec Ideal S1024x1536 .f32) (w0 w1 w2 b : Vec Ideal S1x1536 .f32) : FVec Ideal S1024x1536 .f32 :=
  k0_pay1 (addf (addf (mulf (aboveOf u) (broadcastTo S1024x1536 w0 Gen.broadcasts_S1x1536_S1024x1536))
      (mulf u (broadcastTo S1024x1536 w1 Gen.broadcasts_S1x1536_S1024x1536)))
    (mulf (belowOf u) (broadcastTo S1024x1536 w2 Gen.broadcasts_S1x1536_S1024x1536))) b

theorem conv_apply (u : FVec Ideal S1024x1536 .f32) (w0 w1 w2 b : Vec Ideal S1x1536 .f32) (l : Fin 1024) (c : Fin 1536) :
    convB u w0 w1 w2 b (ix2 l c)
      = conv3 (fun l => u (ix2 l c)) (w0 (ix2 0 c)) (w1 (ix2 0 c)) (w2 (ix2 0 c)) (b (ix2 0 c)) l := by
  have hs : ∀ w : Vec Ideal S1x1536 .f32, broadcastTo S1024x1536 w Gen.broadcasts_S1x1536_S1024x1536 (ix2 l c) = w (ix2 0 c) :=
    fun w => spread_apply w (by decide) _ _ _
  refine (addf_apply _ _ _).trans (congrArg₂ (· + ·) ((addf_apply _ _ _).trans (congrArg₂ (· + ·) ((addf_apply _ _ _).trans (congrArg₂ (· + ·) ?_ ?_)) ?_)) ?_)
  · exact (mulf_apply _ _ _).trans (congrArg₂ (· * ·) (above_apply u l c) (hs w0))
  · exact (mulf_apply _ _ _).trans (congrArg (_ * ·) (hs w1))
  · exact (mulf_apply _ _ _).trans (congrArg₂ (· * ·) (below_apply u l c) (hs w2))
  · exact (hs _).trans (same_cast _ _ _)

end Cert.Sample
end
-- ==== Proof.SampleOut.lean ====
/- What the sample's projection writes at one grid point: queries (scaled), keys and values, and the convolved columns. -/
module

public import proofs.«01_k».proof.Proof.SampleBody
public import proofs.«01_k».proof.Proof.Gen.Kernel4Ideal.Value
public import Idealize.ShloMosaic.Lib.Pipeline.ReadBack

@[expose] public section

set_option maxRecDepth 16384

noncomputable section

namespace Cert.Sample

open Idealize.ShloMosaic Idealize.ShloMosaic.ValueIdx Idealize.ShloMosaic.Tactic Cert.Layer Cert.Kernel4Ideal Cert.Kernel4Ideal.Gen
open Cert.Projection (ix2_eta)

/-- A rectangle of a staged two-axis block, read at an index. -/
theorem load_apply {M N a b : ℕ} {e : EltTy} (arg : Memref sig Kind.tc Space.vmem ⟨2, ![M, N]⟩ e) (harg : arg.IsWhole)
    (x : Vec Ideal ⟨2, ![M, N]⟩ e) (o1 o2 : ℕ) (inb : ∀ k, (![o1, o2] : Fin 2 → ℕ) k + (⟨2, ![a, b]⟩ : Shape).size k ≤ (⟨2, ![M, N]⟩ : Shape).size k)
    (r : Fin a) (c : Fin b) (r' : Fin M) (c' : Fin N) (hr : r'.val = o1 + r.val) (hc : c'.val = o2 + c.val) :
    View.readAt (Elt Ideal) arg.view (Rect.unit (s := ⟨2, ![M, N]⟩) ![o1, o2] (⟨2, ![a, b]⟩ : Shape).size inb).toLoadRect (harg.unread x) (ix2 r c)
      = x (ix2 r' c') := by
  refine (congrFun (harg.read_unread x) _).trans (congrArg x (funext fun k => Fin.ext ?_))
  refine (ValueKit.rect_emb_unit_val (s := ⟨2, ![M, N]⟩) _ _ inb (ix2 r c) k).trans ?_
  match k with
  | ⟨0, _⟩ => exact hr.symm
  | ⟨1, _⟩ => exact hc.symm

/-- The row of the modulations a grid point reads. -/
abbrev pointRow (i : grid0.Coords) : Fin 8 := ⟨1 + (i 0).val, by have h : (i 0).val < 4 := (i 0).isLt; omega⟩

theorem off_shift : ∀ i : grid0.Coords, k0_off1 i = ![0, (pointRow i).val, 0] := by decide +kernel

theorem off_scale : ∀ i : grid0.Coords, k0_off2 i = ![1, (pointRow i).val, 0] := by decide +kernel

variable (c : Dev nD) (i : grid0.Coords) (arg1 : Memref sig .tc .vmem S1024x1024 .f32) (harg1 : arg1.IsWhole)
  (arg2 : Memref sig .tc .vmem S6x8x1024 .f32) (harg2 : arg2.IsWhole) (arg3 : Memref sig .tc .vmem S1x1024 .f32) (harg3 : arg3.IsWhole)
  (arg4 : Memref sig .tc .vmem S1024x3072 .bf16) (harg4 : arg4.IsWhole) (arg5 : Memref sig .tc .vmem S3x1536 .f32) (harg5 : arg5.IsWhole)
  (arg6 : Memref sig .tc .vmem S1x1536 .f32) (harg6 : arg6.IsWhole) (arg7 : Memref sig .tc .vmem S1024x1536 .bf16) (harg7 : arg7.IsWhole)
  (arg8 : Memref sig .tc .vmem S1024x1536 .f32) (harg8 : arg8.IsWhole)
  (x0 : S1024x1024.Idx → EReal) (x1 : S6x8x1024.Idx → EReal) (x2 : S1x1024.Idx → EReal) (x3 : S1024x3072.Idx → EReal)
  (x4 : S3x1536.Idx → EReal) (x5 : S1x1536.Idx → EReal)

/-- A row of the modulations, read where it lies. -/
theorem mod_load (k : ℕ) (hk : k < 6) (b : Fin 8) (off : Fin 3 → ℕ) (hoff : off = ![k, b.val, 0]) (inb : ∀ a, off a + S1x1x1024.size a ≤ S6x8x1024.size a)
    (d : Fin 1024) :
    shapeCast S1x1024 (View.readAt (Elt Ideal) arg2.view (Rect.unit (s := S6x8x1024) off S1x1x1024.size inb).toLoadRect (harg2.unread x1))
        Gen.shapeCasts_S1x1x1024_S1x1024 (ix2 0 d) = x1 (ix3 ⟨k, hk⟩ b d) := by
  subst hoff
  refine (shapeCast_apply _ _ _ (ix3 0 0 d) (by rw [Shape.rowMajor_val_two, Shape.rowMajor_val_three]; rfl)).trans ?_
  refine Eq.trans (congrFun (harg2.read_unread (Val := Elt Ideal) x1) _) (congrArg x1 (funext fun a => Fin.ext ?_))
  refine (ValueKit.rect_emb_unit_val (s := S6x8x1024) _ _ inb (ix3 0 0 d) a).trans ?_
  match a with
  | ⟨0, _⟩ => rfl
  | ⟨1, _⟩ => rfl
  | ⟨2, _⟩ => exact Nat.zero_add _

/-- The modulated, normalised rows. -/
def hid (b : Fin 8) (r k : Fin 1024) : EReal :=
  rms 0x44800000#32 (fun k => x0 (ix2 r k)) k * x2 (ix2 0 k) * (word 0x3F800000#32 + x1 (ix3 1 b k)) + x1 (ix3 0 b k)

/-- Their products with the weights. -/
def projB (b : Fin 8) (r : Fin 1024) (j : Fin 3072) : EReal := ∑ k, hid x0 x1 x2 b r k * x3 (ix2 k j)

/-- The rows as the body forms them. -/
abbrev rowsB : FVec Ideal S1024x1024 .bf16 :=
  k0_pay8 (k0_pay5 (View.readAt (Elt Ideal) arg2.view (Rect.unit (s := S6x8x1024) (k0_off1 i) S1x1x1024.size (k0_off1_inb i)).toLoadRect (harg2.unread x1)))
    (k0_pay6 (View.readAt (Elt Ideal) arg2.view (Rect.unit (s := S6x8x1024) (k0_off2 i) S1x1x1024.size (k0_off2_inb i)).toLoadRect (harg2.unread x1)))
    (k0_pay7 (View.readAt (Elt Ideal) arg1.view (Rect.unit (s := S1024x1024) ![0, 0] S1024x1024.size inb_S1024x1024_S1024x1024_0_0).toLoadRect (harg1.unread x0))
      (View.readAt (Elt Ideal) arg3.view (Rect.unit (s := S1x1024) ![0, 0] S1x1024.size inb_S1x1024_S1x1024_0_0).toLoadRect (harg3.unread x2)))

theorem rowsB_apply (r k : Fin 1024) : rowsB i arg1 harg1 arg2 harg2 arg3 harg3 x0 x1 x2 (ix2 r k) = hid x0 x1 x2 (pointRow i) r k := by
  refine (hidden_apply _ _ _ _ r k).trans ?_
  have h0 : ∀ k, View.readAt (Elt Ideal) arg1.view (Rect.unit (s := S1024x1024) ![0, 0] S1024x1024.size inb_S1024x1024_S1024x1024_0_0).toLoadRect
      (harg1.unread x0) (ix2 r k) = x0 (ix2 r k) := fun k => load_apply arg1 harg1 x0 0 0 _ r k r k (Nat.zero_add _).symm (Nat.zero_add _).symm
  have h2 : View.readAt (Elt Ideal) arg3.view (Rect.unit (s := S1x1024) ![0, 0] S1x1024.size inb_S1x1024_S1x1024_0_0).toLoadRect
      (harg3.unread x2) (ix2 0 k) = x2 (ix2 0 k) := load_apply arg3 harg3 x2 0 0 _ 0 k 0 k rfl (Nat.zero_add _).symm
  simp only [h0, h2]
  unfold hid
  refine congrArg₂ (· + ·) (congrArg (_ * ·) (congrArg (_ + ·) ?_)) ?_
  · exact mod_load arg2 harg2 x1 1 (by decide) (pointRow i) _ (off_scale i) _ k
  · exact mod_load arg2 harg2 x1 0 (by decide) (pointRow i) _ (off_shift i) _ k

/-- 512 columns of the products, as the body forms them. -/
abbrev colsB (o : ℕ) (inb : ∀ a, (![0, o] : Fin 2 → ℕ) a + S1024x512.size a ≤ S1024x3072.size a) : FVec Ideal S1024x512 .f32 :=
  narrow (rowsB i arg1 harg1 arg2 harg2 arg3 harg3 x0 x1 x2)
    (View.readAt (Elt Ideal) arg4.view (Rect.unit (s := S1024x3072) ![0, o] S1024x512.size inb).toLoadRect (harg4.unread x3))

theorem colsB_apply (o : ℕ) (inb : ∀ a, (![0, o] : Fin 2 → ℕ) a + S1024x512.size a ≤ S1024x3072.size a) (r : Fin 1024) (d : Fin 512)
    (j : Fin 3072) (hj : j.val = o + d.val) :
    colsB i arg1 harg1 arg2 harg2 arg3 harg3 arg4 harg4 x0 x1 x2 x3 o inb (ix2 r d) = projB x0 x1 x2 x3 (pointRow i) r j :=
  (narrow_apply _ _ r d).trans (Finset.sum_congr rfl fun k _ => congrArg₂ (· * ·) (rowsB_apply i arg1 harg1 arg2 harg2 arg3 harg3 x0 x1 x2 r k)
    (load_apply arg4 harg4 x3 0 o inb k d k j (Nat.zero_add _).symm hj))

/-- The convolved columns of the products, before the convolution. -/
abbrev wideB : FVec Ideal S1024x1536 .f32 :=
  wide (rowsB i arg1 harg1 arg2 harg2 arg3 harg3 x0 x1 x2)
    (View.readAt (Elt Ideal) arg4.view (Rect.unit (s := S1024x3072) ![0, 1536] S1024x1536.size inb_S1024x3072_S1024x1536_0_1536).toLoadRect (harg4.unread x3))

theorem wideB_apply (r : Fin 1024) (d : Fin 1536) :
    wideB i arg1 harg1 arg2 harg2 arg3 harg3 arg4 harg4 x0 x1 x2 x3 (ix2 r d) = projB x0 x1 x2 x3 (pointRow i) r ⟨1536 + d.val, by omega⟩ :=
  (wide_apply _ _ r d).trans (Finset.sum_congr rfl fun k _ => congrArg₂ (· * ·) (rowsB_apply i arg1 harg1 arg2 harg2 arg3 harg3 x0 x1 x2 r k)
    (load_apply arg4 harg4 x3 0 1536 _ k d k _ (Nat.zero_add _).symm rfl))

/-- What a grid point writes of queries, keys and values. -/
def qkvOf (b : Fin 8) : S1024x1536.Idx → EReal := fun y =>
  if (y 1).val < 512 then projB x0 x1 x2 x3 b (y 0) ⟨(y 1).val, by have : (y 1).val < 1536 := (y 1).isLt; omega⟩ * word 0x3E000000#32
  else projB x0 x1 x2 x3 b (y 0) ⟨(y 1).val, by have : (y 1).val < 1536 := (y 1).isLt; omega⟩

/-- What a grid point writes of the convolved columns. -/
def convOf (b : Fin 8) : S1024x1536.Idx → EReal := fun y =>
  conv3 (fun l => projB x0 x1 x2 x3 b l ⟨1536 + (y 1).val, by have : (y 1).val < 1536 := (y 1).isLt; omega⟩)
    (x4 (ix2 0 (y 1))) (x4 (ix2 1 (y 1))) (x4 (ix2 2 (y 1))) (x5 (ix2 0 (y 1))) (y 0)

/-- A stored third of queries, keys and values: the first is scaled. -/
theorem qkv_piece (f : FVec Ideal S1024x512 .f32 → FVec Ideal S1024x512 .bf16) (o : ℕ) (ho : o ≤ 1024)
    (hf : ∀ v (r : Fin 1024) (d : Fin 512), f v (ix2 r d) = if o + d.val < 512 then v (ix2 r d) * word 0x3E000000#32 else v (ix2 r d))
    (inw : ∀ a, (![0, o] : Fin 2 → ℕ) a + S1024x512.size a ≤ S1024x3072.size a)
    (inb : ∀ a, (![0, o] : Fin 2 → ℕ) a + S1024x512.size a ≤ S1024x1536.size a) (x : S1024x512.Idx) :
    f (colsB i arg1 harg1 arg2 harg2 arg3 harg3 arg4 harg4 x0 x1 x2 x3 o inw) x
      = qkvOf x0 x1 x2 x3 (pointRow i) ((Rect.unit (s := S1024x1536) ![0, o] S1024x512.size inb).emb x) := by
  obtain ⟨r, d, rfl⟩ := ix2_eta x
  have hx : (Rect.unit (s := S1024x1536) ![0, o] S1024x512.size inb).emb (ix2 r d) = ix2 r (⟨o + d.val, by omega⟩ : Fin 1536) :=
    funext fun a => Fin.ext <| (ValueKit.rect_emb_unit_val (s := S1024x1536) _ _ inb (ix2 r d) a).trans (by
      match a with
      | ⟨0, _⟩ => exact Nat.zero_add _
      | ⟨1, _⟩ => rfl)
  rw [hx, hf, colsB_apply i arg1 harg1 arg2 harg2 arg3 harg3 arg4 harg4 x0 x1 x2 x3 o inw r d ⟨o + d.val, by omega⟩ rfl]
  rfl

set_option maxHeartbeats 1000000 in
/-- What the run leaves in the window of queries, keys and values. -/
theorem out_qkv (y : S1024x1536.Idx) :
    out0_A_6 (F := Ideal) c i arg1 harg1 arg2 harg2 arg3 harg3 arg4 harg4 arg5 harg5 arg6 harg6 arg7 harg7 arg8 harg8
        x0 x1 x2 x3 x4 x5 y = qkvOf x0 x1 x2 x3 (pointRow i) y := by
  unfold out0_A_6
  rw [View.read_writes_eq_canon _ _ _ (cover0_A_6 c _ _ _ _ _ _ _ _ _ _ _ _ _ _ _ _ _ _ _ _ _ _ _)]
  refine View.canon_apply_of_pieces (Val := Elt Ideal) _ _ (?_ : View.PiecesOf _ _).mem y
    (cover0_A_6 c _ _ _ _ _ _ _ _ _ _ _ _ _ _ _ _ _ _ _ _ _ _ _ y)
  unfold kernelRun0_A
  dsimp only
  have hr : ∀ o, 512 ≤ o → ∀ (v : FVec Ideal S1024x512 .f32) (r : Fin 1024) (d : Fin 512), truncf (F := Ideal) .bf16 v Gen.bitsLt_bf16_f32 (ix2 r d)
      = if o + d.val < 512 then v (ix2 r d) * word 0x3E000000#32 else v (ix2 r d) := fun o ho v r d =>
    (truncf_apply _ Gen.bitsLt_bf16_f32 _).trans (if_neg (show ¬ o + d.val < 512 by omega)).symm
  have hq : ∀ (v : FVec Ideal S1024x512 .f32) (r : Fin 1024) (d : Fin 512),
      truncf (F := Ideal) .bf16 (mulf v (broadcast S1024x512 (FloatOps.ofBits (F := Ideal) .f32 0x3E000000#32))) Gen.bitsLt_bf16_f32 (ix2 r d)
      = if 0 + d.val < 512 then v (ix2 r d) * word 0x3E000000#32 else v (ix2 r d) := fun v r d =>
    ((truncf_apply _ Gen.bitsLt_bf16_f32 _).trans (mulf_apply _ _ _)).trans (if_pos (show 0 + d.val < 512 by omega)).symm
  refine ⟨fun x => qkv_piece i arg1 harg1 arg2 harg2 arg3 harg3 arg4 harg4 x0 x1 x2 x3
    (fun v => truncf (F := Ideal) .bf16 v Gen.bitsLt_bf16_f32) 1024 (by decide) (hr 1024 (by decide)) (by decide) (by decide) x, ?_⟩
  refine ⟨fun x => qkv_piece i arg1 harg1 arg2 harg2 arg3 harg3 arg4 harg4 x0 x1 x2 x3
    (fun v => truncf (F := Ideal) .bf16 v Gen.bitsLt_bf16_f32) 512 (by decide) (hr 512 (by decide)) (by decide) (by decide) x, ?_⟩
  refine ⟨fun x => qkv_piece i arg1 harg1 arg2 harg2 arg3 harg3 arg4 harg4 x0 x1 x2 x3
    (fun v => truncf (F := Ideal) .bf16 (mulf v (broadcast S1024x512 (FloatOps.ofBits (F := Ideal) .f32 0x3E000000#32))) Gen.bitsLt_bf16_f32)
    0 (by decide) hq (by decide) (by decide) x, ?_⟩
  exact trivial

/-- The stored convolved columns. -/
theorem conv_piece (inb : ∀ a, (![0, 0] : Fin 2 → ℕ) a + S1024x1536.size a ≤ S1024x1536.size a)
    (in4 : ∀ k : Fin 3, ∀ a, (![k.val, 0] : Fin 2 → ℕ) a + S1x1536.size a ≤ S3x1536.size a)
    (in5 : ∀ a, (![0, 0] : Fin 2 → ℕ) a + S1x1536.size a ≤ S1x1536.size a) (x : S1024x1536.Idx) :
    convB (wideB i arg1 harg1 arg2 harg2 arg3 harg3 arg4 harg4 x0 x1 x2 x3)
        (View.readAt (Elt Ideal) arg5.view (Rect.unit (s := S3x1536) ![0, 0] S1x1536.size (in4 0)).toLoadRect (harg5.unread x4))
        (View.readAt (Elt Ideal) arg5.view (Rect.unit (s := S3x1536) ![1, 0] S1x1536.size (in4 1)).toLoadRect (harg5.unread x4))
        (View.readAt (Elt Ideal) arg5.view (Rect.unit (s := S3x1536) ![2, 0] S1x1536.size (in4 2)).toLoadRect (harg5.unread x4))
        (View.readAt (Elt Ideal) arg6.view (Rect.unit (s := S1x1536) ![0, 0] S1x1536.size in5).toLoadRect (harg6.unread x5)) x
      = convOf x0 x1 x2 x3 x4 x5 (pointRow i) ((Rect.unit (s := S1024x1536) ![0, 0] S1024x1536.size inb).emb x) := by
  obtain ⟨r, d, rfl⟩ := ix2_eta x
  have hx : (Rect.unit (s := S1024x1536) ![0, 0] S1024x1536.size inb).emb (ix2 r d) = ix2 r d :=
    funext fun a => Fin.ext <| (ValueKit.rect_emb_unit_val (s := S1024x1536) _ _ inb (ix2 r d) a).trans (by
      match a with
      | ⟨0, _⟩ => exact Nat.zero_add _
      | ⟨1, _⟩ => exact Nat.zero_add _)
  rw [hx]
  show _ = conv3 (fun l => projB x0 x1 x2 x3 (pointRow i) l ⟨1536 + d.val, _⟩)
    (x4 (ix2 0 d)) (x4 (ix2 1 d)) (x4 (ix2 2 d)) (x5 (ix2 0 d)) r
  refine (conv_apply _ _ _ _ _ r d).trans ?_
  simp only [wideB_apply]
  have h4 : ∀ k : Fin 3, View.readAt (Elt Ideal) arg5.view (Rect.unit (s := S3x1536) ![k.val, 0] S1x1536.size (in4 k)).toLoadRect (harg5.unread x4)
      (ix2 0 d) = x4 (ix2 k d) := fun k => load_apply arg5 harg5 x4 k.val 0 (in4 k) 0 d k d rfl (Nat.zero_add _).symm
  have h5 : View.readAt (Elt Ideal) arg6.view (Rect.unit (s := S1x1536) ![0, 0] S1x1536.size in5).toLoadRect (harg6.unread x5)
      (ix2 0 d) = x5 (ix2 0 d) := load_apply arg6 harg6 x5 0 0 in5 0 d 0 d rfl (Nat.zero_add _).symm
  rw [← h4 0, ← h4 1, ← h4 2, ← h5]
  rfl

set_option maxHeartbeats 1000000 in
/-- What the run leaves in the window of the convolved columns. -/
theorem out_conv (y : S1024x1536.Idx) :
    out0_A_7 (F := Ideal) c i arg1 harg1 arg2 harg2 arg3 harg3 arg4 harg4 arg5 harg5 arg6 harg6 arg7 harg7 arg8 harg8
        x0 x1 x2 x3 x4 x5 y = convOf x0 x1 x2 x3 x4 x5 (pointRow i) y := by
  unfold out0_A_7
  rw [View.read_writes_eq_canon _ _ _ (cover0_A_7 c _ _ _ _ _ _ _ _ _ _ _ _ _ _ _ _ _ _ _ _ _ _ _)]
  refine View.canon_apply_of_pieces (Val := Elt Ideal) _ _ (?_ : View.PiecesOf _ _).mem y
    (cover0_A_7 c _ _ _ _ _ _ _ _ _ _ _ _ _ _ _ _ _ _ _ _ _ _ _ y)
  unfold kernelRun0_A
  dsimp only
  refine ⟨fun x => conv_piece i arg1 harg1 arg2 harg2 arg3 harg3 arg4 harg4 arg5 harg5 arg6 harg6 x0 x1 x2 x3 x4 x5 (by decide) (by decide) (by decide) x, ?_⟩
  exact trivial

end Cert.Sample
end
-- ==== Proof.SampleSpec.lean ====
/- The projection of the sample's tokens, normalised, shifted and scaled by their sequence's row of the modulations, and what
   is kept of it, in plain formulas. -/
module

public import proofs.«01_k».proof.Proof.Rows

@[expose] public section

noncomputable section

namespace Cert.Sample

open Idealize.ShloMosaic Idealize.ShloMosaic.ValueIdx Cert.Layer

/-- A token's row in the arrays of all tokens. -/
abbrev tokRow (n : Fin 4) (l : Fin 1024) : Fin 4096 := ⟨n.val * 1024 + l.val, by omega⟩

/-- A sequence's row of the modulations: the rows after the first. -/
abbrev modRow (n : Fin 4) : Fin 8 := ⟨1 + n.val, by omega⟩

variable (x : (⟨3, ![4, 1024, 1024]⟩ : Shape).Idx → EReal) (mo : (⟨3, ![6, 8, 1024]⟩ : Shape).Idx → EReal)
  (g : (⟨1, ![1024]⟩ : Shape).Idx → EReal) (w : (⟨2, ![1024, 3072]⟩ : Shape).Idx → EReal)
  (cw : (⟨2, ![3, 1536]⟩ : Shape).Idx → EReal) (cb : (⟨1, ![1536]⟩ : Shape).Idx → EReal)

/-- A token, normalised, scaled and shifted. -/
def hidS (n : Fin 4) (l k : Fin 1024) : EReal :=
  rms 0x44800000#32 (fun k => x (ix3 n l k)) k * g (ix1 k) * (word 0x3F800000#32 + mo (ix3 1 (modRow n) k)) + mo (ix3 0 (modRow n) k)

/-- Its projection. -/
def projS (n : Fin 4) (l : Fin 1024) (j : Fin 3072) : EReal := ∑ k, hidS x mo g n l k * w (ix2 k j)

/-- Queries (scaled), keys and values. -/
def qkvS (n : Fin 4) (l : Fin 1024) (j : Fin 1536) : EReal :=
  if j.val < 512 then projS x mo g w n l ⟨j.val, by omega⟩ * word 0x3E000000#32 else projS x mo g w n l ⟨j.val, by omega⟩

/-- The short convolution of the rest. -/
def convS (n : Fin 4) (l : Fin 1024) (d : Fin 1536) : EReal :=
  conv3 (fun l => projS x mo g w n l ⟨1536 + d.val, by omega⟩) (cw (ix2 0 d)) (cw (ix2 1 d)) (cw (ix2 2 d)) (cb (ix1 d)) l

end Cert.Sample
end
-- ==== Proof.SampleArray.lean ====
/- The output arrays of the sample's projection: at every token the plain formulas. -/
module

public import proofs.«01_k».proof.Proof.SampleOut
public import proofs.«01_k».proof.Proof.SampleSpec

@[expose] public section

set_option maxRecDepth 16384

noncomputable section

namespace Cert.Sample

open Idealize.ShloMosaic Idealize.ShloMosaic.TcCoe Idealize.ShloMosaic.ValueIdx Idealize.ShloMosaic.Tactic Cert.Layer Cert.Kernel4Ideal
open Cert.Kernel4Ideal.Gen Idealize.SL.Sem Idealize.ShloMosaic.StableHlo

section Block

variable (x : (⟨3, ![4, 1024, 1024]⟩ : Shape).Idx → EReal) (mo : (⟨3, ![6, 8, 1024]⟩ : Shape).Idx → EReal)
  (g : (⟨1, ![1024]⟩ : Shape).Idx → EReal) (w : (⟨2, ![1024, 3072]⟩ : Shape).Idx → EReal)
  (cw : (⟨2, ![3, 1536]⟩ : Shape).Idx → EReal) (cb : (⟨1, ![1536]⟩ : Shape).Idx → EReal) (t : Fin 4)
  (x0 : S1024x1024.Idx → EReal) (x1 : S6x8x1024.Idx → EReal) (x2 : S1x1024.Idx → EReal) (x3 : S1024x3072.Idx → EReal)
  (x4 : S3x1536.Idx → EReal) (x5 : S1x1536.Idx → EReal)
  (hx0 : ∀ l k : Fin 1024, x0 (ix2 l k) = x (ix3 t l k))
  (hx1 : x1 = mo) (hx2 : ∀ k : Fin 1024, x2 (ix2 0 k) = g (ix1 k)) (hx3 : x3 = w) (hx4 : x4 = cw)
  (hx5 : ∀ d : Fin 1536, x5 (ix2 0 d) = cb (ix1 d))

include hx0 hx1 hx2 hx3 in
/-- A sequence's projection. -/
theorem proj_block (l : Fin 1024) (j : Fin 3072) : projB x0 x1 x2 x3 (modRow t) l j = projS x mo g w t l j := by
  subst hx1 hx3
  unfold projB projS hid hidS
  simp only [hx0, hx2]

include hx0 hx1 hx2 hx3 in
/-- Its queries, keys and values. -/
theorem qkv_block (l : Fin 1024) (j : Fin 1536) : qkvOf x0 x1 x2 x3 (modRow t) (ix2 l j) = qkvS x mo g w t l j := by
  show (if j.val < 512 then projB x0 x1 x2 x3 (modRow t) l ⟨j.val, _⟩ * word 0x3E000000#32 else projB x0 x1 x2 x3 (modRow t) l ⟨j.val, _⟩) = _
  unfold qkvS
  simp only [proj_block x mo g w t x0 x1 x2 x3 hx0 hx1 hx2 hx3]

include hx0 hx1 hx2 hx3 hx4 hx5 in
/-- Its convolved part. -/
theorem conv_block (l : Fin 1024) (d : Fin 1536) : convOf x0 x1 x2 x3 x4 x5 (modRow t) (ix2 l d) = convS x mo g w cw cb t l d := by
  show conv3 (fun l => projB x0 x1 x2 x3 (modRow t) l ⟨1536 + d.val, _⟩)
    (x4 (ix2 0 d)) (x4 (ix2 1 d)) (x4 (ix2 2 d)) (x5 (ix2 0 d)) l = _
  rw [hx4, hx5]
  unfold convS
  simp only [proj_block x mo g w t x0 x1 x2 x3 hx0 hx1 hx2 hx3]

end Block

variable (m : (ℓ : Loc nD τ sig) → Buf (Elt Ideal) ℓ) (c : Dev nD)

/-- The tokens, as launched. -/
abbrev argX : S4x1024x1024.Idx → EReal := m ((c : Thread nD τ).loc main_arg0)
/-- The shifts and scales, as launched. -/
abbrev argMods : S6x8x1024.Idx → EReal := m ((c : Thread nD τ).loc main_arg1)
/-- The normalisation's gains, as launched. -/
abbrev argG : S1024.Idx → EReal := m ((c : Thread nD τ).loc main_arg2)
/-- The projection's weights, as launched. -/
abbrev argW : S1024x3072.Idx → EReal := m ((c : Thread nD τ).loc main_arg3)
/-- The convolution's weights, as launched. -/
abbrev argCW : S3x1536.Idx → EReal := m ((c : Thread nD τ).loc main_arg4)
/-- The convolution's bias, as launched. -/
abbrev argCB : S1536.Idx → EReal := m ((c : Thread nD τ).loc main_arg5)

theorem V_tokens : V m c main_v0 = shapeCast S4096x1024 (argX m c) Gen.shapeCasts_S4x1024x1024_S4096x1024 := by
  show StableHlo.after (List.flatten [hostOps0]) _ (Proc.devRef .tc main_v0) = _
  simp only [List.flatten_cons, List.flatten_nil, List.append_nil, List.cons_append, List.nil_append]
  after_results
  rfl

theorem V_gain : V m c main_v1 = broadcastInDim S1x1024 ![1] Gen.bcast_S1024_S1x1024_1 (argG m c) := by
  show StableHlo.after (List.flatten [hostOps0]) _ (Proc.devRef .tc main_v1) = _
  simp only [List.flatten_cons, List.flatten_nil, List.append_nil, List.cons_append, List.nil_append]
  after_results

theorem V_weights : V m c main_v2 = argW m c := by
  show StableHlo.after (List.flatten [hostOps0]) _ (Proc.devRef .tc main_v2) = _
  simp only [List.flatten_cons, List.flatten_nil, List.append_nil, List.cons_append, List.nil_append]
  after_results
  rfl

theorem V_convBias : V m c main_v3 = broadcastInDim S1x1536 ![1] Gen.bcast_S1536_S1x1536_1 (argCB m c) := by
  show StableHlo.after (List.flatten [hostOps0]) _ (Proc.devRef .tc main_v3) = _
  simp only [List.flatten_cons, List.flatten_nil, List.append_nil, List.cons_append, List.nil_append]
  after_results

/-- Where each window's block lies. -/
theorem block_index : ∀ t : Fin grid0.N,
    (win0_0.index t 0 = t.val ∧ win0_0.index t 1 = 0)
    ∧ (win0_1.index t 0 = 0 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0) := by
  decide +kernel

/-- The row of the modulations a grid point reads is that of its sequence. -/
theorem point_row : ∀ t : Fin grid0.N, (pointRow (grid0.coords t)).val = 1 + t.val := by decide +kernel

variable (t : Fin 4)

theorem blk_tokens (l k : Fin 1024) : iblk m c 0 t (ix2 l k) = argX m c (ix3 t l k) := by
  have hi := (block_index t).1
  have ht : t.val < 4 := t.isLt
  show V m c main_v0 ((win0_0.rect t).emb (ix2 l k)) = _
  rw [V_tokens]
  have hpos : (win0_0.rect t).emb (ix2 l k) = ix2 (tokRow t l) k := by
    refine funext fun a => Fin.ext ((Pipeline.Window.rect_emb_val win0_0 t _ a).trans ?_)
    match a with
    | ⟨0, _⟩ => show win0_0.index t 0 * 1024 + l.val = t.val * 1024 + l.val; rw [hi.1]
    | ⟨1, _⟩ => show win0_0.index t 1 * 1024 + k.val = k.val; rw [hi.2]; omega
  rw [hpos]
  exact shapeCast_apply _ _ _ _ (by
    rw [Shape.rowMajor_val_two, Shape.rowMajor_val_three]
    show (t.val * 1024 + l.val) * 1024 + k.val = (t.val * 1024 + l.val) * 1024 + k.val
    rfl)

theorem blk_mods : iblk m c 1 t = argMods m c := by
  have hi := (block_index t).2.1
  funext y
  show V m c main_arg1 ((win0_1.rect t).emb y) = _
  rw [V_main_arg1]
  refine congrArg _ (funext fun a => Fin.ext ((Pipeline.Window.rect_emb_val win0_1 t _ a).trans ?_))
  match a with
  | ⟨0, _⟩ => show win0_1.index t 0 * 6 + (y 0).val = (y 0).val; rw [hi.1]; omega
  | ⟨1, _⟩ => show win0_1.index t 1 * 8 + (y 1).val = (y 1).val; rw [hi.2.1]; omega
  | ⟨2, _⟩ => show win0_1.index t 2 * 1024 + (y 2).val = (y 2).val; rw [hi.2.2]; omega

theorem blk_gain (k : Fin 1024) : iblk m c 2 t (ix2 0 k) = argG m c (ix1 k) := by
  have hi := (block_index t).2.2.1
  show V m c main_v1 ((win0_2.rect t).emb (ix2 0 k)) = _
  rw [V_gain]
  refine broadcastInDim_apply _ _ _ _ (ix1 k) fun a => ?_
  match a with
  | ⟨0, _⟩ =>
    refine Eq.trans ?_ (if_neg (show ¬ (1024 = 1) by decide)).symm
    refine Eq.symm ((Pipeline.Window.rect_emb_val win0_2 t _ 1).trans ?_)
    show win0_2.index t 1 * 1024 + k.val = k.val; rw [hi.2]; omega

theorem blk_weights : iblk m c 3 t = argW m c := by
  have hi := (block_index t).2.2.2.1
  funext y
  show V m c main_v2 ((win0_3.rect t).emb y) = _
  rw [V_weights]
  refine congrArg _ (funext fun a => Fin.ext ((Pipeline.Window.rect_emb_val win0_3 t _ a).trans ?_))
  match a with
  | ⟨0, _⟩ => show win0_3.index t 0 * 1024 + (y 0).val = (y 0).val; rw [hi.1]; omega
  | ⟨1, _⟩ => show win0_3.index t 1 * 3072 + (y 1).val = (y 1).val; rw [hi.2]; omega

theorem blk_convW : iblk m c 4 t = argCW m c := by
  have hi := (block_index t).2.2.2.2.1
  funext y
  show V m c main_arg4 ((win0_4.rect t).emb y) = _
  rw [V_main_arg4]
  refine congrArg _ (funext fun a => Fin.ext ((Pipeline.Window.rect_emb_val win0_4 t _ a).trans ?_))
  match a with
  | ⟨0, _⟩ => show win0_4.index t 0 * 3 + (y 0).val = (y 0).val; rw [hi.1]; omega
  | ⟨1, _⟩ => show win0_4.index t 1 * 1536 + (y 1).val = (y 1).val; rw [hi.2]; omega

theorem blk_convB (d : Fin 1536) : iblk m c 5 t (ix2 0 d) = argCB m c (ix1 d) := by
  have hi := (block_index t).2.2.2.2.2.1
  show V m c main_v3 ((win0_5.rect t).emb (ix2 0 d)) = _
  rw [V_convBias]
  refine broadcastInDim_apply _ _ _ _ (ix1 d) fun a => ?_
  match a with
  | ⟨0, _⟩ =>
    refine Eq.trans ?_ (if_neg (show ¬ (1536 = 1) by decide)).symm
    refine Eq.symm ((Pipeline.Window.rect_emb_val win0_5 t _ 1).trans ?_)
    show win0_5.index t 1 * 1536 + d.val = d.val; rw [hi.2]; omega

/-- What a grid point leaves of the queries, keys and values. -/
theorem qkv_point (l : Fin 1024) (j : Fin 1536) :
    (outsAt0 m c t).1 (ix2 l j) = qkvS (argX m c) (argMods m c) (argG m c) (argW m c) t l j := by
  have hb : pointRow (grid0.coords t) = modRow t := Fin.ext (point_row t)
  have e : (outsAt0 m c t).1 = qkvOf (iblk m c 0 t) (iblk m c 1 t) (iblk m c 2 t) (iblk m c 3 t) (modRow t) := by
    rw [← hb]
    unfold outsAt0
    dsimp only
    funext y
    exact out_qkv ..
  rw [e]
  exact (qkv_block _ _ _ _ t _ _ _ _ (blk_tokens m c t) (blk_mods m c t) (blk_gain m c t) (blk_weights m c t) l j)

/-- What a grid point leaves of the convolved part. -/
theorem conv_point (l : Fin 1024) (j : Fin 1536) :
    (outsAt0 m c t).2 (ix2 l j)
      = convS (argX m c) (argMods m c) (argG m c) (argW m c) (argCW m c) (argCB m c) t l j := by
  have hb : pointRow (grid0.coords t) = modRow t := Fin.ext (point_row t)
  have e : (outsAt0 m c t).2
      = convOf (iblk m c 0 t) (iblk m c 1 t) (iblk m c 2 t) (iblk m c 3 t) (iblk m c 4 t) (iblk m c 5 t) (modRow t) := by
    rw [← hb]
    unfold outsAt0
    dsimp only
    funext y
    exact out_conv ..
  rw [e]
  exact (conv_block _ _ _ _ _ _ t _ _ _ _ _ _ (blk_tokens m c t) (blk_mods m c t) (blk_gain m c t) (blk_weights m c t)
    (blk_convW m c t) (blk_convB m c t) l j)

/-- The first output array. -/
theorem qkv_array (l : Fin 1024) (j : Fin 1536) :
    (dats m 0 c).arrAt 6 cfg0.N (ix2 (tokRow t l) j) = qkvS (argX m c) (argMods m c) (argG m c) (argW m c) t l j := by
  have hi := (block_index t).2.2.2.2.2.2.1
  have hb := congrFun (Value.blocks6 (F := Ideal) m c t (flush0_6 t)) (ix2 l j)
  have hpos : (win0_6.rect t).emb (ix2 l j) = ix2 (tokRow t l) j := by
    refine funext fun a => Fin.ext ((Pipeline.Window.rect_emb_val win0_6 t _ a).trans ?_)
    match a with
    | ⟨0, _⟩ => show win0_6.index t 0 * 1024 + l.val = t.val * 1024 + l.val; rw [hi.1]
    | ⟨1, _⟩ => show win0_6.index t 1 * 1536 + j.val = j.val; rw [hi.2]; omega
  rw [← hpos]
  refine Eq.trans hb ((congrFun (Value.flushed6 m c t) _).trans ?_)
  exact qkv_point m c t l j

/-- The second output array. -/
theorem conv_array (l : Fin 1024) (j : Fin 1536) :
    (dats m 0 c).arrAt 7 cfg0.N (ix2 (tokRow t l) j)
      = convS (argX m c) (argMods m c) (argG m c) (argW m c) (argCW m c) (argCB m c) t l j := by
  have hi := (block_index t).2.2.2.2.2.2.2
  have hb := congrFun (Value.blocks7 (F := Ideal) m c t (flush0_7 t)) (ix2 l j)
  have hpos : (win0_7.rect t).emb (ix2 l j) = ix2 (tokRow t l) j := by
    refine funext fun a => Fin.ext ((Pipeline.Window.rect_emb_val win0_7 t _ a).trans ?_)
    match a with
    | ⟨0, _⟩ => show win0_7.index t 0 * 1024 + l.val = t.val * 1024 + l.val; rw [hi.1]
    | ⟨1, _⟩ => show win0_7.index t 1 * 1536 + j.val = j.val; rw [hi.2]; omega
  rw [← hpos]
  refine Eq.trans hb ((congrFun (Value.flushed7 m c t) _).trans ?_)
  exact conv_point m c t l j

end Cert.Sample
end
-- ==== Proof.SampleRef.lean ====
/- The reference projection of the sample read at an index. -/
module

public import proofs.«01_k».proof.Proof.SampleSpec
public import proofs.«01_k».proof.Proof.ProjSpec
public import proofs.«01_k».proof.Proof.Padded
public import proofs.«01_k».proof.Proof.Gen.Reference4Ideal.Read

@[expose] public section

set_option maxRecDepth 16384

noncomputable section

namespace Cert.Sample

open Idealize.ShloMosaic Idealize.ShloMosaic.ValueIdx Cert.Layer Cert.Reference4Ideal Cert.Reference4Ideal.Gen Cert.Reference4Ideal.Read
open Cert.Projection (at_channel at_three)

variable (x0 : (⟨3, ![4, 1024, 1024]⟩ : Shape).Idx → EReal) (x1 : (⟨3, ![6, 8, 1024]⟩ : Shape).Idx → EReal)
  (x2 : (⟨1, ![1024]⟩ : Shape).Idx → EReal) (x3 : (⟨2, ![1024, 3072]⟩ : Shape).Idx → EReal)
  (x4 : (⟨2, ![3, 1536]⟩ : Shape).Idx → EReal) (x5 : (⟨1, ![1536]⟩ : Shape).Idx → EReal)

/-- The shift of a channel of a sequence. -/
theorem ref_shift (n : Fin 4) (k : Fin 1024) : val_main_v2 (F := Ideal) x1 (ix3 n 0 k) = x1 (ix3 0 (modRow n) k) := by
  rw [val_main_v2_apply, val_main_v1_apply, val_main_v0_apply]
  have hn := n.isLt
  have hk := k.isLt
  refine congrArg x1 (at_three _ 0 (modRow n) k rfl ?_ ?_)
  · show 1 + (n.val * 1024 + k.val) / 1024 % 4 = 1 + n.val; omega
  · show (n.val * 1024 + k.val) % 1024 = k.val; omega

/-- The scale of a channel of a sequence. -/
theorem ref_scale (n : Fin 4) (k : Fin 1024) : val_main_v5 (F := Ideal) x1 (ix3 n 0 k) = x1 (ix3 1 (modRow n) k) := by
  rw [val_main_v5_apply, val_main_v4_apply, val_main_v3_apply]
  have hn := n.isLt
  have hk := k.isLt
  refine congrArg x1 (at_three _ 1 (modRow n) k rfl ?_ ?_)
  · show 1 + (n.val * 1024 + k.val) / 1024 % 4 = 1 + n.val; omega
  · show (n.val * 1024 + k.val) % 1024 = k.val; omega

/-- A normalised token. -/
theorem ref_norm (n : Fin 4) (l : Fin 1024) (k : Fin 1024) :
    val_main_v15 (F := Ideal) x0 (ix3 n l k) = rms 0x44800000#32 (fun k => x0 (ix3 n l k)) k := by
  rw [val_main_v15_apply]
  refine congrArg (x0 (ix3 n l k) * ·) ?_
  rw [val_main_v14_apply, val_main_v13_apply]
  refine congrArg Ideal.rsqrt ?_
  rw [val_main_v12_apply, val_main_v11_apply, val_main_v10_apply, val_main_v9_apply, val_main_v8_apply, val_main_v7_apply]
  refine congrArg (· + _) (congrArg (Ideal.div · _) ?_)
  refine (congrArg (· + _) (show val_main_cst (F := Ideal) (Shape.Idx.first h_S_) = 0 from Ideal.ofBits_zero_f32)).trans ((zero_add _).trans ?_)
  refine Finset.sum_congr rfl fun j _ => ?_
  rw [val_main_v6_apply]
  have e : idx_main_v7 (idx_main_v8 (idx_main_v14 (ix3 n l k))) j = ix3 n l j := funext fun a => match a with
    | ⟨0, _⟩ => rfl
    | ⟨1, _⟩ => rfl
    | ⟨2, _⟩ => rfl
  rw [e]
  rfl

/-- A hidden token. -/
theorem ref_hidden (n : Fin 4) (l : Fin 1024) (k : Fin 1024) :
    val_main_v24 (F := Ideal) x0 x1 x2 (ix3 n l k) = hidS x0 x1 x2 n l k := by
  rw [val_main_v24_apply, val_main_v23_apply, val_main_v22_apply, val_main_v21_apply, val_main_v20_apply, val_main_v19_apply,
    val_main_v18_apply, val_main_v17_apply, val_main_v16_apply, ref_norm]
  have e1 : idx_main_v23 (ix3 n l k) = ix3 n 0 k := at_three _ n 0 k rfl rfl rfl
  have e2 : idx_main_v21 (ix3 n l k) = ix3 n 0 k := at_three _ n 0 k rfl rfl rfl
  have e3 : idx_main_v16 (idx_main_v17 (ix3 n l k)) = ix1 k := at_channel k _ rfl
  rw [e1, e2, e3, ref_shift, ref_scale]
  rfl

/-- The projection. -/
theorem ref_proj (n : Fin 4) (l : Fin 1024) (j : Fin 3072) :
    val_main_v25 (F := Ideal) x0 x1 x2 x3 (ix3 n l j) = projS x0 x1 x2 x3 n l j := by
  rw [val_main_v25_apply]
  refine Finset.sum_congr rfl fun k _ => ?_
  have e1 : lidx_main_v25 (ix3 n l j) k = ix3 n l k := funext fun a => match a with
    | ⟨0, _⟩ => rfl
    | ⟨1, _⟩ => rfl
    | ⟨2, _⟩ => rfl
  have e2 : ridx_main_v25 (ix3 n l j) k = ix2 k j := funext fun a => match a with
    | ⟨0, _⟩ => rfl
    | ⟨1, _⟩ => rfl
  rw [e1, e2, ref_hidden]

/-- A part of three parts joined along the channels. -/
theorem joined_part (xs : List ((s : Shape) × (s.Idx → EReal))) (h : Shape.Concatenates (xs.map (·.1)) S4x1024x1536 2) (k : ℕ)
    (hk : k < xs.length) (x : S4x1024x512.Idx → EReal) (hx : xs[k] = ⟨S4x1024x512, x⟩) (pre : ℕ)
    (hpre : (((xs.take k).map (·.1)).map fun s => if h : s.rank = S4x1024x1536.rank then s.size ((2 : Fin S4x1024x1536.rank).cast h.symm) else 0).sum = pre)
    (n : Fin 4) (l : Fin 1024) (j : Fin 1536) (d : Fin 512) (hd : pre + d.val = j.val) :
    concatenate S4x1024x1536 2 xs h (ix3 n l j) = x (ix3 n l d) :=
  concatenate_apply_piece (2 : Fin S4x1024x1536.rank) xs h (ix3 n l j) k hk _ x hx rfl pre hpre (ix3 n l d) (fun a ha => by
    match a with
    | ⟨0, _⟩ => rfl
    | ⟨1, _⟩ => rfl
    | ⟨2, _⟩ => exact absurd rfl ha) hd

/-- The queries, keys and values of a token, in one array. -/
theorem ref_qkv (n : Fin 4) (l : Fin 1024) (j : Fin 1536) :
    val_main_v56 (F := Ideal) x0 x1 x2 x3 (ix3 n l j) = qkvS x0 x1 x2 x3 n l j := by
  have hj := j.isLt
  unfold val_main_v56 qkvS
  by_cases h1 : j.val < 512
  · rw [if_pos h1]
    refine (joined_part _ _ 0 (by simp) _ rfl 0 rfl n l j (⟨j.val, by omega⟩ : Fin 512) (show 0 + (j.val) = j.val by omega)).trans ?_
    show val_main_v28 (F := Ideal) x0 x1 x2 x3 (ix3 n l (⟨j.val, h1⟩ : Fin 512)) = _
    rw [val_main_v28_apply, val_main_v27_apply, val_main_v26_apply,
      at_three (idx_main_v26 _) n l ⟨j.val, by omega⟩ rfl rfl rfl, ref_proj]
    rfl
  · rw [if_neg h1]
    by_cases h2 : j.val < 1024
    · refine (joined_part _ _ 1 (by simp) _ rfl 512 rfl n l j (⟨j.val - 512, by omega⟩ : Fin 512) (show 512 + (j.val - 512) = j.val by omega)).trans ?_
      show val_main_v29 (F := Ideal) x0 x1 x2 x3 (ix3 n l (⟨j.val - 512, _⟩ : Fin 512)) = _
      rw [val_main_v29_apply, at_three (idx_main_v29 _) n l ⟨j.val, by omega⟩ rfl rfl (show 512 + (j.val - 512) = j.val by omega), ref_proj]
    · refine (joined_part _ _ 2 (by simp) _ rfl 1024 rfl n l j (⟨j.val - 1024, by omega⟩ : Fin 512) (show 1024 + (j.val - 1024) = j.val by omega)).trans ?_
      show val_main_v30 (F := Ideal) x0 x1 x2 x3 (ix3 n l (⟨j.val - 1024, _⟩ : Fin 512)) = _
      rw [val_main_v30_apply, at_three (idx_main_v30 _) n l ⟨j.val, by omega⟩ rfl rfl (show 1024 + (j.val - 1024) = j.val by omega), ref_proj]

/-- The convolved part of a token before the convolution. -/
theorem ref_rest (n : Fin 4) (l : Fin 1024) (d : Fin 1536) :
    val_main_v31 (F := Ideal) x0 x1 x2 x3 (ix3 n l d) = projS x0 x1 x2 x3 n l ⟨1536 + d.val, by omega⟩ := by
  rw [val_main_v31_apply, at_three (idx_main_v31 _) n l ⟨1536 + d.val, by omega⟩ rfl rfl rfl, ref_proj]

/-- The padding is zero. -/
theorem ref_zero : val_main_call0_v0 (F := Ideal) (Shape.Idx.first h_S_) = 0 := by
  show FloatOps.sitofp (F := Ideal) .f32 (0#32 : BitVec 32) = 0
  simp [FloatOps.sitofp]

/-- A weight of the convolution, its first row. -/
theorem ref_w0 (n : Fin 4) (l : Fin 1024) (d : Fin 1536) : val_main_v37 (F := Ideal) x4 (ix3 n l d) = x4 (ix2 0 d) := by
  rw [val_main_v37_apply, val_main_v36_apply, val_main_v35_apply, val_main_v34_apply]
  refine congrArg x4 (funext fun a => Fin.ext ?_)
  match a with
  | ⟨0, _⟩ => rfl
  | ⟨1, _⟩ => exact Nat.mod_eq_of_lt d.isLt

/-- Its second row. -/
theorem ref_w1 (n : Fin 4) (l : Fin 1024) (d : Fin 1536) : val_main_v43 (F := Ideal) x4 (ix3 n l d) = x4 (ix2 1 d) := by
  rw [val_main_v43_apply, val_main_v42_apply, val_main_v41_apply, val_main_v40_apply]
  refine congrArg x4 (funext fun a => Fin.ext ?_)
  match a with
  | ⟨0, _⟩ => rfl
  | ⟨1, _⟩ => exact Nat.mod_eq_of_lt d.isLt

/-- Its third row. -/
theorem ref_w2 (n : Fin 4) (l : Fin 1024) (d : Fin 1536) : val_main_v50 (F := Ideal) x4 (ix3 n l d) = x4 (ix2 2 d) := by
  rw [val_main_v50_apply, val_main_v49_apply, val_main_v48_apply, val_main_v47_apply]
  refine congrArg x4 (funext fun a => Fin.ext ?_)
  match a with
  | ⟨0, _⟩ => rfl
  | ⟨1, _⟩ => exact Nat.mod_eq_of_lt d.isLt

/-- The convolution. -/
theorem ref_conv (n : Fin 4) (l : Fin 1024) (d : Fin 1536) :
    val_main_v55 (F := Ideal) x0 x1 x2 x3 x4 x5 (ix3 n l d) = convS x0 x1 x2 x3 x4 x5 n l d := by
  rw [val_main_v55_apply, val_main_v54_apply, val_main_v53_apply, val_main_v52_apply, val_main_v51_apply, val_main_v46_apply,
    val_main_v45_apply, val_main_v44_apply, val_main_v39_apply, val_main_v38_apply, val_main_v33_apply, ref_w0, ref_w1, ref_w2,
    at_channel d (idx_main_v53 _) rfl]
  unfold convS conv3
  have hrow : (fun l => val_main_v31 (F := Ideal) x0 x1 x2 x3 (ix3 n l d)) = fun l => projS x0 x1 x2 x3 n l ⟨1536 + d.val, by omega⟩ :=
    funext fun l => ref_rest x0 x1 x2 x3 n l d
  refine congrArg (· + x5 (ix1 d)) (congrArg₂ (· + ·) (congrArg₂ (· + ·) (congrArg (· * x4 (ix2 0 d)) ?_) (congrArg (· * x4 (ix2 1 d)) ?_))
    (congrArg (· * x4 (ix2 2 d)) ?_))
  · rw [at_three (idx_main_v33 _) n (⟨l.val, by omega⟩ : Fin 1026) d rfl rfl rfl, ← hrow]
    exact padded_prev _ _ _ _ ref_zero n l d _ rfl
  · rw [at_three (idx_main_v39 _) n (⟨1 + l.val, by omega⟩ : Fin 1026) d rfl rfl rfl]
    exact (padded_inside _ _ _ _ n l d _ rfl).trans (ref_rest x0 x1 x2 x3 n l d)
  · rw [at_three (idx_main_v46 _) n (⟨2 + l.val, by omega⟩ : Fin 1026) d rfl rfl rfl, ← hrow]
    exact padded_next _ _ _ _ ref_zero n l d _ rfl

/-- The first result. -/
theorem ref_first (n : Fin 4) (l : Fin 1024) (j : Fin 1536) :
    val_main_v58 (F := Ideal) x0 x1 x2 x3 (ix2 (tokRow n l) j) = qkvS x0 x1 x2 x3 n l j := by
  rw [val_main_v58_apply, val_main_v57_apply]
  have hj := j.isLt
  have hl := l.isLt
  have e : idx_main_v57 (ix2 (tokRow n l) j) = ix3 n l j := at_three _ n l j
    (show ((n.val * 1024 + l.val) * 1536 + j.val) / 1572864 = n.val by omega)
    (show ((n.val * 1024 + l.val) * 1536 + j.val) / 1536 % 1024 = l.val by omega)
    (show ((n.val * 1024 + l.val) * 1536 + j.val) % 1536 = j.val by omega)
  rw [e]
  exact ref_qkv x0 x1 x2 x3 n l j

/-- The second result. -/
theorem ref_second (n : Fin 4) (l : Fin 1024) (j : Fin 1536) :
    val_main_v59 (F := Ideal) x0 x1 x2 x3 x4 x5 (ix2 (tokRow n l) j) = convS x0 x1 x2 x3 x4 x5 n l j := by
  rw [val_main_v59_apply]
  have hj := j.isLt
  have hl := l.isLt
  have e : idx_main_v59 (ix2 (tokRow n l) j) = ix3 n l j := at_three _ n l j
    (show ((n.val * 1024 + l.val) * 1536 + j.val) / 1572864 = n.val by omega)
    (show ((n.val * 1024 + l.val) * 1536 + j.val) / 1536 % 1024 = l.val by omega)
    (show ((n.val * 1024 + l.val) * 1536 + j.val) % 1536 = j.val by omega)
  rw [e]
  exact ref_conv x0 x1 x2 x3 x4 x5 n l j

end Cert.Sample
end
-- ==== Proof.SampleAlgebraic.lean ====
/- The value claim of the sample's projection: both programs leave the plain formulas in their two result arrays. -/
module

public import proofs.«01_k».proof.Defs
public import proofs.«01_k».proof.Proof.SampleArray
public import proofs.«01_k».proof.Proof.SampleRef
public import proofs.«01_k».proof.Proof.Gen.Reference4Ideal.Run

@[expose] public section

noncomputable section

namespace Cert.Sample

open Idealize.ShloMosaic Idealize.ShloMosaic.TcCoe Idealize.ShloMosaic.ValueIdx Idealize.SL.Sem

/-- Every index of an array of all tokens is a sequence's token and a channel. -/
theorem token_index (y : (⟨2, ![4096, 1536]⟩ : Shape).Idx) : ∃ (n : Fin 4) (l : Fin 1024) (j : Fin 1536), y = ix2 (tokRow n l) j := by
  have h0 : (y 0).val < 4096 := (y 0).isLt
  refine ⟨⟨(y 0).val / 1024, by omega⟩, ⟨(y 0).val % 1024, by omega⟩, ⟨(y 1).val, (y 1).isLt⟩, funext fun a => Fin.ext ?_⟩
  match a with
  | ⟨0, _⟩ => show (y 0).val = (y 0).val / 1024 * 1024 + (y 0).val % 1024; omega
  | ⟨1, _⟩ => rfl

variable (m : (ℓ : Loc Cert.Kernel4Ideal.nD Cert.Kernel4Ideal.τ Cert.Kernel4Ideal.sig) → Buf (Elt Ideal) ℓ) (c : Dev Cert.Kernel4Ideal.nD)

/-- The first results are the same array. -/
theorem same_qkv : Cert.Reference4Ideal.Read.val_main_v58 (F := Ideal) (argX m c) (argMods m c) (argG m c) (argW m c)
    = (Cert.Kernel4Ideal.Gen.dats m 0 c).arrAt 6 Cert.Kernel4Ideal.cfg0.N := by
  funext y
  obtain ⟨n, l, j, rfl⟩ := token_index y
  exact (ref_first (argX m c) (argMods m c) (argG m c) (argW m c) n l j).trans (qkv_array m c n l j).symm

/-- The second results are the same array. -/
theorem same_conv : Cert.Reference4Ideal.Read.val_main_v59 (F := Ideal) (argX m c) (argMods m c) (argG m c) (argW m c) (argCW m c) (argCB m c)
    = (Cert.Kernel4Ideal.Gen.dats m 0 c).arrAt 7 Cert.Kernel4Ideal.cfg0.N := by
  funext y
  obtain ⟨n, l, j, rfl⟩ := token_index y
  exact (ref_second (argX m c) (argMods m c) (argG m c) (argW m c) (argCW m c) (argCB m c) n l j).trans (conv_array m c n l j).symm

/-- The value claim. -/
theorem algebraic : Cert.algebraic_Kernel4Ideal_Reference4Ideal := fun m g m' g' _ hargs =>
  ⟨fun c => (Cert.Kernel4Ideal.Gen.dats m 0 c).arrAt 6 Cert.Kernel4Ideal.cfg0.N,
    fun c => (Cert.Kernel4Ideal.Gen.dats m 0 c).arrAt 7 Cert.Kernel4Ideal.cfg0.N,
    Cert.Kernel4Ideal.Value.run_blocks m g,
    (θ_run _ _ _).mono (fun r h c => by
      obtain ⟨a0, a1, a2, a3, a4, a5⟩ := hargs c
      obtain ⟨r0, r1, rest⟩ := h c
      refine ⟨r0.trans ?_, r1.trans ?_, rest⟩
      · rw [Cert.Reference4Ideal.Read.val_main_v58_eq m' c, a0, a1, a2, a3]
        exact same_qkv m c
      · rw [Cert.Reference4Ideal.Read.val_main_v59_eq m' c, a0, a1, a2, a3, a4, a5]
        exact same_conv m c) (Cert.Reference4Ideal.Value.run m' g')⟩

end Cert.Sample
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Algebraic
public import proofs.«01_k».proof.Proof.ProjAlgebraic
public import proofs.«01_k».proof.Proof.TailAlgebraic
public import proofs.«01_k».proof.Proof.SampleAlgebraic
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference is host operations only and declares no semaphore: its run is its frame. -/
theorem frame_reference : Cert.quiescent_ReferenceIdeal := fun m ρ _ =>
  (θ_run _ _ _).mono (fun r h => ⟨fun c => (h c).2, sem_eq_zero_of_no_sems (by decide) _⟩)
    (Cert.ReferenceIdeal.Value.run m ρ)

/-- The one rewrite of the idealization: the finite stand-in for the mask is read as minus infinity. -/
theorem ledger : Cert.preserves_Kernel_KernelIdeal :=
  IdealRules.named_const.statement Cert.KernelIdeal.κ "mask" .f32 0xF149F2CA#32 ⊥ rfl

/-- The same of the projection's reference. -/
theorem frame_reference2 : Cert.quiescent_Reference2Ideal := fun m ρ _ =>
  (θ_run _ _ _).mono (fun r h => ⟨fun c => (h c).2.2.2.2, sem_eq_zero_of_no_sems (by decide) _⟩)
    (Cert.Reference2Ideal.Value.run m ρ)

/-- The same of the tail's reference. -/
theorem frame_reference3 : Cert.quiescent_Reference3Ideal := fun m ρ _ =>
  (θ_run _ _ _).mono (fun r h => ⟨fun c => (h c).2, sem_eq_zero_of_no_sems (by decide) _⟩)
    (Cert.Reference3Ideal.Value.run m ρ)

/-- The same of the sample projection's reference. -/
theorem frame_reference4 : Cert.quiescent_Reference4Ideal := fun m ρ _ =>
  (θ_run _ _ _).mono (fun r h => ⟨fun c => (h c).2.2, sem_eq_zero_of_no_sems (by decide) _⟩)
    (Cert.Reference4Ideal.Value.run m ρ)

/-- The whole claim; the frames under the precondition are the frames without it. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite_scores.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    ledger, Cert.Attention.algebraic, trivial, Cert.Projection.algebraic, trivial, Cert.Tail.algebraic, trivial, Cert.Sample.algebraic⟩

end Cert.Proof

end
